-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 128, 128, 64]⟩ 2 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 128, 128, 64]⟩ 2 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x8192 : Shape := ⟨2, ![512, 8192]⟩
abbrev S2x128x4x64 : Shape := ⟨4, ![2, 128, 4, 64]⟩
abbrev S8192x512 : Shape := ⟨2, ![8192, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x8192 : S_.BroadcastsInDim S512x8192 (![] : Fin 0 → Fin S512x8192.rank)
  reducesTo_S512x8192_S_d0_1 : S512x8192.ReducesTo [0, 1] S_
  bcast_S_S2x128x4x64 : S_.BroadcastsInDim S2x128x4x64 (![] : Fin 0 → Fin S2x128x4x64.rank)
  reducesTo_S2x128x4x64_S_d0_1_2_3 : S2x128x4x64.ReducesTo [0, 1, 2, 3] S_

variable [Facts]

def fn {F : FTy → Type} [FloatOps F] (main_arg0 : FVec F S2x128x512 .f32) (main_arg1 : FVec F S512x8192 .f32) (main_arg2 : FVec F S2x128x4x64 .f32) (main_arg3 : FVec F S2x128x4x64 .f32) (main_arg4 : FVec F S8192x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x8192 .f32 := Host.absf main_arg1
  let main_cst_0 : FVec F S_ .f32 := constant S_ .f32 0x7F800000#32
  let main_v5 : FVec F S512x8192 .f32 := broadcastInDim S512x8192 ![] bcast_S_S512x8192 main_cst_0
  let main_v6 : IVec S512x8192 1 := cmpf .olt main_v4 main_v5
  let main_c_1 : IVec S_ 1 := constantI S_ 1 1#1
  let main_v7 : IVec S_ 1 := (fun x v => Host.reduce IntOp.andi x v reducesTo_S512x8192_S_d0_1 h_S_) main_v6 main_c_1
  let main_v8 : IVec S_ 1 := andi main_v3 main_v7
  let main_v9 : FVec F S2x128x4x64 .f32 := Host.absf main_arg2
  let main_cst_2 : FVec F S_ .f32 := constant S_ .f32 0x7F800000#32
  let main_v10 : FVec F S2x128x4x64 .f32 := broadcastInDim S2x128x4x64 ![] bcast_S_S2x128x4x64 main_cst_2
  let main_v11 : IVec S2x128x4x64 1 := cmpf .olt main_v9 main_v10
  let main_c_3 : IVec S_ 1 := constantI S_ 1 1#1
  let main_v12 : IVec S_ 1 := (fun x v => Host.reduce IntOp.andi x v reducesTo_S2x128x4x64_S_d0_1_2_3 h_S_) main_v11 main_c_3
  let main_v13 : IVec S_ 1 := andi main_v8 main_v12
  main_v13
-- ==== Pre_finite_scores_ReferenceIdeal.lean ====
abbrev S2x128x512 : Shape := ⟨3, ![2, 128, 512]⟩
abbrev S512x8192 : Shape := ⟨2, ![512, 8192]⟩
abbrev S2x128x128x64 : Shape := ⟨4, ![2, 128, 128, 64]⟩
abbrev S8192x512 : Shape := ⟨2, ![8192, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x8192 : S_.BroadcastsInDim S512x8192 (![] : Fin 0 → Fin S512x8192.rank)
  reducesTo_S512x8192_S_d0_1 : S512x8192.ReducesTo [0, 1] S_
  bcast_S_S2x128x128x64 : S_.BroadcastsInDim S2x128x128x64 (![] : Fin 0 → Fin S2x128x128x64.rank)
  reducesTo_S2x128x128x64_S_d0_1_2_3 : S2x128x128x64.ReducesTo [0, 1, 2, 3] S_

variable [Facts]

def fn {F : FTy → Type} [FloatOps F] (main_arg0 : FVec F S2x128x512 .f32) (main_arg1 : FVec F S512x8192 .f32) (main_arg2 : FVec F S2x128x128x64 .f32) (main_arg3 : FVec F S2x128x128x64 .f32) (main_arg4 : FVec F S8192x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x8192 .f32 := Host.absf main_arg1
  let main_cst_0 : FVec F S_ .f32 := constant S_ .f32 0x7F800000#32
  let main_v5 : FVec F S512x8192 .f32 := broadcastInDim S512x8192 ![] bcast_S_S512x8192 main_cst_0
  let main_v6 : IVec S512x8192 1 := cmpf .olt main_v4 main_v5
  let main_c_1 : IVec S_ 1 := constantI S_ 1 1#1
  let main_v7 : IVec S_ 1 := (fun x v => Host.reduce IntOp.andi x v reducesTo_S512x8192_S_d0_1 h_S_) main_v6 main_c_1
  let main_v8 : IVec S_ 1 := andi main_v3 main_v7
  let main_v9 : FVec F S2x128x128x64 .f32 := Host.absf main_arg2
  let main_cst_2 : FVec F S_ .f32 := constant S_ .f32 0x7F800000#32
  let main_v10 : FVec F S2x128x128x64 .f32 := broadcastInDim S2x128x128x64 ![] bcast_S_S2x128x128x64 main_cst_2
  let main_v11 : IVec S2x128x128x64 1 := cmpf .olt main_v9 main_v10
  let main_c_3 : IVec S_ 1 := constantI S_ 1 1#1
  let main_v12 : IVec S_ 1 := (fun x v => Host.reduce IntOp.andi x v reducesTo_S2x128x128x64_S_d0_1_2_3 h_S_) main_v11 main_c_3
  let main_v13 : IVec S_ 1 := andi main_v8 main_v12
  main_v13
-- ==== Kernel.lean ====
abbrev S2x128x512 : Shape := ⟨3, ![2, 128, 512]⟩
abbrev S512x8192 : Shape := ⟨2, ![512, 8192]⟩
abbrev S2x128x4x64 : Shape := ⟨4, ![2, 128, 4, 64]⟩
abbrev S8192x512 : Shape := ⟨2, ![8192, 512]⟩
abbrev S_ : Shape := ⟨0, ![]⟩
abbrev S512x256 : Shape := ⟨2, ![512, 256]⟩
abbrev S256x512 : Shape := ⟨2, ![256, 512]⟩
abbrev S2x128x256 : Shape := ⟨3, ![2, 128, 256]⟩
abbrev S256x256 : Shape := ⟨2, ![256, 256]⟩
abbrev S32x8x512 : Shape := ⟨3, ![32, 8, 512]⟩
abbrev S32 : Shape := ⟨1, ![32]⟩
abbrev S128x64 : Shape := ⟨2, ![128, 64]⟩
abbrev S1x128x64 : Shape := ⟨3, ![1, 128, 64]⟩
abbrev S128x128 : Shape := ⟨2, ![128, 128]⟩
abbrev S1024x128 : Shape := ⟨2, ![1024, 128]⟩
abbrev S1024 : Shape := ⟨1, ![1024]⟩
abbrev S1024x1 : Shape := ⟨2, ![1024, 1]⟩
abbrev S64x256 : Shape := ⟨2, ![64, 256]⟩
abbrev S64x512 : Shape := ⟨2, ![64, 512]⟩
abbrev S1 : Shape := ⟨1, ![1]⟩
abbrev S1x8x512 : Shape := ⟨3, ![1, 8, 512]⟩
abbrev S8x512 : Shape := ⟨2, ![8, 512]⟩

abbrev nBuf : Space → Nat
  | .hbm => 34
  | .vmem => 10
  | .smem => 0
  | _ => 0

abbrev bufTy : (tb : Table) → Fin (tcTables nBuf tb) → BufTy
  | .hbm, ⟨0, _⟩ => ⟨S2x128x512, .f32⟩
  | .hbm, ⟨1, _⟩ => ⟨S512x8192, .f32⟩
  | .hbm, ⟨2, _⟩ => ⟨S2x128x4x64, .f32⟩
  | .hbm, ⟨3, _⟩ => ⟨S2x128x4x64, .f32⟩
  | .hbm, ⟨4, _⟩ => ⟨S8192x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S512x256, .f32⟩
  | .hbm, ⟨20, _⟩ => ⟨S512x256, .bf16⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S256x512, .f32⟩
  | .hbm, ⟨30, _⟩ => ⟨S256x512, .bf16⟩
  | .hbm, ⟨31, _⟩ => ⟨S2x128x256, .f32⟩
  | .hbm, ⟨32, _⟩ => ⟨S2x128x256, .f32⟩
  | .hbm, ⟨33, _⟩ => ⟨S2x128x512, .f32⟩
  | .local _ .vmem, ⟨0, _⟩ => ⟨S2x128x512, .f32⟩
  | .local _ .vmem, ⟨1, _⟩ => ⟨S512x256, .bf16⟩
  | .local _ .vmem, ⟨2, _⟩ => ⟨S2x128x256, .f32⟩
  | .local _ .vmem, ⟨3, _⟩ => ⟨S2x128x256, .f32⟩
  | .local _ .vmem, ⟨4, _⟩ => ⟨S256x512, .bf16⟩
  | .local _ .vmem, ⟨5, _⟩ => ⟨S2x128x512, .f32⟩
  | .local _ .vmem, ⟨6, _⟩ => ⟨S256x256, .bf16⟩
  | .local _ .vmem, ⟨7, _⟩ => ⟨S256x512, .bf16⟩
  | .local _ .vmem, ⟨8, _⟩ => ⟨S32x8x512, .bf16⟩
  | .local _ .vmem, ⟨9, _⟩ => ⟨S256x512, .bf16⟩
  | _, _ => ⟨S2x128x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_v10 : Ref sig .tc := ⟨.hbm, 20, rfl⟩
abbrev main_c_5 : Ref sig .tc := ⟨.hbm, 21, rfl⟩
abbrev main_v11 : Ref sig .tc := ⟨.hbm, 22, rfl⟩
abbrev main_c_6 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_cond1 (d0 : Dev nD) : BitVec 1 :=
  let c0_i32_403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_396 : BitVec 32 := 0#32
  let v636 : BitVec 32 := Scalar.addi v2 c0_i32_396
  let c8_i32_397 : BitVec 32 := 8#32
  let c0_i32_398 : BitVec 32 := 0#32
  let v637 : BitVec 1 := Scalar.cmpi .eq c8_i32_397 c0_i32_398
  let c1_i32_399 : BitVec 32 := 1#32
  let v638 : BitVec 32 := Scalar.select v637 c1_i32_399 c8_i32_397
  let v639 : BitVec 32 := Scalar.remsi v636 v638
  let c0_i32_401 : BitVec 32 := 0#32
  let v641 : BitVec 1 := Scalar.cmpi .slt v639 c0_i32_401
  let c0_i32_402 : BitVec 32 := 0#32
  let v642 : BitVec 1 := Scalar.cmpi .slt v638 c0_i32_402
  let v643 : BitVec 1 := Scalar.xori v641 v642
  let c0_i32_400 : BitVec 32 := 0#32
  let v640 : BitVec 1 := Scalar.cmpi .ne v639 c0_i32_400
  let v644 : BitVec 1 := Scalar.andi v643 v640
  let v645 : BitVec 32 := Scalar.addi v639 v638
  let v646 : BitVec 32 := Scalar.select v644 v645 v639
  let v647 : BitVec 32 := Scalar.addi c0_i32_403 v646
  let v649 : BitVec 1 := Scalar.cmpi .ne v647 v2
  let v650 : BitVec 32 := Scalar.extui v649
  let c0_i32_405 : BitVec 32 := 0#32
  let v651 : BitVec 1 := Scalar.cmpi .ne v650 c0_i32_405
  v651

def k0_off1 (d0 : Dev nD) : Fin 1 → Nat :=
  let c0_i32_403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_396 : BitVec 32 := 0#32
  let v636 : BitVec 32 := Scalar.addi v2 c0_i32_396
  let c8_i32_397 : BitVec 32 := 8#32
  let c0_i32_398 : BitVec 32 := 0#32
  let v637 : BitVec 1 := Scalar.cmpi .eq c8_i32_397 c0_i32_398
  let c1_i32_399 : BitVec 32 := 1#32
  let v638 : BitVec 32 := Scalar.select v637 c1_i32_399 c8_i32_397
  let v639 : BitVec 32 := Scalar.remsi v636 v638
  let c0_i32_401 : BitVec 32 := 0#32
  let v641 : BitVec 1 := Scalar.cmpi .slt v639 c0_i32_401
  let c0_i32_402 : BitVec 32 := 0#32
  let v642 : BitVec 1 := Scalar.cmpi .slt v638 c0_i32_402
  let v643 : BitVec 1 := Scalar.xori v641 v642
  let c0_i32_400 : BitVec 32 := 0#32
  let v640 : BitVec 1 := Scalar.cmpi .ne v639 c0_i32_400
  let v644 : BitVec 1 := Scalar.andi v643 v640
  let v645 : BitVec 32 := Scalar.addi v639 v638
  let v646 : BitVec 32 := Scalar.select v644 v645 v639
  let v647 : BitVec 32 := Scalar.addi c0_i32_403 v646
  ![v647.toNat]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off4 (d0 : Dev nD) : Fin 2 → Nat :=
  let c0_i32_403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_396 : BitVec 32 := 0#32
  let v636 : BitVec 32 := Scalar.addi v2 c0_i32_396
  let c8_i32_397 : BitVec 32 := 8#32
  let c0_i32_398 : BitVec 32 := 0#32
  let v637 : BitVec 1 := Scalar.cmpi .eq c8_i32_397 c0_i32_398
  let c1_i32_399 : BitVec 32 := 1#32
  let v638 : BitVec 32 := Scalar.select v637 c1_i32_399 c8_i32_397
  let v639 : BitVec 32 := Scalar.remsi v636 v638
  let c0_i32_401 : BitVec 32 := 0#32
  let v641 : BitVec 1 := Scalar.cmpi .slt v639 c0_i32_401
  let c0_i32_402 : BitVec 32 := 0#32
  let v642 : BitVec 1 := Scalar.cmpi .slt v638 c0_i32_402
  let v643 : BitVec 1 := Scalar.xori v641 v642
  let c0_i32_400 : BitVec 32 := 0#32
  let v640 : BitVec 1 := Scalar.cmpi .ne v639 c0_i32_400
  let v644 : BitVec 1 := Scalar.andi v643 v640
  let v645 : BitVec 32 := Scalar.addi v639 v638
  let v646 : BitVec 32 := Scalar.select v644 v645 v639
  let v647 : BitVec 32 := Scalar.addi c0_i32_403 v646
  let c8_i32_404 : BitVec 32 := 8#32
  let v648 : BitVec 32 := Scalar.muli v647 c8_i32_404
  let c0_i32_2554 : BitVec 32 := 0#32
  ![v648.toNat, 0]
def k0_dev32 (d0 : Dev nD) : Nat :=
  let c0_i32_2551 : BitVec 32 := 0#32
  let c0_i32_403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_396 : BitVec 32 := 0#32
  let v636 : BitVec 32 := Scalar.addi v2 c0_i32_396
  let c8_i32_397 : BitVec 32 := 8#32
  let c0_i32_398 : BitVec 32 := 0#32
  let v637 : BitVec 1 := Scalar.cmpi .eq c8_i32_397 c0_i32_398
  let c1_i32_399 : BitVec 32 := 1#32
  let v638 : BitVec 32 := Scalar.select v637 c1_i32_399 c8_i32_397
  let v639 : BitVec 32 := Scalar.remsi v636 v638
  let c0_i32_401 : BitVec 32 := 0#32
  let v641 : BitVec 1 := Scalar.cmpi .slt v639 c0_i32_401
  let c0_i32_402 : BitVec 32 := 0#32
  let v642 : BitVec 1 := Scalar.cmpi .slt v638 c0_i32_402
  let v643 : BitVec 1 := Scalar.xori v641 v642
  let c0_i32_400 : BitVec 32 := 0#32
  let v640 : BitVec 1 := Scalar.cmpi .ne v639 c0_i32_400
  let v644 : BitVec 1 := Scalar.andi v643 v640
  let v645 : BitVec 32 := Scalar.addi v639 v638
  let v646 : BitVec 32 := Scalar.select v644 v645 v639
  let v647 : BitVec 32 := Scalar.addi c0_i32_403 v646
  let c1_i32_2550 : BitVec 32 := 1#32
  let v3673 : BitVec 32 := Scalar.muli v647 c1_i32_2550
  let v3674 : BitVec 32 := Scalar.addi c0_i32_2551 v3673
  v3674.toNat
def k0_cond2 (d0 : Dev nD) : BitVec 1 :=
  let c0_i32_413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_406 : BitVec 32 := 1#32
  let v652 : BitVec 32 := Scalar.addi v2 c1_i32_406
  let c8_i32_407 : BitVec 32 := 8#32
  let c0_i32_408 : BitVec 32 := 0#32
  let v653 : BitVec 1 := Scalar.cmpi .eq c8_i32_407 c0_i32_408
  let c1_i32_409 : BitVec 32 := 1#32
  let v654 : BitVec 32 := Scalar.select v653 c1_i32_409 c8_i32_407
  let v655 : BitVec 32 := Scalar.remsi v652 v654
  let c0_i32_411 : BitVec 32 := 0#32
  let v657 : BitVec 1 := Scalar.cmpi .slt v655 c0_i32_411
  let c0_i32_412 : BitVec 32 := 0#32
  let v658 : BitVec 1 := Scalar.cmpi .slt v654 c0_i32_412
  let v659 : BitVec 1 := Scalar.xori v657 v658
  let c0_i32_410 : BitVec 32 := 0#32
  let v656 : BitVec 1 := Scalar.cmpi .ne v655 c0_i32_410
  let v660 : BitVec 1 := Scalar.andi v659 v656
  let v661 : BitVec 32 := Scalar.addi v655 v654
  let v662 : BitVec 32 := Scalar.select v660 v661 v655
  let v663 : BitVec 32 := Scalar.addi c0_i32_413 v662
  let v665 : BitVec 1 := Scalar.cmpi .ne v663 v2
  let v666 : BitVec 32 := Scalar.extui v665
  let c0_i32_415 : BitVec 32 := 0#32
  let v667 : BitVec 1 := Scalar.cmpi .ne v666 c0_i32_415
  v667

def k0_off5 (d0 : Dev nD) : Fin 1 → Nat :=
  let c0_i32_413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_406 : BitVec 32 := 1#32
  let v652 : BitVec 32 := Scalar.addi v2 c1_i32_406
  let c8_i32_407 : BitVec 32 := 8#32
  let c0_i32_408 : BitVec 32 := 0#32
  let v653 : BitVec 1 := Scalar.cmpi .eq c8_i32_407 c0_i32_408
  let c1_i32_409 : BitVec 32 := 1#32
  let v654 : BitVec 32 := Scalar.select v653 c1_i32_409 c8_i32_407
  let v655 : BitVec 32 := Scalar.remsi v652 v654
  let c0_i32_411 : BitVec 32 := 0#32
  let v657 : BitVec 1 := Scalar.cmpi .slt v655 c0_i32_411
  let c0_i32_412 : BitVec 32 := 0#32
  let v658 : BitVec 1 := Scalar.cmpi .slt v654 c0_i32_412
  let v659 : BitVec 1 := Scalar.xori v657 v658
  let c0_i32_410 : BitVec 32 := 0#32
  let v656 : BitVec 1 := Scalar.cmpi .ne v655 c0_i32_410
  let v660 : BitVec 1 := Scalar.andi v659 v656
  let v661 : BitVec 32 := Scalar.addi v655 v654
  let v662 : BitVec 32 := Scalar.select v660 v661 v655
  let v663 : BitVec 32 := Scalar.addi c0_i32_413 v662
  ![v663.toNat]
def k0_off6 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off8 (d0 : Dev nD) : Fin 2 → Nat :=
  let c0_i32_413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_406 : BitVec 32 := 1#32
  let v652 : BitVec 32 := Scalar.addi v2 c1_i32_406
  let c8_i32_407 : BitVec 32 := 8#32
  let c0_i32_408 : BitVec 32 := 0#32
  let v653 : BitVec 1 := Scalar.cmpi .eq c8_i32_407 c0_i32_408
  let c1_i32_409 : BitVec 32 := 1#32
  let v654 : BitVec 32 := Scalar.select v653 c1_i32_409 c8_i32_407
  let v655 : BitVec 32 := Scalar.remsi v652 v654
  let c0_i32_411 : BitVec 32 := 0#32
  let v657 : BitVec 1 := Scalar.cmpi .slt v655 c0_i32_411
  let c0_i32_412 : BitVec 32 := 0#32
  let v658 : BitVec 1 := Scalar.cmpi .slt v654 c0_i32_412
  let v659 : BitVec 1 := Scalar.xori v657 v658
  let c0_i32_410 : BitVec 32 := 0#32
  let v656 : BitVec 1 := Scalar.cmpi .ne v655 c0_i32_410
  let v660 : BitVec 1 := Scalar.andi v659 v656
  let v661 : BitVec 32 := Scalar.addi v655 v654
  let v662 : BitVec 32 := Scalar.select v660 v661 v655
  let v663 : BitVec 32 := Scalar.addi c0_i32_413 v662
  let c8_i32_414 : BitVec 32 := 8#32
  let v664 : BitVec 32 := Scalar.muli v663 c8_i32_414
  let c0_i32_2554 : BitVec 32 := 0#32
  ![v664.toNat, 0]
def k0_dev33 (d0 : Dev nD) : Nat :=
  let c0_i32_2551 : BitVec 32 := 0#32
  let c0_i32_413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_406 : BitVec 32 := 1#32
  let v652 : BitVec 32 := Scalar.addi v2 c1_i32_406
  let c8_i32_407 : BitVec 32 := 8#32
  let c0_i32_408 : BitVec 32 := 0#32
  let v653 : BitVec 1 := Scalar.cmpi .eq c8_i32_407 c0_i32_408
  let c1_i32_409 : BitVec 32 := 1#32
  let v654 : BitVec 32 := Scalar.select v653 c1_i32_409 c8_i32_407
  let v655 : BitVec 32 := Scalar.remsi v652 v654
  let c0_i32_411 : BitVec 32 := 0#32
  let v657 : BitVec 1 := Scalar.cmpi .slt v655 c0_i32_411
  let c0_i32_412 : BitVec 32 := 0#32
  let v658 : BitVec 1 := Scalar.cmpi .slt v654 c0_i32_412
  let v659 : BitVec 1 := Scalar.xori v657 v658
  let c0_i32_410 : BitVec 32 := 0#32
  let v656 : BitVec 1 := Scalar.cmpi .ne v655 c0_i32_410
  let v660 : BitVec 1 := Scalar.andi v659 v656
  let v661 : BitVec 32 := Scalar.addi v655 v654
  let v662 : BitVec 32 := Scalar.select v660 v661 v655
  let v663 : BitVec 32 := Scalar.addi c0_i32_413 v662
  let c1_i32_2550 : BitVec 32 := 1#32
  let v3673 : BitVec 32 := Scalar.muli v663 c1_i32_2550
  let v3674 : BitVec 32 := Scalar.addi c0_i32_2551 v3673
  v3674.toNat
def k0_cond3 (d0 : Dev nD) : BitVec 1 :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_416 : BitVec 32 := 2#32
  let v668 : BitVec 32 := Scalar.addi v2 c2_i32_416
  let c8_i32_417 : BitVec 32 := 8#32
  let c0_i32_418 : BitVec 32 := 0#32
  let v669 : BitVec 1 := Scalar.cmpi .eq c8_i32_417 c0_i32_418
  let c1_i32_419 : BitVec 32 := 1#32
  let v670 : BitVec 32 := Scalar.select v669 c1_i32_419 c8_i32_417
  let v671 : BitVec 32 := Scalar.remsi v668 v670
  let c0_i32_421 : BitVec 32 := 0#32
  let v673 : BitVec 1 := Scalar.cmpi .slt v671 c0_i32_421
  let c0_i32_422 : BitVec 32 := 0#32
  let v674 : BitVec 1 := Scalar.cmpi .slt v670 c0_i32_422
  let v675 : BitVec 1 := Scalar.xori v673 v674
  let c0_i32_420 : BitVec 32 := 0#32
  let v672 : BitVec 1 := Scalar.cmpi .ne v671 c0_i32_420
  let v676 : BitVec 1 := Scalar.andi v675 v672
  let v677 : BitVec 32 := Scalar.addi v671 v670
  let v678 : BitVec 32 := Scalar.select v676 v677 v671
  let v679 : BitVec 32 := Scalar.addi c0_i32_423 v678
  let v681 : BitVec 1 := Scalar.cmpi .ne v679 v2
  let v682 : BitVec 32 := Scalar.extui v681
  let c0_i32_425 : BitVec 32 := 0#32
  let v683 : BitVec 1 := Scalar.cmpi .ne v682 c0_i32_425
  v683

def k0_off9 (d0 : Dev nD) : Fin 1 → Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_416 : BitVec 32 := 2#32
  let v668 : BitVec 32 := Scalar.addi v2 c2_i32_416
  let c8_i32_417 : BitVec 32 := 8#32
  let c0_i32_418 : BitVec 32 := 0#32
  let v669 : BitVec 1 := Scalar.cmpi .eq c8_i32_417 c0_i32_418
  let c1_i32_419 : BitVec 32 := 1#32
  let v670 : BitVec 32 := Scalar.select v669 c1_i32_419 c8_i32_417
  let v671 : BitVec 32 := Scalar.remsi v668 v670
  let c0_i32_421 : BitVec 32 := 0#32
  let v673 : BitVec 1 := Scalar.cmpi .slt v671 c0_i32_421
  let c0_i32_422 : BitVec 32 := 0#32
  let v674 : BitVec 1 := Scalar.cmpi .slt v670 c0_i32_422
  let v675 : BitVec 1 := Scalar.xori v673 v674
  let c0_i32_420 : BitVec 32 := 0#32
  let v672 : BitVec 1 := Scalar.cmpi .ne v671 c0_i32_420
  let v676 : BitVec 1 := Scalar.andi v675 v672
  let v677 : BitVec 32 := Scalar.addi v671 v670
  let v678 : BitVec 32 := Scalar.select v676 v677 v671
  let v679 : BitVec 32 := Scalar.addi c0_i32_423 v678
  ![v679.toNat]
def k0_off10 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off12 (d0 : Dev nD) : Fin 2 → Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_416 : BitVec 32 := 2#32
  let v668 : BitVec 32 := Scalar.addi v2 c2_i32_416
  let c8_i32_417 : BitVec 32 := 8#32
  let c0_i32_418 : BitVec 32 := 0#32
  let v669 : BitVec 1 := Scalar.cmpi .eq c8_i32_417 c0_i32_418
  let c1_i32_419 : BitVec 32 := 1#32
  let v670 : BitVec 32 := Scalar.select v669 c1_i32_419 c8_i32_417
  let v671 : BitVec 32 := Scalar.remsi v668 v670
  let c0_i32_421 : BitVec 32 := 0#32
  let v673 : BitVec 1 := Scalar.cmpi .slt v671 c0_i32_421
  let c0_i32_422 : BitVec 32 := 0#32
  let v674 : BitVec 1 := Scalar.cmpi .slt v670 c0_i32_422
  let v675 : BitVec 1 := Scalar.xori v673 v674
  let c0_i32_420 : BitVec 32 := 0#32
  let v672 : BitVec 1 := Scalar.cmpi .ne v671 c0_i32_420
  let v676 : BitVec 1 := Scalar.andi v675 v672
  let v677 : BitVec 32 := Scalar.addi v671 v670
  let v678 : BitVec 32 := Scalar.select v676 v677 v671
  let v679 : BitVec 32 := Scalar.addi c0_i32_423 v678
  let c8_i32_424 : BitVec 32 := 8#32
  let v680 : BitVec 32 := Scalar.muli v679 c8_i32_424
  let c0_i32_2554 : BitVec 32 := 0#32
  ![v680.toNat, 0]
def k0_dev34 (d0 : Dev nD) : Nat :=
  let c0_i32_2551 : BitVec 32 := 0#32
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_416 : BitVec 32 := 2#32
  let v668 : BitVec 32 := Scalar.addi v2 c2_i32_416
  let c8_i32_417 : BitVec 32 := 8#32
  let c0_i32_418 : BitVec 32 := 0#32
  let v669 : BitVec 1 := Scalar.cmpi .eq c8_i32_417 c0_i32_418
  let c1_i32_419 : BitVec 32 := 1#32
  let v670 : BitVec 32 := Scalar.select v669 c1_i32_419 c8_i32_417
  let v671 : BitVec 32 := Scalar.remsi v668 v670
  let c0_i32_421 : BitVec 32 := 0#32
  let v673 : BitVec 1 := Scalar.cmpi .slt v671 c0_i32_421
  let c0_i32_422 : BitVec 32 := 0#32
  let v674 : BitVec 1 := Scalar.cmpi .slt v670 c0_i32_422
  let v675 : BitVec 1 := Scalar.xori v673 v674
  let c0_i32_420 : BitVec 32 := 0#32
  let v672 : BitVec 1 := Scalar.cmpi .ne v671 c0_i32_420
  let v676 : BitVec 1 := Scalar.andi v675 v672
  let v677 : BitVec 32 := Scalar.addi v671 v670
  let v678 : BitVec 32 := Scalar.select v676 v677 v671
  let v679 : BitVec 32 := Scalar.addi c0_i32_423 v678
  let c1_i32_2550 : BitVec 32 := 1#32
  let v3673 : BitVec 32 := Scalar.muli v679 c1_i32_2550
  let v3674 : BitVec 32 := Scalar.addi c0_i32_2551 v3673
  v3674.toNat
def k0_cond4 (d0 : Dev nD) : BitVec 1 :=
  let c0_i32_433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_426 : BitVec 32 := 3#32
  let v684 : BitVec 32 := Scalar.addi v2 c3_i32_426
  let c8_i32_427 : BitVec 32 := 8#32
  let c0_i32_428 : BitVec 32 := 0#32
  let v685 : BitVec 1 := Scalar.cmpi .eq c8_i32_427 c0_i32_428
  let c1_i32_429 : BitVec 32 := 1#32
  let v686 : BitVec 32 := Scalar.select v685 c1_i32_429 c8_i32_427
  let v687 : BitVec 32 := Scalar.remsi v684 v686
  let c0_i32_431 : BitVec 32 := 0#32
  let v689 : BitVec 1 := Scalar.cmpi .slt v687 c0_i32_431
  let c0_i32_432 : BitVec 32 := 0#32
  let v690 : BitVec 1 := Scalar.cmpi .slt v686 c0_i32_432
  let v691 : BitVec 1 := Scalar.xori v689 v690
  let c0_i32_430 : BitVec 32 := 0#32
  let v688 : BitVec 1 := Scalar.cmpi .ne v687 c0_i32_430
  let v692 : BitVec 1 := Scalar.andi v691 v688
  let v693 : BitVec 32 := Scalar.addi v687 v686
  let v694 : BitVec 32 := Scalar.select v692 v693 v687
  let v695 : BitVec 32 := Scalar.addi c0_i32_433 v694
  let v697 : BitVec 1 := Scalar.cmpi .ne v695 v2
  let v698 : BitVec 32 := Scalar.extui v697
  let c0_i32_435 : BitVec 32 := 0#32
  let v699 : BitVec 1 := Scalar.cmpi .ne v698 c0_i32_435
  v699

def k0_off13 (d0 : Dev nD) : Fin 1 → Nat :=
  let c0_i32_433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_426 : BitVec 32 := 3#32
  let v684 : BitVec 32 := Scalar.addi v2 c3_i32_426
  let c8_i32_427 : BitVec 32 := 8#32
  let c0_i32_428 : BitVec 32 := 0#32
  let v685 : BitVec 1 := Scalar.cmpi .eq c8_i32_427 c0_i32_428
  let c1_i32_429 : BitVec 32 := 1#32
  let v686 : BitVec 32 := Scalar.select v685 c1_i32_429 c8_i32_427
  let v687 : BitVec 32 := Scalar.remsi v684 v686
  let c0_i32_431 : BitVec 32 := 0#32
  let v689 : BitVec 1 := Scalar.cmpi .slt v687 c0_i32_431
  let c0_i32_432 : BitVec 32 := 0#32
  let v690 : BitVec 1 := Scalar.cmpi .slt v686 c0_i32_432
  let v691 : BitVec 1 := Scalar.xori v689 v690
  let c0_i32_430 : BitVec 32 := 0#32
  let v688 : BitVec 1 := Scalar.cmpi .ne v687 c0_i32_430
  let v692 : BitVec 1 := Scalar.andi v691 v688
  let v693 : BitVec 32 := Scalar.addi v687 v686
  let v694 : BitVec 32 := Scalar.select v692 v693 v687
  let v695 : BitVec 32 := Scalar.addi c0_i32_433 v694
  ![v695.toNat]
def k0_off14 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off15 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off16 (d0 : Dev nD) : Fin 2 → Nat :=
  let c0_i32_433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_426 : BitVec 32 := 3#32
  let v684 : BitVec 32 := Scalar.addi v2 c3_i32_426
  let c8_i32_427 : BitVec 32 := 8#32
  let c0_i32_428 : BitVec 32 := 0#32
  let v685 : BitVec 1 := Scalar.cmpi .eq c8_i32_427 c0_i32_428
  let c1_i32_429 : BitVec 32 := 1#32
  let v686 : BitVec 32 := Scalar.select v685 c1_i32_429 c8_i32_427
  let v687 : BitVec 32 := Scalar.remsi v684 v686
  let c0_i32_431 : BitVec 32 := 0#32
  let v689 : BitVec 1 := Scalar.cmpi .slt v687 c0_i32_431
  let c0_i32_432 : BitVec 32 := 0#32
  let v690 : BitVec 1 := Scalar.cmpi .slt v686 c0_i32_432
  let v691 : BitVec 1 := Scalar.xori v689 v690
  let c0_i32_430 : BitVec 32 := 0#32
  let v688 : BitVec 1 := Scalar.cmpi .ne v687 c0_i32_430
  let v692 : BitVec 1 := Scalar.andi v691 v688
  let v693 : BitVec 32 := Scalar.addi v687 v686
  let v694 : BitVec 32 := Scalar.select v692 v693 v687
  let v695 : BitVec 32 := Scalar.addi c0_i32_433 v694
  let c8_i32_434 : BitVec 32 := 8#32
  let v696 : BitVec 32 := Scalar.muli v695 c8_i32_434
  let c0_i32_2554 : BitVec 32 := 0#32
  ![v696.toNat, 0]
def k0_dev35 (d0 : Dev nD) : Nat :=
  let c0_i32_2551 : BitVec 32 := 0#32
  let c0_i32_433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_426 : BitVec 32 := 3#32
  let v684 : BitVec 32 := Scalar.addi v2 c3_i32_426
  let c8_i32_427 : BitVec 32 := 8#32
  let c0_i32_428 : BitVec 32 := 0#32
  let v685 : BitVec 1 := Scalar.cmpi .eq c8_i32_427 c0_i32_428
  let c1_i32_429 : BitVec 32 := 1#32
  let v686 : BitVec 32 := Scalar.select v685 c1_i32_429 c8_i32_427
  let v687 : BitVec 32 := Scalar.remsi v684 v686
  let c0_i32_431 : BitVec 32 := 0#32
  let v689 : BitVec 1 := Scalar.cmpi .slt v687 c0_i32_431
  let c0_i32_432 : BitVec 32 := 0#32
  let v690 : BitVec 1 := Scalar.cmpi .slt v686 c0_i32_432
  let v691 : BitVec 1 := Scalar.xori v689 v690
  let c0_i32_430 : BitVec 32 := 0#32
  let v688 : BitVec 1 := Scalar.cmpi .ne v687 c0_i32_430
  let v692 : BitVec 1 := Scalar.andi v691 v688
  let v693 : BitVec 32 := Scalar.addi v687 v686
  let v694 : BitVec 32 := Scalar.select v692 v693 v687
  let v695 : BitVec 32 := Scalar.addi c0_i32_433 v694
  let c1_i32_2550 : BitVec 32 := 1#32
  let v3673 : BitVec 32 := Scalar.muli v695 c1_i32_2550
  let v3674 : BitVec 32 := Scalar.addi c0_i32_2551 v3673
  v3674.toNat
def k0_cond5 (d0 : Dev nD) : BitVec 1 :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_436 : BitVec 32 := 4#32
  let v700 : BitVec 32 := Scalar.addi v2 c4_i32_436
  let c8_i32_437 : BitVec 32 := 8#32
  let c0_i32_438 : BitVec 32 := 0#32
  let v701 : BitVec 1 := Scalar.cmpi .eq c8_i32_437 c0_i32_438
  let c1_i32_439 : BitVec 32 := 1#32
  let v702 : BitVec 32 := Scalar.select v701 c1_i32_439 c8_i32_437
  let v703 : BitVec 32 := Scalar.remsi v700 v702
  let c0_i32_441 : BitVec 32 := 0#32
  let v705 : BitVec 1 := Scalar.cmpi .slt v703 c0_i32_441
  let c0_i32_442 : BitVec 32 := 0#32
  let v706 : BitVec 1 := Scalar.cmpi .slt v702 c0_i32_442
  let v707 : BitVec 1 := Scalar.xori v705 v706
  let c0_i32_440 : BitVec 32 := 0#32
  let v704 : BitVec 1 := Scalar.cmpi .ne v703 c0_i32_440
  let v708 : BitVec 1 := Scalar.andi v707 v704
  let v709 : BitVec 32 := Scalar.addi v703 v702
  let v710 : BitVec 32 := Scalar.select v708 v709 v703
  let v711 : BitVec 32 := Scalar.addi c0_i32_443 v710
  let v713 : BitVec 1 := Scalar.cmpi .ne v711 v2
  let v714 : BitVec 32 := Scalar.extui v713
  let c0_i32_445 : BitVec 32 := 0#32
  let v715 : BitVec 1 := Scalar.cmpi .ne v714 c0_i32_445
  v715

def k0_off17 (d0 : Dev nD) : Fin 1 → Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_436 : BitVec 32 := 4#32
  let v700 : BitVec 32 := Scalar.addi v2 c4_i32_436
  let c8_i32_437 : BitVec 32 := 8#32
  let c0_i32_438 : BitVec 32 := 0#32
  let v701 : BitVec 1 := Scalar.cmpi .eq c8_i32_437 c0_i32_438
  let c1_i32_439 : BitVec 32 := 1#32
  let v702 : BitVec 32 := Scalar.select v701 c1_i32_439 c8_i32_437
  let v703 : BitVec 32 := Scalar.remsi v700 v702
  let c0_i32_441 : BitVec 32 := 0#32
  let v705 : BitVec 1 := Scalar.cmpi .slt v703 c0_i32_441
  let c0_i32_442 : BitVec 32 := 0#32
  let v706 : BitVec 1 := Scalar.cmpi .slt v702 c0_i32_442
  let v707 : BitVec 1 := Scalar.xori v705 v706
  let c0_i32_440 : BitVec 32 := 0#32
  let v704 : BitVec 1 := Scalar.cmpi .ne v703 c0_i32_440
  let v708 : BitVec 1 := Scalar.andi v707 v704
  let v709 : BitVec 32 := Scalar.addi v703 v702
  let v710 : BitVec 32 := Scalar.select v708 v709 v703
  let v711 : BitVec 32 := Scalar.addi c0_i32_443 v710
  ![v711.toNat]
def k0_off18 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off19 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off20 (d0 : Dev nD) : Fin 2 → Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_436 : BitVec 32 := 4#32
  let v700 : BitVec 32 := Scalar.addi v2 c4_i32_436
  let c8_i32_437 : BitVec 32 := 8#32
  let c0_i32_438 : BitVec 32 := 0#32
  let v701 : BitVec 1 := Scalar.cmpi .eq c8_i32_437 c0_i32_438
  let c1_i32_439 : BitVec 32 := 1#32
  let v702 : BitVec 32 := Scalar.select v701 c1_i32_439 c8_i32_437
  let v703 : BitVec 32 := Scalar.remsi v700 v702
  let c0_i32_441 : BitVec 32 := 0#32
  let v705 : BitVec 1 := Scalar.cmpi .slt v703 c0_i32_441
  let c0_i32_442 : BitVec 32 := 0#32
  let v706 : BitVec 1 := Scalar.cmpi .slt v702 c0_i32_442
  let v707 : BitVec 1 := Scalar.xori v705 v706
  let c0_i32_440 : BitVec 32 := 0#32
  let v704 : BitVec 1 := Scalar.cmpi .ne v703 c0_i32_440
  let v708 : BitVec 1 := Scalar.andi v707 v704
  let v709 : BitVec 32 := Scalar.addi v703 v702
  let v710 : BitVec 32 := Scalar.select v708 v709 v703
  let v711 : BitVec 32 := Scalar.addi c0_i32_443 v710
  let c8_i32_444 : BitVec 32 := 8#32
  let v712 : BitVec 32 := Scalar.muli v711 c8_i32_444
  let c0_i32_2554 : BitVec 32 := 0#32
  ![v712.toNat, 0]
def k0_dev36 (d0 : Dev nD) : Nat :=
  let c0_i32_2551 : BitVec 32 := 0#32
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_436 : BitVec 32 := 4#32
  let v700 : BitVec 32 := Scalar.addi v2 c4_i32_436
  let c8_i32_437 : BitVec 32 := 8#32
  let c0_i32_438 : BitVec 32 := 0#32
  let v701 : BitVec 1 := Scalar.cmpi .eq c8_i32_437 c0_i32_438
  let c1_i32_439 : BitVec 32 := 1#32
  let v702 : BitVec 32 := Scalar.select v701 c1_i32_439 c8_i32_437
  let v703 : BitVec 32 := Scalar.remsi v700 v702
  let c0_i32_441 : BitVec 32 := 0#32
  let v705 : BitVec 1 := Scalar.cmpi .slt v703 c0_i32_441
  let c0_i32_442 : BitVec 32 := 0#32
  let v706 : BitVec 1 := Scalar.cmpi .slt v702 c0_i32_442
  let v707 : BitVec 1 := Scalar.xori v705 v706
  let c0_i32_440 : BitVec 32 := 0#32
  let v704 : BitVec 1 := Scalar.cmpi .ne v703 c0_i32_440
  let v708 : BitVec 1 := Scalar.andi v707 v704
  let v709 : BitVec 32 := Scalar.addi v703 v702
  let v710 : BitVec 32 := Scalar.select v708 v709 v703
  let v711 : BitVec 32 := Scalar.addi c0_i32_443 v710
  let c1_i32_2550 : BitVec 32 := 1#32
  let v3673 : BitVec 32 := Scalar.muli v711 c1_i32_2550
  let v3674 : BitVec 32 := Scalar.addi c0_i32_2551 v3673
  v3674.toNat
def k0_cond6 (d0 : Dev nD) : BitVec 1 :=
  let c0_i32_453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_446 : BitVec 32 := 5#32
  let v716 : BitVec 32 := Scalar.addi v2 c5_i32_446
  let c8_i32_447 : BitVec 32 := 8#32
  let c0_i32_448 : BitVec 32 := 0#32
  let v717 : BitVec 1 := Scalar.cmpi .eq c8_i32_447 c0_i32_448
  let c1_i32_449 : BitVec 32 := 1#32
  let v718 : BitVec 32 := Scalar.select v717 c1_i32_449 c8_i32_447
  let v719 : BitVec 32 := Scalar.remsi v716 v718
  let c0_i32_451 : BitVec 32 := 0#32
  let v721 : BitVec 1 := Scalar.cmpi .slt v719 c0_i32_451
  let c0_i32_452 : BitVec 32 := 0#32
  let v722 : BitVec 1 := Scalar.cmpi .slt v718 c0_i32_452
  let v723 : BitVec 1 := Scalar.xori v721 v722
  let c0_i32_450 : BitVec 32 := 0#32
  let v720 : BitVec 1 := Scalar.cmpi .ne v719 c0_i32_450
  let v724 : BitVec 1 := Scalar.andi v723 v720
  let v725 : BitVec 32 := Scalar.addi v719 v718
  let v726 : BitVec 32 := Scalar.select v724 v725 v719
  let v727 : BitVec 32 := Scalar.addi c0_i32_453 v726
  let v729 : BitVec 1 := Scalar.cmpi .ne v727 v2
  let v730 : BitVec 32 := Scalar.extui v729
  let c0_i32_455 : BitVec 32 := 0#32
  let v731 : BitVec 1 := Scalar.cmpi .ne v730 c0_i32_455
  v731

def k0_off21 (d0 : Dev nD) : Fin 1 → Nat :=
  let c0_i32_453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_446 : BitVec 32 := 5#32
  let v716 : BitVec 32 := Scalar.addi v2 c5_i32_446
  let c8_i32_447 : BitVec 32 := 8#32
  let c0_i32_448 : BitVec 32 := 0#32
  let v717 : BitVec 1 := Scalar.cmpi .eq c8_i32_447 c0_i32_448
  let c1_i32_449 : BitVec 32 := 1#32
  let v718 : BitVec 32 := Scalar.select v717 c1_i32_449 c8_i32_447
  let v719 : BitVec 32 := Scalar.remsi v716 v718
  let c0_i32_451 : BitVec 32 := 0#32
  let v721 : BitVec 1 := Scalar.cmpi .slt v719 c0_i32_451
  let c0_i32_452 : BitVec 32 := 0#32
  let v722 : BitVec 1 := Scalar.cmpi .slt v718 c0_i32_452
  let v723 : BitVec 1 := Scalar.xori v721 v722
  let c0_i32_450 : BitVec 32 := 0#32
  let v720 : BitVec 1 := Scalar.cmpi .ne v719 c0_i32_450
  let v724 : BitVec 1 := Scalar.andi v723 v720
  let v725 : BitVec 32 := Scalar.addi v719 v718
  let v726 : BitVec 32 := Scalar.select v724 v725 v719
  let v727 : BitVec 32 := Scalar.addi c0_i32_453 v726
  ![v727.toNat]
def k0_off22 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off23 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off24 (d0 : Dev nD) : Fin 2 → Nat :=
  let c0_i32_453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_446 : BitVec 32 := 5#32
  let v716 : BitVec 32 := Scalar.addi v2 c5_i32_446
  let c8_i32_447 : BitVec 32 := 8#32
  let c0_i32_448 : BitVec 32 := 0#32
  let v717 : BitVec 1 := Scalar.cmpi .eq c8_i32_447 c0_i32_448
  let c1_i32_449 : BitVec 32 := 1#32
  let v718 : BitVec 32 := Scalar.select v717 c1_i32_449 c8_i32_447
  let v719 : BitVec 32 := Scalar.remsi v716 v718
  let c0_i32_451 : BitVec 32 := 0#32
  let v721 : BitVec 1 := Scalar.cmpi .slt v719 c0_i32_451
  let c0_i32_452 : BitVec 32 := 0#32
  let v722 : BitVec 1 := Scalar.cmpi .slt v718 c0_i32_452
  let v723 : BitVec 1 := Scalar.xori v721 v722
  let c0_i32_450 : BitVec 32 := 0#32
  let v720 : BitVec 1 := Scalar.cmpi .ne v719 c0_i32_450
  let v724 : BitVec 1 := Scalar.andi v723 v720
  let v725 : BitVec 32 := Scalar.addi v719 v718
  let v726 : BitVec 32 := Scalar.select v724 v725 v719
  let v727 : BitVec 32 := Scalar.addi c0_i32_453 v726
  let c8_i32_454 : BitVec 32 := 8#32
  let v728 : BitVec 32 := Scalar.muli v727 c8_i32_454
  let c0_i32_2554 : BitVec 32 := 0#32
  ![v728.toNat, 0]
def k0_dev37 (d0 : Dev nD) : Nat :=
  let c0_i32_2551 : BitVec 32 := 0#32
  let c0_i32_453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_446 : BitVec 32 := 5#32
  let v716 : BitVec 32 := Scalar.addi v2 c5_i32_446
  let c8_i32_447 : BitVec 32 := 8#32
  let c0_i32_448 : BitVec 32 := 0#32
  let v717 : BitVec 1 := Scalar.cmpi .eq c8_i32_447 c0_i32_448
  let c1_i32_449 : BitVec 32 := 1#32
  let v718 : BitVec 32 := Scalar.select v717 c1_i32_449 c8_i32_447
  let v719 : BitVec 32 := Scalar.remsi v716 v718
  let c0_i32_451 : BitVec 32 := 0#32
  let v721 : BitVec 1 := Scalar.cmpi .slt v719 c0_i32_451
  let c0_i32_452 : BitVec 32 := 0#32
  let v722 : BitVec 1 := Scalar.cmpi .slt v718 c0_i32_452
  let v723 : BitVec 1 := Scalar.xori v721 v722
  let c0_i32_450 : BitVec 32 := 0#32
  let v720 : BitVec 1 := Scalar.cmpi .ne v719 c0_i32_450
  let v724 : BitVec 1 := Scalar.andi v723 v720
  let v725 : BitVec 32 := Scalar.addi v719 v718
  let v726 : BitVec 32 := Scalar.select v724 v725 v719
  let v727 : BitVec 32 := Scalar.addi c0_i32_453 v726
  let c1_i32_2550 : BitVec 32 := 1#32
  let v3673 : BitVec 32 := Scalar.muli v727 c1_i32_2550
  let v3674 : BitVec 32 := Scalar.addi c0_i32_2551 v3673
  v3674.toNat
def k0_cond7 (d0 : Dev nD) : BitVec 1 :=
  let c0_i32_463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_456 : BitVec 32 := 6#32
  let v732 : BitVec 32 := Scalar.addi v2 c6_i32_456
  let c8_i32_457 : BitVec 32 := 8#32
  let c0_i32_458 : BitVec 32 := 0#32
  let v733 : BitVec 1 := Scalar.cmpi .eq c8_i32_457 c0_i32_458
  let c1_i32_459 : BitVec 32 := 1#32
  let v734 : BitVec 32 := Scalar.select v733 c1_i32_459 c8_i32_457
  let v735 : BitVec 32 := Scalar.remsi v732 v734
  let c0_i32_461 : BitVec 32 := 0#32
  let v737 : BitVec 1 := Scalar.cmpi .slt v735 c0_i32_461
  let c0_i32_462 : BitVec 32 := 0#32
  let v738 : BitVec 1 := Scalar.cmpi .slt v734 c0_i32_462
  let v739 : BitVec 1 := Scalar.xori v737 v738
  let c0_i32_460 : BitVec 32 := 0#32
  let v736 : BitVec 1 := Scalar.cmpi .ne v735 c0_i32_460
  let v740 : BitVec 1 := Scalar.andi v739 v736
  let v741 : BitVec 32 := Scalar.addi v735 v734
  let v742 : BitVec 32 := Scalar.select v740 v741 v735
  let v743 : BitVec 32 := Scalar.addi c0_i32_463 v742
  let v745 : BitVec 1 := Scalar.cmpi .ne v743 v2
  let v746 : BitVec 32 := Scalar.extui v745
  let c0_i32_465 : BitVec 32 := 0#32
  let v747 : BitVec 1 := Scalar.cmpi .ne v746 c0_i32_465
  v747

def k0_off25 (d0 : Dev nD) : Fin 1 → Nat :=
  let c0_i32_463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_456 : BitVec 32 := 6#32
  let v732 : BitVec 32 := Scalar.addi v2 c6_i32_456
  let c8_i32_457 : BitVec 32 := 8#32
  let c0_i32_458 : BitVec 32 := 0#32
  let v733 : BitVec 1 := Scalar.cmpi .eq c8_i32_457 c0_i32_458
  let c1_i32_459 : BitVec 32 := 1#32
  let v734 : BitVec 32 := Scalar.select v733 c1_i32_459 c8_i32_457
  let v735 : BitVec 32 := Scalar.remsi v732 v734
  let c0_i32_461 : BitVec 32 := 0#32
  let v737 : BitVec 1 := Scalar.cmpi .slt v735 c0_i32_461
  let c0_i32_462 : BitVec 32 := 0#32
  let v738 : BitVec 1 := Scalar.cmpi .slt v734 c0_i32_462
  let v739 : BitVec 1 := Scalar.xori v737 v738
  let c0_i32_460 : BitVec 32 := 0#32
  let v736 : BitVec 1 := Scalar.cmpi .ne v735 c0_i32_460
  let v740 : BitVec 1 := Scalar.andi v739 v736
  let v741 : BitVec 32 := Scalar.addi v735 v734
  let v742 : BitVec 32 := Scalar.select v740 v741 v735
  let v743 : BitVec 32 := Scalar.addi c0_i32_463 v742
  ![v743.toNat]
def k0_off26 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off27 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off28 (d0 : Dev nD) : Fin 2 → Nat :=
  let c0_i32_463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_456 : BitVec 32 := 6#32
  let v732 : BitVec 32 := Scalar.addi v2 c6_i32_456
  let c8_i32_457 : BitVec 32 := 8#32
  let c0_i32_458 : BitVec 32 := 0#32
  let v733 : BitVec 1 := Scalar.cmpi .eq c8_i32_457 c0_i32_458
  let c1_i32_459 : BitVec 32 := 1#32
  let v734 : BitVec 32 := Scalar.select v733 c1_i32_459 c8_i32_457
  let v735 : BitVec 32 := Scalar.remsi v732 v734
  let c0_i32_461 : BitVec 32 := 0#32
  let v737 : BitVec 1 := Scalar.cmpi .slt v735 c0_i32_461
  let c0_i32_462 : BitVec 32 := 0#32
  let v738 : BitVec 1 := Scalar.cmpi .slt v734 c0_i32_462
  let v739 : BitVec 1 := Scalar.xori v737 v738
  let c0_i32_460 : BitVec 32 := 0#32
  let v736 : BitVec 1 := Scalar.cmpi .ne v735 c0_i32_460
  let v740 : BitVec 1 := Scalar.andi v739 v736
  let v741 : BitVec 32 := Scalar.addi v735 v734
  let v742 : BitVec 32 := Scalar.select v740 v741 v735
  let v743 : BitVec 32 := Scalar.addi c0_i32_463 v742
  let c8_i32_464 : BitVec 32 := 8#32
  let v744 : BitVec 32 := Scalar.muli v743 c8_i32_464
  let c0_i32_2554 : BitVec 32 := 0#32
  ![v744.toNat, 0]
def k0_dev38 (d0 : Dev nD) : Nat :=
  let c0_i32_2551 : BitVec 32 := 0#32
  let c0_i32_463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_456 : BitVec 32 := 6#32
  let v732 : BitVec 32 := Scalar.addi v2 c6_i32_456
  let c8_i32_457 : BitVec 32 := 8#32
  let c0_i32_458 : BitVec 32 := 0#32
  let v733 : BitVec 1 := Scalar.cmpi .eq c8_i32_457 c0_i32_458
  let c1_i32_459 : BitVec 32 := 1#32
  let v734 : BitVec 32 := Scalar.select v733 c1_i32_459 c8_i32_457
  let v735 : BitVec 32 := Scalar.remsi v732 v734
  let c0_i32_461 : BitVec 32 := 0#32
  let v737 : BitVec 1 := Scalar.cmpi .slt v735 c0_i32_461
  let c0_i32_462 : BitVec 32 := 0#32
  let v738 : BitVec 1 := Scalar.cmpi .slt v734 c0_i32_462
  let v739 : BitVec 1 := Scalar.xori v737 v738
  let c0_i32_460 : BitVec 32 := 0#32
  let v736 : BitVec 1 := Scalar.cmpi .ne v735 c0_i32_460
  let v740 : BitVec 1 := Scalar.andi v739 v736
  let v741 : BitVec 32 := Scalar.addi v735 v734
  let v742 : BitVec 32 := Scalar.select v740 v741 v735
  let v743 : BitVec 32 := Scalar.addi c0_i32_463 v742
  let c1_i32_2550 : BitVec 32 := 1#32
  let v3673 : BitVec 32 := Scalar.muli v743 c1_i32_2550
  let v3674 : BitVec 32 := Scalar.addi c0_i32_2551 v3673
  v3674.toNat
def k0_cond8 (d0 : Dev nD) : BitVec 1 :=
  let c0_i32_473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_466 : BitVec 32 := 7#32
  let v748 : BitVec 32 := Scalar.addi v2 c7_i32_466
  let c8_i32_467 : BitVec 32 := 8#32
  let c0_i32_468 : BitVec 32 := 0#32
  let v749 : BitVec 1 := Scalar.cmpi .eq c8_i32_467 c0_i32_468
  let c1_i32_469 : BitVec 32 := 1#32
  let v750 : BitVec 32 := Scalar.select v749 c1_i32_469 c8_i32_467
  let v751 : BitVec 32 := Scalar.remsi v748 v750
  let c0_i32_471 : BitVec 32 := 0#32
  let v753 : BitVec 1 := Scalar.cmpi .slt v751 c0_i32_471
  let c0_i32_472 : BitVec 32 := 0#32
  let v754 : BitVec 1 := Scalar.cmpi .slt v750 c0_i32_472
  let v755 : BitVec 1 := Scalar.xori v753 v754
  let c0_i32_470 : BitVec 32 := 0#32
  let v752 : BitVec 1 := Scalar.cmpi .ne v751 c0_i32_470
  let v756 : BitVec 1 := Scalar.andi v755 v752
  let v757 : BitVec 32 := Scalar.addi v751 v750
  let v758 : BitVec 32 := Scalar.select v756 v757 v751
  let v759 : BitVec 32 := Scalar.addi c0_i32_473 v758
  let v761 : BitVec 1 := Scalar.cmpi .ne v759 v2
  let v762 : BitVec 32 := Scalar.extui v761
  let c0_i32_475 : BitVec 32 := 0#32
  let v763 : BitVec 1 := Scalar.cmpi .ne v762 c0_i32_475
  v763

def k0_off29 (d0 : Dev nD) : Fin 1 → Nat :=
  let c0_i32_473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_466 : BitVec 32 := 7#32
  let v748 : BitVec 32 := Scalar.addi v2 c7_i32_466
  let c8_i32_467 : BitVec 32 := 8#32
  let c0_i32_468 : BitVec 32 := 0#32
  let v749 : BitVec 1 := Scalar.cmpi .eq c8_i32_467 c0_i32_468
  let c1_i32_469 : BitVec 32 := 1#32
  let v750 : BitVec 32 := Scalar.select v749 c1_i32_469 c8_i32_467
  let v751 : BitVec 32 := Scalar.remsi v748 v750
  let c0_i32_471 : BitVec 32 := 0#32
  let v753 : BitVec 1 := Scalar.cmpi .slt v751 c0_i32_471
  let c0_i32_472 : BitVec 32 := 0#32
  let v754 : BitVec 1 := Scalar.cmpi .slt v750 c0_i32_472
  let v755 : BitVec 1 := Scalar.xori v753 v754
  let c0_i32_470 : BitVec 32 := 0#32
  let v752 : BitVec 1 := Scalar.cmpi .ne v751 c0_i32_470
  let v756 : BitVec 1 := Scalar.andi v755 v752
  let v757 : BitVec 32 := Scalar.addi v751 v750
  let v758 : BitVec 32 := Scalar.select v756 v757 v751
  let v759 : BitVec 32 := Scalar.addi c0_i32_473 v758
  ![v759.toNat]
def k0_off30 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off31 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off32 (d0 : Dev nD) : Fin 2 → Nat :=
  let c0_i32_473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_466 : BitVec 32 := 7#32
  let v748 : BitVec 32 := Scalar.addi v2 c7_i32_466
  let c8_i32_467 : BitVec 32 := 8#32
  let c0_i32_468 : BitVec 32 := 0#32
  let v749 : BitVec 1 := Scalar.cmpi .eq c8_i32_467 c0_i32_468
  let c1_i32_469 : BitVec 32 := 1#32
  let v750 : BitVec 32 := Scalar.select v749 c1_i32_469 c8_i32_467
  let v751 : BitVec 32 := Scalar.remsi v748 v750
  let c0_i32_471 : BitVec 32 := 0#32
  let v753 : BitVec 1 := Scalar.cmpi .slt v751 c0_i32_471
  let c0_i32_472 : BitVec 32 := 0#32
  let v754 : BitVec 1 := Scalar.cmpi .slt v750 c0_i32_472
  let v755 : BitVec 1 := Scalar.xori v753 v754
  let c0_i32_470 : BitVec 32 := 0#32
  let v752 : BitVec 1 := Scalar.cmpi .ne v751 c0_i32_470
  let v756 : BitVec 1 := Scalar.andi v755 v752
  let v757 : BitVec 32 := Scalar.addi v751 v750
  let v758 : BitVec 32 := Scalar.select v756 v757 v751
  let v759 : BitVec 32 := Scalar.addi c0_i32_473 v758
  let c8_i32_474 : BitVec 32 := 8#32
  let v760 : BitVec 32 := Scalar.muli v759 c8_i32_474
  let c0_i32_2554 : BitVec 32 := 0#32
  ![v760.toNat, 0]
def k0_dev39 (d0 : Dev nD) : Nat :=
  let c0_i32_2551 : BitVec 32 := 0#32
  let c0_i32_473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_466 : BitVec 32 := 7#32
  let v748 : BitVec 32 := Scalar.addi v2 c7_i32_466
  let c8_i32_467 : BitVec 32 := 8#32
  let c0_i32_468 : BitVec 32 := 0#32
  let v749 : BitVec 1 := Scalar.cmpi .eq c8_i32_467 c0_i32_468
  let c1_i32_469 : BitVec 32 := 1#32
  let v750 : BitVec 32 := Scalar.select v749 c1_i32_469 c8_i32_467
  let v751 : BitVec 32 := Scalar.remsi v748 v750
  let c0_i32_471 : BitVec 32 := 0#32
  let v753 : BitVec 1 := Scalar.cmpi .slt v751 c0_i32_471
  let c0_i32_472 : BitVec 32 := 0#32
  let v754 : BitVec 1 := Scalar.cmpi .slt v750 c0_i32_472
  let v755 : BitVec 1 := Scalar.xori v753 v754
  let c0_i32_470 : BitVec 32 := 0#32
  let v752 : BitVec 1 := Scalar.cmpi .ne v751 c0_i32_470
  let v756 : BitVec 1 := Scalar.andi v755 v752
  let v757 : BitVec 32 := Scalar.addi v751 v750
  let v758 : BitVec 32 := Scalar.select v756 v757 v751
  let v759 : BitVec 32 := Scalar.addi c0_i32_473 v758
  let c1_i32_2550 : BitVec 32 := 1#32
  let v3673 : BitVec 32 := Scalar.muli v759 c1_i32_2550
  let v3674 : BitVec 32 := Scalar.addi c0_i32_2551 v3673
  v3674.toNat
def k0_cond9 (d0 : Dev nD) : BitVec 1 :=
  let c8_i32_490 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_483 : BitVec 32 := 0#32
  let v772 : BitVec 32 := Scalar.addi v2 c0_i32_483
  let c8_i32_484 : BitVec 32 := 8#32
  let c0_i32_485 : BitVec 32 := 0#32
  let v773 : BitVec 1 := Scalar.cmpi .eq c8_i32_484 c0_i32_485
  let c1_i32_486 : BitVec 32 := 1#32
  let v774 : BitVec 32 := Scalar.select v773 c1_i32_486 c8_i32_484
  let v775 : BitVec 32 := Scalar.remsi v772 v774
  let c0_i32_488 : BitVec 32 := 0#32
  let v777 : BitVec 1 := Scalar.cmpi .slt v775 c0_i32_488
  let c0_i32_489 : BitVec 32 := 0#32
  let v778 : BitVec 1 := Scalar.cmpi .slt v774 c0_i32_489
  let v779 : BitVec 1 := Scalar.xori v777 v778
  let c0_i32_487 : BitVec 32 := 0#32
  let v776 : BitVec 1 := Scalar.cmpi .ne v775 c0_i32_487
  let v780 : BitVec 1 := Scalar.andi v779 v776
  let v781 : BitVec 32 := Scalar.addi v775 v774
  let v782 : BitVec 32 := Scalar.select v780 v781 v775
  let v783 : BitVec 32 := Scalar.addi c8_i32_490 v782
  let v785 : BitVec 1 := Scalar.cmpi .ne v783 v2
  let v786 : BitVec 32 := Scalar.extui v785
  let c0_i32_492 : BitVec 32 := 0#32
  let v787 : BitVec 1 := Scalar.cmpi .ne v786 c0_i32_492
  v787

def k0_off33 (d0 : Dev nD) : Fin 1 → Nat :=
  let c8_i32_490 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_483 : BitVec 32 := 0#32
  let v772 : BitVec 32 := Scalar.addi v2 c0_i32_483
  let c8_i32_484 : BitVec 32 := 8#32
  let c0_i32_485 : BitVec 32 := 0#32
  let v773 : BitVec 1 := Scalar.cmpi .eq c8_i32_484 c0_i32_485
  let c1_i32_486 : BitVec 32 := 1#32
  let v774 : BitVec 32 := Scalar.select v773 c1_i32_486 c8_i32_484
  let v775 : BitVec 32 := Scalar.remsi v772 v774
  let c0_i32_488 : BitVec 32 := 0#32
  let v777 : BitVec 1 := Scalar.cmpi .slt v775 c0_i32_488
  let c0_i32_489 : BitVec 32 := 0#32
  let v778 : BitVec 1 := Scalar.cmpi .slt v774 c0_i32_489
  let v779 : BitVec 1 := Scalar.xori v777 v778
  let c0_i32_487 : BitVec 32 := 0#32
  let v776 : BitVec 1 := Scalar.cmpi .ne v775 c0_i32_487
  let v780 : BitVec 1 := Scalar.andi v779 v776
  let v781 : BitVec 32 := Scalar.addi v775 v774
  let v782 : BitVec 32 := Scalar.select v780 v781 v775
  let v783 : BitVec 32 := Scalar.addi c8_i32_490 v782
  ![v783.toNat]
def k0_off34 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off35 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off36 (d0 : Dev nD) : Fin 2 → Nat :=
  let c8_i32_490 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_483 : BitVec 32 := 0#32
  let v772 : BitVec 32 := Scalar.addi v2 c0_i32_483
  let c8_i32_484 : BitVec 32 := 8#32
  let c0_i32_485 : BitVec 32 := 0#32
  let v773 : BitVec 1 := Scalar.cmpi .eq c8_i32_484 c0_i32_485
  let c1_i32_486 : BitVec 32 := 1#32
  let v774 : BitVec 32 := Scalar.select v773 c1_i32_486 c8_i32_484
  let v775 : BitVec 32 := Scalar.remsi v772 v774
  let c0_i32_488 : BitVec 32 := 0#32
  let v777 : BitVec 1 := Scalar.cmpi .slt v775 c0_i32_488
  let c0_i32_489 : BitVec 32 := 0#32
  let v778 : BitVec 1 := Scalar.cmpi .slt v774 c0_i32_489
  let v779 : BitVec 1 := Scalar.xori v777 v778
  let c0_i32_487 : BitVec 32 := 0#32
  let v776 : BitVec 1 := Scalar.cmpi .ne v775 c0_i32_487
  let v780 : BitVec 1 := Scalar.andi v779 v776
  let v781 : BitVec 32 := Scalar.addi v775 v774
  let v782 : BitVec 32 := Scalar.select v780 v781 v775
  let v783 : BitVec 32 := Scalar.addi c8_i32_490 v782
  let c8_i32_491 : BitVec 32 := 8#32
  let v784 : BitVec 32 := Scalar.muli v783 c8_i32_491
  let c0_i32_2554 : BitVec 32 := 0#32
  ![v784.toNat, 0]
def k0_dev40 (d0 : Dev nD) : Nat :=
  let c0_i32_2551 : BitVec 32 := 0#32
  let c8_i32_490 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_483 : BitVec 32 := 0#32
  let v772 : BitVec 32 := Scalar.addi v2 c0_i32_483
  let c8_i32_484 : BitVec 32 := 8#32
  let c0_i32_485 : BitVec 32 := 0#32
  let v773 : BitVec 1 := Scalar.cmpi .eq c8_i32_484 c0_i32_485
  let c1_i32_486 : BitVec 32 := 1#32
  let v774 : BitVec 32 := Scalar.select v773 c1_i32_486 c8_i32_484
  let v775 : BitVec 32 := Scalar.remsi v772 v774
  let c0_i32_488 : BitVec 32 := 0#32
  let v777 : BitVec 1 := Scalar.cmpi .slt v775 c0_i32_488
  let c0_i32_489 : BitVec 32 := 0#32
  let v778 : BitVec 1 := Scalar.cmpi .slt v774 c0_i32_489
  let v779 : BitVec 1 := Scalar.xori v777 v778
  let c0_i32_487 : BitVec 32 := 0#32
  let v776 : BitVec 1 := Scalar.cmpi .ne v775 c0_i32_487
  let v780 : BitVec 1 := Scalar.andi v779 v776
  let v781 : BitVec 32 := Scalar.addi v775 v774
  let v782 : BitVec 32 := Scalar.select v780 v781 v775
  let v783 : BitVec 32 := Scalar.addi c8_i32_490 v782
  let c1_i32_2550 : BitVec 32 := 1#32
  let v3673 : BitVec 32 := Scalar.muli v783 c1_i32_2550
  let v3674 : BitVec 32 := Scalar.addi c0_i32_2551 v3673
  v3674.toNat
def k0_cond10 (d0 : Dev nD) : BitVec 1 :=
  let c8_i32_500 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_493 : BitVec 32 := 1#32
  let v788 : BitVec 32 := Scalar.addi v2 c1_i32_493
  let c8_i32_494 : BitVec 32 := 8#32
  let c0_i32_495 : BitVec 32 := 0#32
  let v789 : BitVec 1 := Scalar.cmpi .eq c8_i32_494 c0_i32_495
  let c1_i32_496 : BitVec 32 := 1#32
  let v790 : BitVec 32 := Scalar.select v789 c1_i32_496 c8_i32_494
  let v791 : BitVec 32 := Scalar.remsi v788 v790
  let c0_i32_498 : BitVec 32 := 0#32
  let v793 : BitVec 1 := Scalar.cmpi .slt v791 c0_i32_498
  let c0_i32_499 : BitVec 32 := 0#32
  let v794 : BitVec 1 := Scalar.cmpi .slt v790 c0_i32_499
  let v795 : BitVec 1 := Scalar.xori v793 v794
  let c0_i32_497 : BitVec 32 := 0#32
  let v792 : BitVec 1 := Scalar.cmpi .ne v791 c0_i32_497
  let v796 : BitVec 1 := Scalar.andi v795 v792
  let v797 : BitVec 32 := Scalar.addi v791 v790
  let v798 : BitVec 32 := Scalar.select v796 v797 v791
  let v799 : BitVec 32 := Scalar.addi c8_i32_500 v798
  let v801 : BitVec 1 := Scalar.cmpi .ne v799 v2
  let v802 : BitVec 32 := Scalar.extui v801
  let c0_i32_502 : BitVec 32 := 0#32
  let v803 : BitVec 1 := Scalar.cmpi .ne v802 c0_i32_502
  v803

def k0_off37 (d0 : Dev nD) : Fin 1 → Nat :=
  let c8_i32_500 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_493 : BitVec 32 := 1#32
  let v788 : BitVec 32 := Scalar.addi v2 c1_i32_493
  let c8_i32_494 : BitVec 32 := 8#32
  let c0_i32_495 : BitVec 32 := 0#32
  let v789 : BitVec 1 := Scalar.cmpi .eq c8_i32_494 c0_i32_495
  let c1_i32_496 : BitVec 32 := 1#32
  let v790 : BitVec 32 := Scalar.select v789 c1_i32_496 c8_i32_494
  let v791 : BitVec 32 := Scalar.remsi v788 v790
  let c0_i32_498 : BitVec 32 := 0#32
  let v793 : BitVec 1 := Scalar.cmpi .slt v791 c0_i32_498
  let c0_i32_499 : BitVec 32 := 0#32
  let v794 : BitVec 1 := Scalar.cmpi .slt v790 c0_i32_499
  let v795 : BitVec 1 := Scalar.xori v793 v794
  let c0_i32_497 : BitVec 32 := 0#32
  let v792 : BitVec 1 := Scalar.cmpi .ne v791 c0_i32_497
  let v796 : BitVec 1 := Scalar.andi v795 v792
  let v797 : BitVec 32 := Scalar.addi v791 v790
  let v798 : BitVec 32 := Scalar.select v796 v797 v791
  let v799 : BitVec 32 := Scalar.addi c8_i32_500 v798
  ![v799.toNat]
def k0_off38 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off39 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off40 (d0 : Dev nD) : Fin 2 → Nat :=
  let c8_i32_500 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_493 : BitVec 32 := 1#32
  let v788 : BitVec 32 := Scalar.addi v2 c1_i32_493
  let c8_i32_494 : BitVec 32 := 8#32
  let c0_i32_495 : BitVec 32 := 0#32
  let v789 : BitVec 1 := Scalar.cmpi .eq c8_i32_494 c0_i32_495
  let c1_i32_496 : BitVec 32 := 1#32
  let v790 : BitVec 32 := Scalar.select v789 c1_i32_496 c8_i32_494
  let v791 : BitVec 32 := Scalar.remsi v788 v790
  let c0_i32_498 : BitVec 32 := 0#32
  let v793 : BitVec 1 := Scalar.cmpi .slt v791 c0_i32_498
  let c0_i32_499 : BitVec 32 := 0#32
  let v794 : BitVec 1 := Scalar.cmpi .slt v790 c0_i32_499
  let v795 : BitVec 1 := Scalar.xori v793 v794
  let c0_i32_497 : BitVec 32 := 0#32
  let v792 : BitVec 1 := Scalar.cmpi .ne v791 c0_i32_497
  let v796 : BitVec 1 := Scalar.andi v795 v792
  let v797 : BitVec 32 := Scalar.addi v791 v790
  let v798 : BitVec 32 := Scalar.select v796 v797 v791
  let v799 : BitVec 32 := Scalar.addi c8_i32_500 v798
  let c8_i32_501 : BitVec 32 := 8#32
  let v800 : BitVec 32 := Scalar.muli v799 c8_i32_501
  let c0_i32_2554 : BitVec 32 := 0#32
  ![v800.toNat, 0]
def k0_dev41 (d0 : Dev nD) : Nat :=
  let c0_i32_2551 : BitVec 32 := 0#32
  let c8_i32_500 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_493 : BitVec 32 := 1#32
  let v788 : BitVec 32 := Scalar.addi v2 c1_i32_493
  let c8_i32_494 : BitVec 32 := 8#32
  let c0_i32_495 : BitVec 32 := 0#32
  let v789 : BitVec 1 := Scalar.cmpi .eq c8_i32_494 c0_i32_495
  let c1_i32_496 : BitVec 32 := 1#32
  let v790 : BitVec 32 := Scalar.select v789 c1_i32_496 c8_i32_494
  let v791 : BitVec 32 := Scalar.remsi v788 v790
  let c0_i32_498 : BitVec 32 := 0#32
  let v793 : BitVec 1 := Scalar.cmpi .slt v791 c0_i32_498
  let c0_i32_499 : BitVec 32 := 0#32
  let v794 : BitVec 1 := Scalar.cmpi .slt v790 c0_i32_499
  let v795 : BitVec 1 := Scalar.xori v793 v794
  let c0_i32_497 : BitVec 32 := 0#32
  let v792 : BitVec 1 := Scalar.cmpi .ne v791 c0_i32_497
  let v796 : BitVec 1 := Scalar.andi v795 v792
  let v797 : BitVec 32 := Scalar.addi v791 v790
  let v798 : BitVec 32 := Scalar.select v796 v797 v791
  let v799 : BitVec 32 := Scalar.addi c8_i32_500 v798
  let c1_i32_2550 : BitVec 32 := 1#32
  let v3673 : BitVec 32 := Scalar.muli v799 c1_i32_2550
  let v3674 : BitVec 32 := Scalar.addi c0_i32_2551 v3673
  v3674.toNat
def k0_cond11 (d0 : Dev nD) : BitVec 1 :=
  let c8_i32_510 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_503 : BitVec 32 := 2#32
  let v804 : BitVec 32 := Scalar.addi v2 c2_i32_503
  let c8_i32_504 : BitVec 32 := 8#32
  let c0_i32_505 : BitVec 32 := 0#32
  let v805 : BitVec 1 := Scalar.cmpi .eq c8_i32_504 c0_i32_505
  let c1_i32_506 : BitVec 32 := 1#32
  let v806 : BitVec 32 := Scalar.select v805 c1_i32_506 c8_i32_504
  let v807 : BitVec 32 := Scalar.remsi v804 v806
  let c0_i32_508 : BitVec 32 := 0#32
  let v809 : BitVec 1 := Scalar.cmpi .slt v807 c0_i32_508
  let c0_i32_509 : BitVec 32 := 0#32
  let v810 : BitVec 1 := Scalar.cmpi .slt v806 c0_i32_509
  let v811 : BitVec 1 := Scalar.xori v809 v810
  let c0_i32_507 : BitVec 32 := 0#32
  let v808 : BitVec 1 := Scalar.cmpi .ne v807 c0_i32_507
  let v812 : BitVec 1 := Scalar.andi v811 v808
  let v813 : BitVec 32 := Scalar.addi v807 v806
  let v814 : BitVec 32 := Scalar.select v812 v813 v807
  let v815 : BitVec 32 := Scalar.addi c8_i32_510 v814
  let v817 : BitVec 1 := Scalar.cmpi .ne v815 v2
  let v818 : BitVec 32 := Scalar.extui v817
  let c0_i32_512 : BitVec 32 := 0#32
  let v819 : BitVec 1 := Scalar.cmpi .ne v818 c0_i32_512
  v819

def k0_off41 (d0 : Dev nD) : Fin 1 → Nat :=
  let c8_i32_510 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_503 : BitVec 32 := 2#32
  let v804 : BitVec 32 := Scalar.addi v2 c2_i32_503
  let c8_i32_504 : BitVec 32 := 8#32
  let c0_i32_505 : BitVec 32 := 0#32
  let v805 : BitVec 1 := Scalar.cmpi .eq c8_i32_504 c0_i32_505
  let c1_i32_506 : BitVec 32 := 1#32
  let v806 : BitVec 32 := Scalar.select v805 c1_i32_506 c8_i32_504
  let v807 : BitVec 32 := Scalar.remsi v804 v806
  let c0_i32_508 : BitVec 32 := 0#32
  let v809 : BitVec 1 := Scalar.cmpi .slt v807 c0_i32_508
  let c0_i32_509 : BitVec 32 := 0#32
  let v810 : BitVec 1 := Scalar.cmpi .slt v806 c0_i32_509
  let v811 : BitVec 1 := Scalar.xori v809 v810
  let c0_i32_507 : BitVec 32 := 0#32
  let v808 : BitVec 1 := Scalar.cmpi .ne v807 c0_i32_507
  let v812 : BitVec 1 := Scalar.andi v811 v808
  let v813 : BitVec 32 := Scalar.addi v807 v806
  let v814 : BitVec 32 := Scalar.select v812 v813 v807
  let v815 : BitVec 32 := Scalar.addi c8_i32_510 v814
  ![v815.toNat]
def k0_off42 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off43 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off44 (d0 : Dev nD) : Fin 2 → Nat :=
  let c8_i32_510 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_503 : BitVec 32 := 2#32
  let v804 : BitVec 32 := Scalar.addi v2 c2_i32_503
  let c8_i32_504 : BitVec 32 := 8#32
  let c0_i32_505 : BitVec 32 := 0#32
  let v805 : BitVec 1 := Scalar.cmpi .eq c8_i32_504 c0_i32_505
  let c1_i32_506 : BitVec 32 := 1#32
  let v806 : BitVec 32 := Scalar.select v805 c1_i32_506 c8_i32_504
  let v807 : BitVec 32 := Scalar.remsi v804 v806
  let c0_i32_508 : BitVec 32 := 0#32
  let v809 : BitVec 1 := Scalar.cmpi .slt v807 c0_i32_508
  let c0_i32_509 : BitVec 32 := 0#32
  let v810 : BitVec 1 := Scalar.cmpi .slt v806 c0_i32_509
  let v811 : BitVec 1 := Scalar.xori v809 v810
  let c0_i32_507 : BitVec 32 := 0#32
  let v808 : BitVec 1 := Scalar.cmpi .ne v807 c0_i32_507
  let v812 : BitVec 1 := Scalar.andi v811 v808
  let v813 : BitVec 32 := Scalar.addi v807 v806
  let v814 : BitVec 32 := Scalar.select v812 v813 v807
  let v815 : BitVec 32 := Scalar.addi c8_i32_510 v814
  let c8_i32_511 : BitVec 32 := 8#32
  let v816 : BitVec 32 := Scalar.muli v815 c8_i32_511
  let c0_i32_2554 : BitVec 32 := 0#32
  ![v816.toNat, 0]
def k0_dev42 (d0 : Dev nD) : Nat :=
  let c0_i32_2551 : BitVec 32 := 0#32
  let c8_i32_510 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_503 : BitVec 32 := 2#32
  let v804 : BitVec 32 := Scalar.addi v2 c2_i32_503
  let c8_i32_504 : BitVec 32 := 8#32
  let c0_i32_505 : BitVec 32 := 0#32
  let v805 : BitVec 1 := Scalar.cmpi .eq c8_i32_504 c0_i32_505
  let c1_i32_506 : BitVec 32 := 1#32
  let v806 : BitVec 32 := Scalar.select v805 c1_i32_506 c8_i32_504
  let v807 : BitVec 32 := Scalar.remsi v804 v806
  let c0_i32_508 : BitVec 32 := 0#32
  let v809 : BitVec 1 := Scalar.cmpi .slt v807 c0_i32_508
  let c0_i32_509 : BitVec 32 := 0#32
  let v810 : BitVec 1 := Scalar.cmpi .slt v806 c0_i32_509
  let v811 : BitVec 1 := Scalar.xori v809 v810
  let c0_i32_507 : BitVec 32 := 0#32
  let v808 : BitVec 1 := Scalar.cmpi .ne v807 c0_i32_507
  let v812 : BitVec 1 := Scalar.andi v811 v808
  let v813 : BitVec 32 := Scalar.addi v807 v806
  let v814 : BitVec 32 := Scalar.select v812 v813 v807
  let v815 : BitVec 32 := Scalar.addi c8_i32_510 v814
  let c1_i32_2550 : BitVec 32 := 1#32
  let v3673 : BitVec 32 := Scalar.muli v815 c1_i32_2550
  let v3674 : BitVec 32 := Scalar.addi c0_i32_2551 v3673
  v3674.toNat
def k0_cond12 (d0 : Dev nD) : BitVec 1 :=
  let c8_i32_520 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_513 : BitVec 32 := 3#32
  let v820 : BitVec 32 := Scalar.addi v2 c3_i32_513
  let c8_i32_514 : BitVec 32 := 8#32
  let c0_i32_515 : BitVec 32 := 0#32
  let v821 : BitVec 1 := Scalar.cmpi .eq c8_i32_514 c0_i32_515
  let c1_i32_516 : BitVec 32 := 1#32
  let v822 : BitVec 32 := Scalar.select v821 c1_i32_516 c8_i32_514
  let v823 : BitVec 32 := Scalar.remsi v820 v822
  let c0_i32_518 : BitVec 32 := 0#32
  let v825 : BitVec 1 := Scalar.cmpi .slt v823 c0_i32_518
  let c0_i32_519 : BitVec 32 := 0#32
  let v826 : BitVec 1 := Scalar.cmpi .slt v822 c0_i32_519
  let v827 : BitVec 1 := Scalar.xori v825 v826
  let c0_i32_517 : BitVec 32 := 0#32
  let v824 : BitVec 1 := Scalar.cmpi .ne v823 c0_i32_517
  let v828 : BitVec 1 := Scalar.andi v827 v824
  let v829 : BitVec 32 := Scalar.addi v823 v822
  let v830 : BitVec 32 := Scalar.select v828 v829 v823
  let v831 : BitVec 32 := Scalar.addi c8_i32_520 v830
  let v833 : BitVec 1 := Scalar.cmpi .ne v831 v2
  let v834 : BitVec 32 := Scalar.extui v833
  let c0_i32_522 : BitVec 32 := 0#32
  let v835 : BitVec 1 := Scalar.cmpi .ne v834 c0_i32_522
  v835

def k0_off45 (d0 : Dev nD) : Fin 1 → Nat :=
  let c8_i32_520 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_513 : BitVec 32 := 3#32
  let v820 : BitVec 32 := Scalar.addi v2 c3_i32_513
  let c8_i32_514 : BitVec 32 := 8#32
  let c0_i32_515 : BitVec 32 := 0#32
  let v821 : BitVec 1 := Scalar.cmpi .eq c8_i32_514 c0_i32_515
  let c1_i32_516 : BitVec 32 := 1#32
  let v822 : BitVec 32 := Scalar.select v821 c1_i32_516 c8_i32_514
  let v823 : BitVec 32 := Scalar.remsi v820 v822
  let c0_i32_518 : BitVec 32 := 0#32
  let v825 : BitVec 1 := Scalar.cmpi .slt v823 c0_i32_518
  let c0_i32_519 : BitVec 32 := 0#32
  let v826 : BitVec 1 := Scalar.cmpi .slt v822 c0_i32_519
  let v827 : BitVec 1 := Scalar.xori v825 v826
  let c0_i32_517 : BitVec 32 := 0#32
  let v824 : BitVec 1 := Scalar.cmpi .ne v823 c0_i32_517
  let v828 : BitVec 1 := Scalar.andi v827 v824
  let v829 : BitVec 32 := Scalar.addi v823 v822
  let v830 : BitVec 32 := Scalar.select v828 v829 v823
  let v831 : BitVec 32 := Scalar.addi c8_i32_520 v830
  ![v831.toNat]
def k0_off46 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off47 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off48 (d0 : Dev nD) : Fin 2 → Nat :=
  let c8_i32_520 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_513 : BitVec 32 := 3#32
  let v820 : BitVec 32 := Scalar.addi v2 c3_i32_513
  let c8_i32_514 : BitVec 32 := 8#32
  let c0_i32_515 : BitVec 32 := 0#32
  let v821 : BitVec 1 := Scalar.cmpi .eq c8_i32_514 c0_i32_515
  let c1_i32_516 : BitVec 32 := 1#32
  let v822 : BitVec 32 := Scalar.select v821 c1_i32_516 c8_i32_514
  let v823 : BitVec 32 := Scalar.remsi v820 v822
  let c0_i32_518 : BitVec 32 := 0#32
  let v825 : BitVec 1 := Scalar.cmpi .slt v823 c0_i32_518
  let c0_i32_519 : BitVec 32 := 0#32
  let v826 : BitVec 1 := Scalar.cmpi .slt v822 c0_i32_519
  let v827 : BitVec 1 := Scalar.xori v825 v826
  let c0_i32_517 : BitVec 32 := 0#32
  let v824 : BitVec 1 := Scalar.cmpi .ne v823 c0_i32_517
  let v828 : BitVec 1 := Scalar.andi v827 v824
  let v829 : BitVec 32 := Scalar.addi v823 v822
  let v830 : BitVec 32 := Scalar.select v828 v829 v823
  let v831 : BitVec 32 := Scalar.addi c8_i32_520 v830
  let c8_i32_521 : BitVec 32 := 8#32
  let v832 : BitVec 32 := Scalar.muli v831 c8_i32_521
  let c0_i32_2554 : BitVec 32 := 0#32
  ![v832.toNat, 0]
def k0_dev43 (d0 : Dev nD) : Nat :=
  let c0_i32_2551 : BitVec 32 := 0#32
  let c8_i32_520 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_513 : BitVec 32 := 3#32
  let v820 : BitVec 32 := Scalar.addi v2 c3_i32_513
  let c8_i32_514 : BitVec 32 := 8#32
  let c0_i32_515 : BitVec 32 := 0#32
  let v821 : BitVec 1 := Scalar.cmpi .eq c8_i32_514 c0_i32_515
  let c1_i32_516 : BitVec 32 := 1#32
  let v822 : BitVec 32 := Scalar.select v821 c1_i32_516 c8_i32_514
  let v823 : BitVec 32 := Scalar.remsi v820 v822
  let c0_i32_518 : BitVec 32 := 0#32
  let v825 : BitVec 1 := Scalar.cmpi .slt v823 c0_i32_518
  let c0_i32_519 : BitVec 32 := 0#32
  let v826 : BitVec 1 := Scalar.cmpi .slt v822 c0_i32_519
  let v827 : BitVec 1 := Scalar.xori v825 v826
  let c0_i32_517 : BitVec 32 := 0#32
  let v824 : BitVec 1 := Scalar.cmpi .ne v823 c0_i32_517
  let v828 : BitVec 1 := Scalar.andi v827 v824
  let v829 : BitVec 32 := Scalar.addi v823 v822
  let v830 : BitVec 32 := Scalar.select v828 v829 v823
  let v831 : BitVec 32 := Scalar.addi c8_i32_520 v830
  let c1_i32_2550 : BitVec 32 := 1#32
  let v3673 : BitVec 32 := Scalar.muli v831 c1_i32_2550
  let v3674 : BitVec 32 := Scalar.addi c0_i32_2551 v3673
  v3674.toNat
def k0_cond13 (d0 : Dev nD) : BitVec 1 :=
  let c8_i32_530 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_523 : BitVec 32 := 4#32
  let v836 : BitVec 32 := Scalar.addi v2 c4_i32_523
  let c8_i32_524 : BitVec 32 := 8#32
  let c0_i32_525 : BitVec 32 := 0#32
  let v837 : BitVec 1 := Scalar.cmpi .eq c8_i32_524 c0_i32_525
  let c1_i32_526 : BitVec 32 := 1#32
  let v838 : BitVec 32 := Scalar.select v837 c1_i32_526 c8_i32_524
  let v839 : BitVec 32 := Scalar.remsi v836 v838
  let c0_i32_528 : BitVec 32 := 0#32
  let v841 : BitVec 1 := Scalar.cmpi .slt v839 c0_i32_528
  let c0_i32_529 : BitVec 32 := 0#32
  let v842 : BitVec 1 := Scalar.cmpi .slt v838 c0_i32_529
  let v843 : BitVec 1 := Scalar.xori v841 v842
  let c0_i32_527 : BitVec 32 := 0#32
  let v840 : BitVec 1 := Scalar.cmpi .ne v839 c0_i32_527
  let v844 : BitVec 1 := Scalar.andi v843 v840
  let v845 : BitVec 32 := Scalar.addi v839 v838
  let v846 : BitVec 32 := Scalar.select v844 v845 v839
  let v847 : BitVec 32 := Scalar.addi c8_i32_530 v846
  let v849 : BitVec 1 := Scalar.cmpi .ne v847 v2
  let v850 : BitVec 32 := Scalar.extui v849
  let c0_i32_532 : BitVec 32 := 0#32
  let v851 : BitVec 1 := Scalar.cmpi .ne v850 c0_i32_532
  v851

def k0_off49 (d0 : Dev nD) : Fin 1 → Nat :=
  let c8_i32_530 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_523 : BitVec 32 := 4#32
  let v836 : BitVec 32 := Scalar.addi v2 c4_i32_523
  let c8_i32_524 : BitVec 32 := 8#32
  let c0_i32_525 : BitVec 32 := 0#32
  let v837 : BitVec 1 := Scalar.cmpi .eq c8_i32_524 c0_i32_525
  let c1_i32_526 : BitVec 32 := 1#32
  let v838 : BitVec 32 := Scalar.select v837 c1_i32_526 c8_i32_524
  let v839 : BitVec 32 := Scalar.remsi v836 v838
  let c0_i32_528 : BitVec 32 := 0#32
  let v841 : BitVec 1 := Scalar.cmpi .slt v839 c0_i32_528
  let c0_i32_529 : BitVec 32 := 0#32
  let v842 : BitVec 1 := Scalar.cmpi .slt v838 c0_i32_529
  let v843 : BitVec 1 := Scalar.xori v841 v842
  let c0_i32_527 : BitVec 32 := 0#32
  let v840 : BitVec 1 := Scalar.cmpi .ne v839 c0_i32_527
  let v844 : BitVec 1 := Scalar.andi v843 v840
  let v845 : BitVec 32 := Scalar.addi v839 v838
  let v846 : BitVec 32 := Scalar.select v844 v845 v839
  let v847 : BitVec 32 := Scalar.addi c8_i32_530 v846
  ![v847.toNat]
def k0_off50 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off51 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off52 (d0 : Dev nD) : Fin 2 → Nat :=
  let c8_i32_530 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_523 : BitVec 32 := 4#32
  let v836 : BitVec 32 := Scalar.addi v2 c4_i32_523
  let c8_i32_524 : BitVec 32 := 8#32
  let c0_i32_525 : BitVec 32 := 0#32
  let v837 : BitVec 1 := Scalar.cmpi .eq c8_i32_524 c0_i32_525
  let c1_i32_526 : BitVec 32 := 1#32
  let v838 : BitVec 32 := Scalar.select v837 c1_i32_526 c8_i32_524
  let v839 : BitVec 32 := Scalar.remsi v836 v838
  let c0_i32_528 : BitVec 32 := 0#32
  let v841 : BitVec 1 := Scalar.cmpi .slt v839 c0_i32_528
  let c0_i32_529 : BitVec 32 := 0#32
  let v842 : BitVec 1 := Scalar.cmpi .slt v838 c0_i32_529
  let v843 : BitVec 1 := Scalar.xori v841 v842
  let c0_i32_527 : BitVec 32 := 0#32
  let v840 : BitVec 1 := Scalar.cmpi .ne v839 c0_i32_527
  let v844 : BitVec 1 := Scalar.andi v843 v840
  let v845 : BitVec 32 := Scalar.addi v839 v838
  let v846 : BitVec 32 := Scalar.select v844 v845 v839
  let v847 : BitVec 32 := Scalar.addi c8_i32_530 v846
  let c8_i32_531 : BitVec 32 := 8#32
  let v848 : BitVec 32 := Scalar.muli v847 c8_i32_531
  let c0_i32_2554 : BitVec 32 := 0#32
  ![v848.toNat, 0]
def k0_dev44 (d0 : Dev nD) : Nat :=
  let c0_i32_2551 : BitVec 32 := 0#32
  let c8_i32_530 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_523 : BitVec 32 := 4#32
  let v836 : BitVec 32 := Scalar.addi v2 c4_i32_523
  let c8_i32_524 : BitVec 32 := 8#32
  let c0_i32_525 : BitVec 32 := 0#32
  let v837 : BitVec 1 := Scalar.cmpi .eq c8_i32_524 c0_i32_525
  let c1_i32_526 : BitVec 32 := 1#32
  let v838 : BitVec 32 := Scalar.select v837 c1_i32_526 c8_i32_524
  let v839 : BitVec 32 := Scalar.remsi v836 v838
  let c0_i32_528 : BitVec 32 := 0#32
  let v841 : BitVec 1 := Scalar.cmpi .slt v839 c0_i32_528
  let c0_i32_529 : BitVec 32 := 0#32
  let v842 : BitVec 1 := Scalar.cmpi .slt v838 c0_i32_529
  let v843 : BitVec 1 := Scalar.xori v841 v842
  let c0_i32_527 : BitVec 32 := 0#32
  let v840 : BitVec 1 := Scalar.cmpi .ne v839 c0_i32_527
  let v844 : BitVec 1 := Scalar.andi v843 v840
  let v845 : BitVec 32 := Scalar.addi v839 v838
  let v846 : BitVec 32 := Scalar.select v844 v845 v839
  let v847 : BitVec 32 := Scalar.addi c8_i32_530 v846
  let c1_i32_2550 : BitVec 32 := 1#32
  let v3673 : BitVec 32 := Scalar.muli v847 c1_i32_2550
  let v3674 : BitVec 32 := Scalar.addi c0_i32_2551 v3673
  v3674.toNat
def k0_cond14 (d0 : Dev nD) : BitVec 1 :=
  let c8_i32_540 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_533 : BitVec 32 := 5#32
  let v852 : BitVec 32 := Scalar.addi v2 c5_i32_533
  let c8_i32_534 : BitVec 32 := 8#32
  let c0_i32_535 : BitVec 32 := 0#32
  let v853 : BitVec 1 := Scalar.cmpi .eq c8_i32_534 c0_i32_535
  let c1_i32_536 : BitVec 32 := 1#32
  let v854 : BitVec 32 := Scalar.select v853 c1_i32_536 c8_i32_534
  let v855 : BitVec 32 := Scalar.remsi v852 v854
  let c0_i32_538 : BitVec 32 := 0#32
  let v857 : BitVec 1 := Scalar.cmpi .slt v855 c0_i32_538
  let c0_i32_539 : BitVec 32 := 0#32
  let v858 : BitVec 1 := Scalar.cmpi .slt v854 c0_i32_539
  let v859 : BitVec 1 := Scalar.xori v857 v858
  let c0_i32_537 : BitVec 32 := 0#32
  let v856 : BitVec 1 := Scalar.cmpi .ne v855 c0_i32_537
  let v860 : BitVec 1 := Scalar.andi v859 v856
  let v861 : BitVec 32 := Scalar.addi v855 v854
  let v862 : BitVec 32 := Scalar.select v860 v861 v855
  let v863 : BitVec 32 := Scalar.addi c8_i32_540 v862
  let v865 : BitVec 1 := Scalar.cmpi .ne v863 v2
  let v866 : BitVec 32 := Scalar.extui v865
  let c0_i32_542 : BitVec 32 := 0#32
  let v867 : BitVec 1 := Scalar.cmpi .ne v866 c0_i32_542
  v867

def k0_off53 (d0 : Dev nD) : Fin 1 → Nat :=
  let c8_i32_540 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_533 : BitVec 32 := 5#32
  let v852 : BitVec 32 := Scalar.addi v2 c5_i32_533
  let c8_i32_534 : BitVec 32 := 8#32
  let c0_i32_535 : BitVec 32 := 0#32
  let v853 : BitVec 1 := Scalar.cmpi .eq c8_i32_534 c0_i32_535
  let c1_i32_536 : BitVec 32 := 1#32
  let v854 : BitVec 32 := Scalar.select v853 c1_i32_536 c8_i32_534
  let v855 : BitVec 32 := Scalar.remsi v852 v854
  let c0_i32_538 : BitVec 32 := 0#32
  let v857 : BitVec 1 := Scalar.cmpi .slt v855 c0_i32_538
  let c0_i32_539 : BitVec 32 := 0#32
  let v858 : BitVec 1 := Scalar.cmpi .slt v854 c0_i32_539
  let v859 : BitVec 1 := Scalar.xori v857 v858
  let c0_i32_537 : BitVec 32 := 0#32
  let v856 : BitVec 1 := Scalar.cmpi .ne v855 c0_i32_537
  let v860 : BitVec 1 := Scalar.andi v859 v856
  let v861 : BitVec 32 := Scalar.addi v855 v854
  let v862 : BitVec 32 := Scalar.select v860 v861 v855
  let v863 : BitVec 32 := Scalar.addi c8_i32_540 v862
  ![v863.toNat]
def k0_off54 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off55 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off56 (d0 : Dev nD) : Fin 2 → Nat :=
  let c8_i32_540 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_533 : BitVec 32 := 5#32
  let v852 : BitVec 32 := Scalar.addi v2 c5_i32_533
  let c8_i32_534 : BitVec 32 := 8#32
  let c0_i32_535 : BitVec 32 := 0#32
  let v853 : BitVec 1 := Scalar.cmpi .eq c8_i32_534 c0_i32_535
  let c1_i32_536 : BitVec 32 := 1#32
  let v854 : BitVec 32 := Scalar.select v853 c1_i32_536 c8_i32_534
  let v855 : BitVec 32 := Scalar.remsi v852 v854
  let c0_i32_538 : BitVec 32 := 0#32
  let v857 : BitVec 1 := Scalar.cmpi .slt v855 c0_i32_538
  let c0_i32_539 : BitVec 32 := 0#32
  let v858 : BitVec 1 := Scalar.cmpi .slt v854 c0_i32_539
  let v859 : BitVec 1 := Scalar.xori v857 v858
  let c0_i32_537 : BitVec 32 := 0#32
  let v856 : BitVec 1 := Scalar.cmpi .ne v855 c0_i32_537
  let v860 : BitVec 1 := Scalar.andi v859 v856
  let v861 : BitVec 32 := Scalar.addi v855 v854
  let v862 : BitVec 32 := Scalar.select v860 v861 v855
  let v863 : BitVec 32 := Scalar.addi c8_i32_540 v862
  let c8_i32_541 : BitVec 32 := 8#32
  let v864 : BitVec 32 := Scalar.muli v863 c8_i32_541
  let c0_i32_2554 : BitVec 32 := 0#32
  ![v864.toNat, 0]
def k0_dev45 (d0 : Dev nD) : Nat :=
  let c0_i32_2551 : BitVec 32 := 0#32
  let c8_i32_540 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_533 : BitVec 32 := 5#32
  let v852 : BitVec 32 := Scalar.addi v2 c5_i32_533
  let c8_i32_534 : BitVec 32 := 8#32
  let c0_i32_535 : BitVec 32 := 0#32
  let v853 : BitVec 1 := Scalar.cmpi .eq c8_i32_534 c0_i32_535
  let c1_i32_536 : BitVec 32 := 1#32
  let v854 : BitVec 32 := Scalar.select v853 c1_i32_536 c8_i32_534
  let v855 : BitVec 32 := Scalar.remsi v852 v854
  let c0_i32_538 : BitVec 32 := 0#32
  let v857 : BitVec 1 := Scalar.cmpi .slt v855 c0_i32_538
  let c0_i32_539 : BitVec 32 := 0#32
  let v858 : BitVec 1 := Scalar.cmpi .slt v854 c0_i32_539
  let v859 : BitVec 1 := Scalar.xori v857 v858
  let c0_i32_537 : BitVec 32 := 0#32
  let v856 : BitVec 1 := Scalar.cmpi .ne v855 c0_i32_537
  let v860 : BitVec 1 := Scalar.andi v859 v856
  let v861 : BitVec 32 := Scalar.addi v855 v854
  let v862 : BitVec 32 := Scalar.select v860 v861 v855
  let v863 : BitVec 32 := Scalar.addi c8_i32_540 v862
  let c1_i32_2550 : BitVec 32 := 1#32
  let v3673 : BitVec 32 := Scalar.muli v863 c1_i32_2550
  let v3674 : BitVec 32 := Scalar.addi c0_i32_2551 v3673
  v3674.toNat
def k0_cond15 (d0 : Dev nD) : BitVec 1 :=
  let c8_i32_550 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_543 : BitVec 32 := 6#32
  let v868 : BitVec 32 := Scalar.addi v2 c6_i32_543
  let c8_i32_544 : BitVec 32 := 8#32
  let c0_i32_545 : BitVec 32 := 0#32
  let v869 : BitVec 1 := Scalar.cmpi .eq c8_i32_544 c0_i32_545
  let c1_i32_546 : BitVec 32 := 1#32
  let v870 : BitVec 32 := Scalar.select v869 c1_i32_546 c8_i32_544
  let v871 : BitVec 32 := Scalar.remsi v868 v870
  let c0_i32_548 : BitVec 32 := 0#32
  let v873 : BitVec 1 := Scalar.cmpi .slt v871 c0_i32_548
  let c0_i32_549 : BitVec 32 := 0#32
  let v874 : BitVec 1 := Scalar.cmpi .slt v870 c0_i32_549
  let v875 : BitVec 1 := Scalar.xori v873 v874
  let c0_i32_547 : BitVec 32 := 0#32
  let v872 : BitVec 1 := Scalar.cmpi .ne v871 c0_i32_547
  let v876 : BitVec 1 := Scalar.andi v875 v872
  let v877 : BitVec 32 := Scalar.addi v871 v870
  let v878 : BitVec 32 := Scalar.select v876 v877 v871
  let v879 : BitVec 32 := Scalar.addi c8_i32_550 v878
  let v881 : BitVec 1 := Scalar.cmpi .ne v879 v2
  let v882 : BitVec 32 := Scalar.extui v881
  let c0_i32_552 : BitVec 32 := 0#32
  let v883 : BitVec 1 := Scalar.cmpi .ne v882 c0_i32_552
  v883

def k0_off57 (d0 : Dev nD) : Fin 1 → Nat :=
  let c8_i32_550 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_543 : BitVec 32 := 6#32
  let v868 : BitVec 32 := Scalar.addi v2 c6_i32_543
  let c8_i32_544 : BitVec 32 := 8#32
  let c0_i32_545 : BitVec 32 := 0#32
  let v869 : BitVec 1 := Scalar.cmpi .eq c8_i32_544 c0_i32_545
  let c1_i32_546 : BitVec 32 := 1#32
  let v870 : BitVec 32 := Scalar.select v869 c1_i32_546 c8_i32_544
  let v871 : BitVec 32 := Scalar.remsi v868 v870
  let c0_i32_548 : BitVec 32 := 0#32
  let v873 : BitVec 1 := Scalar.cmpi .slt v871 c0_i32_548
  let c0_i32_549 : BitVec 32 := 0#32
  let v874 : BitVec 1 := Scalar.cmpi .slt v870 c0_i32_549
  let v875 : BitVec 1 := Scalar.xori v873 v874
  let c0_i32_547 : BitVec 32 := 0#32
  let v872 : BitVec 1 := Scalar.cmpi .ne v871 c0_i32_547
  let v876 : BitVec 1 := Scalar.andi v875 v872
  let v877 : BitVec 32 := Scalar.addi v871 v870
  let v878 : BitVec 32 := Scalar.select v876 v877 v871
  let v879 : BitVec 32 := Scalar.addi c8_i32_550 v878
  ![v879.toNat]
def k0_off58 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off59 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off60 (d0 : Dev nD) : Fin 2 → Nat :=
  let c8_i32_550 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_543 : BitVec 32 := 6#32
  let v868 : BitVec 32 := Scalar.addi v2 c6_i32_543
  let c8_i32_544 : BitVec 32 := 8#32
  let c0_i32_545 : BitVec 32 := 0#32
  let v869 : BitVec 1 := Scalar.cmpi .eq c8_i32_544 c0_i32_545
  let c1_i32_546 : BitVec 32 := 1#32
  let v870 : BitVec 32 := Scalar.select v869 c1_i32_546 c8_i32_544
  let v871 : BitVec 32 := Scalar.remsi v868 v870
  let c0_i32_548 : BitVec 32 := 0#32
  let v873 : BitVec 1 := Scalar.cmpi .slt v871 c0_i32_548
  let c0_i32_549 : BitVec 32 := 0#32
  let v874 : BitVec 1 := Scalar.cmpi .slt v870 c0_i32_549
  let v875 : BitVec 1 := Scalar.xori v873 v874
  let c0_i32_547 : BitVec 32 := 0#32
  let v872 : BitVec 1 := Scalar.cmpi .ne v871 c0_i32_547
  let v876 : BitVec 1 := Scalar.andi v875 v872
  let v877 : BitVec 32 := Scalar.addi v871 v870
  let v878 : BitVec 32 := Scalar.select v876 v877 v871
  let v879 : BitVec 32 := Scalar.addi c8_i32_550 v878
  let c8_i32_551 : BitVec 32 := 8#32
  let v880 : BitVec 32 := Scalar.muli v879 c8_i32_551
  let c0_i32_2554 : BitVec 32 := 0#32
  ![v880.toNat, 0]
def k0_dev46 (d0 : Dev nD) : Nat :=
  let c0_i32_2551 : BitVec 32 := 0#32
  let c8_i32_550 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_543 : BitVec 32 := 6#32
  let v868 : BitVec 32 := Scalar.addi v2 c6_i32_543
  let c8_i32_544 : BitVec 32 := 8#32
  let c0_i32_545 : BitVec 32 := 0#32
  let v869 : BitVec 1 := Scalar.cmpi .eq c8_i32_544 c0_i32_545
  let c1_i32_546 : BitVec 32 := 1#32
  let v870 : BitVec 32 := Scalar.select v869 c1_i32_546 c8_i32_544
  let v871 : BitVec 32 := Scalar.remsi v868 v870
  let c0_i32_548 : BitVec 32 := 0#32
  let v873 : BitVec 1 := Scalar.cmpi .slt v871 c0_i32_548
  let c0_i32_549 : BitVec 32 := 0#32
  let v874 : BitVec 1 := Scalar.cmpi .slt v870 c0_i32_549
  let v875 : BitVec 1 := Scalar.xori v873 v874
  let c0_i32_547 : BitVec 32 := 0#32
  let v872 : BitVec 1 := Scalar.cmpi .ne v871 c0_i32_547
  let v876 : BitVec 1 := Scalar.andi v875 v872
  let v877 : BitVec 32 := Scalar.addi v871 v870
  let v878 : BitVec 32 := Scalar.select v876 v877 v871
  let v879 : BitVec 32 := Scalar.addi c8_i32_550 v878
  let c1_i32_2550 : BitVec 32 := 1#32
  let v3673 : BitVec 32 := Scalar.muli v879 c1_i32_2550
  let v3674 : BitVec 32 := Scalar.addi c0_i32_2551 v3673
  v3674.toNat
def k0_cond16 (d0 : Dev nD) : BitVec 1 :=
  let c8_i32_560 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_553 : BitVec 32 := 7#32
  let v884 : BitVec 32 := Scalar.addi v2 c7_i32_553
  let c8_i32_554 : BitVec 32 := 8#32
  let c0_i32_555 : BitVec 32 := 0#32
  let v885 : BitVec 1 := Scalar.cmpi .eq c8_i32_554 c0_i32_555
  let c1_i32_556 : BitVec 32 := 1#32
  let v886 : BitVec 32 := Scalar.select v885 c1_i32_556 c8_i32_554
  let v887 : BitVec 32 := Scalar.remsi v884 v886
  let c0_i32_558 : BitVec 32 := 0#32
  let v889 : BitVec 1 := Scalar.cmpi .slt v887 c0_i32_558
  let c0_i32_559 : BitVec 32 := 0#32
  let v890 : BitVec 1 := Scalar.cmpi .slt v886 c0_i32_559
  let v891 : BitVec 1 := Scalar.xori v889 v890
  let c0_i32_557 : BitVec 32 := 0#32
  let v888 : BitVec 1 := Scalar.cmpi .ne v887 c0_i32_557
  let v892 : BitVec 1 := Scalar.andi v891 v888
  let v893 : BitVec 32 := Scalar.addi v887 v886
  let v894 : BitVec 32 := Scalar.select v892 v893 v887
  let v895 : BitVec 32 := Scalar.addi c8_i32_560 v894
  let v897 : BitVec 1 := Scalar.cmpi .ne v895 v2
  let v898 : BitVec 32 := Scalar.extui v897
  let c0_i32_562 : BitVec 32 := 0#32
  let v899 : BitVec 1 := Scalar.cmpi .ne v898 c0_i32_562
  v899

def k0_off61 (d0 : Dev nD) : Fin 1 → Nat :=
  let c8_i32_560 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_553 : BitVec 32 := 7#32
  let v884 : BitVec 32 := Scalar.addi v2 c7_i32_553
  let c8_i32_554 : BitVec 32 := 8#32
  let c0_i32_555 : BitVec 32 := 0#32
  let v885 : BitVec 1 := Scalar.cmpi .eq c8_i32_554 c0_i32_555
  let c1_i32_556 : BitVec 32 := 1#32
  let v886 : BitVec 32 := Scalar.select v885 c1_i32_556 c8_i32_554
  let v887 : BitVec 32 := Scalar.remsi v884 v886
  let c0_i32_558 : BitVec 32 := 0#32
  let v889 : BitVec 1 := Scalar.cmpi .slt v887 c0_i32_558
  let c0_i32_559 : BitVec 32 := 0#32
  let v890 : BitVec 1 := Scalar.cmpi .slt v886 c0_i32_559
  let v891 : BitVec 1 := Scalar.xori v889 v890
  let c0_i32_557 : BitVec 32 := 0#32
  let v888 : BitVec 1 := Scalar.cmpi .ne v887 c0_i32_557
  let v892 : BitVec 1 := Scalar.andi v891 v888
  let v893 : BitVec 32 := Scalar.addi v887 v886
  let v894 : BitVec 32 := Scalar.select v892 v893 v887
  let v895 : BitVec 32 := Scalar.addi c8_i32_560 v894
  ![v895.toNat]
def k0_off62 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off63 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off64 (d0 : Dev nD) : Fin 2 → Nat :=
  let c8_i32_560 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_553 : BitVec 32 := 7#32
  let v884 : BitVec 32 := Scalar.addi v2 c7_i32_553
  let c8_i32_554 : BitVec 32 := 8#32
  let c0_i32_555 : BitVec 32 := 0#32
  let v885 : BitVec 1 := Scalar.cmpi .eq c8_i32_554 c0_i32_555
  let c1_i32_556 : BitVec 32 := 1#32
  let v886 : BitVec 32 := Scalar.select v885 c1_i32_556 c8_i32_554
  let v887 : BitVec 32 := Scalar.remsi v884 v886
  let c0_i32_558 : BitVec 32 := 0#32
  let v889 : BitVec 1 := Scalar.cmpi .slt v887 c0_i32_558
  let c0_i32_559 : BitVec 32 := 0#32
  let v890 : BitVec 1 := Scalar.cmpi .slt v886 c0_i32_559
  let v891 : BitVec 1 := Scalar.xori v889 v890
  let c0_i32_557 : BitVec 32 := 0#32
  let v888 : BitVec 1 := Scalar.cmpi .ne v887 c0_i32_557
  let v892 : BitVec 1 := Scalar.andi v891 v888
  let v893 : BitVec 32 := Scalar.addi v887 v886
  let v894 : BitVec 32 := Scalar.select v892 v893 v887
  let v895 : BitVec 32 := Scalar.addi c8_i32_560 v894
  let c8_i32_561 : BitVec 32 := 8#32
  let v896 : BitVec 32 := Scalar.muli v895 c8_i32_561
  let c0_i32_2554 : BitVec 32 := 0#32
  ![v896.toNat, 0]
def k0_dev47 (d0 : Dev nD) : Nat :=
  let c0_i32_2551 : BitVec 32 := 0#32
  let c8_i32_560 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_553 : BitVec 32 := 7#32
  let v884 : BitVec 32 := Scalar.addi v2 c7_i32_553
  let c8_i32_554 : BitVec 32 := 8#32
  let c0_i32_555 : BitVec 32 := 0#32
  let v885 : BitVec 1 := Scalar.cmpi .eq c8_i32_554 c0_i32_555
  let c1_i32_556 : BitVec 32 := 1#32
  let v886 : BitVec 32 := Scalar.select v885 c1_i32_556 c8_i32_554
  let v887 : BitVec 32 := Scalar.remsi v884 v886
  let c0_i32_558 : BitVec 32 := 0#32
  let v889 : BitVec 1 := Scalar.cmpi .slt v887 c0_i32_558
  let c0_i32_559 : BitVec 32 := 0#32
  let v890 : BitVec 1 := Scalar.cmpi .slt v886 c0_i32_559
  let v891 : BitVec 1 := Scalar.xori v889 v890
  let c0_i32_557 : BitVec 32 := 0#32
  let v888 : BitVec 1 := Scalar.cmpi .ne v887 c0_i32_557
  let v892 : BitVec 1 := Scalar.andi v891 v888
  let v893 : BitVec 32 := Scalar.addi v887 v886
  let v894 : BitVec 32 := Scalar.select v892 v893 v887
  let v895 : BitVec 32 := Scalar.addi c8_i32_560 v894
  let c1_i32_2550 : BitVec 32 := 1#32
  let v3673 : BitVec 32 := Scalar.muli v895 c1_i32_2550
  let v3674 : BitVec 32 := Scalar.addi c0_i32_2551 v3673
  v3674.toNat
def k0_cond17 (d0 : Dev nD) : BitVec 1 :=
  let c16_i32_577 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_570 : BitVec 32 := 0#32
  let v908 : BitVec 32 := Scalar.addi v2 c0_i32_570
  let c8_i32_571 : BitVec 32 := 8#32
  let c0_i32_572 : BitVec 32 := 0#32
  let v909 : BitVec 1 := Scalar.cmpi .eq c8_i32_571 c0_i32_572
  let c1_i32_573 : BitVec 32 := 1#32
  let v910 : BitVec 32 := Scalar.select v909 c1_i32_573 c8_i32_571
  let v911 : BitVec 32 := Scalar.remsi v908 v910
  let c0_i32_575 : BitVec 32 := 0#32
  let v913 : BitVec 1 := Scalar.cmpi .slt v911 c0_i32_575
  let c0_i32_576 : BitVec 32 := 0#32
  let v914 : BitVec 1 := Scalar.cmpi .slt v910 c0_i32_576
  let v915 : BitVec 1 := Scalar.xori v913 v914
  let c0_i32_574 : BitVec 32 := 0#32
  let v912 : BitVec 1 := Scalar.cmpi .ne v911 c0_i32_574
  let v916 : BitVec 1 := Scalar.andi v915 v912
  let v917 : BitVec 32 := Scalar.addi v911 v910
  let v918 : BitVec 32 := Scalar.select v916 v917 v911
  let v919 : BitVec 32 := Scalar.addi c16_i32_577 v918
  let v921 : BitVec 1 := Scalar.cmpi .ne v919 v2
  let v922 : BitVec 32 := Scalar.extui v921
  let c0_i32_579 : BitVec 32 := 0#32
  let v923 : BitVec 1 := Scalar.cmpi .ne v922 c0_i32_579
  v923

def k0_off65 (d0 : Dev nD) : Fin 1 → Nat :=
  let c16_i32_577 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_570 : BitVec 32 := 0#32
  let v908 : BitVec 32 := Scalar.addi v2 c0_i32_570
  let c8_i32_571 : BitVec 32 := 8#32
  let c0_i32_572 : BitVec 32 := 0#32
  let v909 : BitVec 1 := Scalar.cmpi .eq c8_i32_571 c0_i32_572
  let c1_i32_573 : BitVec 32 := 1#32
  let v910 : BitVec 32 := Scalar.select v909 c1_i32_573 c8_i32_571
  let v911 : BitVec 32 := Scalar.remsi v908 v910
  let c0_i32_575 : BitVec 32 := 0#32
  let v913 : BitVec 1 := Scalar.cmpi .slt v911 c0_i32_575
  let c0_i32_576 : BitVec 32 := 0#32
  let v914 : BitVec 1 := Scalar.cmpi .slt v910 c0_i32_576
  let v915 : BitVec 1 := Scalar.xori v913 v914
  let c0_i32_574 : BitVec 32 := 0#32
  let v912 : BitVec 1 := Scalar.cmpi .ne v911 c0_i32_574
  let v916 : BitVec 1 := Scalar.andi v915 v912
  let v917 : BitVec 32 := Scalar.addi v911 v910
  let v918 : BitVec 32 := Scalar.select v916 v917 v911
  let v919 : BitVec 32 := Scalar.addi c16_i32_577 v918
  ![v919.toNat]
def k0_off66 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off67 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off68 (d0 : Dev nD) : Fin 2 → Nat :=
  let c16_i32_577 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_570 : BitVec 32 := 0#32
  let v908 : BitVec 32 := Scalar.addi v2 c0_i32_570
  let c8_i32_571 : BitVec 32 := 8#32
  let c0_i32_572 : BitVec 32 := 0#32
  let v909 : BitVec 1 := Scalar.cmpi .eq c8_i32_571 c0_i32_572
  let c1_i32_573 : BitVec 32 := 1#32
  let v910 : BitVec 32 := Scalar.select v909 c1_i32_573 c8_i32_571
  let v911 : BitVec 32 := Scalar.remsi v908 v910
  let c0_i32_575 : BitVec 32 := 0#32
  let v913 : BitVec 1 := Scalar.cmpi .slt v911 c0_i32_575
  let c0_i32_576 : BitVec 32 := 0#32
  let v914 : BitVec 1 := Scalar.cmpi .slt v910 c0_i32_576
  let v915 : BitVec 1 := Scalar.xori v913 v914
  let c0_i32_574 : BitVec 32 := 0#32
  let v912 : BitVec 1 := Scalar.cmpi .ne v911 c0_i32_574
  let v916 : BitVec 1 := Scalar.andi v915 v912
  let v917 : BitVec 32 := Scalar.addi v911 v910
  let v918 : BitVec 32 := Scalar.select v916 v917 v911
  let v919 : BitVec 32 := Scalar.addi c16_i32_577 v918
  let c8_i32_578 : BitVec 32 := 8#32
  let v920 : BitVec 32 := Scalar.muli v919 c8_i32_578
  let c0_i32_2554 : BitVec 32 := 0#32
  ![v920.toNat, 0]
def k0_dev48 (d0 : Dev nD) : Nat :=
  let c0_i32_2551 : BitVec 32 := 0#32
  let c16_i32_577 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_570 : BitVec 32 := 0#32
  let v908 : BitVec 32 := Scalar.addi v2 c0_i32_570
  let c8_i32_571 : BitVec 32 := 8#32
  let c0_i32_572 : BitVec 32 := 0#32
  let v909 : BitVec 1 := Scalar.cmpi .eq c8_i32_571 c0_i32_572
  let c1_i32_573 : BitVec 32 := 1#32
  let v910 : BitVec 32 := Scalar.select v909 c1_i32_573 c8_i32_571
  let v911 : BitVec 32 := Scalar.remsi v908 v910
  let c0_i32_575 : BitVec 32 := 0#32
  let v913 : BitVec 1 := Scalar.cmpi .slt v911 c0_i32_575
  let c0_i32_576 : BitVec 32 := 0#32
  let v914 : BitVec 1 := Scalar.cmpi .slt v910 c0_i32_576
  let v915 : BitVec 1 := Scalar.xori v913 v914
  let c0_i32_574 : BitVec 32 := 0#32
  let v912 : BitVec 1 := Scalar.cmpi .ne v911 c0_i32_574
  let v916 : BitVec 1 := Scalar.andi v915 v912
  let v917 : BitVec 32 := Scalar.addi v911 v910
  let v918 : BitVec 32 := Scalar.select v916 v917 v911
  let v919 : BitVec 32 := Scalar.addi c16_i32_577 v918
  let c1_i32_2550 : BitVec 32 := 1#32
  let v3673 : BitVec 32 := Scalar.muli v919 c1_i32_2550
  let v3674 : BitVec 32 := Scalar.addi c0_i32_2551 v3673
  v3674.toNat
def k0_cond18 (d0 : Dev nD) : BitVec 1 :=
  let c16_i32_587 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_580 : BitVec 32 := 1#32
  let v924 : BitVec 32 := Scalar.addi v2 c1_i32_580
  let c8_i32_581 : BitVec 32 := 8#32
  let c0_i32_582 : BitVec 32 := 0#32
  let v925 : BitVec 1 := Scalar.cmpi .eq c8_i32_581 c0_i32_582
  let c1_i32_583 : BitVec 32 := 1#32
  let v926 : BitVec 32 := Scalar.select v925 c1_i32_583 c8_i32_581
  let v927 : BitVec 32 := Scalar.remsi v924 v926
  let c0_i32_585 : BitVec 32 := 0#32
  let v929 : BitVec 1 := Scalar.cmpi .slt v927 c0_i32_585
  let c0_i32_586 : BitVec 32 := 0#32
  let v930 : BitVec 1 := Scalar.cmpi .slt v926 c0_i32_586
  let v931 : BitVec 1 := Scalar.xori v929 v930
  let c0_i32_584 : BitVec 32 := 0#32
  let v928 : BitVec 1 := Scalar.cmpi .ne v927 c0_i32_584
  let v932 : BitVec 1 := Scalar.andi v931 v928
  let v933 : BitVec 32 := Scalar.addi v927 v926
  let v934 : BitVec 32 := Scalar.select v932 v933 v927
  let v935 : BitVec 32 := Scalar.addi c16_i32_587 v934
  let v937 : BitVec 1 := Scalar.cmpi .ne v935 v2
  let v938 : BitVec 32 := Scalar.extui v937
  let c0_i32_589 : BitVec 32 := 0#32
  let v939 : BitVec 1 := Scalar.cmpi .ne v938 c0_i32_589
  v939

def k0_off69 (d0 : Dev nD) : Fin 1 → Nat :=
  let c16_i32_587 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_580 : BitVec 32 := 1#32
  let v924 : BitVec 32 := Scalar.addi v2 c1_i32_580
  let c8_i32_581 : BitVec 32 := 8#32
  let c0_i32_582 : BitVec 32 := 0#32
  let v925 : BitVec 1 := Scalar.cmpi .eq c8_i32_581 c0_i32_582
  let c1_i32_583 : BitVec 32 := 1#32
  let v926 : BitVec 32 := Scalar.select v925 c1_i32_583 c8_i32_581
  let v927 : BitVec 32 := Scalar.remsi v924 v926
  let c0_i32_585 : BitVec 32 := 0#32
  let v929 : BitVec 1 := Scalar.cmpi .slt v927 c0_i32_585
  let c0_i32_586 : BitVec 32 := 0#32
  let v930 : BitVec 1 := Scalar.cmpi .slt v926 c0_i32_586
  let v931 : BitVec 1 := Scalar.xori v929 v930
  let c0_i32_584 : BitVec 32 := 0#32
  let v928 : BitVec 1 := Scalar.cmpi .ne v927 c0_i32_584
  let v932 : BitVec 1 := Scalar.andi v931 v928
  let v933 : BitVec 32 := Scalar.addi v927 v926
  let v934 : BitVec 32 := Scalar.select v932 v933 v927
  let v935 : BitVec 32 := Scalar.addi c16_i32_587 v934
  ![v935.toNat]
def k0_off70 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off71 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off72 (d0 : Dev nD) : Fin 2 → Nat :=
  let c16_i32_587 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_580 : BitVec 32 := 1#32
  let v924 : BitVec 32 := Scalar.addi v2 c1_i32_580
  let c8_i32_581 : BitVec 32 := 8#32
  let c0_i32_582 : BitVec 32 := 0#32
  let v925 : BitVec 1 := Scalar.cmpi .eq c8_i32_581 c0_i32_582
  let c1_i32_583 : BitVec 32 := 1#32
  let v926 : BitVec 32 := Scalar.select v925 c1_i32_583 c8_i32_581
  let v927 : BitVec 32 := Scalar.remsi v924 v926
  let c0_i32_585 : BitVec 32 := 0#32
  let v929 : BitVec 1 := Scalar.cmpi .slt v927 c0_i32_585
  let c0_i32_586 : BitVec 32 := 0#32
  let v930 : BitVec 1 := Scalar.cmpi .slt v926 c0_i32_586
  let v931 : BitVec 1 := Scalar.xori v929 v930
  let c0_i32_584 : BitVec 32 := 0#32
  let v928 : BitVec 1 := Scalar.cmpi .ne v927 c0_i32_584
  let v932 : BitVec 1 := Scalar.andi v931 v928
  let v933 : BitVec 32 := Scalar.addi v927 v926
  let v934 : BitVec 32 := Scalar.select v932 v933 v927
  let v935 : BitVec 32 := Scalar.addi c16_i32_587 v934
  let c8_i32_588 : BitVec 32 := 8#32
  let v936 : BitVec 32 := Scalar.muli v935 c8_i32_588
  let c0_i32_2554 : BitVec 32 := 0#32
  ![v936.toNat, 0]
def k0_dev49 (d0 : Dev nD) : Nat :=
  let c0_i32_2551 : BitVec 32 := 0#32
  let c16_i32_587 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_580 : BitVec 32 := 1#32
  let v924 : BitVec 32 := Scalar.addi v2 c1_i32_580
  let c8_i32_581 : BitVec 32 := 8#32
  let c0_i32_582 : BitVec 32 := 0#32
  let v925 : BitVec 1 := Scalar.cmpi .eq c8_i32_581 c0_i32_582
  let c1_i32_583 : BitVec 32 := 1#32
  let v926 : BitVec 32 := Scalar.select v925 c1_i32_583 c8_i32_581
  let v927 : BitVec 32 := Scalar.remsi v924 v926
  let c0_i32_585 : BitVec 32 := 0#32
  let v929 : BitVec 1 := Scalar.cmpi .slt v927 c0_i32_585
  let c0_i32_586 : BitVec 32 := 0#32
  let v930 : BitVec 1 := Scalar.cmpi .slt v926 c0_i32_586
  let v931 : BitVec 1 := Scalar.xori v929 v930
  let c0_i32_584 : BitVec 32 := 0#32
  let v928 : BitVec 1 := Scalar.cmpi .ne v927 c0_i32_584
  let v932 : BitVec 1 := Scalar.andi v931 v928
  let v933 : BitVec 32 := Scalar.addi v927 v926
  let v934 : BitVec 32 := Scalar.select v932 v933 v927
  let v935 : BitVec 32 := Scalar.addi c16_i32_587 v934
  let c1_i32_2550 : BitVec 32 := 1#32
  let v3673 : BitVec 32 := Scalar.muli v935 c1_i32_2550
  let v3674 : BitVec 32 := Scalar.addi c0_i32_2551 v3673
  v3674.toNat
def k0_cond19 (d0 : Dev nD) : BitVec 1 :=
  let c16_i32_597 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_590 : BitVec 32 := 2#32
  let v940 : BitVec 32 := Scalar.addi v2 c2_i32_590
  let c8_i32_591 : BitVec 32 := 8#32
  let c0_i32_592 : BitVec 32 := 0#32
  let v941 : BitVec 1 := Scalar.cmpi .eq c8_i32_591 c0_i32_592
  let c1_i32_593 : BitVec 32 := 1#32
  let v942 : BitVec 32 := Scalar.select v941 c1_i32_593 c8_i32_591
  let v943 : BitVec 32 := Scalar.remsi v940 v942
  let c0_i32_595 : BitVec 32 := 0#32
  let v945 : BitVec 1 := Scalar.cmpi .slt v943 c0_i32_595
  let c0_i32_596 : BitVec 32 := 0#32
  let v946 : BitVec 1 := Scalar.cmpi .slt v942 c0_i32_596
  let v947 : BitVec 1 := Scalar.xori v945 v946
  let c0_i32_594 : BitVec 32 := 0#32
  let v944 : BitVec 1 := Scalar.cmpi .ne v943 c0_i32_594
  let v948 : BitVec 1 := Scalar.andi v947 v944
  let v949 : BitVec 32 := Scalar.addi v943 v942
  let v950 : BitVec 32 := Scalar.select v948 v949 v943
  let v951 : BitVec 32 := Scalar.addi c16_i32_597 v950
  let v953 : BitVec 1 := Scalar.cmpi .ne v951 v2
  let v954 : BitVec 32 := Scalar.extui v953
  let c0_i32_599 : BitVec 32 := 0#32
  let v955 : BitVec 1 := Scalar.cmpi .ne v954 c0_i32_599
  v955

def k0_off73 (d0 : Dev nD) : Fin 1 → Nat :=
  let c16_i32_597 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_590 : BitVec 32 := 2#32
  let v940 : BitVec 32 := Scalar.addi v2 c2_i32_590
  let c8_i32_591 : BitVec 32 := 8#32
  let c0_i32_592 : BitVec 32 := 0#32
  let v941 : BitVec 1 := Scalar.cmpi .eq c8_i32_591 c0_i32_592
  let c1_i32_593 : BitVec 32 := 1#32
  let v942 : BitVec 32 := Scalar.select v941 c1_i32_593 c8_i32_591
  let v943 : BitVec 32 := Scalar.remsi v940 v942
  let c0_i32_595 : BitVec 32 := 0#32
  let v945 : BitVec 1 := Scalar.cmpi .slt v943 c0_i32_595
  let c0_i32_596 : BitVec 32 := 0#32
  let v946 : BitVec 1 := Scalar.cmpi .slt v942 c0_i32_596
  let v947 : BitVec 1 := Scalar.xori v945 v946
  let c0_i32_594 : BitVec 32 := 0#32
  let v944 : BitVec 1 := Scalar.cmpi .ne v943 c0_i32_594
  let v948 : BitVec 1 := Scalar.andi v947 v944
  let v949 : BitVec 32 := Scalar.addi v943 v942
  let v950 : BitVec 32 := Scalar.select v948 v949 v943
  let v951 : BitVec 32 := Scalar.addi c16_i32_597 v950
  ![v951.toNat]
def k0_off74 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off75 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off76 (d0 : Dev nD) : Fin 2 → Nat :=
  let c16_i32_597 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_590 : BitVec 32 := 2#32
  let v940 : BitVec 32 := Scalar.addi v2 c2_i32_590
  let c8_i32_591 : BitVec 32 := 8#32
  let c0_i32_592 : BitVec 32 := 0#32
  let v941 : BitVec 1 := Scalar.cmpi .eq c8_i32_591 c0_i32_592
  let c1_i32_593 : BitVec 32 := 1#32
  let v942 : BitVec 32 := Scalar.select v941 c1_i32_593 c8_i32_591
  let v943 : BitVec 32 := Scalar.remsi v940 v942
  let c0_i32_595 : BitVec 32 := 0#32
  let v945 : BitVec 1 := Scalar.cmpi .slt v943 c0_i32_595
  let c0_i32_596 : BitVec 32 := 0#32
  let v946 : BitVec 1 := Scalar.cmpi .slt v942 c0_i32_596
  let v947 : BitVec 1 := Scalar.xori v945 v946
  let c0_i32_594 : BitVec 32 := 0#32
  let v944 : BitVec 1 := Scalar.cmpi .ne v943 c0_i32_594
  let v948 : BitVec 1 := Scalar.andi v947 v944
  let v949 : BitVec 32 := Scalar.addi v943 v942
  let v950 : BitVec 32 := Scalar.select v948 v949 v943
  let v951 : BitVec 32 := Scalar.addi c16_i32_597 v950
  let c8_i32_598 : BitVec 32 := 8#32
  let v952 : BitVec 32 := Scalar.muli v951 c8_i32_598
  let c0_i32_2554 : BitVec 32 := 0#32
  ![v952.toNat, 0]
def k0_dev50 (d0 : Dev nD) : Nat :=
  let c0_i32_2551 : BitVec 32 := 0#32
  let c16_i32_597 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_590 : BitVec 32 := 2#32
  let v940 : BitVec 32 := Scalar.addi v2 c2_i32_590
  let c8_i32_591 : BitVec 32 := 8#32
  let c0_i32_592 : BitVec 32 := 0#32
  let v941 : BitVec 1 := Scalar.cmpi .eq c8_i32_591 c0_i32_592
  let c1_i32_593 : BitVec 32 := 1#32
  let v942 : BitVec 32 := Scalar.select v941 c1_i32_593 c8_i32_591
  let v943 : BitVec 32 := Scalar.remsi v940 v942
  let c0_i32_595 : BitVec 32 := 0#32
  let v945 : BitVec 1 := Scalar.cmpi .slt v943 c0_i32_595
  let c0_i32_596 : BitVec 32 := 0#32
  let v946 : BitVec 1 := Scalar.cmpi .slt v942 c0_i32_596
  let v947 : BitVec 1 := Scalar.xori v945 v946
  let c0_i32_594 : BitVec 32 := 0#32
  let v944 : BitVec 1 := Scalar.cmpi .ne v943 c0_i32_594
  let v948 : BitVec 1 := Scalar.andi v947 v944
  let v949 : BitVec 32 := Scalar.addi v943 v942
  let v950 : BitVec 32 := Scalar.select v948 v949 v943
  let v951 : BitVec 32 := Scalar.addi c16_i32_597 v950
  let c1_i32_2550 : BitVec 32 := 1#32
  let v3673 : BitVec 32 := Scalar.muli v951 c1_i32_2550
  let v3674 : BitVec 32 := Scalar.addi c0_i32_2551 v3673
  v3674.toNat
def k0_cond20 (d0 : Dev nD) : BitVec 1 :=
  let c16_i32_607 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_600 : BitVec 32 := 3#32
  let v956 : BitVec 32 := Scalar.addi v2 c3_i32_600
  let c8_i32_601 : BitVec 32 := 8#32
  let c0_i32_602 : BitVec 32 := 0#32
  let v957 : BitVec 1 := Scalar.cmpi .eq c8_i32_601 c0_i32_602
  let c1_i32_603 : BitVec 32 := 1#32
  let v958 : BitVec 32 := Scalar.select v957 c1_i32_603 c8_i32_601
  let v959 : BitVec 32 := Scalar.remsi v956 v958
  let c0_i32_605 : BitVec 32 := 0#32
  let v961 : BitVec 1 := Scalar.cmpi .slt v959 c0_i32_605
  let c0_i32_606 : BitVec 32 := 0#32
  let v962 : BitVec 1 := Scalar.cmpi .slt v958 c0_i32_606
  let v963 : BitVec 1 := Scalar.xori v961 v962
  let c0_i32_604 : BitVec 32 := 0#32
  let v960 : BitVec 1 := Scalar.cmpi .ne v959 c0_i32_604
  let v964 : BitVec 1 := Scalar.andi v963 v960
  let v965 : BitVec 32 := Scalar.addi v959 v958
  let v966 : BitVec 32 := Scalar.select v964 v965 v959
  let v967 : BitVec 32 := Scalar.addi c16_i32_607 v966
  let v969 : BitVec 1 := Scalar.cmpi .ne v967 v2
  let v970 : BitVec 32 := Scalar.extui v969
  let c0_i32_609 : BitVec 32 := 0#32
  let v971 : BitVec 1 := Scalar.cmpi .ne v970 c0_i32_609
  v971

def k0_off77 (d0 : Dev nD) : Fin 1 → Nat :=
  let c16_i32_607 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_600 : BitVec 32 := 3#32
  let v956 : BitVec 32 := Scalar.addi v2 c3_i32_600
  let c8_i32_601 : BitVec 32 := 8#32
  let c0_i32_602 : BitVec 32 := 0#32
  let v957 : BitVec 1 := Scalar.cmpi .eq c8_i32_601 c0_i32_602
  let c1_i32_603 : BitVec 32 := 1#32
  let v958 : BitVec 32 := Scalar.select v957 c1_i32_603 c8_i32_601
  let v959 : BitVec 32 := Scalar.remsi v956 v958
  let c0_i32_605 : BitVec 32 := 0#32
  let v961 : BitVec 1 := Scalar.cmpi .slt v959 c0_i32_605
  let c0_i32_606 : BitVec 32 := 0#32
  let v962 : BitVec 1 := Scalar.cmpi .slt v958 c0_i32_606
  let v963 : BitVec 1 := Scalar.xori v961 v962
  let c0_i32_604 : BitVec 32 := 0#32
  let v960 : BitVec 1 := Scalar.cmpi .ne v959 c0_i32_604
  let v964 : BitVec 1 := Scalar.andi v963 v960
  let v965 : BitVec 32 := Scalar.addi v959 v958
  let v966 : BitVec 32 := Scalar.select v964 v965 v959
  let v967 : BitVec 32 := Scalar.addi c16_i32_607 v966
  ![v967.toNat]
def k0_off78 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off79 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off80 (d0 : Dev nD) : Fin 2 → Nat :=
  let c16_i32_607 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_600 : BitVec 32 := 3#32
  let v956 : BitVec 32 := Scalar.addi v2 c3_i32_600
  let c8_i32_601 : BitVec 32 := 8#32
  let c0_i32_602 : BitVec 32 := 0#32
  let v957 : BitVec 1 := Scalar.cmpi .eq c8_i32_601 c0_i32_602
  let c1_i32_603 : BitVec 32 := 1#32
  let v958 : BitVec 32 := Scalar.select v957 c1_i32_603 c8_i32_601
  let v959 : BitVec 32 := Scalar.remsi v956 v958
  let c0_i32_605 : BitVec 32 := 0#32
  let v961 : BitVec 1 := Scalar.cmpi .slt v959 c0_i32_605
  let c0_i32_606 : BitVec 32 := 0#32
  let v962 : BitVec 1 := Scalar.cmpi .slt v958 c0_i32_606
  let v963 : BitVec 1 := Scalar.xori v961 v962
  let c0_i32_604 : BitVec 32 := 0#32
  let v960 : BitVec 1 := Scalar.cmpi .ne v959 c0_i32_604
  let v964 : BitVec 1 := Scalar.andi v963 v960
  let v965 : BitVec 32 := Scalar.addi v959 v958
  let v966 : BitVec 32 := Scalar.select v964 v965 v959
  let v967 : BitVec 32 := Scalar.addi c16_i32_607 v966
  let c8_i32_608 : BitVec 32 := 8#32
  let v968 : BitVec 32 := Scalar.muli v967 c8_i32_608
  let c0_i32_2554 : BitVec 32 := 0#32
  ![v968.toNat, 0]
def k0_dev51 (d0 : Dev nD) : Nat :=
  let c0_i32_2551 : BitVec 32 := 0#32
  let c16_i32_607 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_600 : BitVec 32 := 3#32
  let v956 : BitVec 32 := Scalar.addi v2 c3_i32_600
  let c8_i32_601 : BitVec 32 := 8#32
  let c0_i32_602 : BitVec 32 := 0#32
  let v957 : BitVec 1 := Scalar.cmpi .eq c8_i32_601 c0_i32_602
  let c1_i32_603 : BitVec 32 := 1#32
  let v958 : BitVec 32 := Scalar.select v957 c1_i32_603 c8_i32_601
  let v959 : BitVec 32 := Scalar.remsi v956 v958
  let c0_i32_605 : BitVec 32 := 0#32
  let v961 : BitVec 1 := Scalar.cmpi .slt v959 c0_i32_605
  let c0_i32_606 : BitVec 32 := 0#32
  let v962 : BitVec 1 := Scalar.cmpi .slt v958 c0_i32_606
  let v963 : BitVec 1 := Scalar.xori v961 v962
  let c0_i32_604 : BitVec 32 := 0#32
  let v960 : BitVec 1 := Scalar.cmpi .ne v959 c0_i32_604
  let v964 : BitVec 1 := Scalar.andi v963 v960
  let v965 : BitVec 32 := Scalar.addi v959 v958
  let v966 : BitVec 32 := Scalar.select v964 v965 v959
  let v967 : BitVec 32 := Scalar.addi c16_i32_607 v966
  let c1_i32_2550 : BitVec 32 := 1#32
  let v3673 : BitVec 32 := Scalar.muli v967 c1_i32_2550
  let v3674 : BitVec 32 := Scalar.addi c0_i32_2551 v3673
  v3674.toNat
def k0_cond21 (d0 : Dev nD) : BitVec 1 :=
  let c16_i32_617 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_610 : BitVec 32 := 4#32
  let v972 : BitVec 32 := Scalar.addi v2 c4_i32_610
  let c8_i32_611 : BitVec 32 := 8#32
  let c0_i32_612 : BitVec 32 := 0#32
  let v973 : BitVec 1 := Scalar.cmpi .eq c8_i32_611 c0_i32_612
  let c1_i32_613 : BitVec 32 := 1#32
  let v974 : BitVec 32 := Scalar.select v973 c1_i32_613 c8_i32_611
  let v975 : BitVec 32 := Scalar.remsi v972 v974
  let c0_i32_615 : BitVec 32 := 0#32
  let v977 : BitVec 1 := Scalar.cmpi .slt v975 c0_i32_615
  let c0_i32_616 : BitVec 32 := 0#32
  let v978 : BitVec 1 := Scalar.cmpi .slt v974 c0_i32_616
  let v979 : BitVec 1 := Scalar.xori v977 v978
  let c0_i32_614 : BitVec 32 := 0#32
  let v976 : BitVec 1 := Scalar.cmpi .ne v975 c0_i32_614
  let v980 : BitVec 1 := Scalar.andi v979 v976
  let v981 : BitVec 32 := Scalar.addi v975 v974
  let v982 : BitVec 32 := Scalar.select v980 v981 v975
  let v983 : BitVec 32 := Scalar.addi c16_i32_617 v982
  let v985 : BitVec 1 := Scalar.cmpi .ne v983 v2
  let v986 : BitVec 32 := Scalar.extui v985
  let c0_i32_619 : BitVec 32 := 0#32
  let v987 : BitVec 1 := Scalar.cmpi .ne v986 c0_i32_619
  v987

def k0_off81 (d0 : Dev nD) : Fin 1 → Nat :=
  let c16_i32_617 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_610 : BitVec 32 := 4#32
  let v972 : BitVec 32 := Scalar.addi v2 c4_i32_610
  let c8_i32_611 : BitVec 32 := 8#32
  let c0_i32_612 : BitVec 32 := 0#32
  let v973 : BitVec 1 := Scalar.cmpi .eq c8_i32_611 c0_i32_612
  let c1_i32_613 : BitVec 32 := 1#32
  let v974 : BitVec 32 := Scalar.select v973 c1_i32_613 c8_i32_611
  let v975 : BitVec 32 := Scalar.remsi v972 v974
  let c0_i32_615 : BitVec 32 := 0#32
  let v977 : BitVec 1 := Scalar.cmpi .slt v975 c0_i32_615
  let c0_i32_616 : BitVec 32 := 0#32
  let v978 : BitVec 1 := Scalar.cmpi .slt v974 c0_i32_616
  let v979 : BitVec 1 := Scalar.xori v977 v978
  let c0_i32_614 : BitVec 32 := 0#32
  let v976 : BitVec 1 := Scalar.cmpi .ne v975 c0_i32_614
  let v980 : BitVec 1 := Scalar.andi v979 v976
  let v981 : BitVec 32 := Scalar.addi v975 v974
  let v982 : BitVec 32 := Scalar.select v980 v981 v975
  let v983 : BitVec 32 := Scalar.addi c16_i32_617 v982
  ![v983.toNat]
def k0_off82 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off83 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off84 (d0 : Dev nD) : Fin 2 → Nat :=
  let c16_i32_617 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_610 : BitVec 32 := 4#32
  let v972 : BitVec 32 := Scalar.addi v2 c4_i32_610
  let c8_i32_611 : BitVec 32 := 8#32
  let c0_i32_612 : BitVec 32 := 0#32
  let v973 : BitVec 1 := Scalar.cmpi .eq c8_i32_611 c0_i32_612
  let c1_i32_613 : BitVec 32 := 1#32
  let v974 : BitVec 32 := Scalar.select v973 c1_i32_613 c8_i32_611
  let v975 : BitVec 32 := Scalar.remsi v972 v974
  let c0_i32_615 : BitVec 32 := 0#32
  let v977 : BitVec 1 := Scalar.cmpi .slt v975 c0_i32_615
  let c0_i32_616 : BitVec 32 := 0#32
  let v978 : BitVec 1 := Scalar.cmpi .slt v974 c0_i32_616
  let v979 : BitVec 1 := Scalar.xori v977 v978
  let c0_i32_614 : BitVec 32 := 0#32
  let v976 : BitVec 1 := Scalar.cmpi .ne v975 c0_i32_614
  let v980 : BitVec 1 := Scalar.andi v979 v976
  let v981 : BitVec 32 := Scalar.addi v975 v974
  let v982 : BitVec 32 := Scalar.select v980 v981 v975
  let v983 : BitVec 32 := Scalar.addi c16_i32_617 v982
  let c8_i32_618 : BitVec 32 := 8#32
  let v984 : BitVec 32 := Scalar.muli v983 c8_i32_618
  let c0_i32_2554 : BitVec 32 := 0#32
  ![v984.toNat, 0]
def k0_dev52 (d0 : Dev nD) : Nat :=
  let c0_i32_2551 : BitVec 32 := 0#32
  let c16_i32_617 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_610 : BitVec 32 := 4#32
  let v972 : BitVec 32 := Scalar.addi v2 c4_i32_610
  let c8_i32_611 : BitVec 32 := 8#32
  let c0_i32_612 : BitVec 32 := 0#32
  let v973 : BitVec 1 := Scalar.cmpi .eq c8_i32_611 c0_i32_612
  let c1_i32_613 : BitVec 32 := 1#32
  let v974 : BitVec 32 := Scalar.select v973 c1_i32_613 c8_i32_611
  let v975 : BitVec 32 := Scalar.remsi v972 v974
  let c0_i32_615 : BitVec 32 := 0#32
  let v977 : BitVec 1 := Scalar.cmpi .slt v975 c0_i32_615
  let c0_i32_616 : BitVec 32 := 0#32
  let v978 : BitVec 1 := Scalar.cmpi .slt v974 c0_i32_616
  let v979 : BitVec 1 := Scalar.xori v977 v978
  let c0_i32_614 : BitVec 32 := 0#32
  let v976 : BitVec 1 := Scalar.cmpi .ne v975 c0_i32_614
  let v980 : BitVec 1 := Scalar.andi v979 v976
  let v981 : BitVec 32 := Scalar.addi v975 v974
  let v982 : BitVec 32 := Scalar.select v980 v981 v975
  let v983 : BitVec 32 := Scalar.addi c16_i32_617 v982
  let c1_i32_2550 : BitVec 32 := 1#32
  let v3673 : BitVec 32 := Scalar.muli v983 c1_i32_2550
  let v3674 : BitVec 32 := Scalar.addi c0_i32_2551 v3673
  v3674.toNat
def k0_cond22 (d0 : Dev nD) : BitVec 1 :=
  let c16_i32_627 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_620 : BitVec 32 := 5#32
  let v988 : BitVec 32 := Scalar.addi v2 c5_i32_620
  let c8_i32_621 : BitVec 32 := 8#32
  let c0_i32_622 : BitVec 32 := 0#32
  let v989 : BitVec 1 := Scalar.cmpi .eq c8_i32_621 c0_i32_622
  let c1_i32_623 : BitVec 32 := 1#32
  let v990 : BitVec 32 := Scalar.select v989 c1_i32_623 c8_i32_621
  let v991 : BitVec 32 := Scalar.remsi v988 v990
  let c0_i32_625 : BitVec 32 := 0#32
  let v993 : BitVec 1 := Scalar.cmpi .slt v991 c0_i32_625
  let c0_i32_626 : BitVec 32 := 0#32
  let v994 : BitVec 1 := Scalar.cmpi .slt v990 c0_i32_626
  let v995 : BitVec 1 := Scalar.xori v993 v994
  let c0_i32_624 : BitVec 32 := 0#32
  let v992 : BitVec 1 := Scalar.cmpi .ne v991 c0_i32_624
  let v996 : BitVec 1 := Scalar.andi v995 v992
  let v997 : BitVec 32 := Scalar.addi v991 v990
  let v998 : BitVec 32 := Scalar.select v996 v997 v991
  let v999 : BitVec 32 := Scalar.addi c16_i32_627 v998
  let v1001 : BitVec 1 := Scalar.cmpi .ne v999 v2
  let v1002 : BitVec 32 := Scalar.extui v1001
  let c0_i32_629 : BitVec 32 := 0#32
  let v1003 : BitVec 1 := Scalar.cmpi .ne v1002 c0_i32_629
  v1003

def k0_off85 (d0 : Dev nD) : Fin 1 → Nat :=
  let c16_i32_627 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_620 : BitVec 32 := 5#32
  let v988 : BitVec 32 := Scalar.addi v2 c5_i32_620
  let c8_i32_621 : BitVec 32 := 8#32
  let c0_i32_622 : BitVec 32 := 0#32
  let v989 : BitVec 1 := Scalar.cmpi .eq c8_i32_621 c0_i32_622
  let c1_i32_623 : BitVec 32 := 1#32
  let v990 : BitVec 32 := Scalar.select v989 c1_i32_623 c8_i32_621
  let v991 : BitVec 32 := Scalar.remsi v988 v990
  let c0_i32_625 : BitVec 32 := 0#32
  let v993 : BitVec 1 := Scalar.cmpi .slt v991 c0_i32_625
  let c0_i32_626 : BitVec 32 := 0#32
  let v994 : BitVec 1 := Scalar.cmpi .slt v990 c0_i32_626
  let v995 : BitVec 1 := Scalar.xori v993 v994
  let c0_i32_624 : BitVec 32 := 0#32
  let v992 : BitVec 1 := Scalar.cmpi .ne v991 c0_i32_624
  let v996 : BitVec 1 := Scalar.andi v995 v992
  let v997 : BitVec 32 := Scalar.addi v991 v990
  let v998 : BitVec 32 := Scalar.select v996 v997 v991
  let v999 : BitVec 32 := Scalar.addi c16_i32_627 v998
  ![v999.toNat]
def k0_off86 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off87 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off88 (d0 : Dev nD) : Fin 2 → Nat :=
  let c16_i32_627 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_620 : BitVec 32 := 5#32
  let v988 : BitVec 32 := Scalar.addi v2 c5_i32_620
  let c8_i32_621 : BitVec 32 := 8#32
  let c0_i32_622 : BitVec 32 := 0#32
  let v989 : BitVec 1 := Scalar.cmpi .eq c8_i32_621 c0_i32_622
  let c1_i32_623 : BitVec 32 := 1#32
  let v990 : BitVec 32 := Scalar.select v989 c1_i32_623 c8_i32_621
  let v991 : BitVec 32 := Scalar.remsi v988 v990
  let c0_i32_625 : BitVec 32 := 0#32
  let v993 : BitVec 1 := Scalar.cmpi .slt v991 c0_i32_625
  let c0_i32_626 : BitVec 32 := 0#32
  let v994 : BitVec 1 := Scalar.cmpi .slt v990 c0_i32_626
  let v995 : BitVec 1 := Scalar.xori v993 v994
  let c0_i32_624 : BitVec 32 := 0#32
  let v992 : BitVec 1 := Scalar.cmpi .ne v991 c0_i32_624
  let v996 : BitVec 1 := Scalar.andi v995 v992
  let v997 : BitVec 32 := Scalar.addi v991 v990
  let v998 : BitVec 32 := Scalar.select v996 v997 v991
  let v999 : BitVec 32 := Scalar.addi c16_i32_627 v998
  let c8_i32_628 : BitVec 32 := 8#32
  let v1000 : BitVec 32 := Scalar.muli v999 c8_i32_628
  let c0_i32_2554 : BitVec 32 := 0#32
  ![v1000.toNat, 0]
def k0_dev53 (d0 : Dev nD) : Nat :=
  let c0_i32_2551 : BitVec 32 := 0#32
  let c16_i32_627 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_620 : BitVec 32 := 5#32
  let v988 : BitVec 32 := Scalar.addi v2 c5_i32_620
  let c8_i32_621 : BitVec 32 := 8#32
  let c0_i32_622 : BitVec 32 := 0#32
  let v989 : BitVec 1 := Scalar.cmpi .eq c8_i32_621 c0_i32_622
  let c1_i32_623 : BitVec 32 := 1#32
  let v990 : BitVec 32 := Scalar.select v989 c1_i32_623 c8_i32_621
  let v991 : BitVec 32 := Scalar.remsi v988 v990
  let c0_i32_625 : BitVec 32 := 0#32
  let v993 : BitVec 1 := Scalar.cmpi .slt v991 c0_i32_625
  let c0_i32_626 : BitVec 32 := 0#32
  let v994 : BitVec 1 := Scalar.cmpi .slt v990 c0_i32_626
  let v995 : BitVec 1 := Scalar.xori v993 v994
  let c0_i32_624 : BitVec 32 := 0#32
  let v992 : BitVec 1 := Scalar.cmpi .ne v991 c0_i32_624
  let v996 : BitVec 1 := Scalar.andi v995 v992
  let v997 : BitVec 32 := Scalar.addi v991 v990
  let v998 : BitVec 32 := Scalar.select v996 v997 v991
  let v999 : BitVec 32 := Scalar.addi c16_i32_627 v998
  let c1_i32_2550 : BitVec 32 := 1#32
  let v3673 : BitVec 32 := Scalar.muli v999 c1_i32_2550
  let v3674 : BitVec 32 := Scalar.addi c0_i32_2551 v3673
  v3674.toNat
def k0_cond23 (d0 : Dev nD) : BitVec 1 :=
  let c16_i32_637 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_630 : BitVec 32 := 6#32
  let v1004 : BitVec 32 := Scalar.addi v2 c6_i32_630
  let c8_i32_631 : BitVec 32 := 8#32
  let c0_i32_632 : BitVec 32 := 0#32
  let v1005 : BitVec 1 := Scalar.cmpi .eq c8_i32_631 c0_i32_632
  let c1_i32_633 : BitVec 32 := 1#32
  let v1006 : BitVec 32 := Scalar.select v1005 c1_i32_633 c8_i32_631
  let v1007 : BitVec 32 := Scalar.remsi v1004 v1006
  let c0_i32_635 : BitVec 32 := 0#32
  let v1009 : BitVec 1 := Scalar.cmpi .slt v1007 c0_i32_635
  let c0_i32_636 : BitVec 32 := 0#32
  let v1010 : BitVec 1 := Scalar.cmpi .slt v1006 c0_i32_636
  let v1011 : BitVec 1 := Scalar.xori v1009 v1010
  let c0_i32_634 : BitVec 32 := 0#32
  let v1008 : BitVec 1 := Scalar.cmpi .ne v1007 c0_i32_634
  let v1012 : BitVec 1 := Scalar.andi v1011 v1008
  let v1013 : BitVec 32 := Scalar.addi v1007 v1006
  let v1014 : BitVec 32 := Scalar.select v1012 v1013 v1007
  let v1015 : BitVec 32 := Scalar.addi c16_i32_637 v1014
  let v1017 : BitVec 1 := Scalar.cmpi .ne v1015 v2
  let v1018 : BitVec 32 := Scalar.extui v1017
  let c0_i32_639 : BitVec 32 := 0#32
  let v1019 : BitVec 1 := Scalar.cmpi .ne v1018 c0_i32_639
  v1019

def k0_off89 (d0 : Dev nD) : Fin 1 → Nat :=
  let c16_i32_637 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_630 : BitVec 32 := 6#32
  let v1004 : BitVec 32 := Scalar.addi v2 c6_i32_630
  let c8_i32_631 : BitVec 32 := 8#32
  let c0_i32_632 : BitVec 32 := 0#32
  let v1005 : BitVec 1 := Scalar.cmpi .eq c8_i32_631 c0_i32_632
  let c1_i32_633 : BitVec 32 := 1#32
  let v1006 : BitVec 32 := Scalar.select v1005 c1_i32_633 c8_i32_631
  let v1007 : BitVec 32 := Scalar.remsi v1004 v1006
  let c0_i32_635 : BitVec 32 := 0#32
  let v1009 : BitVec 1 := Scalar.cmpi .slt v1007 c0_i32_635
  let c0_i32_636 : BitVec 32 := 0#32
  let v1010 : BitVec 1 := Scalar.cmpi .slt v1006 c0_i32_636
  let v1011 : BitVec 1 := Scalar.xori v1009 v1010
  let c0_i32_634 : BitVec 32 := 0#32
  let v1008 : BitVec 1 := Scalar.cmpi .ne v1007 c0_i32_634
  let v1012 : BitVec 1 := Scalar.andi v1011 v1008
  let v1013 : BitVec 32 := Scalar.addi v1007 v1006
  let v1014 : BitVec 32 := Scalar.select v1012 v1013 v1007
  let v1015 : BitVec 32 := Scalar.addi c16_i32_637 v1014
  ![v1015.toNat]
def k0_off90 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off91 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off92 (d0 : Dev nD) : Fin 2 → Nat :=
  let c16_i32_637 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_630 : BitVec 32 := 6#32
  let v1004 : BitVec 32 := Scalar.addi v2 c6_i32_630
  let c8_i32_631 : BitVec 32 := 8#32
  let c0_i32_632 : BitVec 32 := 0#32
  let v1005 : BitVec 1 := Scalar.cmpi .eq c8_i32_631 c0_i32_632
  let c1_i32_633 : BitVec 32 := 1#32
  let v1006 : BitVec 32 := Scalar.select v1005 c1_i32_633 c8_i32_631
  let v1007 : BitVec 32 := Scalar.remsi v1004 v1006
  let c0_i32_635 : BitVec 32 := 0#32
  let v1009 : BitVec 1 := Scalar.cmpi .slt v1007 c0_i32_635
  let c0_i32_636 : BitVec 32 := 0#32
  let v1010 : BitVec 1 := Scalar.cmpi .slt v1006 c0_i32_636
  let v1011 : BitVec 1 := Scalar.xori v1009 v1010
  let c0_i32_634 : BitVec 32 := 0#32
  let v1008 : BitVec 1 := Scalar.cmpi .ne v1007 c0_i32_634
  let v1012 : BitVec 1 := Scalar.andi v1011 v1008
  let v1013 : BitVec 32 := Scalar.addi v1007 v1006
  let v1014 : BitVec 32 := Scalar.select v1012 v1013 v1007
  let v1015 : BitVec 32 := Scalar.addi c16_i32_637 v1014
  let c8_i32_638 : BitVec 32 := 8#32
  let v1016 : BitVec 32 := Scalar.muli v1015 c8_i32_638
  let c0_i32_2554 : BitVec 32 := 0#32
  ![v1016.toNat, 0]
def k0_dev54 (d0 : Dev nD) : Nat :=
  let c0_i32_2551 : BitVec 32 := 0#32
  let c16_i32_637 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_630 : BitVec 32 := 6#32
  let v1004 : BitVec 32 := Scalar.addi v2 c6_i32_630
  let c8_i32_631 : BitVec 32 := 8#32
  let c0_i32_632 : BitVec 32 := 0#32
  let v1005 : BitVec 1 := Scalar.cmpi .eq c8_i32_631 c0_i32_632
  let c1_i32_633 : BitVec 32 := 1#32
  let v1006 : BitVec 32 := Scalar.select v1005 c1_i32_633 c8_i32_631
  let v1007 : BitVec 32 := Scalar.remsi v1004 v1006
  let c0_i32_635 : BitVec 32 := 0#32
  let v1009 : BitVec 1 := Scalar.cmpi .slt v1007 c0_i32_635
  let c0_i32_636 : BitVec 32 := 0#32
  let v1010 : BitVec 1 := Scalar.cmpi .slt v1006 c0_i32_636
  let v1011 : BitVec 1 := Scalar.xori v1009 v1010
  let c0_i32_634 : BitVec 32 := 0#32
  let v1008 : BitVec 1 := Scalar.cmpi .ne v1007 c0_i32_634
  let v1012 : BitVec 1 := Scalar.andi v1011 v1008
  let v1013 : BitVec 32 := Scalar.addi v1007 v1006
  let v1014 : BitVec 32 := Scalar.select v1012 v1013 v1007
  let v1015 : BitVec 32 := Scalar.addi c16_i32_637 v1014
  let c1_i32_2550 : BitVec 32 := 1#32
  let v3673 : BitVec 32 := Scalar.muli v1015 c1_i32_2550
  let v3674 : BitVec 32 := Scalar.addi c0_i32_2551 v3673
  v3674.toNat
def k0_cond24 (d0 : Dev nD) : BitVec 1 :=
  let c16_i32_647 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_640 : BitVec 32 := 7#32
  let v1020 : BitVec 32 := Scalar.addi v2 c7_i32_640
  let c8_i32_641 : BitVec 32 := 8#32
  let c0_i32_642 : BitVec 32 := 0#32
  let v1021 : BitVec 1 := Scalar.cmpi .eq c8_i32_641 c0_i32_642
  let c1_i32_643 : BitVec 32 := 1#32
  let v1022 : BitVec 32 := Scalar.select v1021 c1_i32_643 c8_i32_641
  let v1023 : BitVec 32 := Scalar.remsi v1020 v1022
  let c0_i32_645 : BitVec 32 := 0#32
  let v1025 : BitVec 1 := Scalar.cmpi .slt v1023 c0_i32_645
  let c0_i32_646 : BitVec 32 := 0#32
  let v1026 : BitVec 1 := Scalar.cmpi .slt v1022 c0_i32_646
  let v1027 : BitVec 1 := Scalar.xori v1025 v1026
  let c0_i32_644 : BitVec 32 := 0#32
  let v1024 : BitVec 1 := Scalar.cmpi .ne v1023 c0_i32_644
  let v1028 : BitVec 1 := Scalar.andi v1027 v1024
  let v1029 : BitVec 32 := Scalar.addi v1023 v1022
  let v1030 : BitVec 32 := Scalar.select v1028 v1029 v1023
  let v1031 : BitVec 32 := Scalar.addi c16_i32_647 v1030
  let v1033 : BitVec 1 := Scalar.cmpi .ne v1031 v2
  let v1034 : BitVec 32 := Scalar.extui v1033
  let c0_i32_649 : BitVec 32 := 0#32
  let v1035 : BitVec 1 := Scalar.cmpi .ne v1034 c0_i32_649
  v1035

def k0_off93 (d0 : Dev nD) : Fin 1 → Nat :=
  let c16_i32_647 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_640 : BitVec 32 := 7#32
  let v1020 : BitVec 32 := Scalar.addi v2 c7_i32_640
  let c8_i32_641 : BitVec 32 := 8#32
  let c0_i32_642 : BitVec 32 := 0#32
  let v1021 : BitVec 1 := Scalar.cmpi .eq c8_i32_641 c0_i32_642
  let c1_i32_643 : BitVec 32 := 1#32
  let v1022 : BitVec 32 := Scalar.select v1021 c1_i32_643 c8_i32_641
  let v1023 : BitVec 32 := Scalar.remsi v1020 v1022
  let c0_i32_645 : BitVec 32 := 0#32
  let v1025 : BitVec 1 := Scalar.cmpi .slt v1023 c0_i32_645
  let c0_i32_646 : BitVec 32 := 0#32
  let v1026 : BitVec 1 := Scalar.cmpi .slt v1022 c0_i32_646
  let v1027 : BitVec 1 := Scalar.xori v1025 v1026
  let c0_i32_644 : BitVec 32 := 0#32
  let v1024 : BitVec 1 := Scalar.cmpi .ne v1023 c0_i32_644
  let v1028 : BitVec 1 := Scalar.andi v1027 v1024
  let v1029 : BitVec 32 := Scalar.addi v1023 v1022
  let v1030 : BitVec 32 := Scalar.select v1028 v1029 v1023
  let v1031 : BitVec 32 := Scalar.addi c16_i32_647 v1030
  ![v1031.toNat]
def k0_off94 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off95 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off96 (d0 : Dev nD) : Fin 2 → Nat :=
  let c16_i32_647 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_640 : BitVec 32 := 7#32
  let v1020 : BitVec 32 := Scalar.addi v2 c7_i32_640
  let c8_i32_641 : BitVec 32 := 8#32
  let c0_i32_642 : BitVec 32 := 0#32
  let v1021 : BitVec 1 := Scalar.cmpi .eq c8_i32_641 c0_i32_642
  let c1_i32_643 : BitVec 32 := 1#32
  let v1022 : BitVec 32 := Scalar.select v1021 c1_i32_643 c8_i32_641
  let v1023 : BitVec 32 := Scalar.remsi v1020 v1022
  let c0_i32_645 : BitVec 32 := 0#32
  let v1025 : BitVec 1 := Scalar.cmpi .slt v1023 c0_i32_645
  let c0_i32_646 : BitVec 32 := 0#32
  let v1026 : BitVec 1 := Scalar.cmpi .slt v1022 c0_i32_646
  let v1027 : BitVec 1 := Scalar.xori v1025 v1026
  let c0_i32_644 : BitVec 32 := 0#32
  let v1024 : BitVec 1 := Scalar.cmpi .ne v1023 c0_i32_644
  let v1028 : BitVec 1 := Scalar.andi v1027 v1024
  let v1029 : BitVec 32 := Scalar.addi v1023 v1022
  let v1030 : BitVec 32 := Scalar.select v1028 v1029 v1023
  let v1031 : BitVec 32 := Scalar.addi c16_i32_647 v1030
  let c8_i32_648 : BitVec 32 := 8#32
  let v1032 : BitVec 32 := Scalar.muli v1031 c8_i32_648
  let c0_i32_2554 : BitVec 32 := 0#32
  ![v1032.toNat, 0]
def k0_dev55 (d0 : Dev nD) : Nat :=
  let c0_i32_2551 : BitVec 32 := 0#32
  let c16_i32_647 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_640 : BitVec 32 := 7#32
  let v1020 : BitVec 32 := Scalar.addi v2 c7_i32_640
  let c8_i32_641 : BitVec 32 := 8#32
  let c0_i32_642 : BitVec 32 := 0#32
  let v1021 : BitVec 1 := Scalar.cmpi .eq c8_i32_641 c0_i32_642
  let c1_i32_643 : BitVec 32 := 1#32
  let v1022 : BitVec 32 := Scalar.select v1021 c1_i32_643 c8_i32_641
  let v1023 : BitVec 32 := Scalar.remsi v1020 v1022
  let c0_i32_645 : BitVec 32 := 0#32
  let v1025 : BitVec 1 := Scalar.cmpi .slt v1023 c0_i32_645
  let c0_i32_646 : BitVec 32 := 0#32
  let v1026 : BitVec 1 := Scalar.cmpi .slt v1022 c0_i32_646
  let v1027 : BitVec 1 := Scalar.xori v1025 v1026
  let c0_i32_644 : BitVec 32 := 0#32
  let v1024 : BitVec 1 := Scalar.cmpi .ne v1023 c0_i32_644
  let v1028 : BitVec 1 := Scalar.andi v1027 v1024
  let v1029 : BitVec 32 := Scalar.addi v1023 v1022
  let v1030 : BitVec 32 := Scalar.select v1028 v1029 v1023
  let v1031 : BitVec 32 := Scalar.addi c16_i32_647 v1030
  let c1_i32_2550 : BitVec 32 := 1#32
  let v3673 : BitVec 32 := Scalar.muli v1031 c1_i32_2550
  let v3674 : BitVec 32 := Scalar.addi c0_i32_2551 v3673
  v3674.toNat
def k0_cond25 (d0 : Dev nD) : BitVec 1 :=
  let c24_i32_664 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_657 : BitVec 32 := 0#32
  let v1044 : BitVec 32 := Scalar.addi v2 c0_i32_657
  let c8_i32_658 : BitVec 32 := 8#32
  let c0_i32_659 : BitVec 32 := 0#32
  let v1045 : BitVec 1 := Scalar.cmpi .eq c8_i32_658 c0_i32_659
  let c1_i32_660 : BitVec 32 := 1#32
  let v1046 : BitVec 32 := Scalar.select v1045 c1_i32_660 c8_i32_658
  let v1047 : BitVec 32 := Scalar.remsi v1044 v1046
  let c0_i32_662 : BitVec 32 := 0#32
  let v1049 : BitVec 1 := Scalar.cmpi .slt v1047 c0_i32_662
  let c0_i32_663 : BitVec 32 := 0#32
  let v1050 : BitVec 1 := Scalar.cmpi .slt v1046 c0_i32_663
  let v1051 : BitVec 1 := Scalar.xori v1049 v1050
  let c0_i32_661 : BitVec 32 := 0#32
  let v1048 : BitVec 1 := Scalar.cmpi .ne v1047 c0_i32_661
  let v1052 : BitVec 1 := Scalar.andi v1051 v1048
  let v1053 : BitVec 32 := Scalar.addi v1047 v1046
  let v1054 : BitVec 32 := Scalar.select v1052 v1053 v1047
  let v1055 : BitVec 32 := Scalar.addi c24_i32_664 v1054
  let v1057 : BitVec 1 := Scalar.cmpi .ne v1055 v2
  let v1058 : BitVec 32 := Scalar.extui v1057
  let c0_i32_666 : BitVec 32 := 0#32
  let v1059 : BitVec 1 := Scalar.cmpi .ne v1058 c0_i32_666
  v1059

def k0_off97 (d0 : Dev nD) : Fin 1 → Nat :=
  let c24_i32_664 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_657 : BitVec 32 := 0#32
  let v1044 : BitVec 32 := Scalar.addi v2 c0_i32_657
  let c8_i32_658 : BitVec 32 := 8#32
  let c0_i32_659 : BitVec 32 := 0#32
  let v1045 : BitVec 1 := Scalar.cmpi .eq c8_i32_658 c0_i32_659
  let c1_i32_660 : BitVec 32 := 1#32
  let v1046 : BitVec 32 := Scalar.select v1045 c1_i32_660 c8_i32_658
  let v1047 : BitVec 32 := Scalar.remsi v1044 v1046
  let c0_i32_662 : BitVec 32 := 0#32
  let v1049 : BitVec 1 := Scalar.cmpi .slt v1047 c0_i32_662
  let c0_i32_663 : BitVec 32 := 0#32
  let v1050 : BitVec 1 := Scalar.cmpi .slt v1046 c0_i32_663
  let v1051 : BitVec 1 := Scalar.xori v1049 v1050
  let c0_i32_661 : BitVec 32 := 0#32
  let v1048 : BitVec 1 := Scalar.cmpi .ne v1047 c0_i32_661
  let v1052 : BitVec 1 := Scalar.andi v1051 v1048
  let v1053 : BitVec 32 := Scalar.addi v1047 v1046
  let v1054 : BitVec 32 := Scalar.select v1052 v1053 v1047
  let v1055 : BitVec 32 := Scalar.addi c24_i32_664 v1054
  ![v1055.toNat]
def k0_off98 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off99 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off100 (d0 : Dev nD) : Fin 2 → Nat :=
  let c24_i32_664 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_657 : BitVec 32 := 0#32
  let v1044 : BitVec 32 := Scalar.addi v2 c0_i32_657
  let c8_i32_658 : BitVec 32 := 8#32
  let c0_i32_659 : BitVec 32 := 0#32
  let v1045 : BitVec 1 := Scalar.cmpi .eq c8_i32_658 c0_i32_659
  let c1_i32_660 : BitVec 32 := 1#32
  let v1046 : BitVec 32 := Scalar.select v1045 c1_i32_660 c8_i32_658
  let v1047 : BitVec 32 := Scalar.remsi v1044 v1046
  let c0_i32_662 : BitVec 32 := 0#32
  let v1049 : BitVec 1 := Scalar.cmpi .slt v1047 c0_i32_662
  let c0_i32_663 : BitVec 32 := 0#32
  let v1050 : BitVec 1 := Scalar.cmpi .slt v1046 c0_i32_663
  let v1051 : BitVec 1 := Scalar.xori v1049 v1050
  let c0_i32_661 : BitVec 32 := 0#32
  let v1048 : BitVec 1 := Scalar.cmpi .ne v1047 c0_i32_661
  let v1052 : BitVec 1 := Scalar.andi v1051 v1048
  let v1053 : BitVec 32 := Scalar.addi v1047 v1046
  let v1054 : BitVec 32 := Scalar.select v1052 v1053 v1047
  let v1055 : BitVec 32 := Scalar.addi c24_i32_664 v1054
  let c8_i32_665 : BitVec 32 := 8#32
  let v1056 : BitVec 32 := Scalar.muli v1055 c8_i32_665
  let c0_i32_2554 : BitVec 32 := 0#32
  ![v1056.toNat, 0]
def k0_dev56 (d0 : Dev nD) : Nat :=
  let c0_i32_2551 : BitVec 32 := 0#32
  let c24_i32_664 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_657 : BitVec 32 := 0#32
  let v1044 : BitVec 32 := Scalar.addi v2 c0_i32_657
  let c8_i32_658 : BitVec 32 := 8#32
  let c0_i32_659 : BitVec 32 := 0#32
  let v1045 : BitVec 1 := Scalar.cmpi .eq c8_i32_658 c0_i32_659
  let c1_i32_660 : BitVec 32 := 1#32
  let v1046 : BitVec 32 := Scalar.select v1045 c1_i32_660 c8_i32_658
  let v1047 : BitVec 32 := Scalar.remsi v1044 v1046
  let c0_i32_662 : BitVec 32 := 0#32
  let v1049 : BitVec 1 := Scalar.cmpi .slt v1047 c0_i32_662
  let c0_i32_663 : BitVec 32 := 0#32
  let v1050 : BitVec 1 := Scalar.cmpi .slt v1046 c0_i32_663
  let v1051 : BitVec 1 := Scalar.xori v1049 v1050
  let c0_i32_661 : BitVec 32 := 0#32
  let v1048 : BitVec 1 := Scalar.cmpi .ne v1047 c0_i32_661
  let v1052 : BitVec 1 := Scalar.andi v1051 v1048
  let v1053 : BitVec 32 := Scalar.addi v1047 v1046
  let v1054 : BitVec 32 := Scalar.select v1052 v1053 v1047
  let v1055 : BitVec 32 := Scalar.addi c24_i32_664 v1054
  let c1_i32_2550 : BitVec 32 := 1#32
  let v3673 : BitVec 32 := Scalar.muli v1055 c1_i32_2550
  let v3674 : BitVec 32 := Scalar.addi c0_i32_2551 v3673
  v3674.toNat
def k0_cond26 (d0 : Dev nD) : BitVec 1 :=
  let c24_i32_674 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_667 : BitVec 32 := 1#32
  let v1060 : BitVec 32 := Scalar.addi v2 c1_i32_667
  let c8_i32_668 : BitVec 32 := 8#32
  let c0_i32_669 : BitVec 32 := 0#32
  let v1061 : BitVec 1 := Scalar.cmpi .eq c8_i32_668 c0_i32_669
  let c1_i32_670 : BitVec 32 := 1#32
  let v1062 : BitVec 32 := Scalar.select v1061 c1_i32_670 c8_i32_668
  let v1063 : BitVec 32 := Scalar.remsi v1060 v1062
  let c0_i32_672 : BitVec 32 := 0#32
  let v1065 : BitVec 1 := Scalar.cmpi .slt v1063 c0_i32_672
  let c0_i32_673 : BitVec 32 := 0#32
  let v1066 : BitVec 1 := Scalar.cmpi .slt v1062 c0_i32_673
  let v1067 : BitVec 1 := Scalar.xori v1065 v1066
  let c0_i32_671 : BitVec 32 := 0#32
  let v1064 : BitVec 1 := Scalar.cmpi .ne v1063 c0_i32_671
  let v1068 : BitVec 1 := Scalar.andi v1067 v1064
  let v1069 : BitVec 32 := Scalar.addi v1063 v1062
  let v1070 : BitVec 32 := Scalar.select v1068 v1069 v1063
  let v1071 : BitVec 32 := Scalar.addi c24_i32_674 v1070
  let v1073 : BitVec 1 := Scalar.cmpi .ne v1071 v2
  let v1074 : BitVec 32 := Scalar.extui v1073
  let c0_i32_676 : BitVec 32 := 0#32
  let v1075 : BitVec 1 := Scalar.cmpi .ne v1074 c0_i32_676
  v1075

def k0_off101 (d0 : Dev nD) : Fin 1 → Nat :=
  let c24_i32_674 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_667 : BitVec 32 := 1#32
  let v1060 : BitVec 32 := Scalar.addi v2 c1_i32_667
  let c8_i32_668 : BitVec 32 := 8#32
  let c0_i32_669 : BitVec 32 := 0#32
  let v1061 : BitVec 1 := Scalar.cmpi .eq c8_i32_668 c0_i32_669
  let c1_i32_670 : BitVec 32 := 1#32
  let v1062 : BitVec 32 := Scalar.select v1061 c1_i32_670 c8_i32_668
  let v1063 : BitVec 32 := Scalar.remsi v1060 v1062
  let c0_i32_672 : BitVec 32 := 0#32
  let v1065 : BitVec 1 := Scalar.cmpi .slt v1063 c0_i32_672
  let c0_i32_673 : BitVec 32 := 0#32
  let v1066 : BitVec 1 := Scalar.cmpi .slt v1062 c0_i32_673
  let v1067 : BitVec 1 := Scalar.xori v1065 v1066
  let c0_i32_671 : BitVec 32 := 0#32
  let v1064 : BitVec 1 := Scalar.cmpi .ne v1063 c0_i32_671
  let v1068 : BitVec 1 := Scalar.andi v1067 v1064
  let v1069 : BitVec 32 := Scalar.addi v1063 v1062
  let v1070 : BitVec 32 := Scalar.select v1068 v1069 v1063
  let v1071 : BitVec 32 := Scalar.addi c24_i32_674 v1070
  ![v1071.toNat]
def k0_off102 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off103 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off104 (d0 : Dev nD) : Fin 2 → Nat :=
  let c24_i32_674 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_667 : BitVec 32 := 1#32
  let v1060 : BitVec 32 := Scalar.addi v2 c1_i32_667
  let c8_i32_668 : BitVec 32 := 8#32
  let c0_i32_669 : BitVec 32 := 0#32
  let v1061 : BitVec 1 := Scalar.cmpi .eq c8_i32_668 c0_i32_669
  let c1_i32_670 : BitVec 32 := 1#32
  let v1062 : BitVec 32 := Scalar.select v1061 c1_i32_670 c8_i32_668
  let v1063 : BitVec 32 := Scalar.remsi v1060 v1062
  let c0_i32_672 : BitVec 32 := 0#32
  let v1065 : BitVec 1 := Scalar.cmpi .slt v1063 c0_i32_672
  let c0_i32_673 : BitVec 32 := 0#32
  let v1066 : BitVec 1 := Scalar.cmpi .slt v1062 c0_i32_673
  let v1067 : BitVec 1 := Scalar.xori v1065 v1066
  let c0_i32_671 : BitVec 32 := 0#32
  let v1064 : BitVec 1 := Scalar.cmpi .ne v1063 c0_i32_671
  let v1068 : BitVec 1 := Scalar.andi v1067 v1064
  let v1069 : BitVec 32 := Scalar.addi v1063 v1062
  let v1070 : BitVec 32 := Scalar.select v1068 v1069 v1063
  let v1071 : BitVec 32 := Scalar.addi c24_i32_674 v1070
  let c8_i32_675 : BitVec 32 := 8#32
  let v1072 : BitVec 32 := Scalar.muli v1071 c8_i32_675
  let c0_i32_2554 : BitVec 32 := 0#32
  ![v1072.toNat, 0]
def k0_dev57 (d0 : Dev nD) : Nat :=
  let c0_i32_2551 : BitVec 32 := 0#32
  let c24_i32_674 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_667 : BitVec 32 := 1#32
  let v1060 : BitVec 32 := Scalar.addi v2 c1_i32_667
  let c8_i32_668 : BitVec 32 := 8#32
  let c0_i32_669 : BitVec 32 := 0#32
  let v1061 : BitVec 1 := Scalar.cmpi .eq c8_i32_668 c0_i32_669
  let c1_i32_670 : BitVec 32 := 1#32
  let v1062 : BitVec 32 := Scalar.select v1061 c1_i32_670 c8_i32_668
  let v1063 : BitVec 32 := Scalar.remsi v1060 v1062
  let c0_i32_672 : BitVec 32 := 0#32
  let v1065 : BitVec 1 := Scalar.cmpi .slt v1063 c0_i32_672
  let c0_i32_673 : BitVec 32 := 0#32
  let v1066 : BitVec 1 := Scalar.cmpi .slt v1062 c0_i32_673
  let v1067 : BitVec 1 := Scalar.xori v1065 v1066
  let c0_i32_671 : BitVec 32 := 0#32
  let v1064 : BitVec 1 := Scalar.cmpi .ne v1063 c0_i32_671
  let v1068 : BitVec 1 := Scalar.andi v1067 v1064
  let v1069 : BitVec 32 := Scalar.addi v1063 v1062
  let v1070 : BitVec 32 := Scalar.select v1068 v1069 v1063
  let v1071 : BitVec 32 := Scalar.addi c24_i32_674 v1070
  let c1_i32_2550 : BitVec 32 := 1#32
  let v3673 : BitVec 32 := Scalar.muli v1071 c1_i32_2550
  let v3674 : BitVec 32 := Scalar.addi c0_i32_2551 v3673
  v3674.toNat
def k0_cond27 (d0 : Dev nD) : BitVec 1 :=
  let c24_i32_684 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_677 : BitVec 32 := 2#32
  let v1076 : BitVec 32 := Scalar.addi v2 c2_i32_677
  let c8_i32_678 : BitVec 32 := 8#32
  let c0_i32_679 : BitVec 32 := 0#32
  let v1077 : BitVec 1 := Scalar.cmpi .eq c8_i32_678 c0_i32_679
  let c1_i32_680 : BitVec 32 := 1#32
  let v1078 : BitVec 32 := Scalar.select v1077 c1_i32_680 c8_i32_678
  let v1079 : BitVec 32 := Scalar.remsi v1076 v1078
  let c0_i32_682 : BitVec 32 := 0#32
  let v1081 : BitVec 1 := Scalar.cmpi .slt v1079 c0_i32_682
  let c0_i32_683 : BitVec 32 := 0#32
  let v1082 : BitVec 1 := Scalar.cmpi .slt v1078 c0_i32_683
  let v1083 : BitVec 1 := Scalar.xori v1081 v1082
  let c0_i32_681 : BitVec 32 := 0#32
  let v1080 : BitVec 1 := Scalar.cmpi .ne v1079 c0_i32_681
  let v1084 : BitVec 1 := Scalar.andi v1083 v1080
  let v1085 : BitVec 32 := Scalar.addi v1079 v1078
  let v1086 : BitVec 32 := Scalar.select v1084 v1085 v1079
  let v1087 : BitVec 32 := Scalar.addi c24_i32_684 v1086
  let v1089 : BitVec 1 := Scalar.cmpi .ne v1087 v2
  let v1090 : BitVec 32 := Scalar.extui v1089
  let c0_i32_686 : BitVec 32 := 0#32
  let v1091 : BitVec 1 := Scalar.cmpi .ne v1090 c0_i32_686
  v1091

def k0_off105 (d0 : Dev nD) : Fin 1 → Nat :=
  let c24_i32_684 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_677 : BitVec 32 := 2#32
  let v1076 : BitVec 32 := Scalar.addi v2 c2_i32_677
  let c8_i32_678 : BitVec 32 := 8#32
  let c0_i32_679 : BitVec 32 := 0#32
  let v1077 : BitVec 1 := Scalar.cmpi .eq c8_i32_678 c0_i32_679
  let c1_i32_680 : BitVec 32 := 1#32
  let v1078 : BitVec 32 := Scalar.select v1077 c1_i32_680 c8_i32_678
  let v1079 : BitVec 32 := Scalar.remsi v1076 v1078
  let c0_i32_682 : BitVec 32 := 0#32
  let v1081 : BitVec 1 := Scalar.cmpi .slt v1079 c0_i32_682
  let c0_i32_683 : BitVec 32 := 0#32
  let v1082 : BitVec 1 := Scalar.cmpi .slt v1078 c0_i32_683
  let v1083 : BitVec 1 := Scalar.xori v1081 v1082
  let c0_i32_681 : BitVec 32 := 0#32
  let v1080 : BitVec 1 := Scalar.cmpi .ne v1079 c0_i32_681
  let v1084 : BitVec 1 := Scalar.andi v1083 v1080
  let v1085 : BitVec 32 := Scalar.addi v1079 v1078
  let v1086 : BitVec 32 := Scalar.select v1084 v1085 v1079
  let v1087 : BitVec 32 := Scalar.addi c24_i32_684 v1086
  ![v1087.toNat]
def k0_off106 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off107 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off108 (d0 : Dev nD) : Fin 2 → Nat :=
  let c24_i32_684 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_677 : BitVec 32 := 2#32
  let v1076 : BitVec 32 := Scalar.addi v2 c2_i32_677
  let c8_i32_678 : BitVec 32 := 8#32
  let c0_i32_679 : BitVec 32 := 0#32
  let v1077 : BitVec 1 := Scalar.cmpi .eq c8_i32_678 c0_i32_679
  let c1_i32_680 : BitVec 32 := 1#32
  let v1078 : BitVec 32 := Scalar.select v1077 c1_i32_680 c8_i32_678
  let v1079 : BitVec 32 := Scalar.remsi v1076 v1078
  let c0_i32_682 : BitVec 32 := 0#32
  let v1081 : BitVec 1 := Scalar.cmpi .slt v1079 c0_i32_682
  let c0_i32_683 : BitVec 32 := 0#32
  let v1082 : BitVec 1 := Scalar.cmpi .slt v1078 c0_i32_683
  let v1083 : BitVec 1 := Scalar.xori v1081 v1082
  let c0_i32_681 : BitVec 32 := 0#32
  let v1080 : BitVec 1 := Scalar.cmpi .ne v1079 c0_i32_681
  let v1084 : BitVec 1 := Scalar.andi v1083 v1080
  let v1085 : BitVec 32 := Scalar.addi v1079 v1078
  let v1086 : BitVec 32 := Scalar.select v1084 v1085 v1079
  let v1087 : BitVec 32 := Scalar.addi c24_i32_684 v1086
  let c8_i32_685 : BitVec 32 := 8#32
  let v1088 : BitVec 32 := Scalar.muli v1087 c8_i32_685
  let c0_i32_2554 : BitVec 32 := 0#32
  ![v1088.toNat, 0]
def k0_dev58 (d0 : Dev nD) : Nat :=
  let c0_i32_2551 : BitVec 32 := 0#32
  let c24_i32_684 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_677 : BitVec 32 := 2#32
  let v1076 : BitVec 32 := Scalar.addi v2 c2_i32_677
  let c8_i32_678 : BitVec 32 := 8#32
  let c0_i32_679 : BitVec 32 := 0#32
  let v1077 : BitVec 1 := Scalar.cmpi .eq c8_i32_678 c0_i32_679
  let c1_i32_680 : BitVec 32 := 1#32
  let v1078 : BitVec 32 := Scalar.select v1077 c1_i32_680 c8_i32_678
  let v1079 : BitVec 32 := Scalar.remsi v1076 v1078
  let c0_i32_682 : BitVec 32 := 0#32
  let v1081 : BitVec 1 := Scalar.cmpi .slt v1079 c0_i32_682
  let c0_i32_683 : BitVec 32 := 0#32
  let v1082 : BitVec 1 := Scalar.cmpi .slt v1078 c0_i32_683
  let v1083 : BitVec 1 := Scalar.xori v1081 v1082
  let c0_i32_681 : BitVec 32 := 0#32
  let v1080 : BitVec 1 := Scalar.cmpi .ne v1079 c0_i32_681
  let v1084 : BitVec 1 := Scalar.andi v1083 v1080
  let v1085 : BitVec 32 := Scalar.addi v1079 v1078
  let v1086 : BitVec 32 := Scalar.select v1084 v1085 v1079
  let v1087 : BitVec 32 := Scalar.addi c24_i32_684 v1086
  let c1_i32_2550 : BitVec 32 := 1#32
  let v3673 : BitVec 32 := Scalar.muli v1087 c1_i32_2550
  let v3674 : BitVec 32 := Scalar.addi c0_i32_2551 v3673
  v3674.toNat
def k0_cond28 (d0 : Dev nD) : BitVec 1 :=
  let c24_i32_694 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_687 : BitVec 32 := 3#32
  let v1092 : BitVec 32 := Scalar.addi v2 c3_i32_687
  let c8_i32_688 : BitVec 32 := 8#32
  let c0_i32_689 : BitVec 32 := 0#32
  let v1093 : BitVec 1 := Scalar.cmpi .eq c8_i32_688 c0_i32_689
  let c1_i32_690 : BitVec 32 := 1#32
  let v1094 : BitVec 32 := Scalar.select v1093 c1_i32_690 c8_i32_688
  let v1095 : BitVec 32 := Scalar.remsi v1092 v1094
  let c0_i32_692 : BitVec 32 := 0#32
  let v1097 : BitVec 1 := Scalar.cmpi .slt v1095 c0_i32_692
  let c0_i32_693 : BitVec 32 := 0#32
  let v1098 : BitVec 1 := Scalar.cmpi .slt v1094 c0_i32_693
  let v1099 : BitVec 1 := Scalar.xori v1097 v1098
  let c0_i32_691 : BitVec 32 := 0#32
  let v1096 : BitVec 1 := Scalar.cmpi .ne v1095 c0_i32_691
  let v1100 : BitVec 1 := Scalar.andi v1099 v1096
  let v1101 : BitVec 32 := Scalar.addi v1095 v1094
  let v1102 : BitVec 32 := Scalar.select v1100 v1101 v1095
  let v1103 : BitVec 32 := Scalar.addi c24_i32_694 v1102
  let v1105 : BitVec 1 := Scalar.cmpi .ne v1103 v2
  let v1106 : BitVec 32 := Scalar.extui v1105
  let c0_i32_696 : BitVec 32 := 0#32
  let v1107 : BitVec 1 := Scalar.cmpi .ne v1106 c0_i32_696
  v1107

def k0_off109 (d0 : Dev nD) : Fin 1 → Nat :=
  let c24_i32_694 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_687 : BitVec 32 := 3#32
  let v1092 : BitVec 32 := Scalar.addi v2 c3_i32_687
  let c8_i32_688 : BitVec 32 := 8#32
  let c0_i32_689 : BitVec 32 := 0#32
  let v1093 : BitVec 1 := Scalar.cmpi .eq c8_i32_688 c0_i32_689
  let c1_i32_690 : BitVec 32 := 1#32
  let v1094 : BitVec 32 := Scalar.select v1093 c1_i32_690 c8_i32_688
  let v1095 : BitVec 32 := Scalar.remsi v1092 v1094
  let c0_i32_692 : BitVec 32 := 0#32
  let v1097 : BitVec 1 := Scalar.cmpi .slt v1095 c0_i32_692
  let c0_i32_693 : BitVec 32 := 0#32
  let v1098 : BitVec 1 := Scalar.cmpi .slt v1094 c0_i32_693
  let v1099 : BitVec 1 := Scalar.xori v1097 v1098
  let c0_i32_691 : BitVec 32 := 0#32
  let v1096 : BitVec 1 := Scalar.cmpi .ne v1095 c0_i32_691
  let v1100 : BitVec 1 := Scalar.andi v1099 v1096
  let v1101 : BitVec 32 := Scalar.addi v1095 v1094
  let v1102 : BitVec 32 := Scalar.select v1100 v1101 v1095
  let v1103 : BitVec 32 := Scalar.addi c24_i32_694 v1102
  ![v1103.toNat]
def k0_off110 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off111 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off112 (d0 : Dev nD) : Fin 2 → Nat :=
  let c24_i32_694 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_687 : BitVec 32 := 3#32
  let v1092 : BitVec 32 := Scalar.addi v2 c3_i32_687
  let c8_i32_688 : BitVec 32 := 8#32
  let c0_i32_689 : BitVec 32 := 0#32
  let v1093 : BitVec 1 := Scalar.cmpi .eq c8_i32_688 c0_i32_689
  let c1_i32_690 : BitVec 32 := 1#32
  let v1094 : BitVec 32 := Scalar.select v1093 c1_i32_690 c8_i32_688
  let v1095 : BitVec 32 := Scalar.remsi v1092 v1094
  let c0_i32_692 : BitVec 32 := 0#32
  let v1097 : BitVec 1 := Scalar.cmpi .slt v1095 c0_i32_692
  let c0_i32_693 : BitVec 32 := 0#32
  let v1098 : BitVec 1 := Scalar.cmpi .slt v1094 c0_i32_693
  let v1099 : BitVec 1 := Scalar.xori v1097 v1098
  let c0_i32_691 : BitVec 32 := 0#32
  let v1096 : BitVec 1 := Scalar.cmpi .ne v1095 c0_i32_691
  let v1100 : BitVec 1 := Scalar.andi v1099 v1096
  let v1101 : BitVec 32 := Scalar.addi v1095 v1094
  let v1102 : BitVec 32 := Scalar.select v1100 v1101 v1095
  let v1103 : BitVec 32 := Scalar.addi c24_i32_694 v1102
  let c8_i32_695 : BitVec 32 := 8#32
  let v1104 : BitVec 32 := Scalar.muli v1103 c8_i32_695
  let c0_i32_2554 : BitVec 32 := 0#32
  ![v1104.toNat, 0]
def k0_dev59 (d0 : Dev nD) : Nat :=
  let c0_i32_2551 : BitVec 32 := 0#32
  let c24_i32_694 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_687 : BitVec 32 := 3#32
  let v1092 : BitVec 32 := Scalar.addi v2 c3_i32_687
  let c8_i32_688 : BitVec 32 := 8#32
  let c0_i32_689 : BitVec 32 := 0#32
  let v1093 : BitVec 1 := Scalar.cmpi .eq c8_i32_688 c0_i32_689
  let c1_i32_690 : BitVec 32 := 1#32
  let v1094 : BitVec 32 := Scalar.select v1093 c1_i32_690 c8_i32_688
  let v1095 : BitVec 32 := Scalar.remsi v1092 v1094
  let c0_i32_692 : BitVec 32 := 0#32
  let v1097 : BitVec 1 := Scalar.cmpi .slt v1095 c0_i32_692
  let c0_i32_693 : BitVec 32 := 0#32
  let v1098 : BitVec 1 := Scalar.cmpi .slt v1094 c0_i32_693
  let v1099 : BitVec 1 := Scalar.xori v1097 v1098
  let c0_i32_691 : BitVec 32 := 0#32
  let v1096 : BitVec 1 := Scalar.cmpi .ne v1095 c0_i32_691
  let v1100 : BitVec 1 := Scalar.andi v1099 v1096
  let v1101 : BitVec 32 := Scalar.addi v1095 v1094
  let v1102 : BitVec 32 := Scalar.select v1100 v1101 v1095
  let v1103 : BitVec 32 := Scalar.addi c24_i32_694 v1102
  let c1_i32_2550 : BitVec 32 := 1#32
  let v3673 : BitVec 32 := Scalar.muli v1103 c1_i32_2550
  let v3674 : BitVec 32 := Scalar.addi c0_i32_2551 v3673
  v3674.toNat
def k0_cond29 (d0 : Dev nD) : BitVec 1 :=
  let c24_i32_704 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_697 : BitVec 32 := 4#32
  let v1108 : BitVec 32 := Scalar.addi v2 c4_i32_697
  let c8_i32_698 : BitVec 32 := 8#32
  let c0_i32_699 : BitVec 32 := 0#32
  let v1109 : BitVec 1 := Scalar.cmpi .eq c8_i32_698 c0_i32_699
  let c1_i32_700 : BitVec 32 := 1#32
  let v1110 : BitVec 32 := Scalar.select v1109 c1_i32_700 c8_i32_698
  let v1111 : BitVec 32 := Scalar.remsi v1108 v1110
  let c0_i32_702 : BitVec 32 := 0#32
  let v1113 : BitVec 1 := Scalar.cmpi .slt v1111 c0_i32_702
  let c0_i32_703 : BitVec 32 := 0#32
  let v1114 : BitVec 1 := Scalar.cmpi .slt v1110 c0_i32_703
  let v1115 : BitVec 1 := Scalar.xori v1113 v1114
  let c0_i32_701 : BitVec 32 := 0#32
  let v1112 : BitVec 1 := Scalar.cmpi .ne v1111 c0_i32_701
  let v1116 : BitVec 1 := Scalar.andi v1115 v1112
  let v1117 : BitVec 32 := Scalar.addi v1111 v1110
  let v1118 : BitVec 32 := Scalar.select v1116 v1117 v1111
  let v1119 : BitVec 32 := Scalar.addi c24_i32_704 v1118
  let v1121 : BitVec 1 := Scalar.cmpi .ne v1119 v2
  let v1122 : BitVec 32 := Scalar.extui v1121
  let c0_i32_706 : BitVec 32 := 0#32
  let v1123 : BitVec 1 := Scalar.cmpi .ne v1122 c0_i32_706
  v1123

def k0_off113 (d0 : Dev nD) : Fin 1 → Nat :=
  let c24_i32_704 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_697 : BitVec 32 := 4#32
  let v1108 : BitVec 32 := Scalar.addi v2 c4_i32_697
  let c8_i32_698 : BitVec 32 := 8#32
  let c0_i32_699 : BitVec 32 := 0#32
  let v1109 : BitVec 1 := Scalar.cmpi .eq c8_i32_698 c0_i32_699
  let c1_i32_700 : BitVec 32 := 1#32
  let v1110 : BitVec 32 := Scalar.select v1109 c1_i32_700 c8_i32_698
  let v1111 : BitVec 32 := Scalar.remsi v1108 v1110
  let c0_i32_702 : BitVec 32 := 0#32
  let v1113 : BitVec 1 := Scalar.cmpi .slt v1111 c0_i32_702
  let c0_i32_703 : BitVec 32 := 0#32
  let v1114 : BitVec 1 := Scalar.cmpi .slt v1110 c0_i32_703
  let v1115 : BitVec 1 := Scalar.xori v1113 v1114
  let c0_i32_701 : BitVec 32 := 0#32
  let v1112 : BitVec 1 := Scalar.cmpi .ne v1111 c0_i32_701
  let v1116 : BitVec 1 := Scalar.andi v1115 v1112
  let v1117 : BitVec 32 := Scalar.addi v1111 v1110
  let v1118 : BitVec 32 := Scalar.select v1116 v1117 v1111
  let v1119 : BitVec 32 := Scalar.addi c24_i32_704 v1118
  ![v1119.toNat]
def k0_off114 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off115 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off116 (d0 : Dev nD) : Fin 2 → Nat :=
  let c24_i32_704 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_697 : BitVec 32 := 4#32
  let v1108 : BitVec 32 := Scalar.addi v2 c4_i32_697
  let c8_i32_698 : BitVec 32 := 8#32
  let c0_i32_699 : BitVec 32 := 0#32
  let v1109 : BitVec 1 := Scalar.cmpi .eq c8_i32_698 c0_i32_699
  let c1_i32_700 : BitVec 32 := 1#32
  let v1110 : BitVec 32 := Scalar.select v1109 c1_i32_700 c8_i32_698
  let v1111 : BitVec 32 := Scalar.remsi v1108 v1110
  let c0_i32_702 : BitVec 32 := 0#32
  let v1113 : BitVec 1 := Scalar.cmpi .slt v1111 c0_i32_702
  let c0_i32_703 : BitVec 32 := 0#32
  let v1114 : BitVec 1 := Scalar.cmpi .slt v1110 c0_i32_703
  let v1115 : BitVec 1 := Scalar.xori v1113 v1114
  let c0_i32_701 : BitVec 32 := 0#32
  let v1112 : BitVec 1 := Scalar.cmpi .ne v1111 c0_i32_701
  let v1116 : BitVec 1 := Scalar.andi v1115 v1112
  let v1117 : BitVec 32 := Scalar.addi v1111 v1110
  let v1118 : BitVec 32 := Scalar.select v1116 v1117 v1111
  let v1119 : BitVec 32 := Scalar.addi c24_i32_704 v1118
  let c8_i32_705 : BitVec 32 := 8#32
  let v1120 : BitVec 32 := Scalar.muli v1119 c8_i32_705
  let c0_i32_2554 : BitVec 32 := 0#32
  ![v1120.toNat, 0]
def k0_dev60 (d0 : Dev nD) : Nat :=
  let c0_i32_2551 : BitVec 32 := 0#32
  let c24_i32_704 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_697 : BitVec 32 := 4#32
  let v1108 : BitVec 32 := Scalar.addi v2 c4_i32_697
  let c8_i32_698 : BitVec 32 := 8#32
  let c0_i32_699 : BitVec 32 := 0#32
  let v1109 : BitVec 1 := Scalar.cmpi .eq c8_i32_698 c0_i32_699
  let c1_i32_700 : BitVec 32 := 1#32
  let v1110 : BitVec 32 := Scalar.select v1109 c1_i32_700 c8_i32_698
  let v1111 : BitVec 32 := Scalar.remsi v1108 v1110
  let c0_i32_702 : BitVec 32 := 0#32
  let v1113 : BitVec 1 := Scalar.cmpi .slt v1111 c0_i32_702
  let c0_i32_703 : BitVec 32 := 0#32
  let v1114 : BitVec 1 := Scalar.cmpi .slt v1110 c0_i32_703
  let v1115 : BitVec 1 := Scalar.xori v1113 v1114
  let c0_i32_701 : BitVec 32 := 0#32
  let v1112 : BitVec 1 := Scalar.cmpi .ne v1111 c0_i32_701
  let v1116 : BitVec 1 := Scalar.andi v1115 v1112
  let v1117 : BitVec 32 := Scalar.addi v1111 v1110
  let v1118 : BitVec 32 := Scalar.select v1116 v1117 v1111
  let v1119 : BitVec 32 := Scalar.addi c24_i32_704 v1118
  let c1_i32_2550 : BitVec 32 := 1#32
  let v3673 : BitVec 32 := Scalar.muli v1119 c1_i32_2550
  let v3674 : BitVec 32 := Scalar.addi c0_i32_2551 v3673
  v3674.toNat
def k0_cond30 (d0 : Dev nD) : BitVec 1 :=
  let c24_i32_714 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_707 : BitVec 32 := 5#32
  let v1124 : BitVec 32 := Scalar.addi v2 c5_i32_707
  let c8_i32_708 : BitVec 32 := 8#32
  let c0_i32_709 : BitVec 32 := 0#32
  let v1125 : BitVec 1 := Scalar.cmpi .eq c8_i32_708 c0_i32_709
  let c1_i32_710 : BitVec 32 := 1#32
  let v1126 : BitVec 32 := Scalar.select v1125 c1_i32_710 c8_i32_708
  let v1127 : BitVec 32 := Scalar.remsi v1124 v1126
  let c0_i32_712 : BitVec 32 := 0#32
  let v1129 : BitVec 1 := Scalar.cmpi .slt v1127 c0_i32_712
  let c0_i32_713 : BitVec 32 := 0#32
  let v1130 : BitVec 1 := Scalar.cmpi .slt v1126 c0_i32_713
  let v1131 : BitVec 1 := Scalar.xori v1129 v1130
  let c0_i32_711 : BitVec 32 := 0#32
  let v1128 : BitVec 1 := Scalar.cmpi .ne v1127 c0_i32_711
  let v1132 : BitVec 1 := Scalar.andi v1131 v1128
  let v1133 : BitVec 32 := Scalar.addi v1127 v1126
  let v1134 : BitVec 32 := Scalar.select v1132 v1133 v1127
  let v1135 : BitVec 32 := Scalar.addi c24_i32_714 v1134
  let v1137 : BitVec 1 := Scalar.cmpi .ne v1135 v2
  let v1138 : BitVec 32 := Scalar.extui v1137
  let c0_i32_716 : BitVec 32 := 0#32
  let v1139 : BitVec 1 := Scalar.cmpi .ne v1138 c0_i32_716
  v1139

def k0_off117 (d0 : Dev nD) : Fin 1 → Nat :=
  let c24_i32_714 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_707 : BitVec 32 := 5#32
  let v1124 : BitVec 32 := Scalar.addi v2 c5_i32_707
  let c8_i32_708 : BitVec 32 := 8#32
  let c0_i32_709 : BitVec 32 := 0#32
  let v1125 : BitVec 1 := Scalar.cmpi .eq c8_i32_708 c0_i32_709
  let c1_i32_710 : BitVec 32 := 1#32
  let v1126 : BitVec 32 := Scalar.select v1125 c1_i32_710 c8_i32_708
  let v1127 : BitVec 32 := Scalar.remsi v1124 v1126
  let c0_i32_712 : BitVec 32 := 0#32
  let v1129 : BitVec 1 := Scalar.cmpi .slt v1127 c0_i32_712
  let c0_i32_713 : BitVec 32 := 0#32
  let v1130 : BitVec 1 := Scalar.cmpi .slt v1126 c0_i32_713
  let v1131 : BitVec 1 := Scalar.xori v1129 v1130
  let c0_i32_711 : BitVec 32 := 0#32
  let v1128 : BitVec 1 := Scalar.cmpi .ne v1127 c0_i32_711
  let v1132 : BitVec 1 := Scalar.andi v1131 v1128
  let v1133 : BitVec 32 := Scalar.addi v1127 v1126
  let v1134 : BitVec 32 := Scalar.select v1132 v1133 v1127
  let v1135 : BitVec 32 := Scalar.addi c24_i32_714 v1134
  ![v1135.toNat]
def k0_off118 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off119 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off120 (d0 : Dev nD) : Fin 2 → Nat :=
  let c24_i32_714 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_707 : BitVec 32 := 5#32
  let v1124 : BitVec 32 := Scalar.addi v2 c5_i32_707
  let c8_i32_708 : BitVec 32 := 8#32
  let c0_i32_709 : BitVec 32 := 0#32
  let v1125 : BitVec 1 := Scalar.cmpi .eq c8_i32_708 c0_i32_709
  let c1_i32_710 : BitVec 32 := 1#32
  let v1126 : BitVec 32 := Scalar.select v1125 c1_i32_710 c8_i32_708
  let v1127 : BitVec 32 := Scalar.remsi v1124 v1126
  let c0_i32_712 : BitVec 32 := 0#32
  let v1129 : BitVec 1 := Scalar.cmpi .slt v1127 c0_i32_712
  let c0_i32_713 : BitVec 32 := 0#32
  let v1130 : BitVec 1 := Scalar.cmpi .slt v1126 c0_i32_713
  let v1131 : BitVec 1 := Scalar.xori v1129 v1130
  let c0_i32_711 : BitVec 32 := 0#32
  let v1128 : BitVec 1 := Scalar.cmpi .ne v1127 c0_i32_711
  let v1132 : BitVec 1 := Scalar.andi v1131 v1128
  let v1133 : BitVec 32 := Scalar.addi v1127 v1126
  let v1134 : BitVec 32 := Scalar.select v1132 v1133 v1127
  let v1135 : BitVec 32 := Scalar.addi c24_i32_714 v1134
  let c8_i32_715 : BitVec 32 := 8#32
  let v1136 : BitVec 32 := Scalar.muli v1135 c8_i32_715
  let c0_i32_2554 : BitVec 32 := 0#32
  ![v1136.toNat, 0]
def k0_dev61 (d0 : Dev nD) : Nat :=
  let c0_i32_2551 : BitVec 32 := 0#32
  let c24_i32_714 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_707 : BitVec 32 := 5#32
  let v1124 : BitVec 32 := Scalar.addi v2 c5_i32_707
  let c8_i32_708 : BitVec 32 := 8#32
  let c0_i32_709 : BitVec 32 := 0#32
  let v1125 : BitVec 1 := Scalar.cmpi .eq c8_i32_708 c0_i32_709
  let c1_i32_710 : BitVec 32 := 1#32
  let v1126 : BitVec 32 := Scalar.select v1125 c1_i32_710 c8_i32_708
  let v1127 : BitVec 32 := Scalar.remsi v1124 v1126
  let c0_i32_712 : BitVec 32 := 0#32
  let v1129 : BitVec 1 := Scalar.cmpi .slt v1127 c0_i32_712
  let c0_i32_713 : BitVec 32 := 0#32
  let v1130 : BitVec 1 := Scalar.cmpi .slt v1126 c0_i32_713
  let v1131 : BitVec 1 := Scalar.xori v1129 v1130
  let c0_i32_711 : BitVec 32 := 0#32
  let v1128 : BitVec 1 := Scalar.cmpi .ne v1127 c0_i32_711
  let v1132 : BitVec 1 := Scalar.andi v1131 v1128
  let v1133 : BitVec 32 := Scalar.addi v1127 v1126
  let v1134 : BitVec 32 := Scalar.select v1132 v1133 v1127
  let v1135 : BitVec 32 := Scalar.addi c24_i32_714 v1134
  let c1_i32_2550 : BitVec 32 := 1#32
  let v3673 : BitVec 32 := Scalar.muli v1135 c1_i32_2550
  let v3674 : BitVec 32 := Scalar.addi c0_i32_2551 v3673
  v3674.toNat
def k0_cond31 (d0 : Dev nD) : BitVec 1 :=
  let c24_i32_724 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_717 : BitVec 32 := 6#32
  let v1140 : BitVec 32 := Scalar.addi v2 c6_i32_717
  let c8_i32_718 : BitVec 32 := 8#32
  let c0_i32_719 : BitVec 32 := 0#32
  let v1141 : BitVec 1 := Scalar.cmpi .eq c8_i32_718 c0_i32_719
  let c1_i32_720 : BitVec 32 := 1#32
  let v1142 : BitVec 32 := Scalar.select v1141 c1_i32_720 c8_i32_718
  let v1143 : BitVec 32 := Scalar.remsi v1140 v1142
  let c0_i32_722 : BitVec 32 := 0#32
  let v1145 : BitVec 1 := Scalar.cmpi .slt v1143 c0_i32_722
  let c0_i32_723 : BitVec 32 := 0#32
  let v1146 : BitVec 1 := Scalar.cmpi .slt v1142 c0_i32_723
  let v1147 : BitVec 1 := Scalar.xori v1145 v1146
  let c0_i32_721 : BitVec 32 := 0#32
  let v1144 : BitVec 1 := Scalar.cmpi .ne v1143 c0_i32_721
  let v1148 : BitVec 1 := Scalar.andi v1147 v1144
  let v1149 : BitVec 32 := Scalar.addi v1143 v1142
  let v1150 : BitVec 32 := Scalar.select v1148 v1149 v1143
  let v1151 : BitVec 32 := Scalar.addi c24_i32_724 v1150
  let v1153 : BitVec 1 := Scalar.cmpi .ne v1151 v2
  let v1154 : BitVec 32 := Scalar.extui v1153
  let c0_i32_726 : BitVec 32 := 0#32
  let v1155 : BitVec 1 := Scalar.cmpi .ne v1154 c0_i32_726
  v1155

def k0_off121 (d0 : Dev nD) : Fin 1 → Nat :=
  let c24_i32_724 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_717 : BitVec 32 := 6#32
  let v1140 : BitVec 32 := Scalar.addi v2 c6_i32_717
  let c8_i32_718 : BitVec 32 := 8#32
  let c0_i32_719 : BitVec 32 := 0#32
  let v1141 : BitVec 1 := Scalar.cmpi .eq c8_i32_718 c0_i32_719
  let c1_i32_720 : BitVec 32 := 1#32
  let v1142 : BitVec 32 := Scalar.select v1141 c1_i32_720 c8_i32_718
  let v1143 : BitVec 32 := Scalar.remsi v1140 v1142
  let c0_i32_722 : BitVec 32 := 0#32
  let v1145 : BitVec 1 := Scalar.cmpi .slt v1143 c0_i32_722
  let c0_i32_723 : BitVec 32 := 0#32
  let v1146 : BitVec 1 := Scalar.cmpi .slt v1142 c0_i32_723
  let v1147 : BitVec 1 := Scalar.xori v1145 v1146
  let c0_i32_721 : BitVec 32 := 0#32
  let v1144 : BitVec 1 := Scalar.cmpi .ne v1143 c0_i32_721
  let v1148 : BitVec 1 := Scalar.andi v1147 v1144
  let v1149 : BitVec 32 := Scalar.addi v1143 v1142
  let v1150 : BitVec 32 := Scalar.select v1148 v1149 v1143
  let v1151 : BitVec 32 := Scalar.addi c24_i32_724 v1150
  ![v1151.toNat]
def k0_off122 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off123 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off124 (d0 : Dev nD) : Fin 2 → Nat :=
  let c24_i32_724 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_717 : BitVec 32 := 6#32
  let v1140 : BitVec 32 := Scalar.addi v2 c6_i32_717
  let c8_i32_718 : BitVec 32 := 8#32
  let c0_i32_719 : BitVec 32 := 0#32
  let v1141 : BitVec 1 := Scalar.cmpi .eq c8_i32_718 c0_i32_719
  let c1_i32_720 : BitVec 32 := 1#32
  let v1142 : BitVec 32 := Scalar.select v1141 c1_i32_720 c8_i32_718
  let v1143 : BitVec 32 := Scalar.remsi v1140 v1142
  let c0_i32_722 : BitVec 32 := 0#32
  let v1145 : BitVec 1 := Scalar.cmpi .slt v1143 c0_i32_722
  let c0_i32_723 : BitVec 32 := 0#32
  let v1146 : BitVec 1 := Scalar.cmpi .slt v1142 c0_i32_723
  let v1147 : BitVec 1 := Scalar.xori v1145 v1146
  let c0_i32_721 : BitVec 32 := 0#32
  let v1144 : BitVec 1 := Scalar.cmpi .ne v1143 c0_i32_721
  let v1148 : BitVec 1 := Scalar.andi v1147 v1144
  let v1149 : BitVec 32 := Scalar.addi v1143 v1142
  let v1150 : BitVec 32 := Scalar.select v1148 v1149 v1143
  let v1151 : BitVec 32 := Scalar.addi c24_i32_724 v1150
  let c8_i32_725 : BitVec 32 := 8#32
  let v1152 : BitVec 32 := Scalar.muli v1151 c8_i32_725
  let c0_i32_2554 : BitVec 32 := 0#32
  ![v1152.toNat, 0]
def k0_dev62 (d0 : Dev nD) : Nat :=
  let c0_i32_2551 : BitVec 32 := 0#32
  let c24_i32_724 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_717 : BitVec 32 := 6#32
  let v1140 : BitVec 32 := Scalar.addi v2 c6_i32_717
  let c8_i32_718 : BitVec 32 := 8#32
  let c0_i32_719 : BitVec 32 := 0#32
  let v1141 : BitVec 1 := Scalar.cmpi .eq c8_i32_718 c0_i32_719
  let c1_i32_720 : BitVec 32 := 1#32
  let v1142 : BitVec 32 := Scalar.select v1141 c1_i32_720 c8_i32_718
  let v1143 : BitVec 32 := Scalar.remsi v1140 v1142
  let c0_i32_722 : BitVec 32 := 0#32
  let v1145 : BitVec 1 := Scalar.cmpi .slt v1143 c0_i32_722
  let c0_i32_723 : BitVec 32 := 0#32
  let v1146 : BitVec 1 := Scalar.cmpi .slt v1142 c0_i32_723
  let v1147 : BitVec 1 := Scalar.xori v1145 v1146
  let c0_i32_721 : BitVec 32 := 0#32
  let v1144 : BitVec 1 := Scalar.cmpi .ne v1143 c0_i32_721
  let v1148 : BitVec 1 := Scalar.andi v1147 v1144
  let v1149 : BitVec 32 := Scalar.addi v1143 v1142
  let v1150 : BitVec 32 := Scalar.select v1148 v1149 v1143
  let v1151 : BitVec 32 := Scalar.addi c24_i32_724 v1150
  let c1_i32_2550 : BitVec 32 := 1#32
  let v3673 : BitVec 32 := Scalar.muli v1151 c1_i32_2550
  let v3674 : BitVec 32 := Scalar.addi c0_i32_2551 v3673
  v3674.toNat
def k0_cond32 (d0 : Dev nD) : BitVec 1 :=
  let c24_i32_734 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_727 : BitVec 32 := 7#32
  let v1156 : BitVec 32 := Scalar.addi v2 c7_i32_727
  let c8_i32_728 : BitVec 32 := 8#32
  let c0_i32_729 : BitVec 32 := 0#32
  let v1157 : BitVec 1 := Scalar.cmpi .eq c8_i32_728 c0_i32_729
  let c1_i32_730 : BitVec 32 := 1#32
  let v1158 : BitVec 32 := Scalar.select v1157 c1_i32_730 c8_i32_728
  let v1159 : BitVec 32 := Scalar.remsi v1156 v1158
  let c0_i32_732 : BitVec 32 := 0#32
  let v1161 : BitVec 1 := Scalar.cmpi .slt v1159 c0_i32_732
  let c0_i32_733 : BitVec 32 := 0#32
  let v1162 : BitVec 1 := Scalar.cmpi .slt v1158 c0_i32_733
  let v1163 : BitVec 1 := Scalar.xori v1161 v1162
  let c0_i32_731 : BitVec 32 := 0#32
  let v1160 : BitVec 1 := Scalar.cmpi .ne v1159 c0_i32_731
  let v1164 : BitVec 1 := Scalar.andi v1163 v1160
  let v1165 : BitVec 32 := Scalar.addi v1159 v1158
  let v1166 : BitVec 32 := Scalar.select v1164 v1165 v1159
  let v1167 : BitVec 32 := Scalar.addi c24_i32_734 v1166
  let v1169 : BitVec 1 := Scalar.cmpi .ne v1167 v2
  let v1170 : BitVec 32 := Scalar.extui v1169
  let c0_i32_736 : BitVec 32 := 0#32
  let v1171 : BitVec 1 := Scalar.cmpi .ne v1170 c0_i32_736
  v1171

def k0_off125 (d0 : Dev nD) : Fin 1 → Nat :=
  let c24_i32_734 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_727 : BitVec 32 := 7#32
  let v1156 : BitVec 32 := Scalar.addi v2 c7_i32_727
  let c8_i32_728 : BitVec 32 := 8#32
  let c0_i32_729 : BitVec 32 := 0#32
  let v1157 : BitVec 1 := Scalar.cmpi .eq c8_i32_728 c0_i32_729
  let c1_i32_730 : BitVec 32 := 1#32
  let v1158 : BitVec 32 := Scalar.select v1157 c1_i32_730 c8_i32_728
  let v1159 : BitVec 32 := Scalar.remsi v1156 v1158
  let c0_i32_732 : BitVec 32 := 0#32
  let v1161 : BitVec 1 := Scalar.cmpi .slt v1159 c0_i32_732
  let c0_i32_733 : BitVec 32 := 0#32
  let v1162 : BitVec 1 := Scalar.cmpi .slt v1158 c0_i32_733
  let v1163 : BitVec 1 := Scalar.xori v1161 v1162
  let c0_i32_731 : BitVec 32 := 0#32
  let v1160 : BitVec 1 := Scalar.cmpi .ne v1159 c0_i32_731
  let v1164 : BitVec 1 := Scalar.andi v1163 v1160
  let v1165 : BitVec 32 := Scalar.addi v1159 v1158
  let v1166 : BitVec 32 := Scalar.select v1164 v1165 v1159
  let v1167 : BitVec 32 := Scalar.addi c24_i32_734 v1166
  ![v1167.toNat]
def k0_off126 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off127 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2552 : BitVec 32 := 0#32
  let c0_i32_2553 : BitVec 32 := 0#32
  ![v2.toNat, 0, 0]
def k0_off128 (d0 : Dev nD) : Fin 2 → Nat :=
  let c24_i32_734 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_727 : BitVec 32 := 7#32
  let v1156 : BitVec 32 := Scalar.addi v2 c7_i32_727
  let c8_i32_728 : BitVec 32 := 8#32
  let c0_i32_729 : BitVec 32 := 0#32
  let v1157 : BitVec 1 := Scalar.cmpi .eq c8_i32_728 c0_i32_729
  let c1_i32_730 : BitVec 32 := 1#32
  let v1158 : BitVec 32 := Scalar.select v1157 c1_i32_730 c8_i32_728
  let v1159 : BitVec 32 := Scalar.remsi v1156 v1158
  let c0_i32_732 : BitVec 32 := 0#32
  let v1161 : BitVec 1 := Scalar.cmpi .slt v1159 c0_i32_732
  let c0_i32_733 : BitVec 32 := 0#32
  let v1162 : BitVec 1 := Scalar.cmpi .slt v1158 c0_i32_733
  let v1163 : BitVec 1 := Scalar.xori v1161 v1162
  let c0_i32_731 : BitVec 32 := 0#32
  let v1160 : BitVec 1 := Scalar.cmpi .ne v1159 c0_i32_731
  let v1164 : BitVec 1 := Scalar.andi v1163 v1160
  let v1165 : BitVec 32 := Scalar.addi v1159 v1158
  let v1166 : BitVec 32 := Scalar.select v1164 v1165 v1159
  let v1167 : BitVec 32 := Scalar.addi c24_i32_734 v1166
  let c8_i32_735 : BitVec 32 := 8#32
  let v1168 : BitVec 32 := Scalar.muli v1167 c8_i32_735
  let c0_i32_2554 : BitVec 32 := 0#32
  ![v1168.toNat, 0]
def k0_dev63 (d0 : Dev nD) : Nat :=
  let c0_i32_2551 : BitVec 32 := 0#32
  let c24_i32_734 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_727 : BitVec 32 := 7#32
  let v1156 : BitVec 32 := Scalar.addi v2 c7_i32_727
  let c8_i32_728 : BitVec 32 := 8#32
  let c0_i32_729 : BitVec 32 := 0#32
  let v1157 : BitVec 1 := Scalar.cmpi .eq c8_i32_728 c0_i32_729
  let c1_i32_730 : BitVec 32 := 1#32
  let v1158 : BitVec 32 := Scalar.select v1157 c1_i32_730 c8_i32_728
  let v1159 : BitVec 32 := Scalar.remsi v1156 v1158
  let c0_i32_732 : BitVec 32 := 0#32
  let v1161 : BitVec 1 := Scalar.cmpi .slt v1159 c0_i32_732
  let c0_i32_733 : BitVec 32 := 0#32
  let v1162 : BitVec 1 := Scalar.cmpi .slt v1158 c0_i32_733
  let v1163 : BitVec 1 := Scalar.xori v1161 v1162
  let c0_i32_731 : BitVec 32 := 0#32
  let v1160 : BitVec 1 := Scalar.cmpi .ne v1159 c0_i32_731
  let v1164 : BitVec 1 := Scalar.andi v1163 v1160
  let v1165 : BitVec 32 := Scalar.addi v1159 v1158
  let v1166 : BitVec 32 := Scalar.select v1164 v1165 v1159
  let v1167 : BitVec 32 := Scalar.addi c24_i32_734 v1166
  let c1_i32_2550 : BitVec 32 := 1#32
  let v3673 : BitVec 32 := Scalar.muli v1167 c1_i32_2550
  let v3674 : BitVec 32 := Scalar.addi c0_i32_2551 v3673
  v3674.toNat
def k0_off129 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_737 : BitVec 32 := 8#32
  let v1172 : BitVec 32 := Scalar.muli v2 c8_i32_737
  let v1173 : Index := Scalar.indexCast v1172
  let c0_738 : Index := 0#32
  ![v1173.toNat, 0]
def k0_off130 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1176 : Index := Scalar.indexCast v2
  let c0_739 : Index := 0#32
  let c0_740 : Index := 0#32
  ![v1176.toNat, 0, 0]
def k0_off131 (d0 : Dev nD) (c1_i32_741 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1180 : BitVec 32 := Scalar.addi v2 c1_i32_741
  let c32_i32_742 : BitVec 32 := 32#32
  let c0_i32_743 : BitVec 32 := 0#32
  let v1181 : BitVec 1 := Scalar.cmpi .eq c32_i32_742 c0_i32_743
  let c1_i32_744 : BitVec 32 := 1#32
  let v1182 : BitVec 32 := Scalar.select v1181 c1_i32_744 c32_i32_742
  let v1183 : BitVec 32 := Scalar.remsi v1180 v1182
  let c0_i32_746 : BitVec 32 := 0#32
  let v1185 : BitVec 1 := Scalar.cmpi .slt v1183 c0_i32_746
  let c0_i32_747 : BitVec 32 := 0#32
  let v1186 : BitVec 1 := Scalar.cmpi .slt v1182 c0_i32_747
  let v1187 : BitVec 1 := Scalar.xori v1185 v1186
  let c0_i32_745 : BitVec 32 := 0#32
  let v1184 : BitVec 1 := Scalar.cmpi .ne v1183 c0_i32_745
  let v1188 : BitVec 1 := Scalar.andi v1187 v1184
  let v1189 : BitVec 32 := Scalar.addi v1183 v1182
  let v1190 : BitVec 32 := Scalar.select v1188 v1189 v1183
  ![v1190.toNat]
def k0_off132 (d0 : Dev nD) (c1_i32_741 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1180 : BitVec 32 := Scalar.addi v2 c1_i32_741
  let c32_i32_742 : BitVec 32 := 32#32
  let c0_i32_743 : BitVec 32 := 0#32
  let v1181 : BitVec 1 := Scalar.cmpi .eq c32_i32_742 c0_i32_743
  let c1_i32_744 : BitVec 32 := 1#32
  let v1182 : BitVec 32 := Scalar.select v1181 c1_i32_744 c32_i32_742
  let v1183 : BitVec 32 := Scalar.remsi v1180 v1182
  let c0_i32_746 : BitVec 32 := 0#32
  let v1185 : BitVec 1 := Scalar.cmpi .slt v1183 c0_i32_746
  let c0_i32_747 : BitVec 32 := 0#32
  let v1186 : BitVec 1 := Scalar.cmpi .slt v1182 c0_i32_747
  let v1187 : BitVec 1 := Scalar.xori v1185 v1186
  let c0_i32_745 : BitVec 32 := 0#32
  let v1184 : BitVec 1 := Scalar.cmpi .ne v1183 c0_i32_745
  let v1188 : BitVec 1 := Scalar.andi v1187 v1184
  let v1189 : BitVec 32 := Scalar.addi v1183 v1182
  let v1190 : BitVec 32 := Scalar.select v1188 v1189 v1183
  let c0_i32_751 : BitVec 32 := 0#32
  let c0_i32_752 : BitVec 32 := 0#32
  ![v1190.toNat, 0, 0]
def k0_off133 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off134 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1189 : BitVec 32 := 8#32
  let v1759 : BitVec 32 := Scalar.muli v2 c8_i32_1189
  let c0_i32_1192 : BitVec 32 := 0#32
  ![v1759.toNat, 0]
def k0_dev64 (d0 : Dev nD) : Nat :=
  let c0_i32_1191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1181 : BitVec 32 := 1#32
  let v1747 : BitVec 32 := Scalar.addi v2 c1_i32_1181
  let c32_i32_1182 : BitVec 32 := 32#32
  let c0_i32_1183 : BitVec 32 := 0#32
  let v1748 : BitVec 1 := Scalar.cmpi .eq c32_i32_1182 c0_i32_1183
  let c1_i32_1184 : BitVec 32 := 1#32
  let v1749 : BitVec 32 := Scalar.select v1748 c1_i32_1184 c32_i32_1182
  let v1750 : BitVec 32 := Scalar.remsi v1747 v1749
  let c0_i32_1186 : BitVec 32 := 0#32
  let v1752 : BitVec 1 := Scalar.cmpi .slt v1750 c0_i32_1186
  let c0_i32_1187 : BitVec 32 := 0#32
  let v1753 : BitVec 1 := Scalar.cmpi .slt v1749 c0_i32_1187
  let v1754 : BitVec 1 := Scalar.xori v1752 v1753
  let c0_i32_1185 : BitVec 32 := 0#32
  let v1751 : BitVec 1 := Scalar.cmpi .ne v1750 c0_i32_1185
  let v1755 : BitVec 1 := Scalar.andi v1754 v1751
  let v1756 : BitVec 32 := Scalar.addi v1750 v1749
  let v1757 : BitVec 32 := Scalar.select v1755 v1756 v1750
  let c1_i32_1190 : BitVec 32 := 1#32
  let v1760 : BitVec 32 := Scalar.muli v1757 c1_i32_1190
  let v1761 : BitVec 32 := Scalar.addi c0_i32_1191 v1760
  v1761.toNat
def k0_dev65 (d0 : Dev nD) : Nat :=
  let c0_i32_1204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1194 : BitVec 32 := 2#32
  let v1768 : BitVec 32 := Scalar.addi v2 c2_i32_1194
  let c32_i32_1195 : BitVec 32 := 32#32
  let c0_i32_1196 : BitVec 32 := 0#32
  let v1769 : BitVec 1 := Scalar.cmpi .eq c32_i32_1195 c0_i32_1196
  let c1_i32_1197 : BitVec 32 := 1#32
  let v1770 : BitVec 32 := Scalar.select v1769 c1_i32_1197 c32_i32_1195
  let v1771 : BitVec 32 := Scalar.remsi v1768 v1770
  let c0_i32_1199 : BitVec 32 := 0#32
  let v1773 : BitVec 1 := Scalar.cmpi .slt v1771 c0_i32_1199
  let c0_i32_1200 : BitVec 32 := 0#32
  let v1774 : BitVec 1 := Scalar.cmpi .slt v1770 c0_i32_1200
  let v1775 : BitVec 1 := Scalar.xori v1773 v1774
  let c0_i32_1198 : BitVec 32 := 0#32
  let v1772 : BitVec 1 := Scalar.cmpi .ne v1771 c0_i32_1198
  let v1776 : BitVec 1 := Scalar.andi v1775 v1772
  let v1777 : BitVec 32 := Scalar.addi v1771 v1770
  let v1778 : BitVec 32 := Scalar.select v1776 v1777 v1771
  let c1_i32_1203 : BitVec 32 := 1#32
  let v1781 : BitVec 32 := Scalar.muli v1778 c1_i32_1203
  let v1782 : BitVec 32 := Scalar.addi c0_i32_1204 v1781
  v1782.toNat
def k0_dev66 (d0 : Dev nD) : Nat :=
  let c0_i32_1217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1207 : BitVec 32 := 3#32
  let v1789 : BitVec 32 := Scalar.addi v2 c3_i32_1207
  let c32_i32_1208 : BitVec 32 := 32#32
  let c0_i32_1209 : BitVec 32 := 0#32
  let v1790 : BitVec 1 := Scalar.cmpi .eq c32_i32_1208 c0_i32_1209
  let c1_i32_1210 : BitVec 32 := 1#32
  let v1791 : BitVec 32 := Scalar.select v1790 c1_i32_1210 c32_i32_1208
  let v1792 : BitVec 32 := Scalar.remsi v1789 v1791
  let c0_i32_1212 : BitVec 32 := 0#32
  let v1794 : BitVec 1 := Scalar.cmpi .slt v1792 c0_i32_1212
  let c0_i32_1213 : BitVec 32 := 0#32
  let v1795 : BitVec 1 := Scalar.cmpi .slt v1791 c0_i32_1213
  let v1796 : BitVec 1 := Scalar.xori v1794 v1795
  let c0_i32_1211 : BitVec 32 := 0#32
  let v1793 : BitVec 1 := Scalar.cmpi .ne v1792 c0_i32_1211
  let v1797 : BitVec 1 := Scalar.andi v1796 v1793
  let v1798 : BitVec 32 := Scalar.addi v1792 v1791
  let v1799 : BitVec 32 := Scalar.select v1797 v1798 v1792
  let c1_i32_1216 : BitVec 32 := 1#32
  let v1802 : BitVec 32 := Scalar.muli v1799 c1_i32_1216
  let v1803 : BitVec 32 := Scalar.addi c0_i32_1217 v1802
  v1803.toNat
def k0_dev67 (d0 : Dev nD) : Nat :=
  let c0_i32_1230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1220 : BitVec 32 := 4#32
  let v1810 : BitVec 32 := Scalar.addi v2 c4_i32_1220
  let c32_i32_1221 : BitVec 32 := 32#32
  let c0_i32_1222 : BitVec 32 := 0#32
  let v1811 : BitVec 1 := Scalar.cmpi .eq c32_i32_1221 c0_i32_1222
  let c1_i32_1223 : BitVec 32 := 1#32
  let v1812 : BitVec 32 := Scalar.select v1811 c1_i32_1223 c32_i32_1221
  let v1813 : BitVec 32 := Scalar.remsi v1810 v1812
  let c0_i32_1225 : BitVec 32 := 0#32
  let v1815 : BitVec 1 := Scalar.cmpi .slt v1813 c0_i32_1225
  let c0_i32_1226 : BitVec 32 := 0#32
  let v1816 : BitVec 1 := Scalar.cmpi .slt v1812 c0_i32_1226
  let v1817 : BitVec 1 := Scalar.xori v1815 v1816
  let c0_i32_1224 : BitVec 32 := 0#32
  let v1814 : BitVec 1 := Scalar.cmpi .ne v1813 c0_i32_1224
  let v1818 : BitVec 1 := Scalar.andi v1817 v1814
  let v1819 : BitVec 32 := Scalar.addi v1813 v1812
  let v1820 : BitVec 32 := Scalar.select v1818 v1819 v1813
  let c1_i32_1229 : BitVec 32 := 1#32
  let v1823 : BitVec 32 := Scalar.muli v1820 c1_i32_1229
  let v1824 : BitVec 32 := Scalar.addi c0_i32_1230 v1823
  v1824.toNat
def k0_dev68 (d0 : Dev nD) : Nat :=
  let c0_i32_1243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1233 : BitVec 32 := 5#32
  let v1831 : BitVec 32 := Scalar.addi v2 c5_i32_1233
  let c32_i32_1234 : BitVec 32 := 32#32
  let c0_i32_1235 : BitVec 32 := 0#32
  let v1832 : BitVec 1 := Scalar.cmpi .eq c32_i32_1234 c0_i32_1235
  let c1_i32_1236 : BitVec 32 := 1#32
  let v1833 : BitVec 32 := Scalar.select v1832 c1_i32_1236 c32_i32_1234
  let v1834 : BitVec 32 := Scalar.remsi v1831 v1833
  let c0_i32_1238 : BitVec 32 := 0#32
  let v1836 : BitVec 1 := Scalar.cmpi .slt v1834 c0_i32_1238
  let c0_i32_1239 : BitVec 32 := 0#32
  let v1837 : BitVec 1 := Scalar.cmpi .slt v1833 c0_i32_1239
  let v1838 : BitVec 1 := Scalar.xori v1836 v1837
  let c0_i32_1237 : BitVec 32 := 0#32
  let v1835 : BitVec 1 := Scalar.cmpi .ne v1834 c0_i32_1237
  let v1839 : BitVec 1 := Scalar.andi v1838 v1835
  let v1840 : BitVec 32 := Scalar.addi v1834 v1833
  let v1841 : BitVec 32 := Scalar.select v1839 v1840 v1834
  let c1_i32_1242 : BitVec 32 := 1#32
  let v1844 : BitVec 32 := Scalar.muli v1841 c1_i32_1242
  let v1845 : BitVec 32 := Scalar.addi c0_i32_1243 v1844
  v1845.toNat
def k0_dev69 (d0 : Dev nD) : Nat :=
  let c0_i32_1256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1246 : BitVec 32 := 6#32
  let v1852 : BitVec 32 := Scalar.addi v2 c6_i32_1246
  let c32_i32_1247 : BitVec 32 := 32#32
  let c0_i32_1248 : BitVec 32 := 0#32
  let v1853 : BitVec 1 := Scalar.cmpi .eq c32_i32_1247 c0_i32_1248
  let c1_i32_1249 : BitVec 32 := 1#32
  let v1854 : BitVec 32 := Scalar.select v1853 c1_i32_1249 c32_i32_1247
  let v1855 : BitVec 32 := Scalar.remsi v1852 v1854
  let c0_i32_1251 : BitVec 32 := 0#32
  let v1857 : BitVec 1 := Scalar.cmpi .slt v1855 c0_i32_1251
  let c0_i32_1252 : BitVec 32 := 0#32
  let v1858 : BitVec 1 := Scalar.cmpi .slt v1854 c0_i32_1252
  let v1859 : BitVec 1 := Scalar.xori v1857 v1858
  let c0_i32_1250 : BitVec 32 := 0#32
  let v1856 : BitVec 1 := Scalar.cmpi .ne v1855 c0_i32_1250
  let v1860 : BitVec 1 := Scalar.andi v1859 v1856
  let v1861 : BitVec 32 := Scalar.addi v1855 v1854
  let v1862 : BitVec 32 := Scalar.select v1860 v1861 v1855
  let c1_i32_1255 : BitVec 32 := 1#32
  let v1865 : BitVec 32 := Scalar.muli v1862 c1_i32_1255
  let v1866 : BitVec 32 := Scalar.addi c0_i32_1256 v1865
  v1866.toNat
def k0_dev70 (d0 : Dev nD) : Nat :=
  let c0_i32_1269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1259 : BitVec 32 := 7#32
  let v1873 : BitVec 32 := Scalar.addi v2 c7_i32_1259
  let c32_i32_1260 : BitVec 32 := 32#32
  let c0_i32_1261 : BitVec 32 := 0#32
  let v1874 : BitVec 1 := Scalar.cmpi .eq c32_i32_1260 c0_i32_1261
  let c1_i32_1262 : BitVec 32 := 1#32
  let v1875 : BitVec 32 := Scalar.select v1874 c1_i32_1262 c32_i32_1260
  let v1876 : BitVec 32 := Scalar.remsi v1873 v1875
  let c0_i32_1264 : BitVec 32 := 0#32
  let v1878 : BitVec 1 := Scalar.cmpi .slt v1876 c0_i32_1264
  let c0_i32_1265 : BitVec 32 := 0#32
  let v1879 : BitVec 1 := Scalar.cmpi .slt v1875 c0_i32_1265
  let v1880 : BitVec 1 := Scalar.xori v1878 v1879
  let c0_i32_1263 : BitVec 32 := 0#32
  let v1877 : BitVec 1 := Scalar.cmpi .ne v1876 c0_i32_1263
  let v1881 : BitVec 1 := Scalar.andi v1880 v1877
  let v1882 : BitVec 32 := Scalar.addi v1876 v1875
  let v1883 : BitVec 32 := Scalar.select v1881 v1882 v1876
  let c1_i32_1268 : BitVec 32 := 1#32
  let v1886 : BitVec 32 := Scalar.muli v1883 c1_i32_1268
  let v1887 : BitVec 32 := Scalar.addi c0_i32_1269 v1886
  v1887.toNat
def k0_dev71 (d0 : Dev nD) : Nat :=
  let c0_i32_1282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1272 : BitVec 32 := 8#32
  let v1894 : BitVec 32 := Scalar.addi v2 c8_i32_1272
  let c32_i32_1273 : BitVec 32 := 32#32
  let c0_i32_1274 : BitVec 32 := 0#32
  let v1895 : BitVec 1 := Scalar.cmpi .eq c32_i32_1273 c0_i32_1274
  let c1_i32_1275 : BitVec 32 := 1#32
  let v1896 : BitVec 32 := Scalar.select v1895 c1_i32_1275 c32_i32_1273
  let v1897 : BitVec 32 := Scalar.remsi v1894 v1896
  let c0_i32_1277 : BitVec 32 := 0#32
  let v1899 : BitVec 1 := Scalar.cmpi .slt v1897 c0_i32_1277
  let c0_i32_1278 : BitVec 32 := 0#32
  let v1900 : BitVec 1 := Scalar.cmpi .slt v1896 c0_i32_1278
  let v1901 : BitVec 1 := Scalar.xori v1899 v1900
  let c0_i32_1276 : BitVec 32 := 0#32
  let v1898 : BitVec 1 := Scalar.cmpi .ne v1897 c0_i32_1276
  let v1902 : BitVec 1 := Scalar.andi v1901 v1898
  let v1903 : BitVec 32 := Scalar.addi v1897 v1896
  let v1904 : BitVec 32 := Scalar.select v1902 v1903 v1897
  let c1_i32_1281 : BitVec 32 := 1#32
  let v1907 : BitVec 32 := Scalar.muli v1904 c1_i32_1281
  let v1908 : BitVec 32 := Scalar.addi c0_i32_1282 v1907
  v1908.toNat
def k0_dev72 (d0 : Dev nD) : Nat :=
  let c0_i32_1295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1285 : BitVec 32 := 9#32
  let v1915 : BitVec 32 := Scalar.addi v2 c9_i32_1285
  let c32_i32_1286 : BitVec 32 := 32#32
  let c0_i32_1287 : BitVec 32 := 0#32
  let v1916 : BitVec 1 := Scalar.cmpi .eq c32_i32_1286 c0_i32_1287
  let c1_i32_1288 : BitVec 32 := 1#32
  let v1917 : BitVec 32 := Scalar.select v1916 c1_i32_1288 c32_i32_1286
  let v1918 : BitVec 32 := Scalar.remsi v1915 v1917
  let c0_i32_1290 : BitVec 32 := 0#32
  let v1920 : BitVec 1 := Scalar.cmpi .slt v1918 c0_i32_1290
  let c0_i32_1291 : BitVec 32 := 0#32
  let v1921 : BitVec 1 := Scalar.cmpi .slt v1917 c0_i32_1291
  let v1922 : BitVec 1 := Scalar.xori v1920 v1921
  let c0_i32_1289 : BitVec 32 := 0#32
  let v1919 : BitVec 1 := Scalar.cmpi .ne v1918 c0_i32_1289
  let v1923 : BitVec 1 := Scalar.andi v1922 v1919
  let v1924 : BitVec 32 := Scalar.addi v1918 v1917
  let v1925 : BitVec 32 := Scalar.select v1923 v1924 v1918
  let c1_i32_1294 : BitVec 32 := 1#32
  let v1928 : BitVec 32 := Scalar.muli v1925 c1_i32_1294
  let v1929 : BitVec 32 := Scalar.addi c0_i32_1295 v1928
  v1929.toNat
def k0_dev73 (d0 : Dev nD) : Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1298 : BitVec 32 := 10#32
  let v1936 : BitVec 32 := Scalar.addi v2 c10_i32_1298
  let c32_i32_1299 : BitVec 32 := 32#32
  let c0_i32_1300 : BitVec 32 := 0#32
  let v1937 : BitVec 1 := Scalar.cmpi .eq c32_i32_1299 c0_i32_1300
  let c1_i32_1301 : BitVec 32 := 1#32
  let v1938 : BitVec 32 := Scalar.select v1937 c1_i32_1301 c32_i32_1299
  let v1939 : BitVec 32 := Scalar.remsi v1936 v1938
  let c0_i32_1303 : BitVec 32 := 0#32
  let v1941 : BitVec 1 := Scalar.cmpi .slt v1939 c0_i32_1303
  let c0_i32_1304 : BitVec 32 := 0#32
  let v1942 : BitVec 1 := Scalar.cmpi .slt v1938 c0_i32_1304
  let v1943 : BitVec 1 := Scalar.xori v1941 v1942
  let c0_i32_1302 : BitVec 32 := 0#32
  let v1940 : BitVec 1 := Scalar.cmpi .ne v1939 c0_i32_1302
  let v1944 : BitVec 1 := Scalar.andi v1943 v1940
  let v1945 : BitVec 32 := Scalar.addi v1939 v1938
  let v1946 : BitVec 32 := Scalar.select v1944 v1945 v1939
  let c1_i32_1307 : BitVec 32 := 1#32
  let v1949 : BitVec 32 := Scalar.muli v1946 c1_i32_1307
  let v1950 : BitVec 32 := Scalar.addi c0_i32_1308 v1949
  v1950.toNat
def k0_dev74 (d0 : Dev nD) : Nat :=
  let c0_i32_1321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1311 : BitVec 32 := 11#32
  let v1957 : BitVec 32 := Scalar.addi v2 c11_i32_1311
  let c32_i32_1312 : BitVec 32 := 32#32
  let c0_i32_1313 : BitVec 32 := 0#32
  let v1958 : BitVec 1 := Scalar.cmpi .eq c32_i32_1312 c0_i32_1313
  let c1_i32_1314 : BitVec 32 := 1#32
  let v1959 : BitVec 32 := Scalar.select v1958 c1_i32_1314 c32_i32_1312
  let v1960 : BitVec 32 := Scalar.remsi v1957 v1959
  let c0_i32_1316 : BitVec 32 := 0#32
  let v1962 : BitVec 1 := Scalar.cmpi .slt v1960 c0_i32_1316
  let c0_i32_1317 : BitVec 32 := 0#32
  let v1963 : BitVec 1 := Scalar.cmpi .slt v1959 c0_i32_1317
  let v1964 : BitVec 1 := Scalar.xori v1962 v1963
  let c0_i32_1315 : BitVec 32 := 0#32
  let v1961 : BitVec 1 := Scalar.cmpi .ne v1960 c0_i32_1315
  let v1965 : BitVec 1 := Scalar.andi v1964 v1961
  let v1966 : BitVec 32 := Scalar.addi v1960 v1959
  let v1967 : BitVec 32 := Scalar.select v1965 v1966 v1960
  let c1_i32_1320 : BitVec 32 := 1#32
  let v1970 : BitVec 32 := Scalar.muli v1967 c1_i32_1320
  let v1971 : BitVec 32 := Scalar.addi c0_i32_1321 v1970
  v1971.toNat
def k0_dev75 (d0 : Dev nD) : Nat :=
  let c0_i32_1334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1324 : BitVec 32 := 12#32
  let v1978 : BitVec 32 := Scalar.addi v2 c12_i32_1324
  let c32_i32_1325 : BitVec 32 := 32#32
  let c0_i32_1326 : BitVec 32 := 0#32
  let v1979 : BitVec 1 := Scalar.cmpi .eq c32_i32_1325 c0_i32_1326
  let c1_i32_1327 : BitVec 32 := 1#32
  let v1980 : BitVec 32 := Scalar.select v1979 c1_i32_1327 c32_i32_1325
  let v1981 : BitVec 32 := Scalar.remsi v1978 v1980
  let c0_i32_1329 : BitVec 32 := 0#32
  let v1983 : BitVec 1 := Scalar.cmpi .slt v1981 c0_i32_1329
  let c0_i32_1330 : BitVec 32 := 0#32
  let v1984 : BitVec 1 := Scalar.cmpi .slt v1980 c0_i32_1330
  let v1985 : BitVec 1 := Scalar.xori v1983 v1984
  let c0_i32_1328 : BitVec 32 := 0#32
  let v1982 : BitVec 1 := Scalar.cmpi .ne v1981 c0_i32_1328
  let v1986 : BitVec 1 := Scalar.andi v1985 v1982
  let v1987 : BitVec 32 := Scalar.addi v1981 v1980
  let v1988 : BitVec 32 := Scalar.select v1986 v1987 v1981
  let c1_i32_1333 : BitVec 32 := 1#32
  let v1991 : BitVec 32 := Scalar.muli v1988 c1_i32_1333
  let v1992 : BitVec 32 := Scalar.addi c0_i32_1334 v1991
  v1992.toNat
def k0_dev76 (d0 : Dev nD) : Nat :=
  let c0_i32_1347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1337 : BitVec 32 := 13#32
  let v1999 : BitVec 32 := Scalar.addi v2 c13_i32_1337
  let c32_i32_1338 : BitVec 32 := 32#32
  let c0_i32_1339 : BitVec 32 := 0#32
  let v2000 : BitVec 1 := Scalar.cmpi .eq c32_i32_1338 c0_i32_1339
  let c1_i32_1340 : BitVec 32 := 1#32
  let v2001 : BitVec 32 := Scalar.select v2000 c1_i32_1340 c32_i32_1338
  let v2002 : BitVec 32 := Scalar.remsi v1999 v2001
  let c0_i32_1342 : BitVec 32 := 0#32
  let v2004 : BitVec 1 := Scalar.cmpi .slt v2002 c0_i32_1342
  let c0_i32_1343 : BitVec 32 := 0#32
  let v2005 : BitVec 1 := Scalar.cmpi .slt v2001 c0_i32_1343
  let v2006 : BitVec 1 := Scalar.xori v2004 v2005
  let c0_i32_1341 : BitVec 32 := 0#32
  let v2003 : BitVec 1 := Scalar.cmpi .ne v2002 c0_i32_1341
  let v2007 : BitVec 1 := Scalar.andi v2006 v2003
  let v2008 : BitVec 32 := Scalar.addi v2002 v2001
  let v2009 : BitVec 32 := Scalar.select v2007 v2008 v2002
  let c1_i32_1346 : BitVec 32 := 1#32
  let v2012 : BitVec 32 := Scalar.muli v2009 c1_i32_1346
  let v2013 : BitVec 32 := Scalar.addi c0_i32_1347 v2012
  v2013.toNat
def k0_dev77 (d0 : Dev nD) : Nat :=
  let c0_i32_1360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1350 : BitVec 32 := 14#32
  let v2020 : BitVec 32 := Scalar.addi v2 c14_i32_1350
  let c32_i32_1351 : BitVec 32 := 32#32
  let c0_i32_1352 : BitVec 32 := 0#32
  let v2021 : BitVec 1 := Scalar.cmpi .eq c32_i32_1351 c0_i32_1352
  let c1_i32_1353 : BitVec 32 := 1#32
  let v2022 : BitVec 32 := Scalar.select v2021 c1_i32_1353 c32_i32_1351
  let v2023 : BitVec 32 := Scalar.remsi v2020 v2022
  let c0_i32_1355 : BitVec 32 := 0#32
  let v2025 : BitVec 1 := Scalar.cmpi .slt v2023 c0_i32_1355
  let c0_i32_1356 : BitVec 32 := 0#32
  let v2026 : BitVec 1 := Scalar.cmpi .slt v2022 c0_i32_1356
  let v2027 : BitVec 1 := Scalar.xori v2025 v2026
  let c0_i32_1354 : BitVec 32 := 0#32
  let v2024 : BitVec 1 := Scalar.cmpi .ne v2023 c0_i32_1354
  let v2028 : BitVec 1 := Scalar.andi v2027 v2024
  let v2029 : BitVec 32 := Scalar.addi v2023 v2022
  let v2030 : BitVec 32 := Scalar.select v2028 v2029 v2023
  let c1_i32_1359 : BitVec 32 := 1#32
  let v2033 : BitVec 32 := Scalar.muli v2030 c1_i32_1359
  let v2034 : BitVec 32 := Scalar.addi c0_i32_1360 v2033
  v2034.toNat
def k0_dev78 (d0 : Dev nD) : Nat :=
  let c0_i32_1373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1363 : BitVec 32 := 15#32
  let v2041 : BitVec 32 := Scalar.addi v2 c15_i32_1363
  let c32_i32_1364 : BitVec 32 := 32#32
  let c0_i32_1365 : BitVec 32 := 0#32
  let v2042 : BitVec 1 := Scalar.cmpi .eq c32_i32_1364 c0_i32_1365
  let c1_i32_1366 : BitVec 32 := 1#32
  let v2043 : BitVec 32 := Scalar.select v2042 c1_i32_1366 c32_i32_1364
  let v2044 : BitVec 32 := Scalar.remsi v2041 v2043
  let c0_i32_1368 : BitVec 32 := 0#32
  let v2046 : BitVec 1 := Scalar.cmpi .slt v2044 c0_i32_1368
  let c0_i32_1369 : BitVec 32 := 0#32
  let v2047 : BitVec 1 := Scalar.cmpi .slt v2043 c0_i32_1369
  let v2048 : BitVec 1 := Scalar.xori v2046 v2047
  let c0_i32_1367 : BitVec 32 := 0#32
  let v2045 : BitVec 1 := Scalar.cmpi .ne v2044 c0_i32_1367
  let v2049 : BitVec 1 := Scalar.andi v2048 v2045
  let v2050 : BitVec 32 := Scalar.addi v2044 v2043
  let v2051 : BitVec 32 := Scalar.select v2049 v2050 v2044
  let c1_i32_1372 : BitVec 32 := 1#32
  let v2054 : BitVec 32 := Scalar.muli v2051 c1_i32_1372
  let v2055 : BitVec 32 := Scalar.addi c0_i32_1373 v2054
  v2055.toNat
def k0_dev79 (d0 : Dev nD) : Nat :=
  let c0_i32_1386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1376 : BitVec 32 := 16#32
  let v2062 : BitVec 32 := Scalar.addi v2 c16_i32_1376
  let c32_i32_1377 : BitVec 32 := 32#32
  let c0_i32_1378 : BitVec 32 := 0#32
  let v2063 : BitVec 1 := Scalar.cmpi .eq c32_i32_1377 c0_i32_1378
  let c1_i32_1379 : BitVec 32 := 1#32
  let v2064 : BitVec 32 := Scalar.select v2063 c1_i32_1379 c32_i32_1377
  let v2065 : BitVec 32 := Scalar.remsi v2062 v2064
  let c0_i32_1381 : BitVec 32 := 0#32
  let v2067 : BitVec 1 := Scalar.cmpi .slt v2065 c0_i32_1381
  let c0_i32_1382 : BitVec 32 := 0#32
  let v2068 : BitVec 1 := Scalar.cmpi .slt v2064 c0_i32_1382
  let v2069 : BitVec 1 := Scalar.xori v2067 v2068
  let c0_i32_1380 : BitVec 32 := 0#32
  let v2066 : BitVec 1 := Scalar.cmpi .ne v2065 c0_i32_1380
  let v2070 : BitVec 1 := Scalar.andi v2069 v2066
  let v2071 : BitVec 32 := Scalar.addi v2065 v2064
  let v2072 : BitVec 32 := Scalar.select v2070 v2071 v2065
  let c1_i32_1385 : BitVec 32 := 1#32
  let v2075 : BitVec 32 := Scalar.muli v2072 c1_i32_1385
  let v2076 : BitVec 32 := Scalar.addi c0_i32_1386 v2075
  v2076.toNat
def k0_dev80 (d0 : Dev nD) : Nat :=
  let c0_i32_1399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1389 : BitVec 32 := 17#32
  let v2083 : BitVec 32 := Scalar.addi v2 c17_i32_1389
  let c32_i32_1390 : BitVec 32 := 32#32
  let c0_i32_1391 : BitVec 32 := 0#32
  let v2084 : BitVec 1 := Scalar.cmpi .eq c32_i32_1390 c0_i32_1391
  let c1_i32_1392 : BitVec 32 := 1#32
  let v2085 : BitVec 32 := Scalar.select v2084 c1_i32_1392 c32_i32_1390
  let v2086 : BitVec 32 := Scalar.remsi v2083 v2085
  let c0_i32_1394 : BitVec 32 := 0#32
  let v2088 : BitVec 1 := Scalar.cmpi .slt v2086 c0_i32_1394
  let c0_i32_1395 : BitVec 32 := 0#32
  let v2089 : BitVec 1 := Scalar.cmpi .slt v2085 c0_i32_1395
  let v2090 : BitVec 1 := Scalar.xori v2088 v2089
  let c0_i32_1393 : BitVec 32 := 0#32
  let v2087 : BitVec 1 := Scalar.cmpi .ne v2086 c0_i32_1393
  let v2091 : BitVec 1 := Scalar.andi v2090 v2087
  let v2092 : BitVec 32 := Scalar.addi v2086 v2085
  let v2093 : BitVec 32 := Scalar.select v2091 v2092 v2086
  let c1_i32_1398 : BitVec 32 := 1#32
  let v2096 : BitVec 32 := Scalar.muli v2093 c1_i32_1398
  let v2097 : BitVec 32 := Scalar.addi c0_i32_1399 v2096
  v2097.toNat
def k0_dev81 (d0 : Dev nD) : Nat :=
  let c0_i32_1412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1402 : BitVec 32 := 18#32
  let v2104 : BitVec 32 := Scalar.addi v2 c18_i32_1402
  let c32_i32_1403 : BitVec 32 := 32#32
  let c0_i32_1404 : BitVec 32 := 0#32
  let v2105 : BitVec 1 := Scalar.cmpi .eq c32_i32_1403 c0_i32_1404
  let c1_i32_1405 : BitVec 32 := 1#32
  let v2106 : BitVec 32 := Scalar.select v2105 c1_i32_1405 c32_i32_1403
  let v2107 : BitVec 32 := Scalar.remsi v2104 v2106
  let c0_i32_1407 : BitVec 32 := 0#32
  let v2109 : BitVec 1 := Scalar.cmpi .slt v2107 c0_i32_1407
  let c0_i32_1408 : BitVec 32 := 0#32
  let v2110 : BitVec 1 := Scalar.cmpi .slt v2106 c0_i32_1408
  let v2111 : BitVec 1 := Scalar.xori v2109 v2110
  let c0_i32_1406 : BitVec 32 := 0#32
  let v2108 : BitVec 1 := Scalar.cmpi .ne v2107 c0_i32_1406
  let v2112 : BitVec 1 := Scalar.andi v2111 v2108
  let v2113 : BitVec 32 := Scalar.addi v2107 v2106
  let v2114 : BitVec 32 := Scalar.select v2112 v2113 v2107
  let c1_i32_1411 : BitVec 32 := 1#32
  let v2117 : BitVec 32 := Scalar.muli v2114 c1_i32_1411
  let v2118 : BitVec 32 := Scalar.addi c0_i32_1412 v2117
  v2118.toNat
def k0_dev82 (d0 : Dev nD) : Nat :=
  let c0_i32_1425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1415 : BitVec 32 := 19#32
  let v2125 : BitVec 32 := Scalar.addi v2 c19_i32_1415
  let c32_i32_1416 : BitVec 32 := 32#32
  let c0_i32_1417 : BitVec 32 := 0#32
  let v2126 : BitVec 1 := Scalar.cmpi .eq c32_i32_1416 c0_i32_1417
  let c1_i32_1418 : BitVec 32 := 1#32
  let v2127 : BitVec 32 := Scalar.select v2126 c1_i32_1418 c32_i32_1416
  let v2128 : BitVec 32 := Scalar.remsi v2125 v2127
  let c0_i32_1420 : BitVec 32 := 0#32
  let v2130 : BitVec 1 := Scalar.cmpi .slt v2128 c0_i32_1420
  let c0_i32_1421 : BitVec 32 := 0#32
  let v2131 : BitVec 1 := Scalar.cmpi .slt v2127 c0_i32_1421
  let v2132 : BitVec 1 := Scalar.xori v2130 v2131
  let c0_i32_1419 : BitVec 32 := 0#32
  let v2129 : BitVec 1 := Scalar.cmpi .ne v2128 c0_i32_1419
  let v2133 : BitVec 1 := Scalar.andi v2132 v2129
  let v2134 : BitVec 32 := Scalar.addi v2128 v2127
  let v2135 : BitVec 32 := Scalar.select v2133 v2134 v2128
  let c1_i32_1424 : BitVec 32 := 1#32
  let v2138 : BitVec 32 := Scalar.muli v2135 c1_i32_1424
  let v2139 : BitVec 32 := Scalar.addi c0_i32_1425 v2138
  v2139.toNat
def k0_dev83 (d0 : Dev nD) : Nat :=
  let c0_i32_1438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1428 : BitVec 32 := 20#32
  let v2146 : BitVec 32 := Scalar.addi v2 c20_i32_1428
  let c32_i32_1429 : BitVec 32 := 32#32
  let c0_i32_1430 : BitVec 32 := 0#32
  let v2147 : BitVec 1 := Scalar.cmpi .eq c32_i32_1429 c0_i32_1430
  let c1_i32_1431 : BitVec 32 := 1#32
  let v2148 : BitVec 32 := Scalar.select v2147 c1_i32_1431 c32_i32_1429
  let v2149 : BitVec 32 := Scalar.remsi v2146 v2148
  let c0_i32_1433 : BitVec 32 := 0#32
  let v2151 : BitVec 1 := Scalar.cmpi .slt v2149 c0_i32_1433
  let c0_i32_1434 : BitVec 32 := 0#32
  let v2152 : BitVec 1 := Scalar.cmpi .slt v2148 c0_i32_1434
  let v2153 : BitVec 1 := Scalar.xori v2151 v2152
  let c0_i32_1432 : BitVec 32 := 0#32
  let v2150 : BitVec 1 := Scalar.cmpi .ne v2149 c0_i32_1432
  let v2154 : BitVec 1 := Scalar.andi v2153 v2150
  let v2155 : BitVec 32 := Scalar.addi v2149 v2148
  let v2156 : BitVec 32 := Scalar.select v2154 v2155 v2149
  let c1_i32_1437 : BitVec 32 := 1#32
  let v2159 : BitVec 32 := Scalar.muli v2156 c1_i32_1437
  let v2160 : BitVec 32 := Scalar.addi c0_i32_1438 v2159
  v2160.toNat
def k0_dev84 (d0 : Dev nD) : Nat :=
  let c0_i32_1451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1441 : BitVec 32 := 21#32
  let v2167 : BitVec 32 := Scalar.addi v2 c21_i32_1441
  let c32_i32_1442 : BitVec 32 := 32#32
  let c0_i32_1443 : BitVec 32 := 0#32
  let v2168 : BitVec 1 := Scalar.cmpi .eq c32_i32_1442 c0_i32_1443
  let c1_i32_1444 : BitVec 32 := 1#32
  let v2169 : BitVec 32 := Scalar.select v2168 c1_i32_1444 c32_i32_1442
  let v2170 : BitVec 32 := Scalar.remsi v2167 v2169
  let c0_i32_1446 : BitVec 32 := 0#32
  let v2172 : BitVec 1 := Scalar.cmpi .slt v2170 c0_i32_1446
  let c0_i32_1447 : BitVec 32 := 0#32
  let v2173 : BitVec 1 := Scalar.cmpi .slt v2169 c0_i32_1447
  let v2174 : BitVec 1 := Scalar.xori v2172 v2173
  let c0_i32_1445 : BitVec 32 := 0#32
  let v2171 : BitVec 1 := Scalar.cmpi .ne v2170 c0_i32_1445
  let v2175 : BitVec 1 := Scalar.andi v2174 v2171
  let v2176 : BitVec 32 := Scalar.addi v2170 v2169
  let v2177 : BitVec 32 := Scalar.select v2175 v2176 v2170
  let c1_i32_1450 : BitVec 32 := 1#32
  let v2180 : BitVec 32 := Scalar.muli v2177 c1_i32_1450
  let v2181 : BitVec 32 := Scalar.addi c0_i32_1451 v2180
  v2181.toNat
def k0_dev85 (d0 : Dev nD) : Nat :=
  let c0_i32_1464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1454 : BitVec 32 := 22#32
  let v2188 : BitVec 32 := Scalar.addi v2 c22_i32_1454
  let c32_i32_1455 : BitVec 32 := 32#32
  let c0_i32_1456 : BitVec 32 := 0#32
  let v2189 : BitVec 1 := Scalar.cmpi .eq c32_i32_1455 c0_i32_1456
  let c1_i32_1457 : BitVec 32 := 1#32
  let v2190 : BitVec 32 := Scalar.select v2189 c1_i32_1457 c32_i32_1455
  let v2191 : BitVec 32 := Scalar.remsi v2188 v2190
  let c0_i32_1459 : BitVec 32 := 0#32
  let v2193 : BitVec 1 := Scalar.cmpi .slt v2191 c0_i32_1459
  let c0_i32_1460 : BitVec 32 := 0#32
  let v2194 : BitVec 1 := Scalar.cmpi .slt v2190 c0_i32_1460
  let v2195 : BitVec 1 := Scalar.xori v2193 v2194
  let c0_i32_1458 : BitVec 32 := 0#32
  let v2192 : BitVec 1 := Scalar.cmpi .ne v2191 c0_i32_1458
  let v2196 : BitVec 1 := Scalar.andi v2195 v2192
  let v2197 : BitVec 32 := Scalar.addi v2191 v2190
  let v2198 : BitVec 32 := Scalar.select v2196 v2197 v2191
  let c1_i32_1463 : BitVec 32 := 1#32
  let v2201 : BitVec 32 := Scalar.muli v2198 c1_i32_1463
  let v2202 : BitVec 32 := Scalar.addi c0_i32_1464 v2201
  v2202.toNat
def k0_dev86 (d0 : Dev nD) : Nat :=
  let c0_i32_1477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1467 : BitVec 32 := 23#32
  let v2209 : BitVec 32 := Scalar.addi v2 c23_i32_1467
  let c32_i32_1468 : BitVec 32 := 32#32
  let c0_i32_1469 : BitVec 32 := 0#32
  let v2210 : BitVec 1 := Scalar.cmpi .eq c32_i32_1468 c0_i32_1469
  let c1_i32_1470 : BitVec 32 := 1#32
  let v2211 : BitVec 32 := Scalar.select v2210 c1_i32_1470 c32_i32_1468
  let v2212 : BitVec 32 := Scalar.remsi v2209 v2211
  let c0_i32_1472 : BitVec 32 := 0#32
  let v2214 : BitVec 1 := Scalar.cmpi .slt v2212 c0_i32_1472
  let c0_i32_1473 : BitVec 32 := 0#32
  let v2215 : BitVec 1 := Scalar.cmpi .slt v2211 c0_i32_1473
  let v2216 : BitVec 1 := Scalar.xori v2214 v2215
  let c0_i32_1471 : BitVec 32 := 0#32
  let v2213 : BitVec 1 := Scalar.cmpi .ne v2212 c0_i32_1471
  let v2217 : BitVec 1 := Scalar.andi v2216 v2213
  let v2218 : BitVec 32 := Scalar.addi v2212 v2211
  let v2219 : BitVec 32 := Scalar.select v2217 v2218 v2212
  let c1_i32_1476 : BitVec 32 := 1#32
  let v2222 : BitVec 32 := Scalar.muli v2219 c1_i32_1476
  let v2223 : BitVec 32 := Scalar.addi c0_i32_1477 v2222
  v2223.toNat
def k0_dev87 (d0 : Dev nD) : Nat :=
  let c0_i32_1490 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1480 : BitVec 32 := 24#32
  let v2230 : BitVec 32 := Scalar.addi v2 c24_i32_1480
  let c32_i32_1481 : BitVec 32 := 32#32
  let c0_i32_1482 : BitVec 32 := 0#32
  let v2231 : BitVec 1 := Scalar.cmpi .eq c32_i32_1481 c0_i32_1482
  let c1_i32_1483 : BitVec 32 := 1#32
  let v2232 : BitVec 32 := Scalar.select v2231 c1_i32_1483 c32_i32_1481
  let v2233 : BitVec 32 := Scalar.remsi v2230 v2232
  let c0_i32_1485 : BitVec 32 := 0#32
  let v2235 : BitVec 1 := Scalar.cmpi .slt v2233 c0_i32_1485
  let c0_i32_1486 : BitVec 32 := 0#32
  let v2236 : BitVec 1 := Scalar.cmpi .slt v2232 c0_i32_1486
  let v2237 : BitVec 1 := Scalar.xori v2235 v2236
  let c0_i32_1484 : BitVec 32 := 0#32
  let v2234 : BitVec 1 := Scalar.cmpi .ne v2233 c0_i32_1484
  let v2238 : BitVec 1 := Scalar.andi v2237 v2234
  let v2239 : BitVec 32 := Scalar.addi v2233 v2232
  let v2240 : BitVec 32 := Scalar.select v2238 v2239 v2233
  let c1_i32_1489 : BitVec 32 := 1#32
  let v2243 : BitVec 32 := Scalar.muli v2240 c1_i32_1489
  let v2244 : BitVec 32 := Scalar.addi c0_i32_1490 v2243
  v2244.toNat
def k0_dev88 (d0 : Dev nD) : Nat :=
  let c0_i32_1503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1493 : BitVec 32 := 25#32
  let v2251 : BitVec 32 := Scalar.addi v2 c25_i32_1493
  let c32_i32_1494 : BitVec 32 := 32#32
  let c0_i32_1495 : BitVec 32 := 0#32
  let v2252 : BitVec 1 := Scalar.cmpi .eq c32_i32_1494 c0_i32_1495
  let c1_i32_1496 : BitVec 32 := 1#32
  let v2253 : BitVec 32 := Scalar.select v2252 c1_i32_1496 c32_i32_1494
  let v2254 : BitVec 32 := Scalar.remsi v2251 v2253
  let c0_i32_1498 : BitVec 32 := 0#32
  let v2256 : BitVec 1 := Scalar.cmpi .slt v2254 c0_i32_1498
  let c0_i32_1499 : BitVec 32 := 0#32
  let v2257 : BitVec 1 := Scalar.cmpi .slt v2253 c0_i32_1499
  let v2258 : BitVec 1 := Scalar.xori v2256 v2257
  let c0_i32_1497 : BitVec 32 := 0#32
  let v2255 : BitVec 1 := Scalar.cmpi .ne v2254 c0_i32_1497
  let v2259 : BitVec 1 := Scalar.andi v2258 v2255
  let v2260 : BitVec 32 := Scalar.addi v2254 v2253
  let v2261 : BitVec 32 := Scalar.select v2259 v2260 v2254
  let c1_i32_1502 : BitVec 32 := 1#32
  let v2264 : BitVec 32 := Scalar.muli v2261 c1_i32_1502
  let v2265 : BitVec 32 := Scalar.addi c0_i32_1503 v2264
  v2265.toNat
def k0_dev89 (d0 : Dev nD) : Nat :=
  let c0_i32_1516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1506 : BitVec 32 := 26#32
  let v2272 : BitVec 32 := Scalar.addi v2 c26_i32_1506
  let c32_i32_1507 : BitVec 32 := 32#32
  let c0_i32_1508 : BitVec 32 := 0#32
  let v2273 : BitVec 1 := Scalar.cmpi .eq c32_i32_1507 c0_i32_1508
  let c1_i32_1509 : BitVec 32 := 1#32
  let v2274 : BitVec 32 := Scalar.select v2273 c1_i32_1509 c32_i32_1507
  let v2275 : BitVec 32 := Scalar.remsi v2272 v2274
  let c0_i32_1511 : BitVec 32 := 0#32
  let v2277 : BitVec 1 := Scalar.cmpi .slt v2275 c0_i32_1511
  let c0_i32_1512 : BitVec 32 := 0#32
  let v2278 : BitVec 1 := Scalar.cmpi .slt v2274 c0_i32_1512
  let v2279 : BitVec 1 := Scalar.xori v2277 v2278
  let c0_i32_1510 : BitVec 32 := 0#32
  let v2276 : BitVec 1 := Scalar.cmpi .ne v2275 c0_i32_1510
  let v2280 : BitVec 1 := Scalar.andi v2279 v2276
  let v2281 : BitVec 32 := Scalar.addi v2275 v2274
  let v2282 : BitVec 32 := Scalar.select v2280 v2281 v2275
  let c1_i32_1515 : BitVec 32 := 1#32
  let v2285 : BitVec 32 := Scalar.muli v2282 c1_i32_1515
  let v2286 : BitVec 32 := Scalar.addi c0_i32_1516 v2285
  v2286.toNat
def k0_dev90 (d0 : Dev nD) : Nat :=
  let c0_i32_1529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1519 : BitVec 32 := 27#32
  let v2293 : BitVec 32 := Scalar.addi v2 c27_i32_1519
  let c32_i32_1520 : BitVec 32 := 32#32
  let c0_i32_1521 : BitVec 32 := 0#32
  let v2294 : BitVec 1 := Scalar.cmpi .eq c32_i32_1520 c0_i32_1521
  let c1_i32_1522 : BitVec 32 := 1#32
  let v2295 : BitVec 32 := Scalar.select v2294 c1_i32_1522 c32_i32_1520
  let v2296 : BitVec 32 := Scalar.remsi v2293 v2295
  let c0_i32_1524 : BitVec 32 := 0#32
  let v2298 : BitVec 1 := Scalar.cmpi .slt v2296 c0_i32_1524
  let c0_i32_1525 : BitVec 32 := 0#32
  let v2299 : BitVec 1 := Scalar.cmpi .slt v2295 c0_i32_1525
  let v2300 : BitVec 1 := Scalar.xori v2298 v2299
  let c0_i32_1523 : BitVec 32 := 0#32
  let v2297 : BitVec 1 := Scalar.cmpi .ne v2296 c0_i32_1523
  let v2301 : BitVec 1 := Scalar.andi v2300 v2297
  let v2302 : BitVec 32 := Scalar.addi v2296 v2295
  let v2303 : BitVec 32 := Scalar.select v2301 v2302 v2296
  let c1_i32_1528 : BitVec 32 := 1#32
  let v2306 : BitVec 32 := Scalar.muli v2303 c1_i32_1528
  let v2307 : BitVec 32 := Scalar.addi c0_i32_1529 v2306
  v2307.toNat
def k0_dev91 (d0 : Dev nD) : Nat :=
  let c0_i32_1542 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1532 : BitVec 32 := 28#32
  let v2314 : BitVec 32 := Scalar.addi v2 c28_i32_1532
  let c32_i32_1533 : BitVec 32 := 32#32
  let c0_i32_1534 : BitVec 32 := 0#32
  let v2315 : BitVec 1 := Scalar.cmpi .eq c32_i32_1533 c0_i32_1534
  let c1_i32_1535 : BitVec 32 := 1#32
  let v2316 : BitVec 32 := Scalar.select v2315 c1_i32_1535 c32_i32_1533
  let v2317 : BitVec 32 := Scalar.remsi v2314 v2316
  let c0_i32_1537 : BitVec 32 := 0#32
  let v2319 : BitVec 1 := Scalar.cmpi .slt v2317 c0_i32_1537
  let c0_i32_1538 : BitVec 32 := 0#32
  let v2320 : BitVec 1 := Scalar.cmpi .slt v2316 c0_i32_1538
  let v2321 : BitVec 1 := Scalar.xori v2319 v2320
  let c0_i32_1536 : BitVec 32 := 0#32
  let v2318 : BitVec 1 := Scalar.cmpi .ne v2317 c0_i32_1536
  let v2322 : BitVec 1 := Scalar.andi v2321 v2318
  let v2323 : BitVec 32 := Scalar.addi v2317 v2316
  let v2324 : BitVec 32 := Scalar.select v2322 v2323 v2317
  let c1_i32_1541 : BitVec 32 := 1#32
  let v2327 : BitVec 32 := Scalar.muli v2324 c1_i32_1541
  let v2328 : BitVec 32 := Scalar.addi c0_i32_1542 v2327
  v2328.toNat
def k0_dev92 (d0 : Dev nD) : Nat :=
  let c0_i32_1555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1545 : BitVec 32 := 29#32
  let v2335 : BitVec 32 := Scalar.addi v2 c29_i32_1545
  let c32_i32_1546 : BitVec 32 := 32#32
  let c0_i32_1547 : BitVec 32 := 0#32
  let v2336 : BitVec 1 := Scalar.cmpi .eq c32_i32_1546 c0_i32_1547
  let c1_i32_1548 : BitVec 32 := 1#32
  let v2337 : BitVec 32 := Scalar.select v2336 c1_i32_1548 c32_i32_1546
  let v2338 : BitVec 32 := Scalar.remsi v2335 v2337
  let c0_i32_1550 : BitVec 32 := 0#32
  let v2340 : BitVec 1 := Scalar.cmpi .slt v2338 c0_i32_1550
  let c0_i32_1551 : BitVec 32 := 0#32
  let v2341 : BitVec 1 := Scalar.cmpi .slt v2337 c0_i32_1551
  let v2342 : BitVec 1 := Scalar.xori v2340 v2341
  let c0_i32_1549 : BitVec 32 := 0#32
  let v2339 : BitVec 1 := Scalar.cmpi .ne v2338 c0_i32_1549
  let v2343 : BitVec 1 := Scalar.andi v2342 v2339
  let v2344 : BitVec 32 := Scalar.addi v2338 v2337
  let v2345 : BitVec 32 := Scalar.select v2343 v2344 v2338
  let c1_i32_1554 : BitVec 32 := 1#32
  let v2348 : BitVec 32 := Scalar.muli v2345 c1_i32_1554
  let v2349 : BitVec 32 := Scalar.addi c0_i32_1555 v2348
  v2349.toNat
def k0_dev93 (d0 : Dev nD) : Nat :=
  let c0_i32_1568 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1558 : BitVec 32 := 30#32
  let v2356 : BitVec 32 := Scalar.addi v2 c30_i32_1558
  let c32_i32_1559 : BitVec 32 := 32#32
  let c0_i32_1560 : BitVec 32 := 0#32
  let v2357 : BitVec 1 := Scalar.cmpi .eq c32_i32_1559 c0_i32_1560
  let c1_i32_1561 : BitVec 32 := 1#32
  let v2358 : BitVec 32 := Scalar.select v2357 c1_i32_1561 c32_i32_1559
  let v2359 : BitVec 32 := Scalar.remsi v2356 v2358
  let c0_i32_1563 : BitVec 32 := 0#32
  let v2361 : BitVec 1 := Scalar.cmpi .slt v2359 c0_i32_1563
  let c0_i32_1564 : BitVec 32 := 0#32
  let v2362 : BitVec 1 := Scalar.cmpi .slt v2358 c0_i32_1564
  let v2363 : BitVec 1 := Scalar.xori v2361 v2362
  let c0_i32_1562 : BitVec 32 := 0#32
  let v2360 : BitVec 1 := Scalar.cmpi .ne v2359 c0_i32_1562
  let v2364 : BitVec 1 := Scalar.andi v2363 v2360
  let v2365 : BitVec 32 := Scalar.addi v2359 v2358
  let v2366 : BitVec 32 := Scalar.select v2364 v2365 v2359
  let c1_i32_1567 : BitVec 32 := 1#32
  let v2369 : BitVec 32 := Scalar.muli v2366 c1_i32_1567
  let v2370 : BitVec 32 := Scalar.addi c0_i32_1568 v2369
  v2370.toNat
def k0_dev94 (d0 : Dev nD) : Nat :=
  let c0_i32_1581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1571 : BitVec 32 := 31#32
  let v2377 : BitVec 32 := Scalar.addi v2 c31_i32_1571
  let c32_i32_1572 : BitVec 32 := 32#32
  let c0_i32_1573 : BitVec 32 := 0#32
  let v2378 : BitVec 1 := Scalar.cmpi .eq c32_i32_1572 c0_i32_1573
  let c1_i32_1574 : BitVec 32 := 1#32
  let v2379 : BitVec 32 := Scalar.select v2378 c1_i32_1574 c32_i32_1572
  let v2380 : BitVec 32 := Scalar.remsi v2377 v2379
  let c0_i32_1576 : BitVec 32 := 0#32
  let v2382 : BitVec 1 := Scalar.cmpi .slt v2380 c0_i32_1576
  let c0_i32_1577 : BitVec 32 := 0#32
  let v2383 : BitVec 1 := Scalar.cmpi .slt v2379 c0_i32_1577
  let v2384 : BitVec 1 := Scalar.xori v2382 v2383
  let c0_i32_1575 : BitVec 32 := 0#32
  let v2381 : BitVec 1 := Scalar.cmpi .ne v2380 c0_i32_1575
  let v2385 : BitVec 1 := Scalar.andi v2384 v2381
  let v2386 : BitVec 32 := Scalar.addi v2380 v2379
  let v2387 : BitVec 32 := Scalar.select v2385 v2386 v2380
  let c1_i32_1580 : BitVec 32 := 1#32
  let v2390 : BitVec 32 := Scalar.muli v2387 c1_i32_1580
  let v2391 : BitVec 32 := Scalar.addi c0_i32_1581 v2390
  v2391.toNat
def k0_off135 (d0 : Dev nD) (c1_i32_1584 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2398 : BitVec 32 := Scalar.addi v2 c1_i32_1584
  let c32_i32_1585 : BitVec 32 := 32#32
  let c0_i32_1586 : BitVec 32 := 0#32
  let v2399 : BitVec 1 := Scalar.cmpi .eq c32_i32_1585 c0_i32_1586
  let c1_i32_1587 : BitVec 32 := 1#32
  let v2400 : BitVec 32 := Scalar.select v2399 c1_i32_1587 c32_i32_1585
  let v2401 : BitVec 32 := Scalar.remsi v2398 v2400
  let c0_i32_1589 : BitVec 32 := 0#32
  let v2403 : BitVec 1 := Scalar.cmpi .slt v2401 c0_i32_1589
  let c0_i32_1590 : BitVec 32 := 0#32
  let v2404 : BitVec 1 := Scalar.cmpi .slt v2400 c0_i32_1590
  let v2405 : BitVec 1 := Scalar.xori v2403 v2404
  let c0_i32_1588 : BitVec 32 := 0#32
  let v2402 : BitVec 1 := Scalar.cmpi .ne v2401 c0_i32_1588
  let v2406 : BitVec 1 := Scalar.andi v2405 v2402
  let v2407 : BitVec 32 := Scalar.addi v2401 v2400
  let v2408 : BitVec 32 := Scalar.select v2406 v2407 v2401
  let c8_i32_1591 : BitVec 32 := 8#32
  let v2409 : BitVec 32 := Scalar.muli v2408 c8_i32_1591
  let c0_i32_1595 : BitVec 32 := 0#32
  ![v2409.toNat, 0]
def k0_off136 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2033 : BitVec 32 := 0#32
  let c0_i32_2034 : BitVec 32 := 0#32
  ![v2.toNat, 0, 0]
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x8192 : Shape := ⟨2, ![512, 8192]⟩
abbrev S2x128x128x64 : Shape := ⟨4, ![2, 128, 128, 64]⟩
abbrev S8192x512 : Shape := ⟨2, ![8192, 512]⟩
abbrev S2x128x8192 : Shape := ⟨3, ![2, 128, 8192]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x128x128x128 : Shape := ⟨4, ![2, 128, 128, 128]⟩
abbrev S1x1x128x128 : Shape := ⟨4, ![1, 1, 128, 128]⟩
abbrev S2x128x128 : Shape := ⟨3, ![2, 128, 128]⟩
abbrev S2x128x128x1 : Shape := ⟨4, ![2, 128, 128, 1]⟩
abbrev S1x1x128x1 : Shape := ⟨4, ![1, 1, 128, 1]⟩
abbrev S2x128x64x128 : Shape := ⟨4, ![2, 128, 64, 128]⟩

abbrev nBuf : Space → Nat
  | .hbm => 123
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x8192, .f32⟩
  | .hbm, ⟨2, _⟩ => ⟨S2x128x128x64, .f32⟩
  | .hbm, ⟨3, _⟩ => ⟨S2x128x128x64, .f32⟩
  | .hbm, ⟨4, _⟩ => ⟨S8192x512, .f32⟩
  | .hbm, ⟨5, _⟩ => ⟨S2x128x8192, .f32⟩
  | .hbm, ⟨6, _⟩ => ⟨S2x128x128x64, .f32⟩
  | .hbm, ⟨7, _⟩ => ⟨S128, .i32⟩
  | .hbm, ⟨8, _⟩ => ⟨S_, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S128x1, .i32⟩
  | .hbm, ⟨27, _⟩ => ⟨S128, .i32⟩
  | .hbm, ⟨28, _⟩ => ⟨S_, .i32⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i32⟩
  | .hbm, ⟨45, _⟩ => ⟨S128, .i32⟩
  | .hbm, ⟨46, _⟩ => ⟨S1x128, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S_, .i32⟩
  | .hbm, ⟨51, _⟩ => ⟨S1x128, .i32⟩
  | .hbm, ⟨52, _⟩ => ⟨S1x128, .i1⟩
  | .hbm, ⟨53, _⟩ => ⟨S128x128, .i1⟩
  | .hbm, ⟨54, _⟩ => ⟨S128x128, .i1⟩
  | .hbm, ⟨55, _⟩ => ⟨S128x128, .i32⟩
  | .hbm, ⟨56, _⟩ => ⟨S128x128, .i32⟩
  | .hbm, ⟨57, _⟩ => ⟨S128x128, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S128x128, .i32⟩
  | .hbm, ⟨65, _⟩ => ⟨S128x128, .i32⟩
  | .hbm, ⟨66, _⟩ => ⟨S_, .i32⟩
  | .hbm, ⟨67, _⟩ => ⟨S128x128, .i32⟩
  | .hbm, ⟨68, _⟩ => ⟨S128x128, .i1⟩
  | .hbm, ⟨69, _⟩ => ⟨S_, .i32⟩
  | .hbm, ⟨70, _⟩ => ⟨S128x128, .i32⟩
  | .hbm, ⟨71, _⟩ => ⟨S128x128, .i1⟩
  | .hbm, ⟨72, _⟩ => ⟨S_, .i32⟩
  | .hbm, ⟨73, _⟩ => ⟨S_, .i1⟩
  | .hbm, ⟨74, _⟩ => ⟨S128x128, .i1⟩
  | .hbm, ⟨75, _⟩ => ⟨S128x128, .i1⟩
  | .hbm, ⟨76, _⟩ => ⟨S128x128, .i1⟩
  | .hbm, ⟨77, _⟩ => ⟨S128x128, .i32⟩
  | .hbm, ⟨78, _⟩ => ⟨S128x128, .i32⟩
  | .hbm, ⟨79, _⟩ => ⟨S128x128, .i32⟩
  | .hbm, ⟨80, _⟩ => ⟨S_, .i32⟩
  | .hbm, ⟨81, _⟩ => ⟨S128x128, .i32⟩
  | .hbm, ⟨82, _⟩ => ⟨S128x128, .i1⟩
  | .hbm, ⟨83, _⟩ => ⟨S128x128, .i1⟩
  | .hbm, ⟨84, _⟩ => ⟨S2x128x128x128, .f32⟩
  | .hbm, ⟨85, _⟩ => ⟨S_, .f32⟩
  | .hbm, ⟨86, _⟩ => ⟨S2x128x128x128, .f32⟩
  | .hbm, ⟨87, _⟩ => ⟨S2x128x128x128, .f32⟩
  | .hbm, ⟨88, _⟩ => ⟨S1x1x128x128, .i1⟩
  | .hbm, ⟨89, _⟩ => ⟨S_, .f32⟩
  | .hbm, ⟨90, _⟩ => ⟨S_, .f32⟩
  | .hbm, ⟨91, _⟩ => ⟨S2x128x128x128, .i1⟩
  | .hbm, ⟨92, _⟩ => ⟨S2x128x128x128, .f32⟩
  | .hbm, ⟨93, _⟩ => ⟨S2x128x128x128, .f32⟩
  | .hbm, ⟨94, _⟩ => ⟨S_, .f32⟩
  | .hbm, ⟨95, _⟩ => ⟨S2x128x128, .f32⟩
  | .hbm, ⟨96, _⟩ => ⟨S2x128x128x1, .f32⟩
  | .hbm, ⟨97, _⟩ => ⟨S2x128x128x128, .f32⟩
  | .hbm, ⟨98, _⟩ => ⟨S2x128x128x128, .f32⟩
  | .hbm, ⟨99, _⟩ => ⟨S2x128x128x128, .f32⟩
  | .hbm, ⟨100, _⟩ => ⟨S_, .i1⟩
  | .hbm, ⟨101, _⟩ => ⟨S128, .i1⟩
  | .hbm, ⟨102, _⟩ => ⟨S1x1x128x1, .i1⟩
  | .hbm, ⟨103, _⟩ => ⟨S_, .f32⟩
  | .hbm, ⟨104, _⟩ => ⟨S2x128x128, .f32⟩
  | .hbm, ⟨105, _⟩ => ⟨S2x128x128x1, .f32⟩
  | .hbm, ⟨106, _⟩ => ⟨S_, .f32⟩
  | .hbm, ⟨107, _⟩ => ⟨S_, .f32⟩
  | .hbm, ⟨108, _⟩ => ⟨S2x128x128x1, .i1⟩
  | .hbm, ⟨109, _⟩ => ⟨S2x128x128x1, .f32⟩
  | .hbm, ⟨110, _⟩ => ⟨S2x128x128x1, .f32⟩
  | .hbm, ⟨111, _⟩ => ⟨S2x128x128x128, .f32⟩
  | .hbm, ⟨112, _⟩ => ⟨S2x128x128x128, .f32⟩
  | .hbm, ⟨113, _⟩ => ⟨S1x1x128x1, .i1⟩
  | .hbm, ⟨114, _⟩ => ⟨S_, .f32⟩
  | .hbm, ⟨115, _⟩ => ⟨S_, .f32⟩
  | .hbm, ⟨116, _⟩ => ⟨S2x128x128x128, .i1⟩
  | .hbm, ⟨117, _⟩ => ⟨S2x128x128x128, .f32⟩
  | .hbm, ⟨118, _⟩ => ⟨S2x128x128x128, .f32⟩
  | .hbm, ⟨119, _⟩ => ⟨S2x128x64x128, .f32⟩
  | .hbm, ⟨120, _⟩ => ⟨S2x128x128x64, .f32⟩
  | .hbm, ⟨121, _⟩ => ⟨S2x128x8192, .f32⟩
  | .hbm, ⟨122, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Run.Protocol.lean ====
/-
  The cross-device protocol of the kernel: one device's partial product is reduce-scattered over the 32 devices and the
  reduced rows are gathered again.

  Every device `c` owns, besides its barrier cell, four families of 32 DMA cells, indexed by the peer `t`:
  * kind 0, first send: `c`'s copy of rows `8t .. 8t+7` of its partial product to `t` has left;
  * kind 1, first receive: `t`'s rows `8c .. 8c+7` have landed in slot `t` of `c`'s receive buffer;
  * kind 2, second send: `c`'s copy of its reduced rows to `t` has left;
  * kind 3, second receive: `t`'s reduced rows have landed in rows `8t .. 8t+7` of `c`'s gather buffer.
  Every cell has one round. The barrier cell of `c` is signalled once by every peer `p`, who hands over the right to write
  slot `c` of its receive buffer and rows `8c .. 8c+7` of its gather buffer. The payloads carry the CONTENTS, as functions of
  the devices' partial products `A`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Pipeline.Kit
public import Idealize.ShloMosaic.Lib.Tactic
public import Idealize.ShloMosaic.Lib.Rounds
public import Idealize.ShloMosaic.Lib.Pipeline.RegionTalk

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-! ## The resource algebra: the pipeline library's copy and the protocol's -/

abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

abbrev 𝒱₀ : Variants := Variants.none

/-! ## The buffers and their pieces -/

abbrev ctxM : Memref sig .tc .vmem S256x256 .bf16 := Memref.whole cc0_scratch0
abbrev accM : Memref sig .tc .vmem S256x512 .bf16 := Memref.whole cc0_scratch1
abbrev rcvM : Memref sig .tc .vmem S32x8x512 .bf16 := Memref.whole cc0_scratch2
abbrev gatM : Memref sig .tc .vmem S256x512 .bf16 := Memref.whole cc0_scratch3

theorem row_inb (t : Dev nD) : ∀ a, (![8 * t.val, 0] : Fin 2 → Nat) a + S8x512.size a ≤ S256x512.size a := by
  revert t; decide

theorem slot_inb (t : Dev nD) : ∀ a, (![t.val, 0, 0] : Fin 3 → Nat) a + S1x8x512.size a ≤ S32x8x512.size a := by
  revert t; decide

theorem blk_inb (b : Fin 4) : ∀ a, (![64 * b.val, 0] : Fin 2 → Nat) a + S64x512.size a ≤ S256x512.size a := by
  revert b; decide

theorem sem_inb (t : Dev nD) : ∀ a, (![t.val] : Fin 1 → Nat) a + S1.size a ≤ S32.size a := by
  revert t; decide

/-- Rows `8t .. 8t+7` of a 256-row buffer, -/
abbrev rowRect (t : Dev nD) : Rect S256x512 := Rect.unit (s := S256x512) ![8 * t.val, 0] S8x512.size (row_inb t)
/-- rows `64b .. 64b+63`, -/
abbrev blkRect (b : Fin 4) : Rect S256x512 := Rect.unit (s := S256x512) ![64 * b.val, 0] S64x512.size (blk_inb b)
/-- and slot `t` of the receive buffer. -/
abbrev slotRect (t : Dev nD) : Rect S32x8x512 := Rect.unit (s := S32x8x512) ![t.val, 0, 0] S1x8x512.size (slot_inb t)

abbrev accRow (t : Dev nD) : Memref sig .tc .vmem S8x512 .bf16 := accM.slice (rowRect t) (fun _ => rfl)
abbrev accBlk (b : Fin 4) : Memref sig .tc .vmem S64x512 .bf16 := accM.slice (blkRect b) (fun _ => rfl)
abbrev gatRow (t : Dev nD) : Memref sig .tc .vmem S8x512 .bf16 := gatM.slice (rowRect t) (fun _ => rfl)
abbrev slotU (t : Dev nD) : Memref sig .tc .vmem S1x8x512 .bf16 := rcvM.slice (slotRect t) (fun _ => rfl)
abbrev slot (t : Dev nD) : Memref sig .tc .vmem S8x512 .bf16 := (slotU t).squeeze S8x512 squeezes_S1x8x512_S8x512

/-! ## The cells -/

abbrev barS : Sem sig := (SemArray.scalar (sig.barrier 0 rfl) : Sems sig S_).sem
/-- The DMA semaphore of kind `k` for the peer `t`. -/
def dsem (k : Fin 4) (t : Dev nD) : DmaSem sig := ⟨6 + 32 * k.val + t.val, by have := k.isLt; have := t.isLt; show _ < 134; simp only [nD] at *; omega⟩

abbrev barCell (c : Dev nD) : GSem nD τ sig := ((c : Thread nD τ), .reg barS)
abbrev dcell (k : Fin 4) (c t : Dev nD) : GSem nD τ sig := ((c : Thread nD τ), .dma (dsem k t))

/-- What a copy of one chunk credits. -/
abbrev N : ℕ := (gatRow 0).view.dmaCredit
theorem N_pos : 0 < N := View.dmaCredit_pos _ (by decide)

theorem N_row (t : Dev nD) : (gatRow t).view.dmaCredit = N := rfl
theorem N_slot (t : Dev nD) : (slot t).view.dmaCredit = N := by revert t; decide

theorem sem4_eq (t : Dev nD) (h : ∀ a, (![t.val] : Fin 1 → Nat) a + S1.size a ≤ S32.size a) :
    ((cc0_scratch4.slice (Rect.unit (s := S32) ![t.val] S1.size h)).squeeze S_ squeezes_S1_S_).sem = dsem 0 t := by
  revert t; decide
theorem sem5_eq (t : Dev nD) (h : ∀ a, (![t.val] : Fin 1 → Nat) a + S1.size a ≤ S32.size a) :
    ((cc0_scratch5.slice (Rect.unit (s := S32) ![t.val] S1.size h)).squeeze S_ squeezes_S1_S_).sem = dsem 1 t := by
  revert t; decide
theorem sem6_eq (t : Dev nD) (h : ∀ a, (![t.val] : Fin 1 → Nat) a + S1.size a ≤ S32.size a) :
    ((cc0_scratch6.slice (Rect.unit (s := S32) ![t.val] S1.size h)).squeeze S_ squeezes_S1_S_).sem = dsem 2 t := by
  revert t; decide
theorem sem7_eq (t : Dev nD) (h : ∀ a, (![t.val] : Fin 1 → Nat) a + S1.size a ≤ S32.size a) :
    ((cc0_scratch7.slice (Rect.unit (s := S32) ![t.val] S1.size h)).squeeze S_ squeezes_S1_S_).sem = dsem 3 t := by
  revert t; decide

theorem dsem_inj {k k' : Fin 4} {t t' : Dev nD} (h : dsem k t = dsem k' t') : k = k' ∧ t = t' := by
  have h := congrArg Fin.val h
  have := k.isLt; have := t.isLt; have := k'.isLt; have := t'.isLt
  simp only [dsem, nD] at *
  exact ⟨Fin.ext (by omega), Fin.ext (by omega)⟩

/-! ## Contents -/

/-- A chunk of eight rows. -/
abbrev Chunk (F : FTy → Type) : Type := S8x512.Idx → Elt F .bf16

/-- The shares of its reduced rows that a device lends to its copies: after `n` copies it holds `keep n`, the `n`-th takes `lend n`. -/
def keep : ℕ → PosShare TreeShare
  | 0 => fullShare
  | n + 1 => (keep n).right
def lend (n : ℕ) : PosShare TreeShare := (keep n).left

/-- The distance from `c` to `t` around the ring of devices, -/
def dist (c t : Dev nD) : ℕ := (t.val + 32 - c.val) % 32
/-- and the device `n` steps after `c`. -/
def tgt (c : Dev nD) (n : ℕ) : Dev nD := ⟨(c.val + n) % 32, Nat.mod_lt _ (by decide)⟩

section Contents

variable (A : Dev nD → S256x512.Idx → Elt F .bf16)

/-- Rows `8t .. 8t+7` of `s`'s partial product. -/
def part (s t : Dev nD) : Chunk F := fun j => A s ((rowRect t).emb j)

/-- The device that an index of the receive buffer names, and its place in the chunk. -/
def slotDev (i : S32x8x512.Idx) : Dev nD := i 0
def slotPos (i : S32x8x512.Idx) : S8x512.Idx := Fin.cons (i 1) (Fin.cons (i 2) (fun a => a.elim0))

/-- What `c`'s receive buffer holds in the end: every device's rows `8c .. 8c+7`. -/
def received (c : Dev nD) : S32x8x512.Idx → Elt F .bf16 := fun i => part A (slotDev i) c (slotPos i)

/-- `c`'s reduced rows. -/
def reduced (c : Dev nD) : Chunk F := k0_pay32 (F := F) (received A c)

def rowDev (i : S256x512.Idx) : Dev nD := ⟨(i 0).val / 8, by have : (i 0).val < 256 := (i 0).isLt; show _ < 32; omega⟩
def rowPos (i : S256x512.Idx) : S8x512.Idx :=
  Fin.cons (⟨(i 0).val % 8, Nat.mod_lt _ (by decide)⟩ : Fin 8) (Fin.cons (i 1) (fun a => a.elim0))

/-- What every device's gather buffer holds in the end. -/
def gathered : S256x512.Idx → Elt F .bf16 := fun i => reduced A (rowDev i) (rowPos i)

end Contents

/-! ## The schedule -/

section Schedule

variable (A : Dev nD → S256x512.Idx → Elt F .bf16)

/-- What device `p`'s signal hands to `c`: slot `c` and rows `8c ..` on `p`, to write, and that `p` has opened the two cells that
    `c`'s copies complete on. -/
def barPay (p c : Dev nD) : sProp 𝕄 :=
  iprop((∃ X, owns (p : Thread nD τ) (slot c) fullShare X) ∗ (∃ X, owns (p : Thread nD τ) (gatRow c) fullShare X)
    ∗ reached ER (dcell 1 p c) 0 ∗ reached ER (dcell 3 p c) 0)

/-- What the landing on `c`'s cell of kind `k` for `t` hands to `c`. -/
def dpay (k : Fin 4) (c t : Dev nD) : sProp 𝕄 :=
  match k with
  | 0 => owns (c : Thread nD τ) (accRow t) fullShare (part A c t)
  | 1 => owns (c : Thread nD τ) (slot t) fullShare (part A t c)
  | 2 => owns (c : Thread nD τ) (gatRow c) (lend (dist c t - 1)) (reduced A c)
  | 3 => owns (c : Thread nD τ) (gatRow t) fullShare (reduced A t)

/-- The kind and the peer of a DMA semaphore from 6 on. -/
def kindOf (s : DmaSem sig) : Fin 4 := ⟨((s.val - 6) / 32) % 4, Nat.mod_lt _ (by decide)⟩
def peerOf (s : DmaSem sig) : Dev nD := ⟨(s.val - 6) % 32, Nat.mod_lt _ (by decide)⟩

theorem kindOf_dsem (k : Fin 4) (t : Dev nD) : kindOf (dsem k t) = k := by revert k t; decide
theorem peerOf_dsem (k : Fin 4) (t : Dev nD) : peerOf (dsem k t) = t := by revert k t; decide
theorem le_dsem (k : Fin 4) (t : Dev nD) : 6 ≤ (dsem k t).val := by simp only [dsem]; omega

/-- One round per cell: a barrier cell has one duty per peer, a DMA cell the duty of its peer; a device has no duty to itself. -/
def Rd : Rounds.Schedule (GSem nD τ sig) (Dev nD) 𝕄 where
  duties g r := if r = 0 ∧ g.1.2 = .tc then
      match g.2 with
      | .reg s => if s = barS then Finset.univ.erase g.1.1 else ∅
      | .dma s => if 6 ≤ s.val ∧ peerOf s ≠ g.1.1 then {peerOf s} else ∅
    else ∅
  unitless _ := False
  amount g _ _ := match g.2 with
    | .reg _ => 1
    | .dma _ => N
  payload g _ d := match g.2 with
    | .reg _ => barPay d g.1.1
    | .dma s => dpay A (kindOf s) g.1.1 (peerOf s)
  amount_pos g _ _ _ := by
    rcases g with ⟨t, s | s⟩
    · exact Nat.one_pos
    · exact N_pos

instance dpay_storable (k : Fin 4) (c t : Dev nD) : BI.Storable (upEmb : UEmb _ 𝕄) (dpay A k c t) := by
  unfold dpay; split <;> infer_instance

instance barPay_storable (p c : Dev nD) : BI.Storable (upEmb : UEmb _ 𝕄) (barPay (F := F) p c) := by
  unfold barPay; infer_instance

instance Rd_payload_storable (g : GSem nD τ sig) (r : ℕ) (d : Dev nD) : BI.Storable (upEmb : UEmb _ 𝕄) ((Rd A).payload g r d) := by
  rcases g with ⟨t, s | s⟩
  · show BI.Storable upEmb (barPay d t.1); infer_instance
  · show BI.Storable upEmb (dpay A (kindOf s) t.1 (peerOf s)); infer_instance

theorem duties_bar (c : Dev nD) : (Rd A).duties (barCell c) 0 = Finset.univ.erase c := by
  simp [Rd]

theorem duties_dma (k : Fin 4) (c t : Dev nD) (h : t ≠ c) : (Rd A).duties (dcell k c t) 0 = {t} := by
  simp [Rd, le_dsem, peerOf_dsem, h]

theorem duties_diag (k : Fin 4) (c : Dev nD) : ∀ r, (Rd A).duties (dcell k c c) r = ∅ := by
  intro r; simp [Rd, le_dsem, peerOf_dsem]

theorem duties_later (g : GSem nD τ sig) : ∀ r, 1 ≤ r → (Rd A).duties g r = ∅ :=
  fun r hr => by dsimp only [Rd]; exact if_neg fun h => by omega

theorem amount_bar (c d : Dev nD) : (Rd A).amount (barCell c) 0 d = 1 := rfl
theorem amount_dma (k : Fin 4) (c t d : Dev nD) : (Rd A).amount (dcell k c t) 0 d = N := rfl
theorem payload_bar (c d : Dev nD) : (Rd A).payload (barCell c) 0 d = barPay d c := rfl
theorem payload_dma (k : Fin 4) (c t d : Dev nD) : (Rd A).payload (dcell k c t) 0 d = dpay A k c t := by
  show dpay A (kindOf (dsem k t)) c (peerOf (dsem k t)) = _
  rw [kindOf_dsem, peerOf_dsem]

theorem expect_bar (c : Dev nD) : (Rd A).expect (barCell c) 0 = 31 := by
  unfold Schedule.expect Schedule.amountOf
  rw [duties_bar, Finset.sum_congr rfl (fun d _ => amount_bar A c d), Finset.sum_const, Finset.card_erase_of_mem (Finset.mem_univ c)]
  rfl

theorem expect_dma (k : Fin 4) (c t : Dev nD) (h : t ≠ c) : (Rd A).expect (dcell k c t) 0 = N := by
  unfold Schedule.expect Schedule.amountOf
  rw [duties_dma A k c t h, Finset.sum_singleton, amount_dma]

theorem rest_bar (c : Dev nD) : bigSep ((Rd A).duties (barCell c) 0 \ ∅) (fun d => (Rd A).payload (barCell c) 0 d)
    = bigSep (Finset.univ.erase c) (fun p => barPay p c) := by
  rw [Finset.sdiff_empty, duties_bar]; rfl

theorem rest_dma (k : Fin 4) (c t : Dev nD) (h : t ≠ c) :
    bigSep ((Rd A).duties (dcell k c t) 0 \ ∅) (fun d => (Rd A).payload (dcell k c t) 0 d) = dpay A k c t := by
  rw [Finset.sdiff_empty, duties_dma A k c t h, bigSep_singleton, payload_dma]

end Schedule

/-! ## Levels and dues -/

def L (g : GSem nD τ sig) : Finset Unit := if g.1.2 = .tc then {()} else ∅
/-- The staging cells lowest, then the barrier, the first receives, the second receives; the sends with the staging cells. -/
def lv (g : GSem nD τ sig) (_ : Unit) : ℕ := match g.2 with
  | .reg _ => 1
  | .dma s => if s.val < 6 then 0 else if kindOf s = 1 then 2 else if kindOf s = 3 then 3 else 0

theorem L_of_ne (g : GSem nD τ sig) (h : g.1.2 ≠ .tc) : L g = ∅ := if_neg h
theorem L_tc (c : Dev nD) (sm : SemLoc sig) : L ((c : Thread nD τ), sm) = {()} := if_pos rfl

/-- What `c` owes the cells of its peers in a set: barrier units, and the credit of a landing of kind `k`. -/
def oweBar (S : Finset (Dev nD)) : CellTallies nD τ sig Unit := ∑ p ∈ S, tallyAt (barCell p) () 1
def oweDma (k : Fin 4) (c : Dev nD) (S : Finset (Dev nD)) : CellTallies nD τ sig Unit := ∑ p ∈ S, tallyAt (dcell k p c) () N

/-- What `c` owes at launch. -/
def O₀ (c : Dev nD) : CellTallies nD τ sig Unit :=
  oweBar (Finset.univ.erase c) + (oweDma 1 c (Finset.univ.erase c) + oweDma 3 c (Finset.univ.erase c))

theorem oweBar_erase {S : Finset (Dev nD)} {p : Dev nD} (h : p ∈ S) : oweBar S = oweBar (S.erase p) + tallyAt (barCell p) () 1 := by
  unfold oweBar; rw [Finset.sum_erase_add _ _ h]

theorem oweDma_erase (k : Fin 4) (c : Dev nD) {S : Finset (Dev nD)} {p : Dev nD} (h : p ∈ S) :
    oweDma k c S = oweDma k c (S.erase p) + tallyAt (dcell k p c) () N := by
  unfold oweDma; rw [Finset.sum_erase_add _ _ h]

theorem oweBar_empty : oweBar ∅ = 0 := rfl
theorem oweDma_empty (k : Fin 4) (c : Dev nD) : oweDma k c ∅ = 0 := rfl

theorem oweBar_pos {S : Finset (Dev nD)} {g : GSem nD τ sig} {u : Unit} (h : 0 < oweBar S g u) : ∃ p ∈ S, g = barCell p := by
  unfold oweBar at h
  rw [Finset.sum_apply, Finsupp.finset_sum_apply] at h
  obtain ⟨p, hp, h⟩ := Finset.exists_ne_zero_of_sum_ne_zero (Nat.ne_of_gt h)
  rw [tallyAt_apply] at h
  by_cases hg : g = barCell p ∧ u = ()
  · exact ⟨p, hp, hg.1⟩
  · exact absurd (if_neg hg) h

theorem oweDma_pos {k : Fin 4} {c : Dev nD} {S : Finset (Dev nD)} {g : GSem nD τ sig} {u : Unit} (h : 0 < oweDma k c S g u) :
    ∃ p ∈ S, g = dcell k p c := by
  unfold oweDma at h
  rw [Finset.sum_apply, Finsupp.finset_sum_apply] at h
  obtain ⟨p, hp, h⟩ := Finset.exists_ne_zero_of_sum_ne_zero (Nat.ne_of_gt h)
  rw [tallyAt_apply] at h
  by_cases hg : g = dcell k p c ∧ u = ()
  · exact ⟨p, hp, hg.1⟩
  · exact absurd (if_neg hg) h

theorem lv_bar (c : Dev nD) (u : Unit) : lv (barCell c) u = 1 := rfl
theorem lv_dma (k : Fin 4) (c t : Dev nD) (u : Unit) :
    lv (dcell k c t) u = if k = 1 then 2 else if k = 3 then 3 else 0 := by
  have := le_dsem k t
  simp only [lv, kindOf_dsem]; rw [if_neg (by omega)]

/-- The wait on the barrier cell while the landings are owed, -/
theorem mayWait_bar (c : Dev nD) (S S' : Finset (Dev nD)) :
    (levAts L lv : sProp 𝕄) ⊢ MayWait (c : Thread nD τ) (.reg barS) () (oweDma 1 c S + oweDma 3 c S') := by
  have key : ∀ g u, 0 < (oweDma 1 c S + oweDma 3 c S') g u → ∃ k p, (k = 1 ∨ k = 3) ∧ g = dcell k p c := by
    intro g u hg
    rw [Pi.add_apply, Finsupp.add_apply] at hg
    rcases Nat.add_pos_iff_pos_or_pos.mp hg with h | h
    · obtain ⟨p, -, rfl⟩ := oweDma_pos h; exact ⟨1, p, .inl rfl, rfl⟩
    · obtain ⟨p, -, rfl⟩ := oweDma_pos h; exact ⟨3, p, .inr rfl, rfl⟩
  refine MayOwe.of_cut (L := L) (lev := lv) 1 (fun p hp => by rw [Finset.mem_singleton.mp hp, L_tc]; exact Finset.mem_singleton_self _)
    (fun g u hg => ?_) (fun p hp => by rw [Finset.mem_singleton.mp hp]; exact Nat.le_refl _) (fun g u hg => ?_)
  · obtain ⟨k, p, -, rfl⟩ := key g u hg; rw [L_tc]; exact Finset.mem_singleton_self _
  · obtain ⟨k, p, h | h, rfl⟩ := key g u hg <;> rw [lv_dma, h] <;> decide

/-- and the wait on a first receive while second landings are owed. -/
theorem mayWait_recv (c t : Dev nD) (S : Finset (Dev nD)) :
    (levAts L lv : sProp 𝕄) ⊢ MayWait (c : Thread nD τ) (.dma (dsem 1 t)) () (oweDma 3 c S) := by
  refine MayOwe.of_cut (L := L) (lev := lv) 2 (fun p hp => by rw [Finset.mem_singleton.mp hp, L_tc]; exact Finset.mem_singleton_self _)
    (fun g u hg => ?_) (fun p hp => by rw [Finset.mem_singleton.mp hp]; show lv (dcell 1 c t) () ≤ 2; rw [lv_dma]; decide) (fun g u hg => ?_)
  · obtain ⟨p, -, rfl⟩ := oweDma_pos hg; rw [L_tc]; exact Finset.mem_singleton_self _
  · obtain ⟨p, -, rfl⟩ := oweDma_pos hg; rw [lv_dma]; decide

end Cert.Run

end
-- ==== Proof.Run.Pieces.lean ====
/-
  Pieces of the kernel's buffers: the rows, slots and blocks that the copies move tile their buffers, so owning a buffer is
  owning its pieces; and a share of a piece can be lent out and taken back.
-/
module

public import proofs.«01_k».proof.Proof.Run.Protocol

@[expose] public section

noncomputable section

namespace Cert.Run

open Cert.KernelIdeal Cert.KernelIdeal.Gen

open Idealize.ShloMosaic
open Idealize.ShloMosaic.TcCoe
open Idealize.SL Idealize.SL.RA Idealize.SL.BI PCS URA
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

theorem both {P Q : sProp 𝕄} (h₁ : P ⊢ Q) (h₂ : Q ⊢ P) : P = Q := BI.Entails.antisymm h₁ h₂

theorem each {ι : Type} [DecidableEq ι] {s : Finset ι} {Φ Ψ : ι → sProp 𝕄} (h : ∀ i ∈ s, Φ i ⊢ Ψ i) : bigSep s Φ ⊢ bigSep s Ψ :=
  bigSep_mono h

theorem bigSep_at {ι : Type} [DecidableEq ι] {s : Finset ι} {i : ι} (h : i ∈ s) {Φ : ι → sProp 𝕄} : (bigSep s Φ : sProp 𝕄) ⊢ Φ i :=
  bigSep_elim h

theorem bigSep_take {ι : Type} [DecidableEq ι] {s : Finset ι} {i : ι} (h : i ∈ s) {Φ : ι → sProp 𝕄} :
    bigSep s Φ = iprop(Φ i ∗ bigSep (s.erase i) Φ) := bigSep_erase h

theorem bigSep_both {ι : Type} [DecidableEq ι] (s : Finset ι) (Φ Ψ : ι → sProp 𝕄) :
    (bigSep s fun i => iprop(Φ i ∗ Ψ i)) = iprop(bigSep s Φ ∗ bigSep s Ψ) := bigSep_sep s Φ Ψ

theorem bigSep_put {ι : Type} [DecidableEq ι] {s : Finset ι} {i : ι} (h : i ∉ s) {Φ : ι → sProp 𝕄} :
    bigSep (insert i s) Φ = iprop(Φ i ∗ bigSep s Φ) := bigSep_insert h

/-! ## The tilings -/

theorem mem_row (t : Dev nD) (i : S256x512.Idx) : i ∈ (rowRect t).set ↔ (i 0).val / 8 = t.val := by
  have h1 : (i 1).val < 512 := (i 1).isLt
  rw [Rect.mem_set_unit, Fin.forall_fin_two]
  show (8 * t.val ≤ (i 0).val ∧ (i 0).val < 8 * t.val + 8) ∧ (0 ≤ (i 1).val ∧ (i 1).val < 0 + 512) ↔ _
  omega

theorem mem_blk (b : Fin 4) (i : S256x512.Idx) : i ∈ (blkRect b).set ↔ (i 0).val / 64 = b.val := by
  have h1 : (i 1).val < 512 := (i 1).isLt
  rw [Rect.mem_set_unit, Fin.forall_fin_two]
  show (64 * b.val ≤ (i 0).val ∧ (i 0).val < 64 * b.val + 64) ∧ (0 ≤ (i 1).val ∧ (i 1).val < 0 + 512) ↔ _
  omega

theorem mem_slot (t : Dev nD) (i : S32x8x512.Idx) : i ∈ (slotRect t).set ↔ (i 0).val = t.val := by
  have h1 : (i 1).val < 8 := (i 1).isLt
  have h2 : (i 2).val < 512 := (i 2).isLt
  rw [Rect.mem_set_unit, Fin.forall_fin_succ, Fin.forall_fin_two]
  show (t.val ≤ (i 0).val ∧ (i 0).val < t.val + 1) ∧ (0 ≤ (i 1).val ∧ (i 1).val < 0 + 8) ∧ (0 ≤ (i 2).val ∧ (i 2).val < 0 + 512) ↔ _
  omega

theorem row_disjoint (t t' : Dev nD) (h : t ≠ t') : Disjoint (rowRect t).set (rowRect t').set :=
  Finset.disjoint_left.mpr fun i hi hi' => h (Fin.ext (((mem_row t i).mp hi).symm.trans ((mem_row t' i).mp hi')))

theorem row_cover : (Finset.univ : Finset (Dev nD)).biUnion (fun t => (rowRect t).set) = Finset.univ := by
  ext i
  have : (i 0).val < 256 := (i 0).isLt
  simp only [Finset.mem_biUnion, Finset.mem_univ, true_and, iff_true]
  exact ⟨⟨(i 0).val / 8, by show _ < 32; omega⟩, (mem_row _ i).mpr rfl⟩

theorem slot_disjoint (t t' : Dev nD) (h : t ≠ t') : Disjoint (slotRect t).set (slotRect t').set :=
  Finset.disjoint_left.mpr fun i hi hi' => h (Fin.ext (((mem_slot t i).mp hi).symm.trans ((mem_slot t' i).mp hi')))

theorem slot_cover : (Finset.univ : Finset (Dev nD)).biUnion (fun t => (slotRect t).set) = Finset.univ := by
  ext i
  have : (i 0).val < 32 := (i 0).isLt
  simp only [Finset.mem_biUnion, Finset.mem_univ, true_and, iff_true]
  exact ⟨⟨(i 0).val, this⟩, (mem_slot _ i).mpr rfl⟩

theorem blk_disjoint (b b' : Fin 4) (h : b ≠ b') : Disjoint (blkRect b).set (blkRect b').set :=
  Finset.disjoint_left.mpr fun i hi hi' => h (Fin.ext (((mem_blk b i).mp hi).symm.trans ((mem_blk b' i).mp hi')))

theorem blk_cover : (Finset.univ : Finset (Fin 4)).biUnion (fun b => (blkRect b).set) = Finset.univ := by
  ext i
  have : (i 0).val < 256 := (i 0).isLt
  simp only [Finset.mem_biUnion, Finset.mem_univ, true_and, iff_true]
  exact ⟨⟨(i 0).val / 64, by omega⟩, (mem_blk _ i).mpr rfl⟩

/-- The devices whose rows lie in block `b`. -/
def inBlk (b : Fin 4) : Finset (Dev nD) := Finset.univ.filter fun t => t.val / 8 = b.val

theorem blk_rows (b : Fin 4) : (blkRect b).set = (inBlk b).biUnion (fun t => (rowRect t).set) := by
  ext i
  have : (i 0).val < 256 := (i 0).isLt
  simp only [Finset.mem_biUnion, mem_blk, mem_row, inBlk, Finset.mem_filter, Finset.mem_univ, true_and]
  constructor
  · intro h; exact ⟨⟨(i 0).val / 8, by show _ < 32; omega⟩, by show (i 0).val / 8 / 8 = _; omega, rfl⟩
  · rintro ⟨t, h, h'⟩; omega

/-! ## Indices -/

theorem row_emb (t : Dev nD) (j : S8x512.Idx) : rowDev ((rowRect t).emb j) = t ∧ rowPos ((rowRect t).emb j) = j := by
  have h0 : (j 0).val < 8 := (j 0).isLt
  have e0 : (((rowRect t).emb j) 0).val = 8 * t.val + 1 * (j 0).val := rfl
  have e1 : (((rowRect t).emb j) 1).val = 0 + 1 * (j 1).val := rfl
  refine ⟨Fin.ext ?_, funext fun a => ?_⟩
  · show (((rowRect t).emb j) 0).val / 8 = t.val; omega
  · refine Fin.cases ?_ (fun a => Fin.cases ?_ (fun a => a.elim0) a) a <;> apply Fin.ext
    · show (((rowRect t).emb j) 0).val % 8 = (j 0).val; omega
    · show (((rowRect t).emb j) 1).val = (j 1).val; omega

theorem slot_squeeze (j : S8x512.Idx) (i : S1x8x512.Idx) (hi : i = Shape.reshapeEquiv squeezes_S1x8x512_S8x512.numel_eq j) :
    (i 1).val = (j 0).val ∧ (i 2).val = (j 1).val := by
  subst hi
  have h := Shape.rowMajor_reshapeEquiv (s := S1x8x512) squeezes_S1x8x512_S8x512.numel_eq j
  rw [Shape.rowMajor_val_two, Shape.rowMajor_val_three] at h
  set i : S1x8x512.Idx := Shape.reshapeEquiv squeezes_S1x8x512_S8x512.numel_eq j
  have h0 : (i 0).val < 1 := (i 0).isLt
  have h1 : (i 1).val < 8 := (i 1).isLt
  have h2 : (i 2).val < 512 := (i 2).isLt
  have h3 : (j 0).val < 8 := (j 0).isLt
  have h4 : (j 1).val < 512 := (j 1).isLt
  change ((i 0).val * 8 + (i 1).val) * 512 + (i 2).val = (j 0).val * 512 + (j 1).val at h
  constructor <;> omega

theorem slot_emb (t : Dev nD) (j : S8x512.Idx) (i : S1x8x512.Idx) (hi : i = Shape.reshapeEquiv squeezes_S1x8x512_S8x512.numel_eq j) :
    slotDev ((slotRect t).emb i) = t ∧ slotPos ((slotRect t).emb i) = j := by
  obtain ⟨h1, h2⟩ := slot_squeeze j i hi
  have h0 : (i 0).val < 1 := (i 0).isLt
  have e0 : (((slotRect t).emb i) 0).val = t.val + 1 * (i 0).val := rfl
  have e1 : (((slotRect t).emb i) 1).val = 0 + 1 * (i 1).val := rfl
  have e2 : (((slotRect t).emb i) 2).val = 0 + 1 * (i 2).val := rfl
  refine ⟨Fin.ext ?_, funext fun a => ?_⟩
  · show (((slotRect t).emb i) 0).val = t.val; omega
  · refine Fin.cases ?_ (fun a => Fin.cases ?_ (fun a => a.elim0) a) a <;> apply Fin.ext
    · show (((slotRect t).emb i) 1).val = (j 0).val; omega
    · show (((slotRect t).emb i) 2).val = (j 1).val; omega

/-! ## Owning a slot is owning it squeezed -/

theorem owns_slot (c : Dev nD) (t : Dev nD) (q : PosShare TreeShare) (X : S1x8x512.Idx → Elt F .bf16) :
    (owns (c : Thread nD τ) (slotU t) q X : sProp 𝕄)
      = owns (c : Thread nD τ) (slot t) q (fun j => X (Shape.reshapeEquiv squeezes_S1x8x512_S8x512.numel_eq j)) := by
  have hs : (slot t).view.set = (slotU t).view.set := View.set_reshape _ _
  unfold owns
  refine both ?_ ?_
  · iintro ⟨%f, %hf, H⟩
    iexists f
    isplitr
    · ipureintro; funext j; exact congrFun hf _
    · rw [hs]; iexact H
  · iintro ⟨%f, %hf, H⟩
    iexists f
    isplitr
    · ipureintro; funext i
      have := congrFun hf ((Shape.reshapeEquiv squeezes_S1x8x512_S8x512.numel_eq).symm i)
      have e : (slotU t).view.read (Elt F) f (Shape.reshapeEquiv squeezes_S1x8x512_S8x512.numel_eq ((Shape.reshapeEquiv squeezes_S1x8x512_S8x512.numel_eq).symm i))
          = X (Shape.reshapeEquiv squeezes_S1x8x512_S8x512.numel_eq ((Shape.reshapeEquiv squeezes_S1x8x512_S8x512.numel_eq).symm i)) := this
      rwa [Equiv.apply_symm_apply] at e
    · rw [← hs]; iexact H

/-! ## Whole buffers and their pieces -/

/-- The receive buffer at any contents is its slots at some contents, -/
theorem rcv_split (c : Dev nD) (X : S32x8x512.Idx → Elt F .bf16) :
    (owns (c : Thread nD τ) rcvM fullShare X : sProp 𝕄)
      ⊢ bigSep Finset.univ fun t => iprop(∃ Y, owns (c : Thread nD τ) (slot t) fullShare Y) := by
  refine (owns_rects (c : Thread nD τ) rcvM fullShare slotRect (fun _ _ => rfl) slot_disjoint slot_cover X).trans ?_
  refine each fun t _ => ?_
  refine (Entails.of_eq (owns_slot c t fullShare _)).trans ?_
  iintro H; iexists _; iexact H

/-- and the slots at the received chunks are the buffer at `received`. -/
theorem rcv_join (A : Dev nD → S256x512.Idx → Elt F .bf16) (c : Dev nD) :
    (bigSep Finset.univ fun t => owns (c : Thread nD τ) (slot t) fullShare (part A t c) : sProp 𝕄)
      ⊢ owns (c : Thread nD τ) rcvM fullShare (received A c) := by
  refine .trans ?_ (owns_of_rects (c : Thread nD τ) rcvM fullShare slotRect (fun _ _ => rfl) slot_disjoint slot_cover (received A c))
  refine each fun t _ => ?_
  refine Entails.of_eq ?_
  rw [owns_slot c t fullShare]
  congr 1
  funext j
  obtain ⟨h1, h2⟩ := slot_emb t j _ rfl
  show part A t c j = part A (slotDev _) c (slotPos _)
  rw [h1, h2]

/-- The gather buffer at any contents is its rows at some contents, -/
theorem gat_split (c : Dev nD) (X : S256x512.Idx → Elt F .bf16) :
    (owns (c : Thread nD τ) gatM fullShare X : sProp 𝕄)
      ⊢ bigSep Finset.univ fun t => iprop(∃ Y, owns (c : Thread nD τ) (gatRow t) fullShare Y) := by
  refine (owns_rects (c : Thread nD τ) gatM fullShare rowRect (fun _ _ => rfl) row_disjoint row_cover X).trans ?_
  refine each fun t _ => ?_
  iintro H; iexists _; iexact H

/-- and the rows at the reduced chunks are the buffer at `gathered`, at every share. -/
theorem gat_rows (A : Dev nD → S256x512.Idx → Elt F .bf16) (c : Dev nD) (q : PosShare TreeShare) :
    (bigSep Finset.univ fun t => owns (c : Thread nD τ) (gatRow t) q (reduced A t) : sProp 𝕄)
      = owns (c : Thread nD τ) gatM q (gathered A) := by
  have e : (fun t => owns (c : Thread nD τ) (gatRow t) q (reduced A t) : Dev nD → sProp 𝕄)
      = fun t => owns (c : Thread nD τ) (gatM.slice (rowRect t) (fun _ => rfl)) q (fun j => gathered A ((rowRect t).emb j)) := by
    funext t; congr 1; funext j
    show reduced A t j = reduced A (rowDev _) (rowPos _)
    rw [(row_emb t j).1, (row_emb t j).2]
  rw [e]
  exact both (owns_of_rects (c : Thread nD τ) gatM q rowRect (fun _ _ => rfl) row_disjoint row_cover (gathered A))
    (owns_rects (c : Thread nD τ) gatM q rowRect (fun _ _ => rfl) row_disjoint row_cover (gathered A))

/-- The partial product's buffer at any contents is its blocks at some contents; -/
theorem acc_split (c : Dev nD) (X : S256x512.Idx → Elt F .bf16) :
    (owns (c : Thread nD τ) accM fullShare X : sProp 𝕄)
      ⊢ bigSep Finset.univ fun b => iprop(∃ Y, owns (c : Thread nD τ) (accBlk b) fullShare Y) := by
  refine (owns_rects (c : Thread nD τ) accM fullShare blkRect (fun _ _ => rfl) blk_disjoint blk_cover X).trans ?_
  refine each fun t _ => ?_
  iintro H; iexists _; iexact H

/-- a block at the partial product's rows is those of its devices; -/
theorem blk_split (A : Dev nD → S256x512.Idx → Elt F .bf16) (c : Dev nD) (b : Fin 4) (w : S64x512.Idx → Elt F .bf16)
    (hw : ∀ j, w j = A c ((blkRect b).emb j)) :
    (owns (c : Thread nD τ) (accBlk b) fullShare w : sProp 𝕄)
      ⊢ bigSep (inBlk b) fun t => owns (c : Thread nD τ) (accRow t) fullShare (part A c t) := by
  have hset : (accM.view.slice (blkRect b)).set = (inBlk b).biUnion fun t => (accM.view.slice (rowRect t)).set := by
    ext i
    simp only [View.set_slice, blk_rows b, Finset.mem_map, Finset.mem_biUnion]
    constructor
    · rintro ⟨j, ⟨t, ht, hj⟩, e⟩; exact ⟨t, ht, j, hj, e⟩
    · rintro ⟨t, ht, j, hj, e⟩; exact ⟨j, ⟨t, ht, hj⟩, e⟩
  unfold owns
  iintro ⟨%f, %hf, H⟩
  have hpt : (accM.view.loc (c : Thread nD τ) ↦[(accM.view.slice (blkRect b)).set]{fullShare} f : sProp 𝕄)
      ⊢ bigSep (inBlk b) fun t => iprop(∃ f, ⌜(accRow t).view.read (Elt F) f = part A c t⌝
          ∗ ((accRow t).view.loc (c : Thread nD τ) ↦[(accRow t).view.set]{fullShare} f)) := by
    rw [hset, pointsTo_biUnion (inBlk b) _ (fun t _ t' _ h => by
      rw [View.set_slice, View.set_slice]; exact (Finset.disjoint_map _).mpr (row_disjoint t t' h))]
    refine each fun t ht => ?_
    iintro H
    iexists f
    isplitr
    · ipureintro; funext j
      have hm : (rowRect t).emb j ∈ (blkRect b).set := by
        rw [blk_rows b]
        exact Finset.mem_biUnion.mpr ⟨t, ht, by rw [← Rect.map_emb_univ]; exact Finset.mem_map_of_mem _ (Finset.mem_univ j)⟩
      rw [← Rect.map_emb_univ, Finset.mem_map] at hm
      obtain ⟨j', -, hj'⟩ := hm
      have e := congrFun hf j'
      rw [hw, hj'] at e
      have e2 : accM.view.read (Elt F) f ((blkRect b).emb j') = A c ((rowRect t).emb j) := e
      rw [hj'] at e2
      exact e2
    · iexact H
  iapply hpt
  iexact H

/-- and all the rows are the buffer. -/
theorem acc_join (A : Dev nD → S256x512.Idx → Elt F .bf16) (c : Dev nD) :
    (bigSep Finset.univ fun t => owns (c : Thread nD τ) (accRow t) fullShare (part A c t) : sProp 𝕄)
      ⊢ owns (c : Thread nD τ) accM fullShare (A c) :=
  owns_of_rects (c : Thread nD τ) accM fullShare rowRect (fun _ _ => rfl) row_disjoint row_cover (A c)

/-! ## Shares -/

section Shares

variable (c : Dev nD) {s : Shape} {e : EltTy} (m : Memref sig .tc .vmem s e) (X : s.Idx → Elt F e)

theorem owns_lend {q q₁ q₂ : PosShare TreeShare} (h : q ∈ q₁ ·? q₂) :
    (owns (c : Thread nD τ) m q X : sProp 𝕄) ⊢ iprop(owns (c : Thread nD τ) m q₁ X ∗ owns (c : Thread nD τ) m q₂ X) := by
  unfold owns
  iintro ⟨%f, %hf, H⟩
  ihave H' := (pointsTo_share h).1 $$ H
  icases H' with ⟨H1, H2⟩
  isplitl [H1]
  · iexists f; isplitr
    · ipureintro; exact hf
    · iexact H1
  · iexists f; isplitr
    · ipureintro; exact hf
    · iexact H2

theorem owns_unlend {q q₁ q₂ : PosShare TreeShare} (h : q ∈ q₁ ·? q₂) :
    iprop(owns (c : Thread nD τ) m q₁ X ∗ owns (c : Thread nD τ) m q₂ X) ⊢ (owns (c : Thread nD τ) m q X : sProp 𝕄) := by
  unfold owns
  iintro ⟨⟨%f, %hf, H1⟩, ⟨%g, %hg, H2⟩⟩
  iexists f
  isplitr
  · ipureintro; exact hf
  · iapply (pointsTo_share h).2
    isplitl [H1]; · iexact H1
    have e : (m.view.loc (c : Thread nD τ) ↦[m.view.set]{q₂} f : sProp 𝕄) = m.view.loc (c : Thread nD τ) ↦[m.view.set]{q₂} g :=
      pointsTo_congr fun i hi => by
        rw [View.set, Finset.mem_map] at hi
        obtain ⟨j, -, rfl⟩ := hi
        have := congrFun (hf.trans hg.symm) j
        simp only [View.read] at this
        exact (cast_inj _).mp this
    rw [e]; iexact H2

theorem keep_mem (n : ℕ) : keep n ∈ lend n ·? keep (n + 1) := PosShare.mem_left_op_right (keep n)

/-- Lending to one more copy. -/
theorem owns_keep (n : ℕ) :
    (owns (c : Thread nD τ) m (keep n) X : sProp 𝕄) = iprop(owns (c : Thread nD τ) m (lend n) X ∗ owns (c : Thread nD τ) m (keep (n + 1)) X) :=
  both (owns_lend c m X (keep_mem n)) (owns_unlend c m X (keep_mem n))

/-- The part of the full share that is not in `keep n`. -/
def rest : ℕ → sProp 𝕄
  | 0 => iprop(emp)
  | n + 1 => iprop(rest n ∗ owns (c : Thread nD τ) m (lend n) X)

theorem owns_rest (n : ℕ) :
    (owns (c : Thread nD τ) m fullShare X : sProp 𝕄) = iprop(rest c m X n ∗ owns (c : Thread nD τ) m (keep n) X) := by
  induction n with
  | zero => exact (both (emp_sep (PROP := sProp 𝕄)).1 (emp_sep (PROP := sProp 𝕄)).2).symm
  | succ n ih => rw [ih, owns_keep c m X n]; exact (both sep_assoc.1 sep_assoc.2).symm

end Shares

end Cert.Run

end
-- ==== Proof.Run.Steps.lean ====
/-
  The body's steps.  Each lemma takes one operation of the body from the state before it to the state after it.
-/
module

public import proofs.«01_k».proof.Proof.Run.Pieces

@[expose] public section

set_option maxRecDepth 20000

noncomputable section

namespace Cert.Run

open Cert.KernelIdeal Cert.KernelIdeal.Gen

open Idealize.ShloMosaic
open Idealize.ShloMosaic.TcCoe
open Idealize.SL Idealize.SL.RA Idealize.SL.BI PCS URA
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-! ## The state -/

/-- Running a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The levels of all cells. -/
def levs : sProp 𝕄 := levAts L lv

instance levs_persistent : BI.Persistent (levs (F := F)) := by unfold levs; infer_instance

/-- What everybody knows: every cell's invariant, that every barrier cell is open, and the levels. -/
def recs (A : Dev nD → S256x512.Idx → Elt F .bf16) (κ : GSem nD τ sig → ℕ) : sProp 𝕄 :=
  iprop((bigSep Finset.univ fun p : Dev nD => cellInv ER (Rd A) (κ (barCell p)) (barCell p))
    ∗ (bigSep Finset.univ fun x : Fin 4 × Dev nD × Dev nD => cellInv ER (Rd A) (κ (dcell x.1 x.2.1 x.2.2)) (dcell x.1 x.2.1 x.2.2))
    ∗ (bigSep Finset.univ fun p : Dev nD => reached ER (barCell p) 0)
    ∗ levs)

/-- That `c` has opened its DMA cells. -/
def opened (c : Dev nD) : sProp 𝕄 :=
  bigSep Finset.univ fun x : Fin 4 × Dev nD => reached ER (dcell x.1 c x.2) 0

instance recs_persistent (A : Dev nD → S256x512.Idx → Elt F .bf16) (κ : GSem nD τ sig → ℕ) : BI.Persistent (recs A κ) := by
  unfold recs; infer_instance

instance opened_persistent (c : Dev nD) : BI.Persistent (opened (F := F) c) := by
  unfold opened; infer_instance

section State

variable (A : Dev nD → S256x512.Idx → Elt F .bf16) (κ : GSem nD τ sig → ℕ)

theorem recs_bar (p : Dev nD) : recs A κ ⊢ cellInv ER (Rd A) (κ (barCell p)) (barCell p) := by
  unfold recs; iintro ⟨H, -⟩
  iapply (bigSep_at (Φ := fun p : Dev nD => cellInv ER (Rd A) (κ (barCell p)) (barCell p)) (Finset.mem_univ p)); iexact H

theorem recs_dma (k : Fin 4) (c t : Dev nD) : recs A κ ⊢ cellInv ER (Rd A) (κ (dcell k c t)) (dcell k c t) := by
  unfold recs; iintro ⟨-, H, -⟩
  iapply (bigSep_at (Φ := fun x : Fin 4 × Dev nD × Dev nD => cellInv ER (Rd A) (κ (dcell x.1 x.2.1 x.2.2)) (dcell x.1 x.2.1 x.2.2))
    (Finset.mem_univ (k, c, t))); iexact H

theorem recs_reached (p : Dev nD) : recs A κ ⊢ reached ER (barCell p) 0 := by
  unfold recs; iintro ⟨-, -, H, -⟩
  iapply (bigSep_at (Φ := fun p : Dev nD => reached ER (barCell p) 0) (Finset.mem_univ p)); iexact H

theorem recs_lev : recs A κ ⊢ levs := by
  unfold recs; iintro ⟨-, -, -, H⟩; iexact H

theorem may_bar (c : Dev nD) (S S' : Finset (Dev nD)) :
    recs A κ ⊢ MayWait (c : Thread nD τ) (.reg barS) () (oweDma 1 c S + oweDma 3 c S') :=
  (recs_lev A κ).trans (by unfold levs; exact mayWait_bar c S S')

theorem may_recv (c t : Dev nD) (S : Finset (Dev nD)) :
    recs A κ ⊢ MayWait (c : Thread nD τ) (.dma (dsem 1 t)) () (oweDma 3 c S) :=
  (recs_lev A κ).trans (by unfold levs; exact mayWait_recv c t S)

theorem may_zero (c : Dev nD) (sm : SemLoc sig) : recs A κ ⊢ MayWait (c : Thread nD τ) sm () 0 := by
  rw [MayWait_zero]; iintro -; iempintro

theorem opened_reached (k : Fin 4) (c t : Dev nD) : (opened c : sProp 𝕄) ⊢ reached ER (dcell k c t) 0 := by
  unfold opened; iintro H
  iapply (bigSep_at (Φ := fun x : Fin 4 × Dev nD => reached ER (dcell x.1 c x.2) 0) (Finset.mem_univ (k, t))); iexact H

/-- The body's state on `c`: what everybody knows, what `c` owes, and what it holds. -/
def St (c : Dev nD) (O : CellTallies nD τ sig Unit) (X : sProp 𝕄) : sProp 𝕄 :=
  iprop(recs A κ ∗ opened c ∗ (∃ W, owes (c : Thread nD τ) O W) ∗ X)

theorem St_mono {c : Dev nD} {O : CellTallies nD τ sig Unit} {X Y : sProp 𝕄} (h : X ⊢ Y) : St A κ c O X ⊢ St A κ c O Y := by
  unfold St; iintro ⟨H1, H2, H3, H4⟩
  isplitl [H1]; · iexact H1
  isplitl [H2]; · iexact H2
  isplitl [H3]; · iexact H3
  iapply h; iexact H4

end State

/-! ## Parts -/

/-- A part and what follows it. -/
theorem step_bind {c : Dev nD} {α β : Type} {P : sProp 𝕄} {p : Prog (TpuEff nD τ sig (Elt F) Λ₀ .tc) α}
    {k : α → Prog (TpuEff nD τ sig (Elt F) Λ₀ .tc) β} {Q : β → sProp 𝕄} (h : P ⊢ WP c p fun r => WP c (k r) Q) : P ⊢ WP c (p >>= k) Q :=
  h.trans (Entails.of_eq (wp_bind _ _ _ p k Q).symm)

theorem step_pure {c : Dev nD} {α : Type} {P : sProp 𝕄} {v : α} {Q : α → sProp 𝕄} (h : P ⊢ Q v) : P ⊢ WP c (pure v) Q :=
  h.trans (le_wp_ret _ _ _ v Q)

theorem step_device {c : Dev nD} {α : Type} {P : sProp 𝕄} {k : Dev nD → Prog (TpuEff nD τ sig (Elt F) Λ₀ .tc) α} {Q : α → sProp 𝕄}
    (h : P ⊢ WP c (k c) Q) : P ⊢ WP c (Prog.lift .deviceId >>= k) Q := by
  refine h.trans (Entails.of_eq ?_)
  exact (wp_deviceId ..).symm

/-! ## The ring of devices -/

theorem dist_lt (c t : Dev nD) : dist c t < 32 := Nat.mod_lt _ (by decide)

/-- The devices more than `n` steps after `c`, and those from 1 to `n` steps after it. -/
def Rem (c : Dev nD) (n : ℕ) : Finset (Dev nD) := Finset.univ.filter fun t => n < dist c t
def Got (c : Dev nD) (n : ℕ) : Finset (Dev nD) := Finset.univ.filter fun t => 1 ≤ dist c t ∧ dist c t ≤ n

theorem dist_tgt (c : Dev nD) (n : ℕ) (h : n < 32) : dist c (tgt c n) = n := by
  have := c.isLt; simp only [dist, tgt, nD] at *; omega

theorem dist_eq (c t : Dev nD) (n : ℕ) : dist c t = n ↔ n < 32 ∧ t = tgt c n := by
  constructor
  · intro h; have := c.isLt; have := t.isLt
    refine ⟨h ▸ dist_lt c t, Fin.ext ?_⟩
    simp only [dist, tgt, nD] at *; omega
  · rintro ⟨h, rfl⟩; exact dist_tgt c n h

theorem dist_zero (c t : Dev nD) : dist c t = 0 ↔ t = c := by
  have h : tgt c 0 = c := Fin.ext (by have := c.isLt; simp only [tgt, nD] at *; omega)
  rw [dist_eq, h]; simp

theorem tgt_ne (c : Dev nD) (n : ℕ) (h : n + 1 < 32) : tgt c (n + 1) ≠ c := fun e => by
  have := dist_tgt c (n + 1) h
  rw [e, (dist_zero c c).mpr rfl] at this; omega

theorem mem_Rem (c t : Dev nD) (n : ℕ) : t ∈ Rem c n ↔ n < dist c t := by simp [Rem]
theorem mem_Got (c t : Dev nD) (n : ℕ) : t ∈ Got c n ↔ 1 ≤ dist c t ∧ dist c t ≤ n := by simp [Got]

theorem Rem_zero (c : Dev nD) : Rem c 0 = Finset.univ.erase c := by
  ext t; rw [mem_Rem, Finset.mem_erase, ne_eq, ← dist_zero c t]; simp; omega
theorem Got_zero (c : Dev nD) : Got c 0 = ∅ := by
  ext t; rw [mem_Got]; simp; omega
theorem Rem_last (c : Dev nD) : Rem c 31 = ∅ := by
  ext t; rw [mem_Rem]; have := dist_lt c t; simp; omega
theorem Got_last (c : Dev nD) : Got c 31 = Finset.univ.erase c := by
  ext t; rw [mem_Got, Finset.mem_erase, ne_eq, ← dist_zero c t]; have := dist_lt c t; simp; omega

theorem tgt_mem (c : Dev nD) (n : ℕ) (h : n + 1 < 32) : tgt c (n + 1) ∈ Rem c n := by
  rw [mem_Rem, dist_tgt c _ h]; omega
theorem Rem_succ (c : Dev nD) (n : ℕ) : Rem c (n + 1) = (Rem c n).erase (tgt c (n + 1)) := by
  ext t
  have h := dist_eq c t (n + 1)
  have := dist_lt c t
  rw [Finset.mem_erase, mem_Rem, mem_Rem]
  constructor
  · intro h'; exact ⟨fun e => by by_cases hn : n + 1 < 32 <;> [have := h.mpr ⟨hn, e⟩; skip] <;> omega, by omega⟩
  · rintro ⟨h1, h2⟩
    have : dist c t ≠ n + 1 := fun e => h1 (h.mp e).2
    omega
theorem Got_succ (c : Dev nD) (n : ℕ) (hn : n + 1 < 32) : Got c (n + 1) = insert (tgt c (n + 1)) (Got c n) := by
  ext t
  have h := dist_eq c t (n + 1)
  rw [Finset.mem_insert, mem_Got, mem_Got]
  constructor
  · intro h'
    by_cases e : dist c t = n + 1
    · exact .inl (h.mp e).2
    · exact .inr (by omega)
  · rintro (e | h')
    · have := h.mpr ⟨hn, e⟩; omega
    · omega
theorem tgt_not_mem (c : Dev nD) (n : ℕ) (hn : n + 1 < 32) : tgt c (n + 1) ∉ Got c n := by
  rw [mem_Got, dist_tgt c _ hn]; omega

section Steps

variable (A : Dev nD → S256x512.Idx → Elt F .bf16) (κ : GSem nD τ sig → ℕ) (c : Dev nD)

/-! ## The barrier -/

/-- What `c` still has to hand to its peers' barriers. -/
def sigRes (n : ℕ) : sProp 𝕄 := bigSep (Rem c n) fun p => iprop(dutyTok ER (barCell p) 0 c ∗ barPay c p)

/-- The signal to the device `n + 1` steps on. -/
theorem step_signal (n : ℕ) (hn : n + 1 < 32) {dv : Dev nD} (hdv : dv = tgt c (n + 1)) {O' : CellTallies nD τ sig Unit} {X : sProp 𝕄}
    {α : Type} {k : PUnit → Prog (TpuEff nD τ sig (Elt F) Λ₀ .tc) α} {Q : α → sProp 𝕄}
    (h : St A κ c (oweBar (Rem c (n + 1)) + O') iprop(sigRes c (n + 1) ∗ X) ⊢ WP c (k ⟨⟩) Q) :
    St A κ c (oweBar (Rem c n) + O') iprop(sigRes c n ∗ X) ⊢ WP c (semSignalWord dv barS 1#32 >>= k) Q := by
  subst hdv
  refine .trans ?_ (Entails.of_eq (show wp frame (wpE (defs₀ (F := F)) 𝒱₀ (c : Thread nD τ) none) Set.univ
    (.op (.semSignal ((tgt c (n + 1) : Dev nD) : Thread nD τ) barS ((1#32 : BitVec 32).toInt)) k) Q = _ from rfl))
  have hm := tgt_mem c n hn
  unfold St
  iintro ⟨#HR, #Hop, ⟨%W, HO⟩, Hs, HX⟩
  unfold sigRes
  ihave Hs := (Entails.of_eq (bigSep_take (Φ := fun p => iprop(dutyTok ER (barCell p) 0 c ∗ barPay c p)) hm)) $$ Hs
  icases Hs with ⟨⟨Ht, Hp⟩, Hs⟩
  ihave HO := (Entails.of_eq (show (owes (c : Thread nD τ) (oweBar (Rem c n) + O') W : sProp 𝕄)
      = owes (c : Thread nD τ) ((oweBar (Rem c (n + 1)) + O') + tallyAt (barCell (tgt c (n + 1))) () 1) W by
    rw [oweBar_erase hm, ← Rem_succ, add_right_comm])) $$ HO
  iapply (Rounds.wp_signal 𝒱₀ ER (Rd A) (c : Thread nD τ) none (dst := ((tgt c (n + 1) : Dev nD) : Thread nD τ)) (κ := κ (barCell (tgt c (n + 1))))
      (d := c) (r := 0) (by rw [duties_bar]; exact Finset.mem_erase.mpr ⟨(tgt_ne c n hn).symm, Finset.mem_univ _⟩)
      ((amount_bar A (tgt c (n + 1)) c).trans (by decide)) () (oweBar (Rem c (n + 1)) + O') rfl (W := W)) $$ [HO Ht Hp]
  · isplitr; · iapply (recs_bar A κ); iexact HR
    isplitl [HO]; · iexact HO
    isplitl [Ht]; · iexact Ht
    isplitl [Hp]; · rw [payload_bar]; iexact Hp
    iapply (recs_reached A κ); iexact HR
  iintro HO
  iapply h
  unfold St sigRes
  rw [Rem_succ]
  isplitr; · iexact HR
  isplitr; · iexact Hop
  isplitl [HO]; · iexists W; iexact HO
  isplitl [Hs]; · iexact Hs
  iexact HX

/-- The wait for all 31 peers: their payloads. -/
theorem step_barrier {S S' : Finset (Dev nD)} {X : sProp 𝕄} {α : Type} {k : PUnit → Prog (TpuEff nD τ sig (Elt F) Λ₀ .tc) α} {Q : α → sProp 𝕄}
    (h : St A κ c (oweDma 1 c S + oweDma 3 c S')
        iprop((bigSep (Finset.univ.erase c) fun p => barPay p c) ∗ atPos ER (barCell c) 1 ∅ 0 ∗ X) ⊢ WP c (k ⟨⟩) Q) :
    St A κ c (oweDma 1 c S + oweDma 3 c S') iprop(cred (tallyAt (barCell c) () 31) ∗ atPos ER (barCell c) 0 ∅ 0 ∗ X)
      ⊢ WP c (semWaitWord barS 31#32 >>= k) Q := by
  refine .trans ?_ (Entails.of_eq (show wp frame (wpE (defs₀ (F := F)) 𝒱₀ (c : Thread nD τ) none) Set.univ
    (.op (.semWait barS ((31#32 : BitVec 32).toInt)) k) Q = _ from rfl))
  unfold St
  iintro ⟨#HR, #Hop, ⟨%W, HO⟩, Hc, Hat, HX⟩
  iapply (Rounds.wp_wait_rest_token 𝒱₀ ER (Rd A) (c : Thread nD τ) none (κ := κ (barCell c))
      (wpE_semWait_eq 𝒱₀ (c : Thread nD τ) none Set.univ) (Set.mem_univ _) () (O := oweDma 1 c S + oweDma 3 c S') (W := W) (R := 0) (m := 0) (T := ∅)
      (by rw [expect_bar]; decide +kernel)) $$ [Hc HO Hat]
  · isplitr; · iapply (recs_bar A κ); iexact HR
    isplitl [Hc]; · iexact Hc
    isplitl [HO]; · iexact HO
    isplitr; · iapply (may_bar A κ c S S'); iexact HR
    iexact Hat
  iintro ⟨HO, Hat, -, Hpay⟩
  ihave Hp := (Entails.of_eq (rest_bar A c)) $$ Hpay
  iapply h
  unfold St
  isplitr; · iexact HR
  isplitr; · iexact Hop
  isplitl [HO]; · iexists _; iexact HO
  isplitl [Hp]; · iexact Hp
  isplitl [Hat]; · iexact Hat
  iexact HX

end Steps

end Cert.Run

end
-- ==== Proof.Run.Copies.lean ====
/-
  The body's loads, stores, copies and waits, each as a step from one state to the next.
-/
module

public import proofs.«01_k».proof.Proof.Run.Steps

@[expose] public section

set_option maxRecDepth 20000

noncomputable section

namespace Cert.Run

open Cert.KernelIdeal Cert.KernelIdeal.Gen

open Idealize.ShloMosaic
open Idealize.ShloMosaic.TcCoe
open Idealize.SL Idealize.SL.RA Idealize.SL.BI PCS URA
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (A : Dev nD → S256x512.Idx → Elt F .bf16) (κ : GSem nD τ sig → ℕ) (c : Dev nD)

/-! ## Loads and stores -/

theorem owns_mk {t : Dev nD} {s : Shape} {e : EltTy} {m : Memref sig .tc .vmem s e} {q : PosShare TreeShare} {f : s.Idx → Elt F e}
    {g : m.view.ty.Contents (Elt F)} (hg : m.view.read (Elt F) g = f) :
    (m.view.loc (t : Thread nD τ) ↦[m.view.set]{q} g : sProp 𝕄) ⊢ owns (t : Thread nD τ) m q f := by
  subst hg; exact owns_intro (t : Thread nD τ) m q g

section Memory

variable {O : CellTallies nD τ sig Unit} {α : Type} {s : Shape} {e : EltTy}

/-- A load of a rectangle of an owned memref. -/
theorem step_load {X : sProp 𝕄} {Q : α → sProp 𝕄} {m : Memref sig .tc .vmem s e} {r : Rect s} {hl : m.view.LoadsAt r.toLoadRect} {q : PosShare TreeShare} {f : s.Idx → Elt F e}
    {k : (r.shape.Idx → Elt F e) → Prog (TpuEff nD τ sig (Elt F) Λ₀ .tc) α}
    (hX : X ⊢ iprop(owns (c : Thread nD τ) m q f ∗ (owns (c : Thread nD τ) m q f -∗ X)))
    (h : St A κ c O X ⊢ WP c (k fun j => f (r.emb j)) Q) :
    St A κ c O X ⊢ WP c (Prog.lift (.load m r.toLoadRect hl) >>= k) Q := by
  refine .trans ?_ (Entails.of_eq (show wp frame (wpE (defs₀ (F := F)) 𝒱₀ (c : Thread nD τ) none) Set.univ
    (.op (.load m r.toLoadRect hl) k) Q = _ from rfl))
  unfold St at h ⊢
  iintro ⟨#HR, #Hop, HO, HX⟩
  ihave H := hX $$ HX
  icases H with ⟨Hm, HX⟩
  ihave Hm := (show owns (c : Thread nD τ) m q f ⊢ (iprop(∃ g, ⌜m.view.read (Elt F) g = f⌝ ∗ m.view.loc (c : Thread nD τ) ↦[m.view.set]{q} g) : sProp 𝕄)
    from .rfl) $$ Hm
  icases Hm with ⟨%g, %hg, Hm⟩
  iapply (wp_load_rect 𝒱₀ (c : Thread nD τ) none Set.univ (m := m) (r := r) (hl := hl) (S := m.view.set) (q := q) (f := g) (m.view.set_slice_subset r)) $$ Hm
  iintro Hm
  have hread : (m.access r).read (Elt F) g = fun j => f (r.emb j) := by
    funext j; exact congrFun hg (r.emb j)
  rw [hread]
  iapply h
  isplitr; · iexact HR
  isplitr; · iexact Hop
  isplitl [HO]; · iexact HO
  iapply HX
  iapply (owns_mk (F := F) hg); iexact Hm

/-- A load whose contents are not used. -/
theorem step_load_any {X : sProp 𝕄} {Q : α → sProp 𝕄} {m : Memref sig .tc .vmem s e} {r : Rect s} {hl : m.view.LoadsAt r.toLoadRect} {q : PosShare TreeShare}
    {k : (r.shape.Idx → Elt F e) → Prog (TpuEff nD τ sig (Elt F) Λ₀ .tc) α} (hr : ∀ a, r.stride a = 1)
    (hX : X ⊢ iprop(∃ f, owns (c : Thread nD τ) (m.slice r hr) q f ∗ (owns (c : Thread nD τ) (m.slice r hr) q f -∗ X)))
    (h : ∀ w, St A κ c O X ⊢ WP c (k w) Q) :
    St A κ c O X ⊢ WP c (Prog.lift (.load m r.toLoadRect hl) >>= k) Q := by
  refine .trans ?_ (Entails.of_eq (show wp frame (wpE (defs₀ (F := F)) 𝒱₀ (c : Thread nD τ) none) Set.univ
    (.op (.load m r.toLoadRect hl) k) Q = _ from rfl))
  unfold St at h ⊢
  iintro ⟨#HR, #Hop, HO, HX⟩
  ihave H := hX $$ HX
  icases H with ⟨%f, Hm, HX⟩
  ihave Hm := (show owns (c : Thread nD τ) (m.slice r hr) q f ⊢ (iprop(∃ g, ⌜(m.slice r hr).view.read (Elt F) g = f⌝
      ∗ (m.access r).loc (c : Thread nD τ) ↦[(m.access r).set]{q} g) : sProp 𝕄) from .rfl) $$ Hm
  icases Hm with ⟨%g, %hg, Hm⟩
  iapply (wp_load_rect 𝒱₀ (c : Thread nD τ) none Set.univ (m := m) (r := r) (hl := hl) (S := (m.access r).set) (q := q) (f := g) (Finset.Subset.refl _)) $$ Hm
  iintro Hm
  iapply (h _)
  isplitr; · iexact HR
  isplitr; · iexact Hop
  isplitl [HO]; · iexact HO
  iapply HX
  iapply (owns_mk (F := F) hg); iexact Hm

/-- A load of an owned slice. -/
theorem step_load_slice {X : sProp 𝕄} {Q : α → sProp 𝕄} {m : Memref sig .tc .vmem s e} {r : Rect s} {hl : m.view.LoadsAt r.toLoadRect} {q : PosShare TreeShare} {f : r.shape.Idx → Elt F e}
    {k : (r.shape.Idx → Elt F e) → Prog (TpuEff nD τ sig (Elt F) Λ₀ .tc) α} (hr : ∀ a, r.stride a = 1)
    (hX : X ⊢ iprop(owns (c : Thread nD τ) (m.slice r hr) q f ∗ (owns (c : Thread nD τ) (m.slice r hr) q f -∗ X)))
    (h : St A κ c O X ⊢ WP c (k f) Q) :
    St A κ c O X ⊢ WP c (Prog.lift (.load m r.toLoadRect hl) >>= k) Q := by
  refine .trans ?_ (Entails.of_eq (show wp frame (wpE (defs₀ (F := F)) 𝒱₀ (c : Thread nD τ) none) Set.univ
    (.op (.load m r.toLoadRect hl) k) Q = _ from rfl))
  unfold St at h ⊢
  iintro ⟨#HR, #Hop, HO, HX⟩
  ihave H := hX $$ HX
  icases H with ⟨Hm, HX⟩
  ihave Hm := (show owns (c : Thread nD τ) (m.slice r hr) q f ⊢ (iprop(∃ g, ⌜(m.slice r hr).view.read (Elt F) g = f⌝
      ∗ (m.access r).loc (c : Thread nD τ) ↦[(m.access r).set]{q} g) : sProp 𝕄) from .rfl) $$ Hm
  icases Hm with ⟨%g, %hg, Hm⟩
  iapply (wp_load_rect 𝒱₀ (c : Thread nD τ) none Set.univ (m := m) (r := r) (hl := hl) (S := (m.access r).set) (q := q) (f := g) (Finset.Subset.refl _)) $$ Hm
  iintro Hm
  have hread : (m.access r).read (Elt F) g = f := hg
  rw [hread]
  iapply h
  isplitr; · iexact HR
  isplitr; · iexact Hop
  isplitl [HO]; · iexact HO
  iapply HX
  iapply (owns_mk (F := F) hg); iexact Hm

/-- A store of an owned slice, whatever it held. -/
theorem step_store_slice {X X' : sProp 𝕄} {Q : α → sProp 𝕄} {m : Memref sig .tc .vmem s e} {r : Rect s} {w : r.shape.Idx → Elt F e}
    {hx : (m.access r).Stores Finset.univ} {hm : Finset.univ = Finset.univ ∨ ∀ a, r.stride a = 1}
    {k : PUnit → Prog (TpuEff nD τ sig (Elt F) Λ₀ .tc) α} (hr : ∀ a, r.stride a = 1)
    (hX : X ⊢ iprop(∃ f, owns (c : Thread nD τ) (m.slice r hr) fullShare f ∗ (owns (c : Thread nD τ) (m.slice r hr) fullShare w -∗ X')))
    (h : St A κ c O X' ⊢ WP c (k ⟨⟩) Q) :
    St A κ c O X ⊢ WP c (Prog.lift (.store m r w Finset.univ hx hm) >>= k) Q := by
  refine .trans ?_ (Entails.of_eq (show wp frame (wpE (defs₀ (F := F)) 𝒱₀ (c : Thread nD τ) none) Set.univ
    (.op (.store m r w Finset.univ hx hm) k) Q = _ from rfl))
  unfold St at h ⊢
  iintro ⟨#HR, #Hop, HO, HX⟩
  ihave H := hX $$ HX
  icases H with ⟨%f, Hm, HX⟩
  ihave Hm := (show owns (c : Thread nD τ) (m.slice r hr) fullShare f ⊢ (iprop(∃ g, ⌜(m.slice r hr).view.read (Elt F) g = f⌝
      ∗ (m.access r).loc (c : Thread nD τ) ↦[(m.access r).set]{fullShare} g) : sProp 𝕄) from .rfl) $$ Hm
  icases Hm with ⟨%g, -, Hm⟩
  iapply (wp_store 𝒱₀ (c : Thread nD τ) none Set.univ (m := m) (r := r) (hx := hx) (hm := hm) (S := (m.access r).set) (f := g) (Finset.Subset.refl _)) $$ Hm
  iintro Hm
  iapply h
  isplitr; · iexact HR
  isplitr; · iexact Hop
  isplitl [HO]; · iexact HO
  iapply HX
  iapply (owns_mk (F := F) (m := m.slice r hr) (View.read_write_univ _ _)); iexact Hm

/-- A store of a rectangle of an owned memref. -/
theorem step_store {X X' : sProp 𝕄} {Q : α → sProp 𝕄} {m : Memref sig .tc .vmem s e} {r : Rect s} {w : r.shape.Idx → Elt F e} {f : s.Idx → Elt F e}
    {hx : (m.access r).Stores Finset.univ} {hm : Finset.univ = Finset.univ ∨ ∀ a, r.stride a = 1}
    {k : PUnit → Prog (TpuEff nD τ sig (Elt F) Λ₀ .tc) α} (hr : ∀ a, r.stride a = 1)
    (hX : X ⊢ iprop(owns (c : Thread nD τ) m fullShare f ∗ (owns (c : Thread nD τ) m fullShare (r.overlay f w) -∗ X')))
    (h : St A κ c O X' ⊢ WP c (k ⟨⟩) Q) :
    St A κ c O X ⊢ WP c (Prog.lift (.store m r w Finset.univ hx hm) >>= k) Q := by
  refine step_store_slice A κ c (X' := X') hr ?_ h
  refine hX.trans ?_
  iintro ⟨Hm, HX⟩
  ihave Hm := (owns_slice_split (c : Thread nD τ) m fullShare r hr f) $$ Hm
  icases Hm with ⟨Hs, ⟨%g, %hg, Hrest⟩⟩
  iexists _
  isplitl [Hs]; · iexact Hs
  iintro Hs
  iapply HX
  rw [← hg]
  iapply (owns_slice_join (c : Thread nD τ) m fullShare r hr w g)
  isplitl [Hs]; · iexact Hs
  iexact Hrest

end Memory

/-! ## Waits -/

/-- The cells of one kind after `n` waits: those still to be waited for, and what the others handed over. -/
def wt (k : Fin 4) (n : ℕ) : sProp 𝕄 :=
  iprop((bigSep (Rem c n) fun s => iprop(cred (tallyAt (dcell k c s) () N) ∗ atPos ER (dcell k c s) 0 ∅ 0))
    ∗ bigSep (Got c n) fun s => iprop(atPos ER (dcell k c s) 1 ∅ 0 ∗ dpay A k c s))

theorem step_wait (k : Fin 4) (n : ℕ) (hn : n + 1 < 32) {O : CellTallies nD τ sig Unit} {X : sProp 𝕄}
    (hmay : ∀ t, recs A κ ⊢ MayWait (c : Thread nD τ) (.dma (dsem k t)) () O)
    {sm : DmaSem sig} (hsm : sm = dsem k (tgt c (n + 1)))
    {sp sp' : Space} {s s' : Shape} {e e' : EltTy} {src : Memref sig .tc sp' s' e'} {dst : Memref sig .tc sp s e}
    {hsrc : src.view.WordExact} {hdst : dst.view.WordExact} (hN : dst.view.dmaCredit = N)
    {α : Type} {k' : PUnit → Prog (TpuEff nD τ sig (Elt F) Λ₀ .tc) α} {Q : α → sProp 𝕄}
    (h : St A κ c O iprop(wt A c k (n + 1) ∗ X) ⊢ WP c (k' ⟨⟩) Q) :
    St A κ c O iprop(wt A c k n ∗ X) ⊢ WP c (Prog.lift (.waitDma2 sm src dst hsrc hdst) >>= k') Q := by
  subst hsm
  refine .trans ?_ (Entails.of_eq (show wp frame (wpE (defs₀ (F := F)) 𝒱₀ (c : Thread nD τ) none) Set.univ
    (.op (.waitDma2 (dsem k (tgt c (n + 1))) src dst hsrc hdst) k') Q = _ from rfl))
  have hm := tgt_mem c n hn
  have hne := tgt_ne c n hn
  unfold St at h ⊢
  unfold wt at h ⊢
  iintro ⟨#HR, #Hop, ⟨%W, HO⟩, ⟨Hrem, Hgot⟩, HX⟩
  ihave Hrem := (Entails.of_eq (bigSep_take (Φ := fun s => iprop(cred (tallyAt (dcell k c s) () N) ∗ atPos ER (dcell k c s) 0 ∅ 0)) hm)) $$ Hrem
  icases Hrem with ⟨⟨Hc, Hat⟩, Hrem⟩
  iapply (Rounds.wp_wait_rest_token 𝒱₀ ER (Rd A) (c : Thread nD τ) none (κ := κ (dcell k c (tgt c (n + 1))))
      (wpE_waitDma2_eq 𝒱₀ (c : Thread nD τ) none Set.univ) (Set.mem_univ _) () (O := O) (W := W) (R := 0) (m := 0) (T := ∅)
      (by rw [Nat.zero_add, expect_dma A k c _ hne, hN])) $$ [Hc HO Hat]
  · isplitr; · iapply (recs_dma A κ); iexact HR
    isplitl [Hc]; · rw [hN]; iexact Hc
    isplitl [HO]; · iexact HO
    isplitr; · iapply (hmay _); iexact HR
    iexact Hat
  iintro ⟨HO, Hat, -, Hpay⟩
  ihave Hp := (Entails.of_eq (rest_dma A k c _ hne)) $$ Hpay
  iapply h
  rw [Rem_succ, Got_succ c n hn, bigSep_put (Φ := fun s => iprop(atPos ER (dcell k c s) 1 ∅ 0 ∗ dpay A k c s)) (tgt_not_mem c n hn)]
  isplitr; · iexact HR
  isplitr; · iexact Hop
  isplitl [HO]; · iexists _; iexact HO
  isplitr [HX]
  · isplitl [Hrem]; · iexact Hrem
    isplitr [Hgot]
    · isplitl [Hat]; · iexact Hat
      iexact Hp
    · iexact Hgot
  iexact HX

theorem St_swap {O : CellTallies nD τ sig Unit} {X Y Z : sProp 𝕄} : St A κ c O iprop(X ∗ Y ∗ Z) ⊢ St A κ c O iprop(Y ∗ X ∗ Z) :=
  St_mono A κ (by
    iintro ⟨H1, H2, H3⟩
    isplitl [H2]; · iexact H2
    isplitl [H1]; · iexact H1
    iexact H3)

/-- A wait on the second of two kinds. -/
theorem step_wait' (k : Fin 4) (n : ℕ) (hn : n + 1 < 32) {O : CellTallies nD τ sig Unit} {X Y : sProp 𝕄}
    (hmay : ∀ t, recs A κ ⊢ MayWait (c : Thread nD τ) (.dma (dsem k t)) () O)
    {sm : DmaSem sig} (hsm : sm = dsem k (tgt c (n + 1)))
    {sp sp' : Space} {s s' : Shape} {e e' : EltTy} {src : Memref sig .tc sp' s' e'} {dst : Memref sig .tc sp s e}
    {hsrc : src.view.WordExact} {hdst : dst.view.WordExact} (hN : dst.view.dmaCredit = N)
    {α : Type} {k' : PUnit → Prog (TpuEff nD τ sig (Elt F) Λ₀ .tc) α} {Q : α → sProp 𝕄}
    (h : St A κ c O iprop(Y ∗ wt A c k (n + 1) ∗ X) ⊢ WP c (k' ⟨⟩) Q) :
    St A κ c O iprop(Y ∗ wt A c k n ∗ X) ⊢ WP c (Prog.lift (.waitDma2 sm src dst hsrc hdst) >>= k') Q :=
  (St_swap A κ c).trans (step_wait A κ c k n hn hmay hsm hN ((St_swap A κ c).trans h))

/-! ## The first copies -/

/-- The `m`-th device in the order in which `c` sends its first copies, and a device's place in that order. -/
def t1 (m : ℕ) : Dev nD := ⟨(8 * (m / 8) + (c.val + m % 8) % 8) % 32, Nat.mod_lt _ (by decide)⟩
def ord (t : Dev nD) : ℕ := 8 * (t.val / 8) + (t.val + 32 - c.val) % 8

theorem ord_lt (t : Dev nD) : ord c t < 32 := by have := t.isLt; simp only [ord, nD] at *; omega

theorem ord_eq (t : Dev nD) (m : ℕ) (hm : m < 32) : ord c t = m ↔ t = t1 c m := by
  have := t.isLt; have := c.isLt
  rw [Fin.ext_iff]
  simp only [ord, t1, nD] at *; omega

theorem ord_t1 (m : ℕ) (hm : m < 32) : ord c (t1 c m) = m := (ord_eq c _ m hm).mpr rfl

theorem ord_div (t : Dev nD) : ord c t / 8 = t.val / 8 := by simp only [ord]; omega

def Rem1 (m : ℕ) : Finset (Dev nD) := Finset.univ.filter fun t => m ≤ ord c t ∧ t ≠ c
def Sent1 (m : ℕ) : Finset (Dev nD) := Finset.univ.filter fun t => ord c t < m ∧ t ≠ c
def have1 (b m : ℕ) : Finset (Dev nD) := Finset.univ.filter fun t => t.val / 8 < b ∧ (m ≤ ord c t ∨ t = c)
def left1 (b : ℕ) : Finset (Fin 4) := Finset.univ.filter fun b' => b ≤ b'.val

section Sets

variable (m : ℕ) (hm : m < 32)
include hm

theorem Rem1_succ : Rem1 c (m + 1) = (Rem1 c m).erase (t1 c m) := by
  ext t
  have h := ord_eq c t m hm
  simp only [Rem1, Finset.mem_filter, Finset.mem_univ, true_and, Finset.mem_erase, ne_eq]
  rw [← h]
  exact ⟨fun ⟨h1, h2⟩ => ⟨by omega, by omega, h2⟩, fun ⟨h0, h1, h2⟩ => ⟨by omega, h2⟩⟩
theorem t1_mem (h : t1 c m ≠ c) : t1 c m ∈ Rem1 c m := by
  simp only [Rem1, Finset.mem_filter, Finset.mem_univ, true_and, ord_t1 c m hm]; exact ⟨le_refl _, h⟩
theorem Rem1_same (h : t1 c m = c) : Rem1 c (m + 1) = Rem1 c m := by
  rw [Rem1_succ c m hm]; refine Finset.erase_eq_of_notMem ?_
  simp [Rem1, h]
theorem Sent1_succ (h : t1 c m ≠ c) : Sent1 c (m + 1) = insert (t1 c m) (Sent1 c m) := by
  ext t
  have ht := ord_eq c t m hm
  simp only [Sent1, Finset.mem_filter, Finset.mem_univ, true_and, Finset.mem_insert]
  constructor
  · rintro ⟨h1, h2⟩
    by_cases e : ord c t = m
    · exact .inl (ht.mp e)
    · exact .inr ⟨by omega, h2⟩
  · rintro (rfl | ⟨h1, h2⟩)
    · exact ⟨by rw [ord_t1 c m hm]; omega, h⟩
    · exact ⟨by omega, h2⟩
theorem t1_not_sent : t1 c m ∉ Sent1 c m := by
  simp only [Sent1, Finset.mem_filter, Finset.mem_univ, true_and, ord_t1 c m hm]; omega
theorem Sent1_same (h : t1 c m = c) : Sent1 c (m + 1) = Sent1 c m := by
  ext t
  have ht := ord_eq c t m hm
  simp only [Sent1, Finset.mem_filter, Finset.mem_univ, true_and]
  rw [h] at ht
  constructor
  · rintro ⟨h1, h2⟩; exact ⟨by have : ord c t ≠ m := fun e => h2 (ht.mp e); omega, h2⟩
  · rintro ⟨h1, h2⟩; exact ⟨Nat.lt_succ_of_lt h1, h2⟩
theorem have1_mem {b : ℕ} (hb : m / 8 < b) : t1 c m ∈ have1 c b m := by
  simp only [have1, Finset.mem_filter, Finset.mem_univ, true_and, ← ord_div c (t1 c m), ord_t1 c m hm]; omega
theorem have1_succ {b : ℕ} (h : t1 c m ≠ c) : have1 c b (m + 1) = (have1 c b m).erase (t1 c m) := by
  ext t
  have ht := ord_eq c t m hm
  simp only [have1, Finset.mem_filter, Finset.mem_univ, true_and, Finset.mem_erase, ne_eq]
  constructor
  · rintro ⟨h1, h2 | h2⟩
    · exact ⟨fun e => by have := ht.mpr e; omega, h1, .inl (by omega)⟩
    · exact ⟨fun e => h (e.symm.trans h2), h1, .inr h2⟩
  · rintro ⟨h0, h1, h2 | h2⟩
    · exact ⟨h1, .inl (by have : ord c t ≠ m := fun e => h0 (ht.mp e); omega)⟩
    · exact ⟨h1, .inr h2⟩
theorem have1_same {b : ℕ} (h : t1 c m = c) : have1 c b (m + 1) = have1 c b m := by
  ext t
  have ht := ord_eq c t m hm
  rw [h] at ht
  simp only [have1, Finset.mem_filter, Finset.mem_univ, true_and]
  constructor
  · rintro ⟨h1, h2 | h2⟩
    · exact ⟨h1, .inl (by omega)⟩
    · exact ⟨h1, .inr h2⟩
  · rintro ⟨h1, h2 | h2⟩
    · by_cases e : ord c t = m
      · exact ⟨h1, .inr (ht.mp e)⟩
      · exact ⟨h1, .inl (by omega)⟩
    · exact ⟨h1, .inr h2⟩

end Sets

/-- The first copies after `m` of them, `b` blocks of the partial product being written: what the ones to come need, the credits of
    those that were sent, and the partial product's rows and blocks that are held. -/
def ph1 (b m : ℕ) : sProp 𝕄 :=
  iprop((bigSep (Rem1 c m) fun t => iprop((∃ X, owns (t : Thread nD τ) (slot c) fullShare X)
        ∗ dutyTok ER (dcell 0 c t) 0 t ∗ dutyTok ER (dcell 1 t c) 0 c ∗ reached ER (dcell 1 t c) 0))
    ∗ (bigSep (Sent1 c m) fun t => cred (tallyAt (dcell 0 c t) () N))
    ∗ (bigSep (have1 c b m) fun t => owns (c : Thread nD τ) (accRow t) fullShare (part A c t))
    ∗ bigSep (left1 b) fun b' => iprop(∃ Y, owns (c : Thread nD τ) (accBlk b') fullShare Y))

/-- A first copy on its own. -/
theorem step_copy1 (b m : ℕ) (hm : m < 32) (hb : m / 8 < b) (hne : t1 c m ≠ c) {O' : CellTallies nD τ sig Unit} {X : sProp 𝕄}
    {n : Dev nD} (hn : n = t1 c m) {src dst : Memref sig .tc .vmem S8x512 .bf16} (hs : src = accRow (t1 c m)) (hd : dst = slot c)
    {sS sR : DmaSem sig} (hsS : sS = dsem 0 (t1 c m)) (hsR : sR = dsem 1 c)
    {hsc : (dst : Memref sig (Dev.tc n : Thread nD τ).2.kind .vmem S8x512 .bf16).view.ref.isScScratch = false}
    {e₁ : src.view.WordExact} {e₂ : dst.view.WordExact}
    {e₃ : DmaTarget.Typed .vmem (.dma sR) (.remote (Dev.tc n : Thread nD τ) (dst : Memref sig (Dev.tc n : Thread nD τ).2.kind .vmem S8x512 .bf16) (.dma sS) hsc)}
    {α : Type} {k : PUnit → Prog (TpuEff nD τ sig (Elt F) Λ₀ .tc) α} {Q : α → sProp 𝕄}
    (h : St A κ c (oweDma 1 c (Rem1 c (m + 1)) + O') iprop(ph1 A c b (m + 1) ∗ X) ⊢ WP c (k ⟨⟩) Q) :
    St A κ c (oweDma 1 c (Rem1 c m) + O') iprop(ph1 A c b m ∗ X)
      ⊢ WP c (Prog.lift (.enqueueDma src (.remote (Dev.tc n : Thread nD τ) (dst : Memref sig (Dev.tc n : Thread nD τ).2.kind .vmem S8x512 .bf16) (.dma sS) hsc)
          (.dma sR) e₁ e₂ e₃) >>= k) Q := by
  subst hn hs hd hsS hsR
  refine .trans ?_ (Entails.of_eq (show wp frame (wpE (defs₀ (F := F)) 𝒱₀ (c : Thread nD τ) none) Set.univ
    (.op (.enqueueDma (accRow (t1 c m)) (.remote (Dev.tc (t1 c m) : Thread nD τ)
      (slot c : Memref sig (Dev.tc (t1 c m) : Thread nD τ).2.kind .vmem S8x512 .bf16) (.dma (dsem 0 (t1 c m))) hsc)
      (.dma (dsem 1 c)) e₁ e₂ e₃) k) Q = _ from rfl))
  have hmem := t1_mem c m hm hne
  unfold St at h ⊢
  unfold ph1 at h ⊢
  iintro ⟨#HR, #Hop, ⟨%W, HO⟩, ⟨Hrem, Hsent, Hacc, Hleft⟩, HX⟩
  ihave Hrem := (Entails.of_eq (bigSep_take (Φ := fun t => iprop((∃ X, owns (t : Thread nD τ) (slot c) fullShare X)
        ∗ dutyTok ER (dcell 0 c t) 0 t ∗ dutyTok ER (dcell 1 t c) 0 c ∗ reached ER (dcell 1 t c) 0)) hmem)) $$ Hrem
  icases Hrem with ⟨⟨⟨%X0, Hdst⟩, Ht0, Ht1, Hr1⟩, Hrem⟩
  ihave Hacc := (Entails.of_eq (bigSep_take (Φ := fun t => owns (c : Thread nD τ) (accRow t) fullShare (part A c t)) (have1_mem c m hm hb))) $$ Hacc
  icases Hacc with ⟨Hsrc, Hacc⟩
  ihave Hsrc := (show owns (c : Thread nD τ) (accRow (t1 c m)) fullShare (part A c (t1 c m)) ⊢ (iprop(∃ g, ⌜(accRow (t1 c m)).view.read (Elt F) g = part A c (t1 c m)⌝
      ∗ (accRow (t1 c m)).view.loc (c : Thread nD τ) ↦[(accRow (t1 c m)).view.set]{fullShare} g) : sProp 𝕄) from .rfl) $$ Hsrc
  icases Hsrc with ⟨%g, %hg, Hsrc⟩
  ihave Hdst := (show owns (t1 c m : Thread nD τ) (slot c) fullShare X0 ⊢ (iprop(∃ g, ⌜(slot c).view.read (Elt F) g = X0⌝
      ∗ (slot c).view.loc (t1 c m : Thread nD τ) ↦[(slot c).view.set]{fullShare} g) : sProp 𝕄) from .rfl) $$ Hdst
  icases Hdst with ⟨%g', -, Hdst⟩
  ihave HO := (Entails.of_eq (show (owes (c : Thread nD τ) (oweDma 1 c (Rem1 c m) + O') W : sProp 𝕄)
      = owes (c : Thread nD τ) ((oweDma 1 c (Rem1 c (m + 1)) + O') + tallyAt (dcell 1 (t1 c m) c) () N) W by
    rw [oweDma_erase 1 c hmem, ← Rem1_succ c m hm, add_right_comm])) $$ HO
  iapply (Rounds.wp_send_pointsTo 𝒱₀ ER (Rd A) (c : Thread nD τ) none (κ₁ := κ (dcell 0 c (t1 c m))) (κ₂ := κ (dcell 1 (t1 c m) c))
    (c' := (t1 c m : Thread nD τ)) (src := accRow (t1 c m)) (dst := slot c) (sS := .dma (dsem 0 (t1 c m))) (sem := .dma (dsem 1 c)) (r₁ := 0) (r₂ := 0) (d₁ := t1 c m) (d₂ := c) (fs := g) (fd := g') (q := fullShare)
    (by rw [duties_dma A 0 c _ hne]; exact Finset.mem_singleton_self _)
    (by rw [duties_dma A 1 _ c hne.symm]; exact Finset.mem_singleton_self _)
    () () N (N_slot c) (amount_dma A 0 c _ _) (amount_dma A 1 _ c _) (oweDma 1 c (Rem1 c (m + 1)) + O') rfl (W := W)
    (by rw [payload_dma]; show _ ⊢ owns (c : Thread nD τ) (accRow (t1 c m)) fullShare (part A c (t1 c m)); exact owns_mk hg)
    (by
      rw [payload_dma]; show _ ⊢ owns (t1 c m : Thread nD τ) (slot c) fullShare (part A c (t1 c m)); rw [← hg]
      exact owns_mk (View.read_write_univ _ _))) $$ [Hsrc Hdst HO Ht0 Ht1 Hr1]
  · isplitr; · iapply (recs_dma A κ); iexact HR
    isplitr; · iapply (recs_dma A κ); iexact HR
    isplitl [Hsrc]; · iexact Hsrc
    isplitl [Hdst]; · iexact Hdst
    isplitl [HO]; · iexact HO
    isplitl [Ht0]; · iexact Ht0
    isplitr; · iapply (opened_reached 0 c (t1 c m)); iexact Hop
    isplitl [Ht1]; · iexact Ht1
    iexact Hr1
  iintro ⟨Hc, HO⟩
  iapply h
  rw [Rem1_succ c m hm, Sent1_succ c m hm hne, have1_succ c m hm hne, bigSep_put (Φ := fun t => cred (tallyAt (dcell 0 c t) () N)) (t1_not_sent c m hm)]
  isplitr; · iexact HR
  isplitr; · iexact Hop
  isplitl [HO]; · iexists W; iexact HO
  isplitr [HX]
  · isplitl [Hrem]; · iexact Hrem
    isplitr [Hacc Hleft]
    · isplitl [Hc]; · iexact Hc
      iexact Hsent
    isplitl [Hacc]; · iexact Hacc
    iexact Hleft
  iexact HX

/-- A first copy under its guard: it is skipped at the device itself. -/
theorem step_send1 (b m : ℕ) (hm : m < 32) (hb : m / 8 < b) {O' : CellTallies nD τ sig Unit} {X : sProp 𝕄}
    {p : Prop} [Decidable p] {o₁ o₂ : Fin 1 → Nat} {o₃ : Fin 3 → Nat} {o₄ : Fin 2 → Nat} {d : Nat}
    (hoff : o₁ = ![(t1 c m).val] ∧ o₂ = ![c.val] ∧ o₃ = ![c.val, 0, 0] ∧ o₄ = ![8 * (t1 c m).val, 0] ∧ d = (t1 c m).val ∧ (p ↔ t1 c m ≠ c))
    {i₁ : p → ∀ a, o₁ a + S1.size a ≤ S32.size a} {i₂ : p → ∀ a, o₂ a + S1.size a ≤ S32.size a}
    {i₃ : p → ∀ a, o₃ a + S1x8x512.size a ≤ S32x8x512.size a} {i₄ : p → ∀ a, o₄ a + S8x512.size a ≤ S256x512.size a} {l : p → d < nD}
    {hsc : ∀ h : p, (((rcvM.slice (Rect.unit (s := S32x8x512) o₃ S1x8x512.size (i₃ h)) (fun _ => rfl)).squeeze S8x512 squeezes_S1x8x512_S8x512 :
      Memref sig (Dev.tc (⟨d, l h⟩ : Dev nD) : Thread nD τ).2.kind .vmem S8x512 .bf16)).view.ref.isScScratch = false}
    {e₁ : ∀ h : p, (accM.slice (Rect.unit (s := S256x512) o₄ S8x512.size (i₄ h)) (fun _ => rfl)).view.WordExact}
    {e₂ : ∀ h : p, ((rcvM.slice (Rect.unit (s := S32x8x512) o₃ S1x8x512.size (i₃ h)) (fun _ => rfl)).squeeze S8x512 squeezes_S1x8x512_S8x512).view.WordExact}
    {e₃ : ∀ h : p, DmaTarget.Typed .vmem (.dma ((cc0_scratch5.slice (Rect.unit (s := S32) o₂ S1.size (i₂ h))).squeeze S_ squeezes_S1_S_).sem)
      (.remote (Dev.tc (⟨d, l h⟩ : Dev nD) : Thread nD τ) ((rcvM.slice (Rect.unit (s := S32x8x512) o₃ S1x8x512.size (i₃ h)) (fun _ => rfl)).squeeze S8x512 squeezes_S1x8x512_S8x512 :
        Memref sig (Dev.tc (⟨d, l h⟩ : Dev nD) : Thread nD τ).2.kind .vmem S8x512 .bf16)
        (.dma ((cc0_scratch4.slice (Rect.unit (s := S32) o₁ S1.size (i₁ h))).squeeze S_ squeezes_S1_S_).sem) (hsc h))}
    {α : Type} {k : Prog (TpuEff nD τ sig (Elt F) Λ₀ .tc) α} {Q : α → sProp 𝕄}
    (h : St A κ c (oweDma 1 c (Rem1 c (m + 1)) + O') iprop(ph1 A c b (m + 1) ∗ X) ⊢ WP c k Q) :
    St A κ c (oweDma 1 c (Rem1 c m) + O') iprop(ph1 A c b m ∗ X)
      ⊢ WP c (if h : p then
          Prog.lift (.enqueueDma (accM.slice (Rect.unit (s := S256x512) o₄ S8x512.size (i₄ h)) (fun _ => rfl))
            (.remote (Dev.tc (⟨d, l h⟩ : Dev nD) : Thread nD τ) ((rcvM.slice (Rect.unit (s := S32x8x512) o₃ S1x8x512.size (i₃ h)) (fun _ => rfl)).squeeze S8x512 squeezes_S1x8x512_S8x512 :
              Memref sig (Dev.tc (⟨d, l h⟩ : Dev nD) : Thread nD τ).2.kind .vmem S8x512 .bf16)
              (.dma ((cc0_scratch4.slice (Rect.unit (s := S32) o₁ S1.size (i₁ h))).squeeze S_ squeezes_S1_S_).sem) (hsc h))
            (.dma ((cc0_scratch5.slice (Rect.unit (s := S32) o₂ S1.size (i₂ h))).squeeze S_ squeezes_S1_S_).sem) (e₁ h) (e₂ h) (e₃ h)) >>= fun _ => k
        else k) Q := by
  obtain ⟨rfl, rfl, rfl, rfl, rfl, hp⟩ := hoff
  by_cases h' : p
  · rw [dif_pos h']
    exact step_copy1 A κ c b m hm hb (hp.mp h') rfl rfl rfl (sem4_eq _ _) (sem5_eq _ _) h
  · rw [dif_neg h']
    have e : t1 c m = c := not_not.mp fun hne => h' (hp.mpr hne)
    unfold ph1 at h ⊢
    rw [Rem1_same c m hm e, Sent1_same c m hm e, have1_same c m hm e] at h
    exact h

/-! ## The second copies -/

/-- The second copies after `n` of them. -/
def ph2 (n : ℕ) : sProp 𝕄 :=
  iprop((bigSep (Rem c n) fun t => iprop((∃ X, owns (t : Thread nD τ) (gatRow c) fullShare X)
        ∗ dutyTok ER (dcell 2 c t) 0 t ∗ dutyTok ER (dcell 3 t c) 0 c ∗ reached ER (dcell 3 t c) 0))
    ∗ (bigSep (Got c n) fun t => cred (tallyAt (dcell 2 c t) () N))
    ∗ owns (c : Thread nD τ) (gatRow c) (keep n) (reduced A c))

theorem step_copy2 (n : ℕ) (hn : n + 1 < 32) {X : sProp 𝕄}
    {d : Dev nD} (hd : d = tgt c (n + 1)) {src dst : Memref sig .tc .vmem S8x512 .bf16} (hs : src = gatRow c) (hd' : dst = gatRow c)
    {sS sR : DmaSem sig} (hsS : sS = dsem 2 (tgt c (n + 1))) (hsR : sR = dsem 3 c)
    {hsc : (dst : Memref sig (Dev.tc d : Thread nD τ).2.kind .vmem S8x512 .bf16).view.ref.isScScratch = false}
    {e₁ : src.view.WordExact} {e₂ : dst.view.WordExact}
    {e₃ : DmaTarget.Typed .vmem (.dma sR) (.remote (Dev.tc d : Thread nD τ) (dst : Memref sig (Dev.tc d : Thread nD τ).2.kind .vmem S8x512 .bf16) (.dma sS) hsc)}
    {α : Type} {k : PUnit → Prog (TpuEff nD τ sig (Elt F) Λ₀ .tc) α} {Q : α → sProp 𝕄}
    (h : St A κ c (oweDma 3 c (Rem c (n + 1))) iprop(ph2 A c (n + 1) ∗ X) ⊢ WP c (k ⟨⟩) Q) :
    St A κ c (oweDma 3 c (Rem c n)) iprop(ph2 A c n ∗ X)
      ⊢ WP c (Prog.lift (.enqueueDma src (.remote (Dev.tc d : Thread nD τ) (dst : Memref sig (Dev.tc d : Thread nD τ).2.kind .vmem S8x512 .bf16) (.dma sS) hsc)
          (.dma sR) e₁ e₂ e₃) >>= k) Q := by
  have hmem := tgt_mem c n hn
  have hne := tgt_ne c n hn
  have hdist := dist_tgt c _ hn
  have hR : Rem c (n + 1) = (Rem c n).erase (tgt c (n + 1)) := Rem_succ c n
  have hG := Got_succ c n hn
  have hnot := tgt_not_mem c n hn
  generalize tgt c (n + 1) = t at hd hsS hmem hne hdist hR hG hnot
  subst hd hs hd' hsS hsR
  refine .trans ?_ (Entails.of_eq (show wp frame (wpE (defs₀ (F := F)) 𝒱₀ (c : Thread nD τ) none) Set.univ
    (.op (.enqueueDma (gatRow c) (.remote (Dev.tc d : Thread nD τ)
      (gatRow c : Memref sig (Dev.tc d : Thread nD τ).2.kind .vmem S8x512 .bf16) (.dma (dsem 2 d)) hsc)
      (.dma (dsem 3 c)) e₁ e₂ e₃) k) Q = _ from rfl))
  unfold St at h ⊢
  unfold ph2 at h ⊢
  iintro ⟨#HR, #Hop, ⟨%W, HO⟩, ⟨Hrem, Hsent, Hown⟩, HX⟩
  ihave Hrem := (Entails.of_eq (bigSep_take (Φ := fun t => iprop((∃ X, owns (t : Thread nD τ) (gatRow c) fullShare X)
        ∗ dutyTok ER (dcell 2 c t) 0 t ∗ dutyTok ER (dcell 3 t c) 0 c ∗ reached ER (dcell 3 t c) 0)) hmem)) $$ Hrem
  icases Hrem with ⟨⟨⟨%X0, Hdst⟩, Ht0, Ht1, Hr1⟩, Hrem⟩
  ihave Hown := (Entails.of_eq (owns_keep c (gatRow c) (reduced A c) n)) $$ Hown
  icases Hown with ⟨Hsrc, Hown⟩
  ihave Hsrc := (show owns (c : Thread nD τ) (gatRow c) (lend n) (reduced A c) ⊢ (iprop(∃ g, ⌜(gatRow c).view.read (Elt F) g = reduced A c⌝
      ∗ (gatRow c).view.loc (c : Thread nD τ) ↦[(gatRow c).view.set]{lend n} g) : sProp 𝕄) from .rfl) $$ Hsrc
  icases Hsrc with ⟨%g, %hg, Hsrc⟩
  ihave Hdst := (show owns (d : Thread nD τ) (gatRow c) fullShare X0 ⊢ (iprop(∃ g, ⌜(gatRow c).view.read (Elt F) g = X0⌝
      ∗ (gatRow c).view.loc (d : Thread nD τ) ↦[(gatRow c).view.set]{fullShare} g) : sProp 𝕄) from .rfl) $$ Hdst
  icases Hdst with ⟨%g', -, Hdst⟩
  ihave HO := (Entails.of_eq (show (owes (c : Thread nD τ) (oweDma 3 c (Rem c n)) W : sProp 𝕄)
      = owes (c : Thread nD τ) (oweDma 3 c (Rem c (n + 1)) + tallyAt (dcell 3 d c) () N) W by
    rw [oweDma_erase 3 c hmem, ← hR])) $$ HO
  iapply (Rounds.wp_send_pointsTo 𝒱₀ ER (Rd A) (c : Thread nD τ) none (κ₁ := κ (dcell 2 c d)) (κ₂ := κ (dcell 3 d c))
    (c' := (d : Thread nD τ)) (src := gatRow c) (dst := gatRow c) (sS := .dma (dsem 2 d)) (sem := .dma (dsem 3 c)) (r₁ := 0) (r₂ := 0) (d₁ := d) (d₂ := c) (fs := g) (fd := g') (q := lend n)
    (by rw [duties_dma A 2 c _ hne]; exact Finset.mem_singleton_self _)
    (by rw [duties_dma A 3 _ c hne.symm]; exact Finset.mem_singleton_self _)
    () () N (N_row c) (amount_dma A 2 c _ _) (amount_dma A 3 _ c _) (oweDma 3 c (Rem c (n + 1))) rfl (W := W)
    (by
      rw [payload_dma]; show _ ⊢ owns (c : Thread nD τ) (gatRow c) (lend (dist c d - 1)) (reduced A c)
      rw [hdist, Nat.add_sub_cancel]; exact owns_mk hg)
    (by
      rw [payload_dma]; show _ ⊢ owns (d : Thread nD τ) (gatRow c) fullShare (reduced A c); rw [← hg]
      exact owns_mk (View.read_write_univ _ _))) $$ [Hsrc Hdst HO Ht0 Ht1 Hr1]
  · isplitr; · iapply (recs_dma A κ); iexact HR
    isplitr; · iapply (recs_dma A κ); iexact HR
    isplitl [Hsrc]; · iexact Hsrc
    isplitl [Hdst]; · iexact Hdst
    isplitl [HO]; · iexact HO
    isplitl [Ht0]; · iexact Ht0
    isplitr; · iapply (opened_reached 2 c d); iexact Hop
    isplitl [Ht1]; · iexact Ht1
    iexact Hr1
  iintro ⟨Hc, HO⟩
  iapply h
  rw [hR, hG, bigSep_put (Φ := fun t => cred (tallyAt (dcell 2 c t) () N)) hnot]
  isplitr; · iexact HR
  isplitr; · iexact Hop
  isplitl [HO]; · iexists W; iexact HO
  isplitr [HX]
  · isplitl [Hrem]; · iexact Hrem
    isplitr [Hown]
    · isplitl [Hc]; · iexact Hc
      iexact Hsent
    iexact Hown
  iexact HX

/-- A second copy as the body writes it. -/
theorem step_send2 (n : ℕ) (hn : n + 1 < 32) {X : sProp 𝕄} {o₁ o₂ : Fin 1 → Nat} {o₃ o₄ : Fin 2 → Nat} {d : Nat}
    (hoff : o₁ = ![(tgt c (n + 1)).val] ∧ o₂ = ![c.val] ∧ o₃ = ![8 * c.val, 0] ∧ o₄ = ![8 * c.val, 0] ∧ d = (tgt c (n + 1)).val)
    {i₁ : ∀ a, o₁ a + S1.size a ≤ S32.size a} {i₂ : ∀ a, o₂ a + S1.size a ≤ S32.size a}
    {i₃ : ∀ a, o₃ a + S8x512.size a ≤ S256x512.size a} {i₄ : ∀ a, o₄ a + S8x512.size a ≤ S256x512.size a} {l : d < nD}
    {hsc : (gatM.slice (Rect.unit (s := S256x512) o₃ S8x512.size i₃) (fun _ => rfl) :
      Memref sig (Dev.tc (⟨d, l⟩ : Dev nD) : Thread nD τ).2.kind .vmem S8x512 .bf16).view.ref.isScScratch = false}
    {e₁ : (gatM.slice (Rect.unit (s := S256x512) o₄ S8x512.size i₄) (fun _ => rfl)).view.WordExact}
    {e₂ : (gatM.slice (Rect.unit (s := S256x512) o₃ S8x512.size i₃) (fun _ => rfl)).view.WordExact}
    {e₃ : DmaTarget.Typed .vmem (.dma ((cc0_scratch7.slice (Rect.unit (s := S32) o₂ S1.size i₂)).squeeze S_ squeezes_S1_S_).sem)
      (.remote (Dev.tc (⟨d, l⟩ : Dev nD) : Thread nD τ) (gatM.slice (Rect.unit (s := S256x512) o₃ S8x512.size i₃) (fun _ => rfl) :
        Memref sig (Dev.tc (⟨d, l⟩ : Dev nD) : Thread nD τ).2.kind .vmem S8x512 .bf16)
        (.dma ((cc0_scratch6.slice (Rect.unit (s := S32) o₁ S1.size i₁)).squeeze S_ squeezes_S1_S_).sem) hsc)}
    {α : Type} {k : PUnit → Prog (TpuEff nD τ sig (Elt F) Λ₀ .tc) α} {Q : α → sProp 𝕄}
    (h : St A κ c (oweDma 3 c (Rem c (n + 1))) iprop(ph2 A c (n + 1) ∗ X) ⊢ WP c (k ⟨⟩) Q) :
    St A κ c (oweDma 3 c (Rem c n)) iprop(ph2 A c n ∗ X)
      ⊢ WP c (Prog.lift (.enqueueDma (gatM.slice (Rect.unit (s := S256x512) o₄ S8x512.size i₄) (fun _ => rfl))
            (.remote (Dev.tc (⟨d, l⟩ : Dev nD) : Thread nD τ) (gatM.slice (Rect.unit (s := S256x512) o₃ S8x512.size i₃) (fun _ => rfl) :
              Memref sig (Dev.tc (⟨d, l⟩ : Dev nD) : Thread nD τ).2.kind .vmem S8x512 .bf16)
              (.dma ((cc0_scratch6.slice (Rect.unit (s := S32) o₁ S1.size i₁)).squeeze S_ squeezes_S1_S_).sem) hsc)
            (.dma ((cc0_scratch7.slice (Rect.unit (s := S32) o₂ S1.size i₂)).squeeze S_ squeezes_S1_S_).sem) e₁ e₂ e₃) >>= k) Q := by
  obtain ⟨rfl, rfl, rfl, rfl, rfl⟩ := hoff
  exact step_copy2 A κ c n hn rfl rfl rfl (sem6_eq _ _) (sem7_eq _ _) h

end Cert.Run

end
-- ==== Proof.Run.Partial.lean ====
/-
  What a device computes by itself: the weights of its four heads, their context, and its partial product.
-/
module

public import proofs.«01_k».proof.Proof.Run.Copies

@[expose] public section

set_option maxRecDepth 20000

noncomputable section

namespace Cert.Run

open Cert.KernelIdeal Cert.KernelIdeal.Gen

open Idealize.ShloMosaic
open Idealize.ShloMosaic.Shape

variable {F : FTy → Type} [FloatOps F]

/-! ## Rectangles at the origin -/

theorem unit_emb {s : Shape} {o : Fin s.rank → Nat} {inb : ∀ a, o a + s.size a ≤ s.size a} (j : s.Idx) :
    (Rect.unit (s := s) o s.size inb).emb j = j := by
  funext a; apply Fin.ext
  have h := inb a
  show o a + 1 * (j a).val = (j a).val
  omega

theorem unit_overlay {s : Shape} {α : Type} {o : Fin s.rank → Nat} {inb : ∀ a, o a + s.size a ≤ s.size a} (f w : s.Idx → α) :
    (Rect.unit (s := s) o s.size inb).overlay f w = w := by
  funext i
  have h := (Rect.unit (s := s) o s.size inb).overlay_emb f w i
  rw [unit_emb] at h
  exact h

/-! ## The values -/

theorem kv_inb (b : Fin 2) (h : Fin 4) : ∀ a, (![b.val, 0, 64 * h.val] : Fin 3 → Nat) a + S1x128x64.size a ≤ S2x128x256.size a := by
  revert b h; decide

/-- The keys or values of batch row `b` and head `h`. -/
def kvAt (f : S2x128x256.Idx → Elt F .f32) (b : Fin 2) (h : Fin 4) : S1x128x64.Idx → Elt F .f32 :=
  fun j => f ((Rect.unit (s := S2x128x256) ![b.val, 0, 64 * h.val] S1x128x64.size (kv_inb b h)).emb j)

section Partial

variable (x : S2x128x512.Idx → Elt F .f32) (wq : S512x256.Idx → Elt F .bf16) (k v : S2x128x256.Idx → Elt F .f32) (wo : S256x512.Idx → Elt F .bf16)

/-- The scores of the eight pairs of a batch row and a head, one below the other. -/
def scores : FVec F S1024x128 .f32 :=
  k0_pay11 (k0_pay2 x wq (kvAt k 0 0)) (k0_pay3 (k0_pay1 x wq) (kvAt k 0 1)) (k0_pay4 (k0_pay1 x wq) (kvAt k 0 2))
    (k0_pay5 (k0_pay1 x wq) (kvAt k 0 3)) (k0_pay6 (k0_pay1 x wq) (kvAt k 1 0)) (k0_pay7 (k0_pay1 x wq) (kvAt k 1 1))
    (k0_pay8 (k0_pay1 x wq) (kvAt k 1 2)) (k0_pay9 (k0_pay1 x wq)) (k0_pay10 (kvAt k 1 3))

/-- The column numbers the mask is made from. -/
abbrev cols : IVec S1024x128 32 := iota .tc S1024x128 32 [1] iota_S1024x128_d1_w32

/-- The attention weights. -/
def weights : FVec F S1024x128 .bf16 :=
  k0_pay17 (scores x wq k) (k0_pay14 k0_pay12 cols 64#32) (k0_pay15 k0_pay12 cols 64#32) k0_pay16

/-- The context of one batch row and head. -/
def ctxBlk : Fin 2 → Fin 4 → S128x64.Idx → Elt F .bf16
  | 0, 0 => k0_pay18 (scores x wq k) (k0_pay14 k0_pay12 cols 64#32) (k0_pay15 k0_pay12 cols 64#32) k0_pay16 (kvAt v 0 0)
  | 0, 1 => k0_pay19 (scores x wq k) (k0_pay14 k0_pay12 cols 64#32) (k0_pay15 k0_pay12 cols 64#32) k0_pay16 (kvAt v 0 1)
  | 0, 2 => k0_pay20 (scores x wq k) (k0_pay14 k0_pay12 cols 64#32) (k0_pay15 k0_pay12 cols 64#32) k0_pay16 (kvAt v 0 2)
  | 0, 3 => k0_pay21 (weights x wq k) (kvAt v 0 3)
  | 1, 0 => k0_pay22 (weights x wq k) (kvAt v 1 0)
  | 1, 1 => k0_pay23 (weights x wq k) (kvAt v 1 1)
  | 1, 2 => k0_pay25 (k0_pay24 (weights x wq k) (kvAt v 1 2))
  | 1, 3 => k0_pay26 (weights x wq k) (kvAt v 1 3)

end Partial

/-- The context laid out as the buffer holds it: batch rows downward, heads side by side. -/
def ctxOf (w : Fin 2 → Fin 4 → S128x64.Idx → Elt F .bf16) : S256x256.Idx → Elt F .bf16 := fun i =>
  w ⟨(i 0).val / 128, by have : (i 0).val < 256 := (i 0).isLt; omega⟩ ⟨(i 1).val / 64, by have : (i 1).val < 256 := (i 1).isLt; omega⟩
    (fun a => match a with
      | 0 => ⟨(i 0).val % 128, Nat.mod_lt _ (by decide)⟩
      | 1 => ⟨(i 1).val % 64, Nat.mod_lt _ (by decide)⟩)

theorem ctx_inb (b : Fin 2) (h : Fin 4) : ∀ a, (![128 * b.val, 64 * h.val] : Fin 2 → Nat) a + S128x64.size a ≤ S256x256.size a := by
  revert b h; decide

abbrev ctxRect (b : Fin 2) (h : Fin 4) : Rect S256x256 := Rect.unit (s := S256x256) ![128 * b.val, 64 * h.val] S128x64.size (ctx_inb b h)

theorem mem_ctx (b : Fin 2) (h : Fin 4) (i : S256x256.Idx) : i ∈ (ctxRect b h).set ↔ (i 0).val / 128 = b.val ∧ (i 1).val / 64 = h.val := by
  rw [← Rect.map_emb_univ, Finset.mem_map]
  constructor
  · rintro ⟨j, -, rfl⟩
    have h0 : (j 0).val < 128 := (j 0).isLt
    have h1 : (j 1).val < 64 := (j 1).isLt
    have e0 : ((ctxRect b h).emb j 0).val = 128 * b.val + 1 * (j 0).val := rfl
    have e1 : ((ctxRect b h).emb j 1).val = 64 * h.val + 1 * (j 1).val := rfl
    omega
  · rintro ⟨h0, h1⟩
    refine ⟨fun a => match a with
      | 0 => ⟨(i 0).val % 128, Nat.mod_lt _ (by decide)⟩
      | 1 => ⟨(i 1).val % 64, Nat.mod_lt _ (by decide)⟩, Finset.mem_univ _, ?_⟩
    funext a; apply Fin.ext
    match a with
    | 0 => show 128 * b.val + 1 * ((i 0).val % 128) = (i 0).val; omega
    | 1 => show 64 * h.val + 1 * ((i 1).val % 64) = (i 1).val; omega

theorem ctxOf_emb (w : Fin 2 → Fin 4 → S128x64.Idx → Elt F .bf16) (b : Fin 2) (h : Fin 4) (j : S128x64.Idx) :
    ctxOf w ((ctxRect b h).emb j) = w b h j := by
  have h0 : (j 0).val < 128 := (j 0).isLt
  have h1 : (j 1).val < 64 := (j 1).isLt
  have e0 : ((ctxRect b h).emb j 0).val = 128 * b.val + 1 * (j 0).val := rfl
  have e1 : ((ctxRect b h).emb j 1).val = 64 * h.val + 1 * (j 1).val := rfl
  unfold ctxOf
  congr 1
  · congr 1; omega
  · apply Fin.ext; show ((ctxRect b h).emb j 1).val / 64 = h.val; omega
  · funext a; apply Fin.ext
    match a with
    | 0 => show ((ctxRect b h).emb j 0).val % 128 = (j 0).val; omega
    | 1 => show ((ctxRect b h).emb j 1).val % 64 = (j 1).val; omega

/-- The buffer `f` is right on the first `n` of the eight blocks. -/
def CtxUpTo (w : Fin 2 → Fin 4 → S128x64.Idx → Elt F .bf16) (n : ℕ) (f : S256x256.Idx → Elt F .bf16) : Prop :=
  ∀ i, 4 * ((i 0).val / 128) + (i 1).val / 64 < n → f i = ctxOf w i

theorem ctxUpTo_zero (w : Fin 2 → Fin 4 → S128x64.Idx → Elt F .bf16) (f : S256x256.Idx → Elt F .bf16) : CtxUpTo w 0 f :=
  fun _ h => absurd h (Nat.not_lt_zero _)

theorem ctxUpTo_succ {w : Fin 2 → Fin 4 → S128x64.Idx → Elt F .bf16} {n : ℕ} {f : S256x256.Idx → Elt F .bf16} (hf : CtxUpTo w n f)
    (b : Fin 2) (h : Fin 4) (hn : n = 4 * b.val + h.val) : CtxUpTo w (n + 1) ((ctxRect b h).overlay f (w b h)) := by
  intro i hi
  have hb := b.isLt
  have hh := h.isLt
  have h1 : (i 1).val < 256 := (i 1).isLt
  by_cases hm : i ∈ (ctxRect b h).set
  · rw [← Rect.map_emb_univ, Finset.mem_map] at hm
    obtain ⟨j, -, rfl⟩ := hm
    rw [Rect.overlay_emb, ctxOf_emb]
  · rw [Rect.overlay_of_not_mem _ _ _ hm]
    rw [mem_ctx] at hm
    exact hf i (by omega)

theorem ctxUpTo_all {w : Fin 2 → Fin 4 → S128x64.Idx → Elt F .bf16} {f : S256x256.Idx → Elt F .bf16} (hf : CtxUpTo w 8 f) : f = ctxOf w := by
  funext i
  have h0 : (i 0).val < 256 := (i 0).isLt
  have h1 : (i 1).val < 256 := (i 1).isLt
  exact hf i (by omega)

theorem rows_inb (b : Fin 4) : ∀ a, (![64 * b.val, 0] : Fin 2 → Nat) a + S64x256.size a ≤ S256x256.size a := by
  revert b; decide

/-- The rows `64b .. 64b+63` of the context. -/
def rowsAt (ctx : S256x256.Idx → Elt F .bf16) (b : Fin 4) : S64x256.Idx → Elt F .bf16 :=
  fun j => ctx ((Rect.unit (s := S256x256) ![64 * b.val, 0] S64x256.size (rows_inb b)).emb j)

/-- The same rows of the partial product. -/
def prodBlk (ctx : S256x256.Idx → Elt F .bf16) (wo : S256x512.Idx → Elt F .bf16) : Fin 4 → S64x512.Idx → Elt F .bf16
  | 0 => k0_pay27 (rowsAt ctx 0) wo
  | 1 => k0_pay28 (rowsAt ctx 1) wo
  | 2 => k0_pay29 (rowsAt ctx 2) wo
  | 3 => k0_pay30 (rowsAt ctx 3) wo

/-- The partial product of a context and the device's part of the output weights. -/
def partialOf (ctx : S256x256.Idx → Elt F .bf16) (wo : S256x512.Idx → Elt F .bf16) : S256x512.Idx → Elt F .bf16 := fun i =>
  prodBlk ctx wo ⟨(i 0).val / 64, by have : (i 0).val < 256 := (i 0).isLt; omega⟩
    (fun a => match a with
      | 0 => ⟨(i 0).val % 64, Nat.mod_lt _ (by decide)⟩
      | 1 => i 1)

theorem partialOf_emb (ctx : S256x256.Idx → Elt F .bf16) (wo : S256x512.Idx → Elt F .bf16) (b : Fin 4) (j : S64x512.Idx) :
    partialOf ctx wo ((blkRect b).emb j) = prodBlk ctx wo b j := by
  have h0 : (j 0).val < 64 := (j 0).isLt
  have e0 : ((blkRect b).emb j 0).val = 64 * b.val + 1 * (j 0).val := rfl
  have e1 : ((blkRect b).emb j 1).val = 0 + 1 * (j 1).val := rfl
  unfold partialOf
  congr 1
  · congr 1; omega
  · funext a; apply Fin.ext
    match a with
    | 0 => show ((blkRect b).emb j 0).val % 64 = (j 0).val; omega
    | 1 => show ((blkRect b).emb j 1).val = (j 1).val; omega

/-- The partial product of a device from its inputs. -/
def product (x : S2x128x512.Idx → Elt F .f32) (wq : S512x256.Idx → Elt F .bf16) (k v : S2x128x256.Idx → Elt F .f32)
    (wo : S256x512.Idx → Elt F .bf16) : S256x512.Idx → Elt F .bf16 := partialOf (ctxOf (ctxBlk x wq k v)) wo

end Cert.Run

end
-- ==== Proof.Run.States.lean ====
/-
  The states between the phases of the body, and how each follows from the one before it.
-/
module

public import proofs.«01_k».proof.Proof.Run.Partial

@[expose] public section

set_option maxRecDepth 20000

noncomputable section

namespace Cert.Run

open Cert.KernelIdeal Cert.KernelIdeal.Gen

open Idealize.ShloMosaic
open Idealize.ShloMosaic.TcCoe
open Idealize.SL Idealize.SL.RA Idealize.SL.BI PCS URA
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (A : Dev nD → S256x512.Idx → Elt F .bf16) (κ : GSem nD τ sig → ℕ) (c : Dev nD)

/-! ## The inputs -/

section Inputs

variable (a0 : Memref sig .tc .vmem S2x128x512 .f32) (a1 : Memref sig .tc .vmem S512x256 .bf16) (a2 a3 : Memref sig .tc .vmem S2x128x256 .f32)
  (a4 : Memref sig .tc .vmem S256x512 .bf16)
  (x : S2x128x512.Idx → Elt F .f32) (wq : S512x256.Idx → Elt F .bf16) (k v : S2x128x256.Idx → Elt F .f32) (wo : S256x512.Idx → Elt F .bf16)

/-- The device's five inputs. -/
def ins : sProp 𝕄 :=
  iprop(owns (c : Thread nD τ) a0 fullShare x ∗ owns (c : Thread nD τ) a1 fullShare wq ∗ owns (c : Thread nD τ) a2 fullShare k
    ∗ owns (c : Thread nD τ) a3 fullShare v ∗ owns (c : Thread nD τ) a4 fullShare wo)

theorem foc0 (Y T : sProp 𝕄) : iprop(Y ∗ ins c a0 a1 a2 a3 a4 x wq k v wo ∗ T)
    ⊢ iprop(owns (c : Thread nD τ) a0 fullShare x ∗ (owns (c : Thread nD τ) a0 fullShare x -∗ Y ∗ ins c a0 a1 a2 a3 a4 x wq k v wo ∗ T)) := by
  unfold ins; iintro ⟨HY, ⟨H0, H1⟩, HT⟩
  isplitl [H0]; · iexact H0
  iintro H0
  isplitl [HY]; · iexact HY
  isplitr [HT]; swap; · iexact HT
  isplitl [H0]; · iexact H0
  iexact H1

theorem foc1 (Y T : sProp 𝕄) : iprop(Y ∗ ins c a0 a1 a2 a3 a4 x wq k v wo ∗ T)
    ⊢ iprop(owns (c : Thread nD τ) a1 fullShare wq ∗ (owns (c : Thread nD τ) a1 fullShare wq -∗ Y ∗ ins c a0 a1 a2 a3 a4 x wq k v wo ∗ T)) := by
  unfold ins; iintro ⟨HY, ⟨H0, H1, H2⟩, HT⟩
  isplitl [H1]; · iexact H1
  iintro H1
  isplitl [HY]; · iexact HY
  isplitr [HT]; swap; · iexact HT
  isplitl [H0]; · iexact H0
  isplitl [H1]; · iexact H1
  iexact H2

theorem foc2 (Y T : sProp 𝕄) : iprop(Y ∗ ins c a0 a1 a2 a3 a4 x wq k v wo ∗ T)
    ⊢ iprop(owns (c : Thread nD τ) a2 fullShare k ∗ (owns (c : Thread nD τ) a2 fullShare k -∗ Y ∗ ins c a0 a1 a2 a3 a4 x wq k v wo ∗ T)) := by
  unfold ins; iintro ⟨HY, ⟨H0, H1, H2, H3⟩, HT⟩
  isplitl [H2]; · iexact H2
  iintro H2
  isplitl [HY]; · iexact HY
  isplitr [HT]; swap; · iexact HT
  isplitl [H0]; · iexact H0
  isplitl [H1]; · iexact H1
  isplitl [H2]; · iexact H2
  iexact H3

theorem foc3 (Y T : sProp 𝕄) : iprop(Y ∗ ins c a0 a1 a2 a3 a4 x wq k v wo ∗ T)
    ⊢ iprop(owns (c : Thread nD τ) a3 fullShare v ∗ (owns (c : Thread nD τ) a3 fullShare v -∗ Y ∗ ins c a0 a1 a2 a3 a4 x wq k v wo ∗ T)) := by
  unfold ins; iintro ⟨HY, ⟨H0, H1, H2, H3, H4⟩, HT⟩
  isplitl [H3]; · iexact H3
  iintro H3
  isplitl [HY]; · iexact HY
  isplitr [HT]; swap; · iexact HT
  isplitl [H0]; · iexact H0
  isplitl [H1]; · iexact H1
  isplitl [H2]; · iexact H2
  isplitl [H3]; · iexact H3
  iexact H4

theorem foc4 (Y T : sProp 𝕄) : iprop(Y ∗ ins c a0 a1 a2 a3 a4 x wq k v wo ∗ T)
    ⊢ iprop(owns (c : Thread nD τ) a4 fullShare wo ∗ (owns (c : Thread nD τ) a4 fullShare wo -∗ Y ∗ ins c a0 a1 a2 a3 a4 x wq k v wo ∗ T)) := by
  unfold ins; iintro ⟨HY, ⟨H0, H1, H2, H3, H4⟩, HT⟩
  isplitl [H4]; · iexact H4
  iintro H4
  isplitl [HY]; · iexact HY
  isplitr [HT]; swap; · iexact HT
  isplitl [H0]; · iexact H0
  isplitl [H1]; · iexact H1
  isplitl [H2]; · iexact H2
  isplitl [H3]; · iexact H3
  iexact H4

end Inputs

/-! ## Taking one resource out of a state, and putting another in its place -/

theorem first (P P' T : sProp 𝕄) : iprop(P ∗ T) ⊢ iprop(P ∗ (P' -∗ P' ∗ T)) := by
  iintro ⟨HP, HT⟩
  isplitl [HP]; · iexact HP
  iintro HP
  isplitl [HP]; · iexact HP
  iexact HT

theorem second (Y P P' T : sProp 𝕄) : iprop(Y ∗ P ∗ T) ⊢ iprop(P ∗ (P' -∗ Y ∗ P' ∗ T)) := by
  iintro ⟨HY, HP, HT⟩
  isplitl [HP]; · iexact HP
  iintro HP
  isplitl [HY]; · iexact HY
  isplitl [HP]; · iexact HP
  iexact HT

theorem third (Y Z P P' T : sProp 𝕄) : iprop(Y ∗ Z ∗ P ∗ T) ⊢ iprop(P ∗ (P' -∗ Y ∗ Z ∗ P' ∗ T)) := by
  iintro ⟨HY, HZ, HP, HT⟩
  isplitl [HP]; · iexact HP
  iintro HP
  isplitl [HY]; · iexact HY
  isplitl [HZ]; · iexact HZ
  isplitl [HP]; · iexact HP
  iexact HT

section Slices

variable {s : Shape} {e : EltTy}

/-- A slice named by an offset that is only provably the expected one. -/
theorem owns_at {m : Memref sig .tc .vmem s e} {o o' sz : Fin s.rank → Nat} {i : ∀ a, o a + sz a ≤ s.size a}
    (ho : o = o') (i' : ∀ a, o' a + sz a ≤ s.size a) {q : PosShare TreeShare} {f : (Rect.unit (s := s) o sz i).shape.Idx → Elt F e} :
    (owns (c : Thread nD τ) (m.slice (Rect.unit (s := s) o sz i) (fun _ => rfl)) q f : sProp 𝕄)
      = owns (c : Thread nD τ) (m.slice (Rect.unit (s := s) o' sz i') (fun _ => rfl)) q f := by
  subst ho; rfl

theorem first_at {T : sProp 𝕄} {m : Memref sig .tc .vmem s e} {o o' sz : Fin s.rank → Nat} {i : ∀ a, o a + sz a ≤ s.size a}
    (ho : o = o') (i' : ∀ a, o' a + sz a ≤ s.size a) {q : PosShare TreeShare} {f : (Rect.unit (s := s) o sz i).shape.Idx → Elt F e} :
    iprop(owns (c : Thread nD τ) (m.slice (Rect.unit (s := s) o' sz i') (fun _ => rfl)) q f ∗ T)
      ⊢ iprop(owns (c : Thread nD τ) (m.slice (Rect.unit (s := s) o sz i) (fun _ => rfl)) q f
          ∗ (owns (c : Thread nD τ) (m.slice (Rect.unit (s := s) o sz i) (fun _ => rfl)) q f
            -∗ owns (c : Thread nD τ) (m.slice (Rect.unit (s := s) o' sz i') (fun _ => rfl)) q f ∗ T)) := by
  subst ho; exact first _ _ _

/-- For a load whose value is not used. -/
theorem second_any {T Y : sProp 𝕄} {m : Memref sig .tc .vmem s e} {o o' sz : Fin s.rank → Nat} {i : ∀ a, o a + sz a ≤ s.size a}
    (ho : o = o') (i' : ∀ a, o' a + sz a ≤ s.size a) :
    iprop(Y ∗ (∃ f, owns (c : Thread nD τ) (m.slice (Rect.unit (s := s) o' sz i') (fun _ => rfl)) fullShare f) ∗ T)
      ⊢ iprop(∃ f, owns (c : Thread nD τ) (m.slice (Rect.unit (s := s) o sz i) (fun _ => rfl)) fullShare f
          ∗ (owns (c : Thread nD τ) (m.slice (Rect.unit (s := s) o sz i) (fun _ => rfl)) fullShare f
            -∗ Y ∗ (∃ f, owns (c : Thread nD τ) (m.slice (Rect.unit (s := s) o' sz i') (fun _ => rfl)) fullShare f) ∗ T)) := by
  subst ho
  iintro ⟨HY, ⟨%f, H⟩, HT⟩
  iexists f
  isplitl [H]; · iexact H
  iintro H
  isplitl [HY]; · iexact HY
  isplitl [H]; · iexists f; iexact H
  iexact HT

/-- For a store. -/
theorem second_put {T Y : sProp 𝕄} {m : Memref sig .tc .vmem s e} {o o' sz : Fin s.rank → Nat} {i : ∀ a, o a + sz a ≤ s.size a}
    (ho : o = o') (i' : ∀ a, o' a + sz a ≤ s.size a) {w : (Rect.unit (s := s) o sz i).shape.Idx → Elt F e} :
    iprop(Y ∗ (∃ f, owns (c : Thread nD τ) (m.slice (Rect.unit (s := s) o' sz i') (fun _ => rfl)) fullShare f) ∗ T)
      ⊢ iprop(∃ f, owns (c : Thread nD τ) (m.slice (Rect.unit (s := s) o sz i) (fun _ => rfl)) fullShare f
          ∗ (owns (c : Thread nD τ) (m.slice (Rect.unit (s := s) o sz i) (fun _ => rfl)) fullShare w
            -∗ Y ∗ owns (c : Thread nD τ) (m.slice (Rect.unit (s := s) o' sz i') (fun _ => rfl)) fullShare w ∗ T)) := by
  subst ho
  iintro ⟨HY, ⟨%f, H⟩, HT⟩
  iexists f
  isplitl [H]; · iexact H
  iintro H
  isplitl [HY]; · iexact HY
  isplitl [H]; · iexact H
  iexact HT

end Slices

/-- The context buffer, right on its first `n` blocks. -/
def ctxSt (w : Fin 2 → Fin 4 → S128x64.Idx → Elt F .bf16) (n : ℕ) : sProp 𝕄 :=
  iprop(∃ f, ⌜CtxUpTo w n f⌝ ∗ owns (c : Thread nD τ) ctxM fullShare f)

theorem ctx_start (w : Fin 2 → Fin 4 → S128x64.Idx → Elt F .bf16) :
    (iprop(∃ f, owns (c : Thread nD τ) ctxM fullShare f) : sProp 𝕄) ⊢ ctxSt c w 0 := by
  unfold ctxSt
  iintro ⟨%f, H⟩; iexists f; isplitr
  · ipureintro; exact ctxUpTo_zero w f
  · iexact H

theorem ctx_done (w : Fin 2 → Fin 4 → S128x64.Idx → Elt F .bf16) : (ctxSt c w 8 : sProp 𝕄) ⊢ owns (c : Thread nD τ) ctxM fullShare (ctxOf w) := by
  unfold ctxSt
  iintro ⟨%f, %hf, H⟩; rw [← ctxUpTo_all hf]; iexact H

theorem ctx_any {Y Z T : sProp 𝕄} (w : Fin 2 → Fin 4 → S128x64.Idx → Elt F .bf16) (n : ℕ) (b : Fin 2) (h : Fin 4) :
    iprop(Y ∗ Z ∗ ctxSt c w n ∗ T)
      ⊢ iprop(∃ f, owns (c : Thread nD τ) (ctxM.slice (ctxRect b h) (fun _ => rfl)) fullShare f
          ∗ (owns (c : Thread nD τ) (ctxM.slice (ctxRect b h) (fun _ => rfl)) fullShare f -∗ Y ∗ Z ∗ ctxSt c w n ∗ T)) := by
  unfold ctxSt
  iintro ⟨HY, HZ, ⟨%f, %hf, H⟩, HT⟩
  ihave H := (owns_slice_split (c : Thread nD τ) ctxM fullShare (ctxRect b h) (fun _ => rfl) f) $$ H
  icases H with ⟨Hs, ⟨%g, %hg, Hr⟩⟩
  iexists _
  isplitl [Hs]; · iexact Hs
  iintro Hs
  isplitl [HY]; · iexact HY
  isplitl [HZ]; · iexact HZ
  isplitr [HT]; swap; · iexact HT
  iexists f; isplitr
  · ipureintro; exact hf
  have e : (ctxRect b h).overlay (ctxM.view.read (Elt F) g) (fun j => f ((ctxRect b h).emb j)) = f := by
    funext i
    rw [hg]
    by_cases hm : i ∈ (ctxRect b h).set
    · rw [← Rect.map_emb_univ, Finset.mem_map] at hm
      obtain ⟨j, -, rfl⟩ := hm
      rw [Rect.overlay_emb]
    · rw [Rect.overlay_of_not_mem _ _ _ hm]
  ihave H := (owns_slice_join (c : Thread nD τ) ctxM fullShare (ctxRect b h) (fun _ => rfl) (fun j => f ((ctxRect b h).emb j)) g) $$ [Hs Hr]
  · isplitl [Hs]; · iexact Hs
    iexact Hr
  rw [e]; iexact H

theorem ctx_put {Y Z T : sProp 𝕄} (w : Fin 2 → Fin 4 → S128x64.Idx → Elt F .bf16) (n : ℕ) (b : Fin 2) (h : Fin 4) (hn : n = 4 * b.val + h.val) :
    iprop(Y ∗ Z ∗ ctxSt c w n ∗ T)
      ⊢ iprop(∃ f, owns (c : Thread nD τ) (ctxM.slice (ctxRect b h) (fun _ => rfl)) fullShare f
          ∗ (owns (c : Thread nD τ) (ctxM.slice (ctxRect b h) (fun _ => rfl)) fullShare (w b h) -∗ Y ∗ Z ∗ ctxSt c w (n + 1) ∗ T)) := by
  unfold ctxSt
  iintro ⟨HY, HZ, ⟨%f, %hf, H⟩, HT⟩
  ihave H := (owns_slice_split (c : Thread nD τ) ctxM fullShare (ctxRect b h) (fun _ => rfl) f) $$ H
  icases H with ⟨Hs, ⟨%g, %hg, Hr⟩⟩
  iexists _
  isplitl [Hs]; · iexact Hs
  iintro Hs
  isplitl [HY]; · iexact HY
  isplitl [HZ]; · iexact HZ
  isplitr [HT]; swap; · iexact HT
  iexists _; isplitr
  · ipureintro; exact ctxUpTo_succ hf b h hn
  rw [← hg]
  iapply (owns_slice_join (c : Thread nD τ) ctxM fullShare (ctxRect b h) (fun _ => rfl) (w b h) g)
  isplitl [Hs]; · iexact Hs
  iexact Hr

/-! ## The blocks of the partial product -/

theorem left1_take (b : Fin 4) {Φ : Fin 4 → sProp 𝕄} : bigSep (left1 b.val) Φ = iprop(Φ b ∗ bigSep (left1 (b.val + 1)) Φ) := by
  have e : left1 (b.val + 1) = (left1 b.val).erase b := by
    ext b'
    simp only [left1, Finset.mem_filter, Finset.mem_univ, true_and, Finset.mem_erase, ne_eq, Fin.ext_iff]; omega
  rw [e]; exact bigSep_take (by simp [left1])

theorem have1_take (b : Fin 4) {Φ : Dev nD → sProp 𝕄} :
    bigSep (have1 c (b.val + 1) (8 * b.val)) Φ = iprop(bigSep (have1 c b.val (8 * b.val)) Φ ∗ bigSep (inBlk b) Φ) := by
  have e : have1 c (b.val + 1) (8 * b.val) = have1 c b.val (8 * b.val) ∪ inBlk b := by
    ext t
    have := ord_div c t
    simp only [have1, inBlk, Finset.mem_filter, Finset.mem_univ, true_and, Finset.mem_union]
    constructor
    · rintro ⟨h1, h2⟩
      by_cases h : t.val / 8 = b.val
      · exact .inr h
      · exact .inl ⟨by omega, h2⟩
    · rintro (⟨h1, h2⟩ | h)
      · exact ⟨by omega, h2⟩
      · exact ⟨by omega, .inl (by omega)⟩
  rw [e]
  refine bigSep_union (Finset.disjoint_left.mpr fun t h1 h2 => ?_)
  simp only [have1, inBlk, Finset.mem_filter, Finset.mem_univ, true_and] at h1 h2
  omega

theorem blk_any {T : sProp 𝕄} (b : Fin 4) {o : Fin 2 → Nat} {i : ∀ a, o a + S64x512.size a ≤ S256x512.size a} (ho : o = ![64 * b.val, 0]) :
    iprop(ph1 A c b.val (8 * b.val) ∗ T)
      ⊢ iprop(∃ f, owns (c : Thread nD τ) (accM.slice (Rect.unit (s := S256x512) o S64x512.size i) (fun _ => rfl)) fullShare f
          ∗ (owns (c : Thread nD τ) (accM.slice (Rect.unit (s := S256x512) o S64x512.size i) (fun _ => rfl)) fullShare f
            -∗ ph1 A c b.val (8 * b.val) ∗ T)) := by
  subst ho
  unfold ph1; rw [left1_take b]
  iintro ⟨⟨H1, H2, H3, ⟨%f, H⟩, H4⟩, HT⟩
  iexists f
  isplitl [H]; · iexact H
  iintro H
  isplitr [HT]; swap; · iexact HT
  isplitl [H1]; · iexact H1
  isplitl [H2]; · iexact H2
  isplitl [H3]; · iexact H3
  isplitl [H]; · iexists f; iexact H
  iexact H4

theorem blk_put {T : sProp 𝕄} (b : Fin 4) {o : Fin 2 → Nat} {i : ∀ a, o a + S64x512.size a ≤ S256x512.size a} (ho : o = ![64 * b.val, 0])
    {ctx : S256x256.Idx → Elt F .bf16} {wo : S256x512.Idx → Elt F .bf16} (hA : A c = partialOf ctx wo)
    {w : S64x512.Idx → Elt F .bf16} (hw : w = prodBlk ctx wo b) :
    iprop(ph1 A c b.val (8 * b.val) ∗ T)
      ⊢ iprop(∃ f, owns (c : Thread nD τ) (accM.slice (Rect.unit (s := S256x512) o S64x512.size i) (fun _ => rfl)) fullShare f
          ∗ (owns (c : Thread nD τ) (accM.slice (Rect.unit (s := S256x512) o S64x512.size i) (fun _ => rfl)) fullShare w
            -∗ ph1 A c (b.val + 1) (8 * b.val) ∗ T)) := by
  subst ho hw
  unfold ph1; rw [left1_take b, have1_take c b]
  iintro ⟨⟨H1, H2, H3, ⟨%f, H⟩, H4⟩, HT⟩
  iexists f
  isplitl [H]; · iexact H
  iintro H
  isplitr [HT]; swap; · iexact HT
  isplitl [H1]; · iexact H1
  isplitl [H2]; · iexact H2
  isplitr [H4]
  · isplitl [H3]; · iexact H3
    iapply (blk_split A c b (prodBlk ctx wo b) (fun j => by rw [hA, partialOf_emb])); iexact H
  iexact H4

/-! ## Between the phases -/

/-- What the device pays the duties of the two copies of one phase with. -/
def toks (k₁ k₂ : Fin 4) : sProp 𝕄 :=
  bigSep (Finset.univ.erase c) fun t => iprop(dutyTok ER (dcell k₁ c t) 0 t ∗ dutyTok ER (dcell k₂ t c) 0 c)

/-- The cells of one kind before their round, and after it. -/
def ats (k : Fin 4) (R : ℕ) : sProp 𝕄 := bigSep (Finset.univ.erase c) fun s => atPos ER (dcell k c s) R ∅ 0

/-- The credits of one kind. -/
def creds (k : Fin 4) : sProp 𝕄 := bigSep (Finset.univ.erase c) fun s => cred (tallyAt (dcell k c s) () N)

/-- What the second copies need. -/
def res2 : sProp 𝕄 :=
  bigSep (Finset.univ.erase c) fun t => iprop((∃ X, owns (t : Thread nD τ) (gatRow c) fullShare X)
    ∗ dutyTok ER (dcell 2 c t) 0 t ∗ dutyTok ER (dcell 3 t c) 0 c ∗ reached ER (dcell 3 t c) 0)

theorem wt_start (k : Fin 4) : iprop(creds c k ∗ ats c k 0) ⊢ (wt A c k 0 : sProp 𝕄) := by
  unfold creds ats wt
  rw [Rem_zero, Got_zero, bigSep_both]
  iintro H
  isplitl [H]; · iexact H
  rw [show (bigSep (∅ : Finset (Dev nD)) fun s => iprop(atPos ER (dcell k c s) 1 ∅ 0 ∗ dpay A k c s)) = (iprop(emp) : sProp 𝕄) from rfl]
  iempintro

theorem wt_end (k : Fin 4) : (wt A c k 31 : sProp 𝕄) ⊢ iprop(ats c k 1 ∗ bigSep (Finset.univ.erase c) fun s => dpay A k c s) := by
  unfold ats wt
  rw [Rem_last, Got_last, bigSep_both (Finset.univ.erase c)]
  iintro ⟨-, H⟩; iexact H

/-- After the barrier: the others' slots and rows are ready for the copies. -/
theorem ready {T : sProp 𝕄} :
    iprop((bigSep (Finset.univ.erase c) fun p => barPay p c) ∗ atPos ER (barCell c) 1 ∅ 0
        ∗ toks c 0 1 ∗ toks c 2 3 ∗ (∃ X, owns (c : Thread nD τ) accM fullShare X) ∗ T)
      ⊢ (iprop(ph1 A c 0 0 ∗ T ∗ res2 c ∗ atPos ER (barCell c) 1 ∅ 0) : sProp 𝕄) := by
  have e1 : Rem1 c 0 = Finset.univ.erase c := by ext t; simp [Rem1]
  have e2 : Sent1 c 0 = ∅ := by ext t; simp [Sent1]
  have e3 : have1 c 0 0 = ∅ := by ext t; simp [have1]
  have e4 : left1 0 = Finset.univ := by ext t; simp [left1]
  unfold ph1 toks res2 barPay
  rw [e1, e2, e3, e4]
  simp only [bigSep_both]
  iintro ⟨⟨B1, B2, B3, B4⟩, Hbar, ⟨T0, T1⟩, ⟨T2, T3⟩, ⟨%X, Hacc⟩, HT⟩
  isplitl [B1 B3 T0 T1 Hacc]
  · isplitl [B1 B3 T0 T1]
    · isplitl [B1]; · iexact B1
      isplitl [T0]; · iexact T0
      isplitl [T1]; · iexact T1
      iexact B3
    isplitr
    · rw [show (bigSep (∅ : Finset (Dev nD)) fun t => cred (tallyAt (dcell 0 c t) () N)) = (iprop(emp) : sProp 𝕄) from rfl]; iempintro
    isplitr
    · rw [show (bigSep (∅ : Finset (Dev nD)) fun t => owns (c : Thread nD τ) (accRow t) fullShare (part A c t)) = (iprop(emp) : sProp 𝕄) from rfl]; iempintro
    iapply (acc_split c X); iexact Hacc
  isplitl [HT]; · iexact HT
  isplitr [Hbar]; swap; · iexact Hbar
  isplitl [B2]; · iexact B2
  isplitl [T2]; · iexact T2
  isplitl [T3]; · iexact T3
  iexact B4

/-- After the first copies: the device's own rows are back in its hands. -/
theorem sent1 : (ph1 A c 4 32 : sProp 𝕄) ⊢ iprop(owns (c : Thread nD τ) (accRow c) fullShare (part A c c) ∗ creds c 0) := by
  have e2 : Sent1 c 32 = Finset.univ.erase c := by ext t; have := ord_lt c t; simp [Sent1, this]
  have e3 : have1 c 4 32 = {c} := by
    ext t; have := ord_lt c t; have := t.isLt
    simp only [have1, Finset.mem_filter, Finset.mem_univ, true_and, Finset.mem_singleton]
    constructor
    · rintro ⟨-, h | h⟩
      · omega
      · exact h
    · rintro rfl; exact ⟨by simp only [nD] at *; omega, .inr rfl⟩
  unfold ph1 creds
  rw [e2, e3]
  iintro ⟨-, H, Ha, -⟩
  isplitl [Ha]
  · iapply (bigSep_at (Finset.mem_singleton_self c) (Φ := fun t => owns (c : Thread nD τ) (accRow t) fullShare (part A c t))); iexact Ha
  iexact H

/-- After the first waits: the receive buffer is whole. -/
theorem recv1 : iprop(wt A c 1 31 ∗ owns (c : Thread nD τ) (slotU c) fullShare (k0_pay31 (part A c c)))
    ⊢ (iprop(owns (c : Thread nD τ) rcvM fullShare (received A c) ∗ ats c 1 1) : sProp 𝕄) := by
  iintro ⟨Hw, Ho⟩
  ihave Hw := (wt_end A c 1) $$ Hw
  icases Hw with ⟨Hat, Hp⟩
  isplitr [Hat]; swap; · iexact Hat
  ihave Ho := (Entails.of_eq (show (owns (c : Thread nD τ) (slotU c) fullShare (k0_pay31 (part A c c)) : sProp 𝕄)
      = owns (c : Thread nD τ) (slot c) fullShare (part A c c) by
    rw [owns_slot]
    congr 1
    funext j
    show part A c c (Shape.reshapeEquiv _ (Shape.reshapeEquiv _ (Shape.reshapeEquiv _ j))) = part A c c j
    congr 1
    simp only [Shape.reshapeEquiv_self, Equiv.refl_apply]
    exact Equiv.symm_apply_apply (Shape.reshapeEquiv squeezes_S1x8x512_S8x512.numel_eq) j)) $$ Ho
  iapply (rcv_join A c)
  rw [bigSep_take (Finset.mem_univ c) (Φ := fun t => owns (c : Thread nD τ) (slot t) fullShare (part A t c))]
  isplitl [Ho]; · iexact Ho
  iexact Hp

theorem begin2 : iprop(owns (c : Thread nD τ) (gatRow c) fullShare (reduced A c) ∗ res2 c) ⊢ (ph2 A c 0 : sProp 𝕄) := by
  unfold ph2 res2
  rw [Rem_zero, Got_zero]
  iintro ⟨H, Hr⟩
  isplitl [Hr]; · iexact Hr
  isplitr
  · rw [show (bigSep (∅ : Finset (Dev nD)) fun t => cred (tallyAt (dcell 2 c t) () N)) = (iprop(emp) : sProp 𝕄) from rfl]; iempintro
  iexact H

theorem sent2 : (ph2 A c 31 : sProp 𝕄) ⊢ iprop(owns (c : Thread nD τ) (gatRow c) (keep 31) (reduced A c) ∗ creds c 2) := by
  unfold ph2 creds
  rw [Got_last]
  iintro ⟨-, H, Ho⟩
  isplitl [Ho]; · iexact Ho
  iexact H

/-- After the second waits: the gathered rows can be read. -/
theorem recv2 : iprop(wt A c 3 31 ∗ owns (c : Thread nD τ) (gatRow c) (keep 31) (reduced A c))
    ⊢ (iprop(owns (c : Thread nD τ) gatM (keep 31) (gathered A) ∗ ats c 3 1
        ∗ bigSep (Finset.univ.erase c) fun t => rest c (gatRow t) (reduced A t) 31) : sProp 𝕄) := by
  iintro ⟨Hw, Ho⟩
  ihave Hw := (wt_end A c 3) $$ Hw
  icases Hw with ⟨Hat, Hp⟩
  ihave Hp := (each (F := F) (s := Finset.univ.erase c) (Φ := fun s => dpay A 3 c s)
    (Ψ := fun t => iprop(rest c (gatRow t) (reduced A t) 31 ∗ owns (c : Thread nD τ) (gatRow t) (keep 31) (reduced A t)))
    (fun t _ => Entails.of_eq (owns_rest c (gatRow t) (reduced A t) 31))) $$ Hp
  ihave Hp := (Entails.of_eq (bigSep_both (Finset.univ.erase c) (fun t => rest c (gatRow t) (reduced A t) 31)
    (fun t => owns (c : Thread nD τ) (gatRow t) (keep 31) (reduced A t)))) $$ Hp
  icases Hp with ⟨Hrest, Hk⟩
  isplitr [Hat Hrest]
  · rw [← gat_rows A c (keep 31), bigSep_take (Finset.mem_univ c) (Φ := fun t => owns (c : Thread nD τ) (gatRow t) (keep 31) (reduced A t))]
    isplitl [Ho]; · iexact Ho
    iexact Hk
  isplitl [Hat]; · iexact Hat
  iexact Hrest

/-- The shares lent to the first `n` copies. -/
theorem rest_got (n : ℕ) (hn : n < 32) :
    (bigSep (Got c n) fun t => dpay A 2 c t) ⊢ (rest c (gatRow c) (reduced A c) n : sProp 𝕄) := by
  induction n with
  | zero => rw [Got_zero]; exact .rfl
  | succ n ih =>
    rw [Got_succ c n hn, bigSep_put (Φ := fun t => dpay A 2 c t) (tgt_not_mem c n hn)]
    refine .trans ?_ (Entails.of_eq (show iprop(rest c (gatRow c) (reduced A c) n ∗ owns (c : Thread nD τ) (gatRow c) (lend n) (reduced A c))
      = (rest c (gatRow c) (reduced A c) (n + 1) : sProp 𝕄) from rfl))
    iintro ⟨H, Hr⟩
    ihave Hr := (ih (by omega)) $$ Hr
    isplitl [Hr]; · iexact Hr
    have e : dist c (tgt c (n + 1)) - 1 = n := by rw [dist_tgt c _ hn]; rfl
    ihave H := (show dpay A 2 c (tgt c (n + 1)) ⊢ (owns (c : Thread nD τ) (gatRow c) (lend (dist c (tgt c (n + 1)) - 1)) (reduced A c) : sProp 𝕄) from .rfl) $$ H
    rw [e]; iexact H

/-- After the last waits: everything lent is back. -/
theorem all_back :
    iprop(wt A c 0 31 ∗ wt A c 2 31 ∗ owns (c : Thread nD τ) (accRow c) fullShare (part A c c)
        ∗ owns (c : Thread nD τ) gatM (keep 31) (gathered A) ∗ bigSep (Finset.univ.erase c) fun t => rest c (gatRow t) (reduced A t) 31)
      ⊢ (iprop(owns (c : Thread nD τ) accM fullShare (A c) ∗ owns (c : Thread nD τ) gatM fullShare (gathered A) ∗ ats c 0 1 ∗ ats c 2 1) : sProp 𝕄) := by
  rw [← gat_rows A c (keep 31), ← gat_rows A c fullShare]
  iintro ⟨H0, H2, Ha, Hg, Hr⟩
  ihave H0 := (wt_end A c 0) $$ H0
  icases H0 with ⟨Hat0, H0⟩
  ihave H2 := (wt_end A c 2) $$ H2
  icases H2 with ⟨Hat2, H2⟩
  isplitl [H0 Ha]
  · iapply (acc_join A c)
    rw [bigSep_take (Finset.mem_univ c) (Φ := fun t => owns (c : Thread nD τ) (accRow t) fullShare (part A c t))]
    isplitl [Ha]; · iexact Ha
    iexact H0
  isplitr [Hat0 Hat2]; swap
  · isplitl [Hat0]; · iexact Hat0
    iexact Hat2
  have e : (bigSep Finset.univ fun t => owns (c : Thread nD τ) (gatRow t) fullShare (reduced A t) : sProp 𝕄)
      = iprop((bigSep Finset.univ fun t => rest c (gatRow t) (reduced A t) 31)
          ∗ bigSep Finset.univ fun t => owns (c : Thread nD τ) (gatRow t) (keep 31) (reduced A t)) := by
    rw [← bigSep_both]; congr 1; funext t; exact owns_rest c (gatRow t) (reduced A t) 31
  rw [e]
  isplitr [Hg]; swap; · iexact Hg
  rw [bigSep_take (Finset.mem_univ c) (Φ := fun t => rest c (gatRow t) (reduced A t) 31)]
  isplitl [H2]
  · iapply (rest_got A c 31 (by decide))
    rw [Got_last]; iexact H2
  iexact Hr

/-! ## The state at each point of the body

`B` is the output buffer, `K` what a stretch of the body leaves alone. -/

section Points

variable (O' : CellTallies nD τ sig Unit)

/-- What the body starts from besides the signals' payments. -/
def begun : sProp 𝕄 :=
  iprop((∃ f, owns (c : Thread nD τ) (slotU c) fullShare f) ∗ (∃ f, owns (c : Thread nD τ) (gatRow c) fullShare f)
    ∗ creds c 1 ∗ ats c 1 0 ∗ creds c 3 ∗ ats c 3 0 ∗ ats c 0 0 ∗ ats c 2 0)

/-- While the first chunks arrive. -/
def D1 (B K : sProp 𝕄) : sProp 𝕄 := iprop((∃ f, owns (c : Thread nD τ) (gatRow c) fullShare f) ∗ res2 c ∗ wt A c 3 0 ∗ wt A c 0 0 ∗ ats c 2 0 ∗ B ∗ K)
/-- While the chunks are added up. -/
def D2 (B K : sProp 𝕄) : sProp 𝕄 := iprop(res2 c ∗ owns (c : Thread nD τ) (accRow c) fullShare (part A c c) ∗ ats c 1 1 ∗ wt A c 3 0 ∗ wt A c 0 0 ∗ ats c 2 0 ∗ B ∗ K)
/-- While the reduced rows are sent. -/
def D3 (B K : sProp 𝕄) : sProp 𝕄 :=
  iprop(owns (c : Thread nD τ) rcvM fullShare (received A c) ∗ owns (c : Thread nD τ) (accRow c) fullShare (part A c c) ∗ ats c 1 1
    ∗ wt A c 3 0 ∗ wt A c 0 0 ∗ ats c 2 0 ∗ B ∗ K)
/-- While the reduced rows arrive. -/
def D4 (B K : sProp 𝕄) : sProp 𝕄 :=
  iprop(owns (c : Thread nD τ) (gatRow c) (keep 31) (reduced A c) ∗ owns (c : Thread nD τ) rcvM fullShare (received A c)
    ∗ owns (c : Thread nD τ) (accRow c) fullShare (part A c c) ∗ ats c 1 1 ∗ wt A c 0 0 ∗ wt A c 2 0 ∗ B ∗ K)
/-- While the result is written. -/
def D5 (K : sProp 𝕄) : sProp 𝕄 :=
  iprop((bigSep (Finset.univ.erase c) fun t => rest c (gatRow t) (reduced A t) 31) ∗ ats c 3 1 ∗ owns (c : Thread nD τ) rcvM fullShare (received A c)
    ∗ owns (c : Thread nD τ) (accRow c) fullShare (part A c c) ∗ ats c 1 1 ∗ wt A c 0 0 ∗ wt A c 2 0 ∗ K)
/-- While the sent copies are waited for. -/
def D6 (B K : sProp 𝕄) : sProp 𝕄 :=
  iprop(owns (c : Thread nD τ) gatM (keep 31) (gathered A) ∗ B ∗ (bigSep (Finset.univ.erase c) fun t => rest c (gatRow t) (reduced A t) 31)
    ∗ ats c 3 1 ∗ owns (c : Thread nD τ) rcvM fullShare (received A c) ∗ owns (c : Thread nD τ) (accRow c) fullShare (part A c c) ∗ ats c 1 1 ∗ K)
/-- At the end. -/
def ended : sProp 𝕄 :=
  iprop(owns (c : Thread nD τ) accM fullShare (A c) ∗ owns (c : Thread nD τ) gatM fullShare (gathered A)
    ∗ owns (c : Thread nD τ) rcvM fullShare (received A c) ∗ ats c 0 1 ∗ ats c 1 1 ∗ ats c 2 1 ∗ ats c 3 1)

theorem after_signals {X : sProp 𝕄} : St A κ c (oweBar (Rem c 31) + O') iprop(sigRes c 31 ∗ X) ⊢ St A κ c O' X := by
  rw [Rem_last, oweBar_empty, zero_add]
  exact St_mono A κ (by iintro ⟨-, H⟩; iexact H)

theorem after_barrier (Y B : sProp 𝕄) (w : Fin 2 → Fin 4 → S128x64.Idx → Elt F .bf16) :
    St A κ c (oweDma 1 c (Finset.univ.erase c) + O') iprop((bigSep (Finset.univ.erase c) fun p => barPay p c) ∗ atPos ER (barCell c) 1 ∅ 0
        ∗ toks c 0 1 ∗ toks c 2 3 ∗ (∃ X, owns (c : Thread nD τ) accM fullShare X)
        ∗ Y ∗ (∃ f, owns (c : Thread nD τ) ctxM fullShare f) ∗ begun c ∗ B)
      ⊢ St A κ c (oweDma 1 c (Rem1 c 0) + O') iprop(ph1 A c 0 0 ∗ Y ∗ ctxSt c w 0 ∗ (begun c ∗ B ∗ res2 c ∗ atPos ER (barCell c) 1 ∅ 0)) := by
  rw [show Rem1 c 0 = Finset.univ.erase c by ext t; simp [Rem1]]
  refine St_mono A κ (.trans (ready A c) ?_)
  iintro ⟨H1, ⟨HY, Hc, Hb, HB⟩, H3, H4⟩
  isplitl [H1]; · iexact H1
  isplitl [HY]; · iexact HY
  isplitl [Hc]; · iapply (ctx_start c w); iexact Hc
  isplitl [Hb]; · iexact Hb
  isplitl [HB]; · iexact HB
  isplitl [H3]; · iexact H3
  iexact H4

theorem after_ctx (Y : sProp 𝕄) {O : CellTallies nD τ sig Unit} {T Z : sProp 𝕄} (w : Fin 2 → Fin 4 → S128x64.Idx → Elt F .bf16) :
    St A κ c O iprop(Y ∗ Z ∗ ctxSt c w 8 ∗ T) ⊢ St A κ c O iprop(Y ∗ Z ∗ owns (c : Thread nD τ) ctxM fullShare (ctxOf w) ∗ T) :=
  St_mono A κ (by
    iintro ⟨HY, HZ, H, HT⟩
    isplitl [HY]; · iexact HY
    isplitl [HZ]; · iexact HZ
    isplitl [H]; · iapply (ctx_done c w); iexact H
    iexact HT)

theorem after_sends1 (Y B : sProp 𝕄) {Z : sProp 𝕄} :
    St A κ c (oweDma 1 c (Rem1 c 32) + O') iprop(ph1 A c 4 32 ∗ Y ∗ Z ∗ (begun c ∗ B ∗ res2 c ∗ atPos ER (barCell c) 1 ∅ 0))
      ⊢ St A κ c O' iprop(owns (c : Thread nD τ) (accRow c) fullShare (part A c c) ∗ (∃ f, owns (c : Thread nD τ) (slotU c) fullShare f)
          ∗ wt A c 1 0 ∗ D1 A c B iprop(Y ∗ Z ∗ atPos ER (barCell c) 1 ∅ 0)) := by
  rw [show Rem1 c 32 = ∅ by ext t; have := ord_lt c t; simp [Rem1]; omega, oweDma_empty, zero_add]
  refine St_mono A κ ?_
  unfold begun D1
  iintro ⟨H1, HY, HZ, ⟨Hs, Hg, C1, A1, C3, A3, A0, A2⟩, HB, Hr, Hbar⟩
  ihave H1 := (sent1 A c) $$ H1
  icases H1 with ⟨Ha, C0⟩
  isplitl [Ha]; · iexact Ha
  isplitl [Hs]; · iexact Hs
  isplitl [C1 A1]
  · iapply (wt_start A c 1); isplitl [C1]; · iexact C1
    iexact A1
  isplitl [Hg]; · iexact Hg
  isplitl [Hr]; · iexact Hr
  isplitl [C3 A3]
  · iapply (wt_start A c 3); isplitl [C3]; · iexact C3
    iexact A3
  isplitl [C0 A0]
  · iapply (wt_start A c 0); isplitl [C0]; · iexact C0
    iexact A0
  isplitl [A2]; · iexact A2
  isplitl [HB]; · iexact HB
  isplitl [HY]; · iexact HY
  isplitl [HZ]; · iexact HZ
  iexact Hbar

theorem own_put (B K : sProp 𝕄) {O : CellTallies nD τ sig Unit} :
    St A κ c O iprop(owns (c : Thread nD τ) (accRow c) fullShare (part A c c) ∗ owns (c : Thread nD τ) (slotU c) fullShare (k0_pay31 (part A c c))
          ∗ wt A c 1 0 ∗ D1 A c B K)
      ⊢ St A κ c O iprop(wt A c 1 0 ∗ owns (c : Thread nD τ) (accRow c) fullShare (part A c c)
          ∗ owns (c : Thread nD τ) (slotU c) fullShare (k0_pay31 (part A c c)) ∗ D1 A c B K) :=
  St_mono A κ (by
    iintro ⟨H1, H2, H3, H4⟩
    isplitl [H3]; · iexact H3
    isplitl [H1]; · iexact H1
    isplitl [H2]; · iexact H2
    iexact H4)

theorem after_recv1 (B K : sProp 𝕄) {O : CellTallies nD τ sig Unit} :
    St A κ c O iprop(wt A c 1 31 ∗ owns (c : Thread nD τ) (accRow c) fullShare (part A c c)
          ∗ owns (c : Thread nD τ) (slotU c) fullShare (k0_pay31 (part A c c)) ∗ D1 A c B K)
      ⊢ St A κ c O iprop(owns (c : Thread nD τ) rcvM fullShare (received A c) ∗ (∃ f, owns (c : Thread nD τ) (gatRow c) fullShare f) ∗ D2 A c B K) :=
  St_mono A κ (by
    unfold D1 D2
    iintro ⟨Hw, Ha, Hs, Hg, Hr, W3, W0, A2, HB, HK⟩
    ihave Hw := (recv1 A c) $$ [Hw Hs]
    · isplitl [Hw]; · iexact Hw
      iexact Hs
    icases Hw with ⟨Hrcv, A1⟩
    isplitl [Hrcv]; · iexact Hrcv
    isplitl [Hg]; · iexact Hg
    isplitl [Hr]; · iexact Hr
    isplitl [Ha]; · iexact Ha
    isplitl [A1]; · iexact A1
    isplitl [W3]; · iexact W3
    isplitl [W0]; · iexact W0
    isplitl [A2]; · iexact A2
    isplitl [HB]; · iexact HB
    iexact HK)

theorem after_sum (B K : sProp 𝕄) :
    St A κ c (oweDma 3 c (Finset.univ.erase c)) iprop(owns (c : Thread nD τ) rcvM fullShare (received A c)
          ∗ owns (c : Thread nD τ) (gatRow c) fullShare (reduced A c) ∗ D2 A c B K)
      ⊢ St A κ c (oweDma 3 c (Rem c 0)) iprop(ph2 A c 0 ∗ D3 A c B K) := by
  rw [Rem_zero]
  refine St_mono A κ ?_
  unfold D2 D3
  iintro ⟨Hrcv, Hg, Hr, HD⟩
  isplitl [Hg Hr]
  · iapply (begin2 A c); isplitl [Hg]; · iexact Hg
    iexact Hr
  isplitl [Hrcv]; · iexact Hrcv
  iexact HD

theorem after_sends2 (B K : sProp 𝕄) :
    St A κ c (oweDma 3 c (Rem c 31)) iprop(ph2 A c 31 ∗ D3 A c B K) ⊢ St A κ c 0 iprop(wt A c 3 0 ∗ D4 A c B K) := by
  rw [Rem_last, oweDma_empty]
  refine St_mono A κ ?_
  unfold D3 D4
  iintro ⟨Hp, Hrcv, Ha, A1, W3, W0, A2, HB, HK⟩
  ihave Hp := (sent2 A c) $$ Hp
  icases Hp with ⟨Hg, C2⟩
  isplitl [W3]; · iexact W3
  isplitl [Hg]; · iexact Hg
  isplitl [Hrcv]; · iexact Hrcv
  isplitl [Ha]; · iexact Ha
  isplitl [A1]; · iexact A1
  isplitl [W0]; · iexact W0
  isplitl [C2 A2]
  · iapply (wt_start A c 2); isplitl [C2]; · iexact C2
    iexact A2
  isplitl [HB]; · iexact HB
  iexact HK

theorem after_recv2 (B K : sProp 𝕄) {O : CellTallies nD τ sig Unit} :
    St A κ c O iprop(wt A c 3 31 ∗ D4 A c B K)
      ⊢ St A κ c O iprop(owns (c : Thread nD τ) gatM (keep 31) (gathered A) ∗ B ∗ D5 A c K) :=
  St_mono A κ (by
    unfold D4 D5
    iintro ⟨Hw, Hg, Hrcv, Ha, A1, W0, W2, HB, HK⟩
    ihave Hw := (recv2 A c) $$ [Hw Hg]
    · isplitl [Hw]; · iexact Hw
      iexact Hg
    icases Hw with ⟨Hg, A3, Hr⟩
    isplitl [Hg]; · iexact Hg
    isplitl [HB]; · iexact HB
    isplitl [Hr]; · iexact Hr
    isplitl [A3]; · iexact A3
    isplitl [Hrcv]; · iexact Hrcv
    isplitl [Ha]; · iexact Ha
    isplitl [A1]; · iexact A1
    isplitl [W0]; · iexact W0
    isplitl [W2]; · iexact W2
    iexact HK)

theorem after_result (B K : sProp 𝕄) {O : CellTallies nD τ sig Unit} :
    St A κ c O iprop(owns (c : Thread nD τ) gatM (keep 31) (gathered A) ∗ B ∗ D5 A c K)
      ⊢ St A κ c O iprop(wt A c 0 0 ∗ wt A c 2 0 ∗ D6 A c B K) :=
  St_mono A κ (by
    unfold D5 D6
    iintro ⟨Hg, HB, Hr, A3, Hrcv, Ha, A1, W0, W2, HK⟩
    isplitl [W0]; · iexact W0
    isplitl [W2]; · iexact W2
    isplitl [Hg]; · iexact Hg
    isplitl [HB]; · iexact HB
    isplitl [Hr]; · iexact Hr
    isplitl [A3]; · iexact A3
    isplitl [Hrcv]; · iexact Hrcv
    isplitl [Ha]; · iexact Ha
    isplitl [A1]; · iexact A1
    iexact HK)

theorem after_last (B K : sProp 𝕄) {O : CellTallies nD τ sig Unit} :
    St A κ c O iprop(wt A c 0 31 ∗ wt A c 2 31 ∗ D6 A c B K) ⊢ St A κ c O iprop(ended A c ∗ B ∗ K) :=
  St_mono A κ (by
    unfold D6 ended
    iintro ⟨W0, W2, Hg, HB, Hr, A3, Hrcv, Ha, A1, HK⟩
    ihave H := (all_back A c) $$ [W0 W2 Hg Ha Hr]
    · isplitl [W0]; · iexact W0
      isplitl [W2]; · iexact W2
      isplitl [Ha]; · iexact Ha
      isplitl [Hg]; · iexact Hg
      iexact Hr
    icases H with ⟨Ha, Hg, A0, A2⟩
    isplitr [HB HK]
    · isplitl [Ha]; · iexact Ha
      isplitl [Hg]; · iexact Hg
      isplitl [Hrcv]; · iexact Hrcv
      isplitl [A0]; · iexact A0
      isplitl [A1]; · iexact A1
      isplitl [A2]; · iexact A2
      iexact A3
    isplitl [HB]; · iexact HB
    iexact HK)

end Points

/-- A load of a whole memref. -/
theorem step_load_whole {O : CellTallies nD τ sig Unit} {α : Type} {s : Shape} {e : EltTy} {X : sProp 𝕄} {Q : α → sProp 𝕄}
    {m : Memref sig .tc .vmem s e} {o : Fin s.rank → Nat} {inb : ∀ a, o a + s.size a ≤ s.size a}
    {hl : m.view.LoadsAt (Rect.unit (s := s) o s.size inb).toLoadRect} {q : PosShare TreeShare} {f : s.Idx → Elt F e}
    {k : (s.Idx → Elt F e) → Prog (TpuEff nD τ sig (Elt F) Λ₀ .tc) α}
    (hX : X ⊢ iprop(owns (c : Thread nD τ) m q f ∗ (owns (c : Thread nD τ) m q f -∗ X)))
    (h : St A κ c O X ⊢ WP c (k f) Q) :
    St A κ c O X ⊢ WP c (Prog.lift (.load m (Rect.unit (s := s) o s.size inb).toLoadRect hl) >>= k) Q := by
  refine step_load A κ c hX ?_
  have e : (fun j => f ((Rect.unit (s := s) o s.size inb).emb j)) = f := funext fun j => congrArg f (unit_emb j)
  exact e.symm ▸ h

/-- A store of a whole memref. -/
theorem step_store_whole {O : CellTallies nD τ sig Unit} {α : Type} {s : Shape} {e : EltTy} {X X' : sProp 𝕄} {Q : α → sProp 𝕄}
    {m : Memref sig .tc .vmem s e} {o : Fin s.rank → Nat} {inb : ∀ a, o a + s.size a ≤ s.size a} {w f : s.Idx → Elt F e}
    {hx : (m.access (Rect.unit (s := s) o s.size inb)).Stores Finset.univ}
    {hm : (Finset.univ : Finset (Rect.unit (s := s) o s.size inb).shape.Idx) = Finset.univ ∨ ∀ a, (Rect.unit (s := s) o s.size inb).stride a = 1}
    {k : PUnit → Prog (TpuEff nD τ sig (Elt F) Λ₀ .tc) α}
    (hX : X ⊢ iprop(owns (c : Thread nD τ) m fullShare f ∗ (owns (c : Thread nD τ) m fullShare w -∗ X')))
    (h : St A κ c O X' ⊢ WP c (k ⟨⟩) Q) :
    St A κ c O X ⊢ WP c (Prog.lift (.store m (Rect.unit (s := s) o s.size inb) w Finset.univ hx hm) >>= k) Q := by
  refine step_store A κ c (f := f) (fun _ => rfl) ?_ h
  rw [unit_overlay]; exact hX

end Cert.Run

end
-- ==== Proof.Run.Body.lean ====
/-
  The body of the kernel, walked operation by operation: from what a device has at the start to
  what it has at the end.
-/
module

public import proofs.«01_k».proof.Proof.Run.States

@[expose] public section

set_option maxRecDepth 20000

noncomputable section

namespace Cert.Run

open Cert.KernelIdeal Cert.KernelIdeal.Gen

open Idealize.ShloMosaic
open Idealize.ShloMosaic.TcCoe
open Idealize.SL Idealize.SL.RA Idealize.SL.BI PCS URA
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (A : Dev nD → S256x512.Idx → Elt F .bf16) (κ : GSem nD τ sig → ℕ) (c : Dev nD)

/-! ## Facts of the waits -/

theorem may_any {k : Fin 4} (t : Dev nD) : recs A κ ⊢ MayWait (c : Thread nD τ) (.dma (dsem k t)) () 0 := may_zero A κ c _

theorem may_recv1 {S : Finset (Dev nD)} (t : Dev nD) : recs A κ ⊢ MayWait (c : Thread nD τ) (.dma (dsem 1 t)) () (oweDma 3 c S) := may_recv A κ c t S

theorem off131 {n : ℕ} (hn : n + 1 < 32) : k0_off131 c (BitVec.ofNat 32 (n + 1)) = ![(tgt c (n + 1)).val] := by
  have e : ∀ m : Fin 31, ∀ c : Dev nD, k0_off131 c (BitVec.ofNat 32 (m.val + 1)) = ![(tgt c (m.val + 1)).val] := by decide +kernel
  exact e ⟨n, by omega⟩ c

theorem off129 : k0_off129 c = ![8 * c.val, 0] := by revert c; decide +kernel

theorem off130 : k0_off130 c = ![c.val, 0, 0] := by revert c; decide +kernel

theorem wait_sem4 {o : Fin 1 → Nat} {i : ∀ a, o a + S1.size a ≤ S32.size a} {n : ℕ} (ho : o = ![(tgt c (n + 1)).val]) :
    ((cc0_scratch4.slice (Rect.unit (s := S32) o S1.size i)).squeeze S_ squeezes_S1_S_).sem = dsem 0 (tgt c (n + 1)) := by
  subst ho; exact sem4_eq _ _
theorem wait_sem5 {o : Fin 1 → Nat} {i : ∀ a, o a + S1.size a ≤ S32.size a} {n : ℕ} (ho : o = ![(tgt c (n + 1)).val]) :
    ((cc0_scratch5.slice (Rect.unit (s := S32) o S1.size i)).squeeze S_ squeezes_S1_S_).sem = dsem 1 (tgt c (n + 1)) := by
  subst ho; exact sem5_eq _ _
theorem wait_sem6 {o : Fin 1 → Nat} {i : ∀ a, o a + S1.size a ≤ S32.size a} {n : ℕ} (ho : o = ![(tgt c (n + 1)).val]) :
    ((cc0_scratch6.slice (Rect.unit (s := S32) o S1.size i)).squeeze S_ squeezes_S1_S_).sem = dsem 2 (tgt c (n + 1)) := by
  subst ho; exact sem6_eq _ _
theorem wait_sem7 {o : Fin 1 → Nat} {i : ∀ a, o a + S1.size a ≤ S32.size a} {n : ℕ} (ho : o = ![(tgt c (n + 1)).val]) :
    ((cc0_scratch7.slice (Rect.unit (s := S32) o S1.size i)).squeeze S_ squeezes_S1_S_).sem = dsem 3 (tgt c (n + 1)) := by
  subst ho; exact sem7_eq _ _

/-! ## The body -/

variable (a0 : Memref sig .tc .vmem S2x128x512 .f32) (h0 : a0.IsWhole) (a1 : Memref sig .tc .vmem S512x256 .bf16) (h1 : a1.IsWhole)
  (a2 : Memref sig .tc .vmem S2x128x256 .f32) (h2 : a2.IsWhole) (a3 : Memref sig .tc .vmem S2x128x256 .f32) (h3 : a3.IsWhole)
  (a4 : Memref sig .tc .vmem S256x512 .bf16) (h4 : a4.IsWhole) (a5 : Memref sig .tc .vmem S2x128x512 .f32) (h5 : a5.IsWhole)
  (h6 : ctxM.IsWhole) (h7 : accM.IsWhole) (h8 : rcvM.IsWhole) (h9 : gatM.IsWhole)
  (x : S2x128x512.Idx → Elt F .f32) (wq : S512x256.Idx → Elt F .bf16) (k v : S2x128x256.Idx → Elt F .f32) (wo : S256x512.Idx → Elt F .bf16)

set_option maxHeartbeats 4000000 in
/-- From the start to the middle of the sends of the reduced rows. -/
theorem body_first (hA : A c = partialOf (ctxOf (ctxBlk x wq k v)) wo) (B : sProp 𝕄)
    {Q : (Σ' (_ : Dev nD), BitVec 32) → sProp 𝕄}
    (h : ∀ v2, St A κ c (oweDma 3 c (Rem c 14)) iprop(ph2 A c 14 ∗ D3 A c B
        iprop(ins c a0 a1 a2 a3 a4 x wq k v wo ∗ owns (c : Thread nD τ) ctxM fullShare (ctxOf (ctxBlk x wq k v)) ∗ atPos ER (barCell c) 1 ∅ 0)) ⊢ Q ⟨c, v2⟩) :
    St A κ c (oweBar (Rem c 0) + (oweDma 1 c (Finset.univ.erase c) + oweDma 3 c (Finset.univ.erase c)))
        iprop(sigRes c 0 ∗ cred (tallyAt (barCell c) () 31) ∗ atPos ER (barCell c) 0 ∅ 0
          ∗ toks c 0 1 ∗ toks c 2 3 ∗ (∃ X, owns (c : Thread nD τ) accM fullShare X)
          ∗ ins c a0 a1 a2 a3 a4 x wq k v wo ∗ (∃ f, owns (c : Thread nD τ) ctxM fullShare f) ∗ begun c ∗ B)
      ⊢ WP c (k0_part109 a0 h0 a1 h1 a2 h2 a3 h3 a4 h4 a5 h5 ctxM h6 accM h7 rcvM h8 gatM h9 cc0_scratch4 cc0_scratch5 cc0_scratch6 cc0_scratch7) Q := by
  rw [k0_part109_eq_skeleton]; unfold k0_part109_skel
  refine step_bind ?_; rw [k0_part1_eq_skeleton]; unfold k0_part1_skel
  refine step_device ?_
  iterate 2 refine step_signal A κ c _ (by decide) (Fin.ext (by clear * -; revert c; decide +kernel)) ?_
  refine step_pure ?_
  refine step_bind ?_; rw [k0_part2_eq_skeleton]; unfold k0_part2_skel
  iterate 2 refine step_signal A κ c _ (by decide) (Fin.ext (by clear * -; revert c; decide +kernel)) ?_
  refine step_pure ?_
  refine step_bind ?_; rw [k0_part3_eq_skeleton]; unfold k0_part3_skel
  iterate 3 refine step_signal A κ c _ (by decide) (Fin.ext (by clear * -; revert c; decide +kernel)) ?_
  refine step_pure ?_
  refine step_bind ?_; rw [k0_part4_eq_skeleton]; unfold k0_part4_skel
  iterate 2 refine step_signal A κ c _ (by decide) (Fin.ext (by clear * -; revert c; decide +kernel)) ?_
  refine step_pure ?_
  refine step_bind ?_; rw [k0_part5_eq_skeleton]; unfold k0_part5_skel
  iterate 3 refine step_signal A κ c _ (by decide) (Fin.ext (by clear * -; revert c; decide +kernel)) ?_
  refine step_pure ?_
  refine step_bind ?_; rw [k0_part6_eq_skeleton]; unfold k0_part6_skel
  iterate 2 refine step_signal A κ c _ (by decide) (Fin.ext (by clear * -; revert c; decide +kernel)) ?_
  refine step_pure ?_
  refine step_bind ?_; rw [k0_part7_eq_skeleton]; unfold k0_part7_skel
  iterate 3 refine step_signal A κ c _ (by decide) (Fin.ext (by clear * -; revert c; decide +kernel)) ?_
  refine step_pure ?_
  refine step_bind ?_; rw [k0_part8_eq_skeleton]; unfold k0_part8_skel
  iterate 2 refine step_signal A κ c _ (by decide) (Fin.ext (by clear * -; revert c; decide +kernel)) ?_
  refine step_pure ?_
  refine step_bind ?_; rw [k0_part9_eq_skeleton]; unfold k0_part9_skel
  iterate 3 refine step_signal A κ c _ (by decide) (Fin.ext (by clear * -; revert c; decide +kernel)) ?_
  refine step_pure ?_
  refine step_bind ?_; rw [k0_part10_eq_skeleton]; unfold k0_part10_skel
  iterate 2 refine step_signal A κ c _ (by decide) (Fin.ext (by clear * -; revert c; decide +kernel)) ?_
  refine step_pure ?_
  refine step_bind ?_; rw [k0_part11_eq_skeleton]; unfold k0_part11_skel
  iterate 3 refine step_signal A κ c _ (by decide) (Fin.ext (by clear * -; revert c; decide +kernel)) ?_
  refine step_pure ?_
  refine step_bind ?_; rw [k0_part12_eq_skeleton]; unfold k0_part12_skel
  iterate 2 refine step_signal A κ c _ (by decide) (Fin.ext (by clear * -; revert c; decide +kernel)) ?_
  refine step_pure ?_
  refine step_bind ?_; rw [k0_part13_eq_skeleton]; unfold k0_part13_skel
  iterate 2 refine step_signal A κ c _ (by decide) (Fin.ext (by clear * -; revert c; decide +kernel)) ?_
  refine (after_signals A κ c _).trans ?_
  refine step_barrier A κ c ?_
  refine (after_barrier A κ c _ _ _ (ctxBlk x wq k v)).trans ?_
  refine step_load_whole A κ c (foc0 c _ _ _ _ _ _ _ _ _ _ _ _) ?_
  refine step_load_whole A κ c (foc1 c _ _ _ _ _ _ _ _ _ _ _ _) ?_
  refine step_load A κ c (foc2 c _ _ _ _ _ _ _ _ _ _ _ _) ?_
  refine step_pure ?_
  refine step_bind ?_; rw [k0_part14_eq_skeleton]; unfold k0_part14_skel
  iterate 7 refine step_load A κ c (foc2 c _ _ _ _ _ _ _ _ _ _ _ _) ?_
  refine step_pure ?_
  refine step_bind ?_; rw [k0_part15_eq_skeleton]; unfold k0_part15_skel
  refine step_pure ?_
  refine step_bind ?_; rw [k0_part16_eq_skeleton]; unfold k0_part16_skel
  refine step_pure ?_
  refine step_bind ?_; rw [k0_part17_eq_skeleton]; unfold k0_part17_skel
  refine step_load A κ c (foc3 c _ _ _ _ _ _ _ _ _ _ _ _) ?_
  refine step_load_any A κ c (fun _ => rfl) (ctx_any c (ctxBlk x wq k v) 0 0 0) (fun _ => ?_)
  refine step_store_slice A κ c (fun _ => rfl) (ctx_put c (ctxBlk x wq k v) 0 0 0 rfl) ?_
  refine step_load A κ c (foc3 c _ _ _ _ _ _ _ _ _ _ _ _) ?_
  refine step_load_any A κ c (fun _ => rfl) (ctx_any c (ctxBlk x wq k v) 1 0 1) (fun _ => ?_)
  refine step_store_slice A κ c (fun _ => rfl) (ctx_put c (ctxBlk x wq k v) 1 0 1 rfl) ?_
  refine step_load A κ c (foc3 c _ _ _ _ _ _ _ _ _ _ _ _) ?_
  refine step_load_any A κ c (fun _ => rfl) (ctx_any c (ctxBlk x wq k v) 2 0 2) (fun _ => ?_)
  refine step_store_slice A κ c (fun _ => rfl) (ctx_put c (ctxBlk x wq k v) 2 0 2 rfl) ?_
  refine step_pure ?_
  refine step_bind ?_; rw [k0_part18_eq_skeleton]; unfold k0_part18_skel
  refine step_load A κ c (foc3 c _ _ _ _ _ _ _ _ _ _ _ _) ?_
  refine step_load_any A κ c (fun _ => rfl) (ctx_any c (ctxBlk x wq k v) 3 0 3) (fun _ => ?_)
  refine step_store_slice A κ c (fun _ => rfl) (ctx_put c (ctxBlk x wq k v) 3 0 3 rfl) ?_
  refine step_load A κ c (foc3 c _ _ _ _ _ _ _ _ _ _ _ _) ?_
  refine step_load_any A κ c (fun _ => rfl) (ctx_any c (ctxBlk x wq k v) 4 1 0) (fun _ => ?_)
  refine step_store_slice A κ c (fun _ => rfl) (ctx_put c (ctxBlk x wq k v) 4 1 0 rfl) ?_
  refine step_load A κ c (foc3 c _ _ _ _ _ _ _ _ _ _ _ _) ?_
  refine step_load_any A κ c (fun _ => rfl) (ctx_any c (ctxBlk x wq k v) 5 1 1) (fun _ => ?_)
  refine step_store_slice A κ c (fun _ => rfl) (ctx_put c (ctxBlk x wq k v) 5 1 1 rfl) ?_
  refine step_load A κ c (foc3 c _ _ _ _ _ _ _ _ _ _ _ _) ?_
  refine step_pure ?_
  refine step_bind ?_; rw [k0_part19_eq_skeleton]; unfold k0_part19_skel
  refine step_load_any A κ c (fun _ => rfl) (ctx_any c (ctxBlk x wq k v) 6 1 2) (fun _ => ?_)
  refine step_store_slice A κ c (fun _ => rfl) (ctx_put c (ctxBlk x wq k v) 6 1 2 rfl) ?_
  refine step_load A κ c (foc3 c _ _ _ _ _ _ _ _ _ _ _ _) ?_
  refine step_load_any A κ c (fun _ => rfl) (ctx_any c (ctxBlk x wq k v) 7 1 3) (fun _ => ?_)
  refine step_store_slice A κ c (fun _ => rfl) (ctx_put c (ctxBlk x wq k v) 7 1 3 rfl) ?_
  refine (after_ctx A κ c _ (ctxBlk x wq k v)).trans ?_
  refine step_load A κ c (third _ _ _ _ _) ?_
  refine step_load_whole A κ c (foc4 c _ _ _ _ _ _ _ _ _ _ _ _) ?_
  refine step_load_any A κ c (fun _ => rfl) (blk_any A c 0 rfl) (fun _ => ?_)
  refine step_store_slice A κ c (fun _ => rfl) (blk_put A c 0 rfl hA rfl) ?_
  refine step_pure ?_
  refine step_bind ?_; rw [k0_part20_eq_skeleton]; unfold k0_part20_skel
  refine step_send1 A κ c _ _ (by decide) (by decide) (by clear * -; revert c; decide +kernel) ?_
  refine step_send1 A κ c _ _ (by decide) (by decide) (by clear * -; revert c; decide +kernel) ?_
  refine step_send1 A κ c _ _ (by decide) (by decide) (by clear * -; revert c; decide +kernel) ?_
  refine step_pure ?_
  refine step_bind ?_; rw [k0_part21_eq_skeleton]; unfold k0_part21_skel
  refine step_send1 A κ c _ _ (by decide) (by decide) (by clear * -; revert c; decide +kernel) ?_
  refine step_send1 A κ c _ _ (by decide) (by decide) (by clear * -; revert c; decide +kernel) ?_
  refine step_pure ?_
  refine step_bind ?_; rw [k0_part22_eq_skeleton]; unfold k0_part22_skel
  refine step_send1 A κ c _ _ (by decide) (by decide) (by clear * -; revert c; decide +kernel) ?_
  refine step_send1 A κ c _ _ (by decide) (by decide) (by clear * -; revert c; decide +kernel) ?_
  refine step_pure ?_
  refine step_bind ?_; rw [k0_part23_eq_skeleton]; unfold k0_part23_skel
  refine step_send1 A κ c _ _ (by decide) (by decide) (by clear * -; revert c; decide +kernel) ?_
  refine step_load A κ c (third _ _ _ _ _) ?_
  refine step_load_whole A κ c (foc4 c _ _ _ _ _ _ _ _ _ _ _ _) ?_
  refine step_load_any A κ c (fun _ => rfl) (blk_any A c 1 rfl) (fun _ => ?_)
  refine step_store_slice A κ c (fun _ => rfl) (blk_put A c 1 rfl hA rfl) ?_
  refine step_send1 A κ c _ _ (by decide) (by decide) (by clear * -; revert c; decide +kernel) ?_
  refine step_pure ?_
  refine step_bind ?_; rw [k0_part24_eq_skeleton]; unfold k0_part24_skel
  refine step_send1 A κ c _ _ (by decide) (by decide) (by clear * -; revert c; decide +kernel) ?_
  refine step_send1 A κ c _ _ (by decide) (by decide) (by clear * -; revert c; decide +kernel) ?_
  refine step_pure ?_
  refine step_bind ?_; rw [k0_part25_eq_skeleton]; unfold k0_part25_skel
  refine step_send1 A κ c _ _ (by decide) (by decide) (by clear * -; revert c; decide +kernel) ?_
  refine step_send1 A κ c _ _ (by decide) (by decide) (by clear * -; revert c; decide +kernel) ?_
  refine step_pure ?_
  refine step_bind ?_; rw [k0_part26_eq_skeleton]; unfold k0_part26_skel
  refine step_send1 A κ c _ _ (by decide) (by decide) (by clear * -; revert c; decide +kernel) ?_
  refine step_send1 A κ c _ _ (by decide) (by decide) (by clear * -; revert c; decide +kernel) ?_
  refine step_pure ?_
  refine step_bind ?_; rw [k0_part27_eq_skeleton]; unfold k0_part27_skel
  refine step_send1 A κ c _ _ (by decide) (by decide) (by clear * -; revert c; decide +kernel) ?_
  refine step_load A κ c (third _ _ _ _ _) ?_
  refine step_load_whole A κ c (foc4 c _ _ _ _ _ _ _ _ _ _ _ _) ?_
  refine step_load_any A κ c (fun _ => rfl) (blk_any A c 2 rfl) (fun _ => ?_)
  refine step_store_slice A κ c (fun _ => rfl) (blk_put A c 2 rfl hA rfl) ?_
  refine step_send1 A κ c _ _ (by decide) (by decide) (by clear * -; revert c; decide +kernel) ?_
  refine step_pure ?_
  refine step_bind ?_; rw [k0_part28_eq_skeleton]; unfold k0_part28_skel
  refine step_send1 A κ c _ _ (by decide) (by decide) (by clear * -; revert c; decide +kernel) ?_
  refine step_send1 A κ c _ _ (by decide) (by decide) (by clear * -; revert c; decide +kernel) ?_
  refine step_pure ?_
  refine step_bind ?_; rw [k0_part29_eq_skeleton]; unfold k0_part29_skel
  refine step_send1 A κ c _ _ (by decide) (by decide) (by clear * -; revert c; decide +kernel) ?_
  refine step_send1 A κ c _ _ (by decide) (by decide) (by clear * -; revert c; decide +kernel) ?_
  refine step_pure ?_
  refine step_bind ?_; rw [k0_part30_eq_skeleton]; unfold k0_part30_skel
  refine step_send1 A κ c _ _ (by decide) (by decide) (by clear * -; revert c; decide +kernel) ?_
  refine step_send1 A κ c _ _ (by decide) (by decide) (by clear * -; revert c; decide +kernel) ?_
  refine step_send1 A κ c _ _ (by decide) (by decide) (by clear * -; revert c; decide +kernel) ?_
  refine step_load A κ c (third _ _ _ _ _) ?_
  refine step_pure ?_
  refine step_bind ?_; rw [k0_part31_eq_skeleton]; unfold k0_part31_skel
  refine step_load_whole A κ c (foc4 c _ _ _ _ _ _ _ _ _ _ _ _) ?_
  refine step_load_any A κ c (fun _ => rfl) (blk_any A c 3 rfl) (fun _ => ?_)
  refine step_store_slice A κ c (fun _ => rfl) (blk_put A c 3 rfl hA rfl) ?_
  refine step_send1 A κ c _ _ (by decide) (by decide) (by clear * -; revert c; decide +kernel) ?_
  refine step_pure ?_
  refine step_bind ?_; rw [k0_part32_eq_skeleton]; unfold k0_part32_skel
  refine step_send1 A κ c _ _ (by decide) (by decide) (by clear * -; revert c; decide +kernel) ?_
  refine step_send1 A κ c _ _ (by decide) (by decide) (by clear * -; revert c; decide +kernel) ?_
  refine step_send1 A κ c _ _ (by decide) (by decide) (by clear * -; revert c; decide +kernel) ?_
  refine step_pure ?_
  refine step_bind ?_; rw [k0_part33_eq_skeleton]; unfold k0_part33_skel
  refine step_send1 A κ c _ _ (by decide) (by decide) (by clear * -; revert c; decide +kernel) ?_
  refine step_send1 A κ c _ _ (by decide) (by decide) (by clear * -; revert c; decide +kernel) ?_
  refine step_pure ?_
  refine step_bind ?_; rw [k0_part34_eq_skeleton]; unfold k0_part34_skel
  refine step_send1 A κ c _ _ (by decide) (by decide) (by clear * -; revert c; decide +kernel) ?_
  refine step_send1 A κ c _ _ (by decide) (by decide) (by clear * -; revert c; decide +kernel) ?_
  refine (after_sends1 A κ c _ _ _).trans ?_
  refine step_load_slice A κ c (fun _ => rfl) (first_at (m := accM) c (off129 c) (row_inb c)) ?_
  refine step_load_any A κ c (fun _ => rfl) (second_any (m := rcvM) c (off130 c) (slot_inb c)) (fun _ => ?_)
  refine step_pure ?_
  refine step_bind ?_; rw [k0_part35_eq_skeleton]; unfold k0_part35_skel
  refine step_store_slice A κ c (fun _ => rfl) (second_put (m := rcvM) c (off130 c) (slot_inb c)) ?_
  refine (own_put A κ c _ _).trans ?_
  refine step_wait A κ c 1 _ (by decide) (may_recv1 A κ c) (wait_sem5 c (off131 c (by decide))) (by rfl) ?_
  refine step_pure ?_
  refine step_bind ?_; rw [k0_part36_eq_skeleton]; unfold k0_part36_skel
  refine step_wait A κ c 1 _ (by decide) (may_recv1 A κ c) (wait_sem5 c (off131 c (by decide))) (by rfl) ?_
  refine step_wait A κ c 1 _ (by decide) (may_recv1 A κ c) (wait_sem5 c (off131 c (by decide))) (by rfl) ?_
  refine step_pure ?_
  refine step_bind ?_; rw [k0_part37_eq_skeleton]; unfold k0_part37_skel
  refine step_wait A κ c 1 _ (by decide) (may_recv1 A κ c) (wait_sem5 c (off131 c (by decide))) (by rfl) ?_
  refine step_wait A κ c 1 _ (by decide) (may_recv1 A κ c) (wait_sem5 c (off131 c (by decide))) (by rfl) ?_
  refine step_pure ?_
  refine step_bind ?_; rw [k0_part38_eq_skeleton]; unfold k0_part38_skel
  refine step_wait A κ c 1 _ (by decide) (may_recv1 A κ c) (wait_sem5 c (off131 c (by decide))) (by rfl) ?_
  refine step_wait A κ c 1 _ (by decide) (may_recv1 A κ c) (wait_sem5 c (off131 c (by decide))) (by rfl) ?_
  refine step_pure ?_
  refine step_bind ?_; rw [k0_part39_eq_skeleton]; unfold k0_part39_skel
  refine step_wait A κ c 1 _ (by decide) (may_recv1 A κ c) (wait_sem5 c (off131 c (by decide))) (by rfl) ?_
  refine step_wait A κ c 1 _ (by decide) (may_recv1 A κ c) (wait_sem5 c (off131 c (by decide))) (by rfl) ?_
  refine step_pure ?_
  refine step_bind ?_; rw [k0_part40_eq_skeleton]; unfold k0_part40_skel
  refine step_wait A κ c 1 _ (by decide) (may_recv1 A κ c) (wait_sem5 c (off131 c (by decide))) (by rfl) ?_
  refine step_pure ?_
  refine step_bind ?_; rw [k0_part41_eq_skeleton]; unfold k0_part41_skel
  refine step_wait A κ c 1 _ (by decide) (may_recv1 A κ c) (wait_sem5 c (off131 c (by decide))) (by rfl) ?_
  refine step_wait A κ c 1 _ (by decide) (may_recv1 A κ c) (wait_sem5 c (off131 c (by decide))) (by rfl) ?_
  refine step_pure ?_
  refine step_bind ?_; rw [k0_part42_eq_skeleton]; unfold k0_part42_skel
  refine step_wait A κ c 1 _ (by decide) (may_recv1 A κ c) (wait_sem5 c (off131 c (by decide))) (by rfl) ?_
  refine step_wait A κ c 1 _ (by decide) (may_recv1 A κ c) (wait_sem5 c (off131 c (by decide))) (by rfl) ?_
  refine step_pure ?_
  refine step_bind ?_; rw [k0_part43_eq_skeleton]; unfold k0_part43_skel
  refine step_wait A κ c 1 _ (by decide) (may_recv1 A κ c) (wait_sem5 c (off131 c (by decide))) (by rfl) ?_
  refine step_wait A κ c 1 _ (by decide) (may_recv1 A κ c) (wait_sem5 c (off131 c (by decide))) (by rfl) ?_
  refine step_pure ?_
  refine step_bind ?_; rw [k0_part44_eq_skeleton]; unfold k0_part44_skel
  refine step_wait A κ c 1 _ (by decide) (may_recv1 A κ c) (wait_sem5 c (off131 c (by decide))) (by rfl) ?_
  refine step_wait A κ c 1 _ (by decide) (may_recv1 A κ c) (wait_sem5 c (off131 c (by decide))) (by rfl) ?_
  refine step_pure ?_
  refine step_bind ?_; rw [k0_part45_eq_skeleton]; unfold k0_part45_skel
  refine step_wait A κ c 1 _ (by decide) (may_recv1 A κ c) (wait_sem5 c (off131 c (by decide))) (by rfl) ?_
  refine step_pure ?_
  refine step_bind ?_; rw [k0_part46_eq_skeleton]; unfold k0_part46_skel
  refine step_wait A κ c 1 _ (by decide) (may_recv1 A κ c) (wait_sem5 c (off131 c (by decide))) (by rfl) ?_
  refine step_wait A κ c 1 _ (by decide) (may_recv1 A κ c) (wait_sem5 c (off131 c (by decide))) (by rfl) ?_
  refine step_pure ?_
  refine step_bind ?_; rw [k0_part47_eq_skeleton]; unfold k0_part47_skel
  refine step_wait A κ c 1 _ (by decide) (may_recv1 A κ c) (wait_sem5 c (off131 c (by decide))) (by rfl) ?_
  refine step_wait A κ c 1 _ (by decide) (may_recv1 A κ c) (wait_sem5 c (off131 c (by decide))) (by rfl) ?_
  refine step_pure ?_
  refine step_bind ?_; rw [k0_part48_eq_skeleton]; unfold k0_part48_skel
  refine step_wait A κ c 1 _ (by decide) (may_recv1 A κ c) (wait_sem5 c (off131 c (by decide))) (by rfl) ?_
  refine step_wait A κ c 1 _ (by decide) (may_recv1 A κ c) (wait_sem5 c (off131 c (by decide))) (by rfl) ?_
  refine step_pure ?_
  refine step_bind ?_; rw [k0_part49_eq_skeleton]; unfold k0_part49_skel
  refine step_wait A κ c 1 _ (by decide) (may_recv1 A κ c) (wait_sem5 c (off131 c (by decide))) (by rfl) ?_
  refine step_wait A κ c 1 _ (by decide) (may_recv1 A κ c) (wait_sem5 c (off131 c (by decide))) (by rfl) ?_
  refine step_pure ?_
  refine step_bind ?_; rw [k0_part50_eq_skeleton]; unfold k0_part50_skel
  refine step_wait A κ c 1 _ (by decide) (may_recv1 A κ c) (wait_sem5 c (off131 c (by decide))) (by rfl) ?_
  refine step_wait A κ c 1 _ (by decide) (may_recv1 A κ c) (wait_sem5 c (off131 c (by decide))) (by rfl) ?_
  refine step_pure ?_
  refine step_bind ?_; rw [k0_part51_eq_skeleton]; unfold k0_part51_skel
  refine step_wait A κ c 1 _ (by decide) (may_recv1 A κ c) (wait_sem5 c (off131 c (by decide))) (by rfl) ?_
  refine step_pure ?_
  refine step_bind ?_; rw [k0_part52_eq_skeleton]; unfold k0_part52_skel
  refine step_wait A κ c 1 _ (by decide) (may_recv1 A κ c) (wait_sem5 c (off131 c (by decide))) (by rfl) ?_
  refine (after_recv1 A κ c _ _).trans ?_
  refine step_load_whole A κ c (first _ _ _) ?_
  refine step_load_any A κ c (fun _ => rfl) (second_any (m := gatM) c (off129 c) (row_inb c)) (fun _ => ?_)
  refine step_store_slice A κ c (fun _ => rfl) (second_put (m := gatM) c (off129 c) (row_inb c)) ?_
  refine (after_sum A κ c _ _).trans ?_
  refine step_send2 A κ c _ (by decide) (by clear * -; revert c; decide +kernel) ?_
  refine step_pure ?_
  refine step_bind ?_; rw [k0_part53_eq_skeleton]; unfold k0_part53_skel
  refine step_send2 A κ c _ (by decide) (by clear * -; revert c; decide +kernel) ?_
  refine step_pure ?_
  refine step_bind ?_; rw [k0_part54_eq_skeleton]; unfold k0_part54_skel
  refine step_send2 A κ c _ (by decide) (by clear * -; revert c; decide +kernel) ?_
  refine step_send2 A κ c _ (by decide) (by clear * -; revert c; decide +kernel) ?_
  refine step_pure ?_
  refine step_bind ?_; rw [k0_part55_eq_skeleton]; unfold k0_part55_skel
  refine step_send2 A κ c _ (by decide) (by clear * -; revert c; decide +kernel) ?_
  refine step_send2 A κ c _ (by decide) (by clear * -; revert c; decide +kernel) ?_
  refine step_pure ?_
  refine step_bind ?_; rw [k0_part56_eq_skeleton]; unfold k0_part56_skel
  refine step_send2 A κ c _ (by decide) (by clear * -; revert c; decide +kernel) ?_
  refine step_send2 A κ c _ (by decide) (by clear * -; revert c; decide +kernel) ?_
  refine step_pure ?_
  refine step_bind ?_; rw [k0_part57_eq_skeleton]; unfold k0_part57_skel
  refine step_send2 A κ c _ (by decide) (by clear * -; revert c; decide +kernel) ?_
  refine step_pure ?_
  refine step_bind ?_; rw [k0_part58_eq_skeleton]; unfold k0_part58_skel
  refine step_send2 A κ c _ (by decide) (by clear * -; revert c; decide +kernel) ?_
  refine step_send2 A κ c _ (by decide) (by clear * -; revert c; decide +kernel) ?_
  refine step_pure ?_
  refine step_bind ?_; rw [k0_part59_eq_skeleton]; unfold k0_part59_skel
  refine step_send2 A κ c _ (by decide) (by clear * -; revert c; decide +kernel) ?_
  refine step_send2 A κ c _ (by decide) (by clear * -; revert c; decide +kernel) ?_
  refine step_pure ?_
  refine step_bind ?_; rw [k0_part60_eq_skeleton]; unfold k0_part60_skel
  refine step_send2 A κ c _ (by decide) (by clear * -; revert c; decide +kernel) ?_
  refine step_pure ?_
  exact step_pure (h _)

set_option maxHeartbeats 4000000 in
/-- From there to the end. -/
theorem body_second {Z Z' : S2x128x512.Idx → Elt F .f32} (hZ : Z' = k0_pay33 (gathered A)) (K : sProp 𝕄) (v2 : BitVec 32)
    {Q : PUnit → sProp 𝕄}
    (h : St A κ c 0 iprop(wt A c 0 31 ∗ wt A c 2 30 ∗ D6 A c (owns (c : Thread nD τ) a5 fullShare Z') K) ⊢ Q ⟨⟩) :
    St A κ c (oweDma 3 c (Rem c 14)) iprop(ph2 A c 14 ∗ D3 A c (owns (c : Thread nD τ) a5 fullShare Z) K)
      ⊢ WP c (k0_part110 a0 h0 a1 h1 a2 h2 a3 h3 a4 h4 a5 h5 ctxM h6 accM h7 rcvM h8 gatM h9 cc0_scratch4 cc0_scratch5 cc0_scratch6 cc0_scratch7 c v2) Q := by
  subst hZ
  rw [k0_part110_eq_skeleton]; unfold k0_part110_skel
  refine step_bind ?_; rw [k0_part61_eq_skeleton]; unfold k0_part61_skel
  refine step_send2 A κ c _ (by decide) (by clear * -; revert c; decide +kernel) ?_
  refine step_send2 A κ c _ (by decide) (by clear * -; revert c; decide +kernel) ?_
  refine step_pure ?_
  refine step_bind ?_; rw [k0_part62_eq_skeleton]; unfold k0_part62_skel
  refine step_send2 A κ c _ (by decide) (by clear * -; revert c; decide +kernel) ?_
  refine step_send2 A κ c _ (by decide) (by clear * -; revert c; decide +kernel) ?_
  refine step_pure ?_
  refine step_bind ?_; rw [k0_part63_eq_skeleton]; unfold k0_part63_skel
  refine step_send2 A κ c _ (by decide) (by clear * -; revert c; decide +kernel) ?_
  refine step_send2 A κ c _ (by decide) (by clear * -; revert c; decide +kernel) ?_
  refine step_pure ?_
  refine step_bind ?_; rw [k0_part64_eq_skeleton]; unfold k0_part64_skel
  refine step_send2 A κ c _ (by decide) (by clear * -; revert c; decide +kernel) ?_
  refine step_pure ?_
  refine step_bind ?_; rw [k0_part65_eq_skeleton]; unfold k0_part65_skel
  refine step_send2 A κ c _ (by decide) (by clear * -; revert c; decide +kernel) ?_
  refine step_send2 A κ c _ (by decide) (by clear * -; revert c; decide +kernel) ?_
  refine step_pure ?_
  refine step_bind ?_; rw [k0_part66_eq_skeleton]; unfold k0_part66_skel
  refine step_send2 A κ c _ (by decide) (by clear * -; revert c; decide +kernel) ?_
  refine step_send2 A κ c _ (by decide) (by clear * -; revert c; decide +kernel) ?_
  refine step_pure ?_
  refine step_bind ?_; rw [k0_part67_eq_skeleton]; unfold k0_part67_skel
  refine step_send2 A κ c _ (by decide) (by clear * -; revert c; decide +kernel) ?_
  refine step_pure ?_
  refine step_bind ?_; rw [k0_part68_eq_skeleton]; unfold k0_part68_skel
  refine step_send2 A κ c _ (by decide) (by clear * -; revert c; decide +kernel) ?_
  refine step_send2 A κ c _ (by decide) (by clear * -; revert c; decide +kernel) ?_
  refine step_pure ?_
  refine step_bind ?_; rw [k0_part69_eq_skeleton]; unfold k0_part69_skel
  refine step_send2 A κ c _ (by decide) (by clear * -; revert c; decide +kernel) ?_
  refine step_send2 A κ c _ (by decide) (by clear * -; revert c; decide +kernel) ?_
  refine step_pure ?_
  refine step_bind ?_; rw [k0_part70_eq_skeleton]; unfold k0_part70_skel
  refine step_send2 A κ c _ (by decide) (by clear * -; revert c; decide +kernel) ?_
  refine (after_sends2 A κ c _ _).trans ?_
  refine step_wait A κ c 3 _ (by decide) (may_any A κ c) (wait_sem7 c (off131 c (by decide))) (by rfl) ?_
  refine step_pure ?_
  refine step_bind ?_; rw [k0_part71_eq_skeleton]; unfold k0_part71_skel
  refine step_wait A κ c 3 _ (by decide) (may_any A κ c) (wait_sem7 c (off131 c (by decide))) (by rfl) ?_
  refine step_pure ?_
  refine step_bind ?_; rw [k0_part72_eq_skeleton]; unfold k0_part72_skel
  refine step_wait A κ c 3 _ (by decide) (may_any A κ c) (wait_sem7 c (off131 c (by decide))) (by rfl) ?_
  refine step_wait A κ c 3 _ (by decide) (may_any A κ c) (wait_sem7 c (off131 c (by decide))) (by rfl) ?_
  refine step_pure ?_
  refine step_bind ?_; rw [k0_part73_eq_skeleton]; unfold k0_part73_skel
  refine step_wait A κ c 3 _ (by decide) (may_any A κ c) (wait_sem7 c (off131 c (by decide))) (by rfl) ?_
  refine step_wait A κ c 3 _ (by decide) (may_any A κ c) (wait_sem7 c (off131 c (by decide))) (by rfl) ?_
  refine step_pure ?_
  refine step_bind ?_; rw [k0_part74_eq_skeleton]; unfold k0_part74_skel
  refine step_wait A κ c 3 _ (by decide) (may_any A κ c) (wait_sem7 c (off131 c (by decide))) (by rfl) ?_
  refine step_wait A κ c 3 _ (by decide) (may_any A κ c) (wait_sem7 c (off131 c (by decide))) (by rfl) ?_
  refine step_pure ?_
  refine step_bind ?_; rw [k0_part75_eq_skeleton]; unfold k0_part75_skel
  refine step_wait A κ c 3 _ (by decide) (may_any A κ c) (wait_sem7 c (off131 c (by decide))) (by rfl) ?_
  refine step_wait A κ c 3 _ (by decide) (may_any A κ c) (wait_sem7 c (off131 c (by decide))) (by rfl) ?_
  refine step_pure ?_
  refine step_bind ?_; rw [k0_part76_eq_skeleton]; unfold k0_part76_skel
  refine step_wait A κ c 3 _ (by decide) (may_any A κ c) (wait_sem7 c (off131 c (by decide))) (by rfl) ?_
  refine step_pure ?_
  refine step_bind ?_; rw [k0_part77_eq_skeleton]; unfold k0_part77_skel
  refine step_wait A κ c 3 _ (by decide) (may_any A κ c) (wait_sem7 c (off131 c (by decide))) (by rfl) ?_
  refine step_wait A κ c 3 _ (by decide) (may_any A κ c) (wait_sem7 c (off131 c (by decide))) (by rfl) ?_
  refine step_pure ?_
  refine step_bind ?_; rw [k0_part78_eq_skeleton]; unfold k0_part78_skel
  refine step_wait A κ c 3 _ (by decide) (may_any A κ c) (wait_sem7 c (off131 c (by decide))) (by rfl) ?_
  refine step_wait A κ c 3 _ (by decide) (may_any A κ c) (wait_sem7 c (off131 c (by decide))) (by rfl) ?_
  refine step_pure ?_
  refine step_bind ?_; rw [k0_part79_eq_skeleton]; unfold k0_part79_skel
  refine step_wait A κ c 3 _ (by decide) (may_any A κ c) (wait_sem7 c (off131 c (by decide))) (by rfl) ?_
  refine step_wait A κ c 3 _ (by decide) (may_any A κ c) (wait_sem7 c (off131 c (by decide))) (by rfl) ?_
  refine step_pure ?_
  refine step_bind ?_; rw [k0_part80_eq_skeleton]; unfold k0_part80_skel
  refine step_wait A κ c 3 _ (by decide) (may_any A κ c) (wait_sem7 c (off131 c (by decide))) (by rfl) ?_
  refine step_wait A κ c 3 _ (by decide) (may_any A κ c) (wait_sem7 c (off131 c (by decide))) (by rfl) ?_
  refine step_pure ?_
  refine step_bind ?_; rw [k0_part81_eq_skeleton]; unfold k0_part81_skel
  refine step_wait A κ c 3 _ (by decide) (may_any A κ c) (wait_sem7 c (off131 c (by decide))) (by rfl) ?_
  refine step_wait A κ c 3 _ (by decide) (may_any A κ c) (wait_sem7 c (off131 c (by decide))) (by rfl) ?_
  refine step_pure ?_
  refine step_bind ?_; rw [k0_part82_eq_skeleton]; unfold k0_part82_skel
  refine step_wait A κ c 3 _ (by decide) (may_any A κ c) (wait_sem7 c (off131 c (by decide))) (by rfl) ?_
  refine step_pure ?_
  refine step_bind ?_; rw [k0_part83_eq_skeleton]; unfold k0_part83_skel
  refine step_wait A κ c 3 _ (by decide) (may_any A κ c) (wait_sem7 c (off131 c (by decide))) (by rfl) ?_
  refine step_wait A κ c 3 _ (by decide) (may_any A κ c) (wait_sem7 c (off131 c (by decide))) (by rfl) ?_
  refine step_pure ?_
  refine step_bind ?_; rw [k0_part84_eq_skeleton]; unfold k0_part84_skel
  refine step_wait A κ c 3 _ (by decide) (may_any A κ c) (wait_sem7 c (off131 c (by decide))) (by rfl) ?_
  refine step_wait A κ c 3 _ (by decide) (may_any A κ c) (wait_sem7 c (off131 c (by decide))) (by rfl) ?_
  refine step_pure ?_
  refine step_bind ?_; rw [k0_part85_eq_skeleton]; unfold k0_part85_skel
  refine step_wait A κ c 3 _ (by decide) (may_any A κ c) (wait_sem7 c (off131 c (by decide))) (by rfl) ?_
  refine step_wait A κ c 3 _ (by decide) (may_any A κ c) (wait_sem7 c (off131 c (by decide))) (by rfl) ?_
  refine step_pure ?_
  refine step_bind ?_; rw [k0_part86_eq_skeleton]; unfold k0_part86_skel
  refine step_wait A κ c 3 _ (by decide) (may_any A κ c) (wait_sem7 c (off131 c (by decide))) (by rfl) ?_
  refine step_wait A κ c 3 _ (by decide) (may_any A κ c) (wait_sem7 c (off131 c (by decide))) (by rfl) ?_
  refine step_pure ?_
  refine step_bind ?_; rw [k0_part87_eq_skeleton]; unfold k0_part87_skel
  refine step_wait A κ c 3 _ (by decide) (may_any A κ c) (wait_sem7 c (off131 c (by decide))) (by rfl) ?_
  refine (after_recv2 A κ c _ _).trans ?_
  refine step_load_whole A κ c (first _ _ _) ?_
  refine step_load_whole A κ c (second _ _ _ _) ?_
  refine step_store_whole A κ c (second _ _ _ _) ?_
  refine (after_result A κ c _ _).trans ?_
  refine step_pure ?_
  refine step_bind ?_; rw [k0_part88_eq_skeleton]; unfold k0_part88_skel
  refine step_wait A κ c 0 _ (by decide) (may_any A κ c) (wait_sem4 c (off131 c (by decide))) (by rfl) ?_
  refine step_wait' A κ c 2 _ (by decide) (may_any A κ c) (wait_sem6 c (off131 c (by decide))) (by rfl) ?_
  refine step_wait A κ c 0 _ (by decide) (may_any A κ c) (wait_sem4 c (off131 c (by decide))) (by rfl) ?_
  refine step_pure ?_
  refine step_bind ?_; rw [k0_part89_eq_skeleton]; unfold k0_part89_skel
  refine step_wait' A κ c 2 _ (by decide) (may_any A κ c) (wait_sem6 c (off131 c (by decide))) (by rfl) ?_
  refine step_wait A κ c 0 _ (by decide) (may_any A κ c) (wait_sem4 c (off131 c (by decide))) (by rfl) ?_
  refine step_wait' A κ c 2 _ (by decide) (may_any A κ c) (wait_sem6 c (off131 c (by decide))) (by rfl) ?_
  refine step_pure ?_
  refine step_bind ?_; rw [k0_part90_eq_skeleton]; unfold k0_part90_skel
  refine step_wait A κ c 0 _ (by decide) (may_any A κ c) (wait_sem4 c (off131 c (by decide))) (by rfl) ?_
  refine step_wait' A κ c 2 _ (by decide) (may_any A κ c) (wait_sem6 c (off131 c (by decide))) (by rfl) ?_
  refine step_wait A κ c 0 _ (by decide) (may_any A κ c) (wait_sem4 c (off131 c (by decide))) (by rfl) ?_
  refine step_pure ?_
  refine step_bind ?_; rw [k0_part91_eq_skeleton]; unfold k0_part91_skel
  refine step_wait' A κ c 2 _ (by decide) (may_any A κ c) (wait_sem6 c (off131 c (by decide))) (by rfl) ?_
  refine step_wait A κ c 0 _ (by decide) (may_any A κ c) (wait_sem4 c (off131 c (by decide))) (by rfl) ?_
  refine step_wait' A κ c 2 _ (by decide) (may_any A κ c) (wait_sem6 c (off131 c (by decide))) (by rfl) ?_
  refine step_pure ?_
  refine step_bind ?_; rw [k0_part92_eq_skeleton]; unfold k0_part92_skel
  refine step_wait A κ c 0 _ (by decide) (may_any A κ c) (wait_sem4 c (off131 c (by decide))) (by rfl) ?_
  refine step_wait' A κ c 2 _ (by decide) (may_any A κ c) (wait_sem6 c (off131 c (by decide))) (by rfl) ?_
  refine step_pure ?_
  refine step_bind ?_; rw [k0_part93_eq_skeleton]; unfold k0_part93_skel
  refine step_wait A κ c 0 _ (by decide) (may_any A κ c) (wait_sem4 c (off131 c (by decide))) (by rfl) ?_
  refine step_wait' A κ c 2 _ (by decide) (may_any A κ c) (wait_sem6 c (off131 c (by decide))) (by rfl) ?_
  refine step_wait A κ c 0 _ (by decide) (may_any A κ c) (wait_sem4 c (off131 c (by decide))) (by rfl) ?_
  refine step_wait' A κ c 2 _ (by decide) (may_any A κ c) (wait_sem6 c (off131 c (by decide))) (by rfl) ?_
  refine step_pure ?_
  refine step_bind ?_; rw [k0_part94_eq_skeleton]; unfold k0_part94_skel
  refine step_wait A κ c 0 _ (by decide) (may_any A κ c) (wait_sem4 c (off131 c (by decide))) (by rfl) ?_
  refine step_wait' A κ c 2 _ (by decide) (may_any A κ c) (wait_sem6 c (off131 c (by decide))) (by rfl) ?_
  refine step_pure ?_
  refine step_bind ?_; rw [k0_part95_eq_skeleton]; unfold k0_part95_skel
  refine step_wait A κ c 0 _ (by decide) (may_any A κ c) (wait_sem4 c (off131 c (by decide))) (by rfl) ?_
  refine step_wait' A κ c 2 _ (by decide) (may_any A κ c) (wait_sem6 c (off131 c (by decide))) (by rfl) ?_
  refine step_wait A κ c 0 _ (by decide) (may_any A κ c) (wait_sem4 c (off131 c (by decide))) (by rfl) ?_
  refine step_pure ?_
  refine step_bind ?_; rw [k0_part96_eq_skeleton]; unfold k0_part96_skel
  refine step_wait' A κ c 2 _ (by decide) (may_any A κ c) (wait_sem6 c (off131 c (by decide))) (by rfl) ?_
  refine step_wait A κ c 0 _ (by decide) (may_any A κ c) (wait_sem4 c (off131 c (by decide))) (by rfl) ?_
  refine step_wait' A κ c 2 _ (by decide) (may_any A κ c) (wait_sem6 c (off131 c (by decide))) (by rfl) ?_
  refine step_pure ?_
  refine step_bind ?_; rw [k0_part97_eq_skeleton]; unfold k0_part97_skel
  refine step_wait A κ c 0 _ (by decide) (may_any A κ c) (wait_sem4 c (off131 c (by decide))) (by rfl) ?_
  refine step_wait' A κ c 2 _ (by decide) (may_any A κ c) (wait_sem6 c (off131 c (by decide))) (by rfl) ?_
  refine step_wait A κ c 0 _ (by decide) (may_any A κ c) (wait_sem4 c (off131 c (by decide))) (by rfl) ?_
  refine step_pure ?_
  refine step_bind ?_; rw [k0_part98_eq_skeleton]; unfold k0_part98_skel
  refine step_wait' A κ c 2 _ (by decide) (may_any A κ c) (wait_sem6 c (off131 c (by decide))) (by rfl) ?_
  refine step_wait A κ c 0 _ (by decide) (may_any A κ c) (wait_sem4 c (off131 c (by decide))) (by rfl) ?_
  refine step_wait' A κ c 2 _ (by decide) (may_any A κ c) (wait_sem6 c (off131 c (by decide))) (by rfl) ?_
  refine step_pure ?_
  refine step_bind ?_; rw [k0_part99_eq_skeleton]; unfold k0_part99_skel
  refine step_wait A κ c 0 _ (by decide) (may_any A κ c) (wait_sem4 c (off131 c (by decide))) (by rfl) ?_
  refine step_wait' A κ c 2 _ (by decide) (may_any A κ c) (wait_sem6 c (off131 c (by decide))) (by rfl) ?_
  refine step_pure ?_
  refine step_bind ?_; rw [k0_part100_eq_skeleton]; unfold k0_part100_skel
  refine step_wait A κ c 0 _ (by decide) (may_any A κ c) (wait_sem4 c (off131 c (by decide))) (by rfl) ?_
  refine step_wait' A κ c 2 _ (by decide) (may_any A κ c) (wait_sem6 c (off131 c (by decide))) (by rfl) ?_
  refine step_wait A κ c 0 _ (by decide) (may_any A κ c) (wait_sem4 c (off131 c (by decide))) (by rfl) ?_
  refine step_wait' A κ c 2 _ (by decide) (may_any A κ c) (wait_sem6 c (off131 c (by decide))) (by rfl) ?_
  refine step_pure ?_
  refine step_bind ?_; rw [k0_part101_eq_skeleton]; unfold k0_part101_skel
  refine step_wait A κ c 0 _ (by decide) (may_any A κ c) (wait_sem4 c (off131 c (by decide))) (by rfl) ?_
  refine step_wait' A κ c 2 _ (by decide) (may_any A κ c) (wait_sem6 c (off131 c (by decide))) (by rfl) ?_
  refine step_pure ?_
  refine step_bind ?_; rw [k0_part102_eq_skeleton]; unfold k0_part102_skel
  refine step_wait A κ c 0 _ (by decide) (may_any A κ c) (wait_sem4 c (off131 c (by decide))) (by rfl) ?_
  refine step_wait' A κ c 2 _ (by decide) (may_any A κ c) (wait_sem6 c (off131 c (by decide))) (by rfl) ?_
  refine step_wait A κ c 0 _ (by decide) (may_any A κ c) (wait_sem4 c (off131 c (by decide))) (by rfl) ?_
  refine step_pure ?_
  refine step_bind ?_; rw [k0_part103_eq_skeleton]; unfold k0_part103_skel
  refine step_wait' A κ c 2 _ (by decide) (may_any A κ c) (wait_sem6 c (off131 c (by decide))) (by rfl) ?_
  refine step_wait A κ c 0 _ (by decide) (may_any A κ c) (wait_sem4 c (off131 c (by decide))) (by rfl) ?_
  refine step_wait' A κ c 2 _ (by decide) (may_any A κ c) (wait_sem6 c (off131 c (by decide))) (by rfl) ?_
  refine step_pure ?_
  refine step_bind ?_; rw [k0_part104_eq_skeleton]; unfold k0_part104_skel
  refine step_wait A κ c 0 _ (by decide) (may_any A κ c) (wait_sem4 c (off131 c (by decide))) (by rfl) ?_
  refine step_wait' A κ c 2 _ (by decide) (may_any A κ c) (wait_sem6 c (off131 c (by decide))) (by rfl) ?_
  refine step_wait A κ c 0 _ (by decide) (may_any A κ c) (wait_sem4 c (off131 c (by decide))) (by rfl) ?_
  refine step_pure ?_
  refine step_bind ?_; rw [k0_part105_eq_skeleton]; unfold k0_part105_skel
  refine step_wait' A κ c 2 _ (by decide) (may_any A κ c) (wait_sem6 c (off131 c (by decide))) (by rfl) ?_
  refine step_wait A κ c 0 _ (by decide) (may_any A κ c) (wait_sem4 c (off131 c (by decide))) (by rfl) ?_
  refine step_wait' A κ c 2 _ (by decide) (may_any A κ c) (wait_sem6 c (off131 c (by decide))) (by rfl) ?_
  refine step_pure ?_
  refine step_bind ?_; rw [k0_part106_eq_skeleton]; unfold k0_part106_skel
  refine step_wait A κ c 0 _ (by decide) (may_any A κ c) (wait_sem4 c (off131 c (by decide))) (by rfl) ?_
  refine step_wait' A κ c 2 _ (by decide) (may_any A κ c) (wait_sem6 c (off131 c (by decide))) (by rfl) ?_
  refine step_pure ?_
  refine step_bind ?_; rw [k0_part107_eq_skeleton]; unfold k0_part107_skel
  refine step_wait A κ c 0 _ (by decide) (may_any A κ c) (wait_sem4 c (off131 c (by decide))) (by rfl) ?_
  refine step_wait' A κ c 2 _ (by decide) (may_any A κ c) (wait_sem6 c (off131 c (by decide))) (by rfl) ?_
  refine step_wait A κ c 0 _ (by decide) (may_any A κ c) (wait_sem4 c (off131 c (by decide))) (by rfl) ?_
  refine step_wait' A κ c 2 _ (by decide) (may_any A κ c) (wait_sem6 c (off131 c (by decide))) (by rfl) ?_
  refine step_pure ?_
  refine step_bind ?_; rw [k0_part108_eq_skeleton]; unfold k0_part108_skel
  refine step_wait A κ c 0 _ (by decide) (may_any A κ c) (wait_sem4 c (off131 c (by decide))) (by rfl) ?_
  refine step_wait' A κ c 2 _ (by decide) (may_any A κ c) (wait_sem6 c (off131 c (by decide))) (by rfl) ?_
  refine step_pure ?_
  refine step_wait A κ c 0 _ (by decide) (may_any A κ c) (wait_sem4 c (off131 c (by decide))) (by rfl) ?_
  exact step_pure h

/-- What a device has when the body is over: its inputs and the semaphores as they were, and the
gathered sum in the output buffer. -/
def done : sProp 𝕄 :=
  iprop(ended A c ∗ owns (c : Thread nD τ) a5 fullShare (k0_pay33 (gathered A))
    ∗ ins c a0 a1 a2 a3 a4 x wq k v wo ∗ owns (c : Thread nD τ) ctxM fullShare (ctxOf (ctxBlk x wq k v)) ∗ atPos ER (barCell c) 1 ∅ 0)

/-- The whole body. -/
theorem body_run (hA : A c = partialOf (ctxOf (ctxBlk x wq k v)) wo) {Z : S2x128x512.Idx → Elt F .f32} {Q : PUnit → sProp 𝕄}
    (h : St A κ c 0 (done A c a0 a1 a2 a3 a4 a5 x wq k v wo) ⊢ Q ⟨⟩) :
    St A κ c (oweBar (Rem c 0) + (oweDma 1 c (Finset.univ.erase c) + oweDma 3 c (Finset.univ.erase c)))
        iprop(sigRes c 0 ∗ cred (tallyAt (barCell c) () 31) ∗ atPos ER (barCell c) 0 ∅ 0
          ∗ toks c 0 1 ∗ toks c 2 3 ∗ (∃ X, owns (c : Thread nD τ) accM fullShare X)
          ∗ ins c a0 a1 a2 a3 a4 x wq k v wo ∗ (∃ f, owns (c : Thread nD τ) ctxM fullShare f) ∗ begun c ∗ owns (c : Thread nD τ) a5 fullShare Z)
      ⊢ WP c (cc0_body a0 h0 a1 h1 a2 h2 a3 h3 a4 h4 a5 h5 ctxM h6 accM h7 rcvM h8 gatM h9 cc0_scratch4 cc0_scratch5 cc0_scratch6 cc0_scratch7) Q := by
  rw [cc0_body_eq_skeleton]; unfold cc0_body_skel
  refine step_bind ?_
  refine body_first A κ c a0 h0 a1 h1 a2 h2 a3 h3 a4 h4 a5 h5 h6 h7 h8 h9 x wq k v wo hA _ fun v2 => ?_
  refine step_bind ?_
  refine body_second A κ c a0 h0 a1 h1 a2 h2 a3 h3 a4 h4 a5 h5 h6 h7 h8 h9 rfl _ v2 ?_
  refine step_wait' A κ c 2 _ (by decide) (may_any A κ c) (wait_sem6 c (off131 c (by decide))) (by rfl) ?_
  refine (after_last A κ c _ _).trans ?_
  exact step_pure h

end Cert.Run
-- ==== Proof.Run.Ends.lean ====
/-
  Before and after the body: what a device brings to the kernel, how the kernel's DMA cells are opened with their counters
  when it is entered, and how every cell is closed again when its round is over.
-/
module

public import proofs.«01_k».proof.Proof.Run.Body

@[expose] public section

set_option maxRecDepth 20000

noncomputable section

namespace Cert.Run

open Cert.KernelIdeal Cert.KernelIdeal.Gen

open Idealize.ShloMosaic
open Idealize.ShloMosaic.TcCoe
open Idealize.SL Idealize.SL.RA Idealize.SL.BI PCS URA
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (A : Dev nD → S256x512.Idx → Elt F .bf16) (κ : GSem nD τ sig → ℕ) (c : Dev nD)

/-! ## The device's own semaphores -/

/-- The kernel's DMA semaphores, by kind and peer. -/
def ownSem (x : Fin 4 × Dev nD) : SemLoc sig := .dma (dsem x.1 x.2)

theorem ownSem_facts : Pipeline.OwnSemFacts spec0 ownSem where
  isScoped := by decide
  inj x y h := by
    have h' := dsem_inj (SemLoc.dma.inj h)
    exact Prod.ext h'.1 h'.2
  disj x w s h := by
    have h1 := le_dsem x.1 x.2
    have h2 : ∀ (w : Fin 6) (s : Fin (spec0 w).nbuf), ((spec0 w).sem s).val < 6 := by decide
    have h3 := congrArg Fin.val (SemLoc.dma.inj h)
    have h4 := h2 w s
    omega

/-- A family over kinds and peers, kind by kind, a device's entry for itself apart. -/
theorem cells_eq (Φ : Fin 4 → Dev nD → sProp 𝕄) :
    (bigSep Finset.univ fun x : Fin 4 × Dev nD => Φ x.1 x.2)
      = iprop((bigSep Finset.univ fun k => Φ k c) ∗ bigSep (Finset.univ.erase c) (Φ 0) ∗ bigSep (Finset.univ.erase c) (Φ 1)
          ∗ bigSep (Finset.univ.erase c) (Φ 2) ∗ bigSep (Finset.univ.erase c) (Φ 3)) := by
  have e4 (Ψ : Fin 4 → sProp 𝕄) : bigSep Finset.univ Ψ = iprop(Ψ 0 ∗ Ψ 1 ∗ Ψ 2 ∗ Ψ 3) :=
    bigSep_univ_eq_bigSepL [(0 : Fin 4), 1, 2, 3] (by decide) (by decide) Ψ
  rw [bigSep_univ_prod, show (fun k => bigSep Finset.univ fun t : Dev nD => Φ k t)
      = (fun k => iprop(Φ k c ∗ bigSep (Finset.univ.erase c) (Φ k))) from funext fun k => bigSep_take (Finset.mem_univ c),
    bigSep_both, e4 fun k => bigSep (Finset.univ.erase c) (Φ k)]

/-- An update at every member of a family, with the same persistent knowledge. -/
theorem update_each {ι : Type} [DecidableEq ι] {R : sProp 𝕄} [BI.Persistent R] {s : Finset ι} {Φ Ψ : ι → sProp 𝕄}
    (h : ∀ i ∈ s, iprop(R ∗ Φ i) ⊢ iprop(|={Set.univ}=> Ψ i)) : iprop(R ∗ bigSep s Φ) ⊢ iprop(|={Set.univ}=> bigSep s Ψ) :=
  (bigSep_with_persistent h).trans (bigSep_fupd s Ψ)

/-! ## Opening and closing the cells -/

theorem open_cell (k : Fin 4) (t : Dev nD) :
    iprop(recs A κ ∗ openTok ER (dcell k c t) ∗ semVal (dcell k c t) 0)
      ⊢ iprop(|={Set.univ}=> (atPos ER (dcell k c t) 0 ∅ 0 ∗ reached ER (dcell k c t) 0) : sProp 𝕄) := by
  iintro ⟨#HR, Ho, Hs⟩
  ihave #HI := (recs_dma A κ k c t) $$ HR
  iapply (Rounds.cell_open ER (Rd A) (g := dcell k c t) (Set.mem_univ (κ (dcell k c t))))
  isplitr; · iexact HI
  isplitl [Ho] <;> iassumption

theorem close_cell (k : Fin 4) (t : Dev nD) :
    iprop(recs A κ ∗ atPos ER (dcell k c t) 1 ∅ 0) ⊢ iprop(|={Set.univ}=> semVal (dcell k c t) 0 : sProp 𝕄) := by
  iintro ⟨#HR, Hp⟩
  ihave #HI := (recs_dma A κ k c t) $$ HR
  iapply (Rounds.cell_close ER (Rd A) (Set.mem_univ (κ (dcell k c t))) (R := 1) id (duties_later A (dcell k c t)))
  isplitr; · iexact HI
  iexact Hp

theorem close_own (k : Fin 4) :
    iprop(recs A κ ∗ atPos ER (dcell k c c) 0 ∅ 0) ⊢ iprop(|={Set.univ}=> semVal (dcell k c c) 0 : sProp 𝕄) := by
  iintro ⟨#HR, Hp⟩
  ihave #HI := (recs_dma A κ k c c) $$ HR
  iapply (Rounds.cell_close ER (Rd A) (Set.mem_univ (κ (dcell k c c))) (R := 0) id (fun r _ => duties_diag A k c r))
  isplitr; · iexact HI
  iexact Hp

theorem close_bar : iprop(recs A κ ∗ atPos ER (barCell c) 1 ∅ 0) ⊢ iprop(|={Set.univ}=> semVal (barCell c) 0 : sProp 𝕄) := by
  iintro ⟨#HR, Hp⟩
  ihave #HI := (recs_bar A κ c) $$ HR
  iapply (Rounds.cell_close ER (Rd A) (Set.mem_univ (κ (barCell c))) (R := 1) id (duties_later A (barCell c)))
  isplitr; · iexact HI
  iexact Hp

/-! ## What a device brings to the kernel -/

/-- The tokens of the duties it pays, -/
def pays : sProp 𝕄 := iprop((bigSep (Finset.univ.erase c) fun p => dutyTok ER (barCell p) 0 c) ∗ toks c 0 1 ∗ toks c 2 3)

/-- the credits of what is paid to it, -/
def credits : sProp 𝕄 := iprop(cred (tallyAt (barCell c) () 31) ∗ creds c 1 ∗ creds c 3)

/-- its position at its barrier cell and, until it enters the kernel, the right to open its DMA cells. -/
def brings : sProp 𝕄 :=
  iprop(atPos ER (barCell c) 0 ∅ 0 ∗ (bigSep Finset.univ fun x : Fin 4 × Dev nD => openTok ER (dcell x.1 c x.2)) ∗ pays c)

def Tk : sProp 𝕄 := iprop((∃ κ, recs A κ ∗ brings c) ∗ credits c)

/-- The DMA cells opened. -/
def Xk : sProp 𝕄 :=
  iprop(∃ κ, recs A κ ∗ opened c ∗ atPos ER (barCell c) 0 ∅ 0 ∗ (bigSep Finset.univ fun x : Fin 4 × Dev nD => atPos ER (dcell x.1 c x.2) 0 ∅ 0)
    ∗ pays c ∗ credits c)

def Yk : sProp 𝕄 := semVal (barCell c) 0

theorem enter : iprop(Tk A c ∗ Pipeline.ownSems0 ownSem c ∗ levAts L lv) ⊢ (|={Set.univ}=> Xk A c : sProp 𝕄) := by
  unfold Tk Xk brings Pipeline.ownSems0
  iintro ⟨⟨⟨%κ, #HR, Hb, Ho, Hp⟩, Hc⟩, Hs, -⟩
  imod (show iprop(recs A κ ∗ (bigSep Finset.univ fun x : Fin 4 × Dev nD => iprop(openTok ER (dcell x.1 c x.2) ∗ semVal (dcell x.1 c x.2) 0)))
      ⊢ (|={Set.univ}=> bigSep Finset.univ fun x : Fin 4 × Dev nD => iprop(atPos ER (dcell x.1 c x.2) 0 ∅ 0 ∗ reached ER (dcell x.1 c x.2) 0) : sProp 𝕄)
    from update_each fun x _ => open_cell A κ c x.1 x.2) $$ [Ho Hs] with H
  · isplitr; · iexact HR
    rw [bigSep_both]
    isplitl [Ho]; · iexact Ho
    iexact Hs
  ihave H' := (Entails.of_eq (bigSep_both Finset.univ (fun x : Fin 4 × Dev nD => (atPos ER (dcell x.1 c x.2) 0 ∅ 0 : sProp 𝕄))
    fun x => reached ER (dcell x.1 c x.2) 0)) $$ H
  icases H' with ⟨Ha, Hr⟩
  imodintro
  iexists κ
  isplitr; · iexact HR
  isplitl [Hr]; · unfold opened; iexact Hr
  isplitl [Hb]; · iexact Hb
  isplitl [Ha]; · iexact Ha
  isplitl [Hp] <;> iassumption

/-- Closing everything, the cells for itself from where they always were, the others from after their round. -/
theorem close_all :
    iprop(recs A κ ∗ (bigSep Finset.univ fun k => atPos ER (dcell k c c) 0 ∅ 0) ∗ ats c 0 1 ∗ ats c 1 1 ∗ ats c 2 1 ∗ ats c 3 1)
      ⊢ (|={Set.univ}=> Pipeline.ownSems0 ownSem c : sProp 𝕄) := by
  have one (k : Fin 4) : iprop(recs A κ ∗ ats c k 1) ⊢ (|={Set.univ}=> bigSep (Finset.univ.erase c) fun t => semVal (dcell k c t) 0 : sProp 𝕄) :=
    update_each fun t _ => close_cell A κ c k t
  have own : iprop(recs A κ ∗ (bigSep Finset.univ fun k => atPos ER (dcell k c c) 0 ∅ 0))
      ⊢ (|={Set.univ}=> bigSep Finset.univ fun k => semVal (dcell k c c) 0 : sProp 𝕄) :=
    update_each fun k _ => close_own A κ c k
  iintro ⟨#HR, Hd, H0, H1, H2, H3⟩
  imod own $$ [Hd] with Hd
  · isplitr; · iexact HR
    iexact Hd
  imod (one 0) $$ [H0] with H0
  · isplitr; · iexact HR
    iexact H0
  imod (one 1) $$ [H1] with H1
  · isplitr; · iexact HR
    iexact H1
  imod (one 2) $$ [H2] with H2
  · isplitr; · iexact HR
    iexact H2
  imod (one 3) $$ [H3] with H3
  · isplitr; · iexact HR
    iexact H3
  imodintro
  unfold Pipeline.ownSems0
  iapply (show _ ⊢ (bigSep Finset.univ fun x : Fin 4 × Dev nD => semVal ((c : Thread nD τ), ownSem x) 0 : sProp 𝕄)
    from Entails.of_eq (cells_eq c fun k t => (semVal (dcell k c t) 0 : sProp 𝕄)).symm)
  isplitl [Hd]; · iexact Hd
  isplitl [H0]; · iexact H0
  isplitl [H1]; · iexact H1
  isplitl [H2]; · iexact H2
  iexact H3

/-! ## The buffers at the start -/

theorem slot_back (Y : S8x512.Idx → Elt F .bf16) :
    (owns (c : Thread nD τ) (slot c) fullShare Y : sProp 𝕄) ⊢ iprop(∃ f, owns (c : Thread nD τ) (slotU c) fullShare f) := by
  iintro H
  iexists fun i => Y ((Shape.reshapeEquiv squeezes_S1x8x512_S8x512.numel_eq).symm i)
  rw [owns_slot c c fullShare]
  simp only [Equiv.symm_apply_apply]
  iexact H

/-- The receive buffer and the gather buffer in pieces: what the signals hand over, and the device's own pieces. -/
theorem hand_over :
    iprop(opened c ∗ (bigSep (Finset.univ.erase c) fun p => dutyTok ER (barCell p) 0 c)
        ∗ (∃ X, owns (c : Thread nD τ) rcvM fullShare X) ∗ (∃ X, owns (c : Thread nD τ) gatM fullShare X))
      ⊢ (iprop(sigRes c 0 ∗ (∃ f, owns (c : Thread nD τ) (slotU c) fullShare f) ∗ (∃ f, owns (c : Thread nD τ) (gatRow c) fullShare f)) : sProp 𝕄) := by
  have give : iprop(opened c ∗ (bigSep (Finset.univ.erase c) fun p => iprop(dutyTok ER (barCell p) 0 c
        ∗ (∃ X, owns (c : Thread nD τ) (slot p) fullShare X) ∗ (∃ X, owns (c : Thread nD τ) (gatRow p) fullShare X))))
      ⊢ (sigRes c 0 : sProp 𝕄) := by
    unfold sigRes
    rw [Rem_zero]
    refine bigSep_with_persistent fun p _ => ?_
    unfold barPay
    iintro ⟨#Ho, Ht, Hs, Hg⟩
    isplitl [Ht]; · iexact Ht
    isplitl [Hs]; · iexact Hs
    isplitl [Hg]; · iexact Hg
    isplitr
    · iapply (opened_reached 1 c p); iexact Ho
    · iapply (opened_reached 3 c p); iexact Ho
  iintro ⟨#Ho, Ht, ⟨%X, Hr⟩, ⟨%Y, Hg⟩⟩
  ihave Hr' := (rcv_split c X) $$ Hr
  ihave Hg' := (gat_split c Y) $$ Hg
  ihave Hr2 := (Entails.of_eq (bigSep_take (Finset.mem_univ c) (Φ := fun t => (iprop(∃ Y, owns (c : Thread nD τ) (slot t) fullShare Y) : sProp 𝕄)))) $$ Hr'
  ihave Hg2 := (Entails.of_eq (bigSep_take (Finset.mem_univ c) (Φ := fun t => (iprop(∃ Y, owns (c : Thread nD τ) (gatRow t) fullShare Y) : sProp 𝕄)))) $$ Hg'
  icases Hr2 with ⟨Hr0, Hr1⟩
  icases Hg2 with ⟨Hg0, Hg1⟩
  isplitl [Ht Hr1 Hg1]
  · iapply give
    isplitr; · iexact Ho
    rw [bigSep_both, bigSep_both]
    isplitl [Ht]; · iexact Ht
    isplitl [Hr1] <;> iassumption
  isplitl [Hr0]
  · icases Hr0 with ⟨%Z, Hr0⟩
    iapply (slot_back c Z)
    iexact Hr0
  · iexact Hg0

end Cert.Run

end
-- ==== Proof.Run.Region.lean ====
/-
  The kernel's region: the contents its windows find, the invariant before and after its one point, the body's obligation, and the
  record of the region as a step of the program, entered with what a device brings to the protocol and left with every counter at zero.
-/
module

public import proofs.«01_k».proof.Proof.Run.Ends
public import proofs.«01_k».proof.Proof.Gen.KernelIdeal.Regions

@[expose] public section

set_option maxRecDepth 20000

noncomputable section

namespace Cert.Run

open Cert.KernelIdeal Cert.KernelIdeal.Gen

open Idealize.ShloMosaic
open Idealize.ShloMosaic.TcCoe
open Idealize.SL Idealize.SL.RA Idealize.SL.BI PCS URA
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (c : Dev nD)

/-! ## What the windows find -/

def inX : S2x128x512.Idx → Elt F .f32 := ((cfg0.win 0).blk t0_0).view.read (Elt F) (V1 m c main_arg0)
def inQ : S512x256.Idx → Elt F .bf16 := ((cfg0.win 1).blk t0_0).view.read (Elt F) (V1 m c main_v10)
def inK : S2x128x256.Idx → Elt F .f32 := ((cfg0.win 2).blk t0_0).view.read (Elt F) (V1 m c main_v17)
def inV : S2x128x256.Idx → Elt F .f32 := ((cfg0.win 3).blk t0_0).view.read (Elt F) (V1 m c main_v18)
def inO : S256x512.Idx → Elt F .bf16 := ((cfg0.win 4).blk t0_0).view.read (Elt F) (V1 m c main_v16)

/-- Each device's partial product. -/
def prods (c : Dev nD) : S256x512.Idx → Elt F .bf16 := product (inX m c) (inQ m c) (inK m c) (inV m c) (inO m c)

/-! ## The proof data -/

/-- Before the body: the scratch buffers at any contents and what the device brings; -/
def Φ₀ : sProp 𝕄 := iprop(Pipeline.scopedRest spec0 c ∗ (∃ r, prngReg c r) ∗ Xk (prods m) c)
/-- after it: the scratch buffers and every counter at zero. -/
def Φ₁ : sProp 𝕄 := iprop(Pipeline.scopedRest spec0 c ∗ (∃ r, prngReg c r) ∗ Pipeline.ownSems0 ownSem c ∗ Yk c)

def dat (c : Dev nD) : Dat τ (Elt F) Unit ℕ UU ℕ cfg0 c where
  A w := V1 m c (Proc.devRef .tc (Pipeline.arrRef spec0 w))
  after w _ := match w with
    | ⟨0, _⟩ => inX m c
    | ⟨1, _⟩ => inQ m c
    | ⟨2, _⟩ => inK m c
    | ⟨3, _⟩ => inV m c
    | ⟨4, _⟩ => inO m c
    | ⟨5, _⟩ => k0_pay33 (gathered (prods m))
  Φ t := if t.val = 0 then Φ₀ m c else Φ₁ c
  q _ := fullShare
  owed t := if t.val = 0 then O₀ c else 0

def pdats : (p : Fin 1) → (c : Dev nD) → Dat τ (Elt F) Unit ℕ UU ℕ (Pipeline.pin (pcfgs (F := F)) adm p) c
  | 0 => dat m

theorem last_ne : (Fin.last cfg0.N).val ≠ 0 := by rw [Fin.val_last, show cfg0.N = 1 from N_0]; decide
theorem succ_ne : (t0_0.succ : Fin (cfg0.N + 1)).val ≠ 0 := Nat.succ_ne_zero _

theorem owed_at (t : Fin (cfg0.N + 1)) : (dat m c).owed t = if t.val = 0 then O₀ c else 0 := rfl
theorem Φ_at (t : Fin (cfg0.N + 1)) : (dat m c).Φ t = if t.val = 0 then Φ₀ m c else Φ₁ c := rfl
theorem owed_first : (dat m c).owed t0_0.castSucc = O₀ c := (owed_at m c _).trans (if_pos rfl)
theorem owed_succ : (dat m c).owed t0_0.succ = 0 := (owed_at m c _).trans (if_neg succ_ne)
theorem owed_zero : (dat m c).owed 0 = O₀ c := (owed_at m c _).trans (if_pos rfl)
theorem owed_last : (dat m c).owed (Fin.last _) = 0 := (owed_at m c _).trans (if_neg last_ne)
theorem Φ_first : (dat m c).Φ t0_0.castSucc = Φ₀ m c := (Φ_at m c _).trans (if_pos rfl)
theorem Φ_succ : (dat m c).Φ t0_0.succ = Φ₁ c := (Φ_at m c _).trans (if_neg succ_ne)
theorem Φ_zero : (dat m c).Φ 0 = Φ₀ m c := (Φ_at m c _).trans (if_pos rfl)
theorem Φ_last : (dat m c).Φ (Fin.last _) = Φ₁ c := (Φ_at m c _).trans (if_neg last_ne)

/-- What a window finds that is fetched at the point. -/
theorem before_fetched (w : Fin cfg0.W) (h : (cfg0.win w).fetch t0_0 = true) (d : (cfg0.win w).block.Idx → Elt F (cfg0.win w).elt) :
    (dat m c).before w t0_0 d = (dat m c).fetched w t0_0 d := by
  unfold Dat.before; rw [if_pos h]

/-- What the core owes, as the obligation at a point states it, and back. -/
theorem owes_in (t : Fin (cfg0.N + 1)) {O : CellTallies nD τ sig Unit} (h : (dat m c).owed t = O) :
    iprop(∃ W, owes (c : Thread nD τ) O W) ⊢ ((dat m c).owesAt () t : sProp 𝕄) := by
  unfold Dat.owesAt Pipeline.owesWithin; rw [h]
  iintro ⟨%W, HO⟩; iexists W; isplitr
  · ipureintro; exact fun _ _ => Or.inl trivial
  iexact HO

theorem owes_out (t : Fin (cfg0.N + 1)) {O : CellTallies nD τ sig Unit} (h : (dat m c).owed t = O) :
    ((dat m c).owesAt () t : sProp 𝕄) ⊢ iprop(∃ W, owes (c : Thread nD τ) O W) := by
  unfold Dat.owesAt Pipeline.owesWithin; rw [h]
  iintro ⟨%W, -, HO⟩; iexists W; iexact HO

/-- A scratch buffer whole, as a memref and as a buffer. -/
theorem scratch_in (b : Ref sig .tc) : iprop(∃ f : Buf (Elt F) ((c : Thread nD τ).loc b), ((c : Thread nD τ).loc b) ↦{fullShare} f)
    ⊢ (iprop(∃ X, owns (c : Thread nD τ) (Memref.whole b) fullShare X) : sProp 𝕄) := by
  iintro ⟨%f, H⟩
  iexists f
  unfold owns; simp only [Memref.view_whole, View.read_whole, View.set_whole]
  iexists f
  isplitr; · ipureintro; rfl
  iexact H

theorem scratch_out (b : Ref sig .tc) (X : b.ty.Contents (Elt F)) :
    (owns (c : Thread nD τ) (Memref.whole b) fullShare X : sProp 𝕄)
      ⊢ iprop(∃ f : Buf (Elt F) ((c : Thread nD τ).loc b), ((c : Thread nD τ).loc b) ↦{fullShare} f) := by
  unfold owns; simp only [Memref.view_whole, View.read_whole, View.set_whole]
  iintro ⟨%f, -, H⟩
  iexists f
  iexact H

/-! ## The body's obligation -/

/-- From the state before the point to the state the body starts from, the device's cells for itself and the register apart. -/
theorem start_body (a0 : Memref sig .tc .vmem S2x128x512 .f32) (a1 : Memref sig .tc .vmem S512x256 .bf16)
    (a2 a3 : Memref sig .tc .vmem S2x128x256 .f32) (a4 : Memref sig .tc .vmem S256x512 .bf16) (a5 : Memref sig .tc .vmem S2x128x512 .f32)
    (x : S2x128x512.Idx → Elt F .f32) (wq : S512x256.Idx → Elt F .bf16) (k v : S2x128x256.Idx → Elt F .f32) (wo : S256x512.Idx → Elt F .bf16)
    (Z : S2x128x512.Idx → Elt F .f32) :
    iprop(Φ₀ m c ∗ (∃ W, owes (c : Thread nD τ) (O₀ c) W) ∗ ins c a0 a1 a2 a3 a4 x wq k v wo ∗ owns (c : Thread nD τ) a5 fullShare Z)
      ⊢ (iprop(∃ κ, St (prods m) κ c (oweBar (Rem c 0) + (oweDma 1 c (Finset.univ.erase c) + oweDma 3 c (Finset.univ.erase c)))
            iprop(sigRes c 0 ∗ cred (tallyAt (barCell c) () 31) ∗ atPos ER (barCell c) 0 ∅ 0
              ∗ toks c 0 1 ∗ toks c 2 3 ∗ (∃ X, owns (c : Thread nD τ) accM fullShare X)
              ∗ ins c a0 a1 a2 a3 a4 x wq k v wo ∗ (∃ f, owns (c : Thread nD τ) ctxM fullShare f) ∗ begun c ∗ owns (c : Thread nD τ) a5 fullShare Z)
          ∗ (recs (prods m) κ ∗ (bigSep Finset.univ fun k => atPos ER (dcell k c c) 0 ∅ 0) ∗ ∃ r, prngReg c r)) : sProp 𝕄) := by
  unfold Φ₀ Xk pays credits
  rw [scopedRest0_eq, Rem_zero, cells_eq c fun k t => (atPos ER (dcell k c t) 0 ∅ 0 : sProp 𝕄)]
  iintro ⟨⟨⟨H0, H1, H2, H3⟩, Hp, ⟨%κ, #HR, #Ho, Hb, ⟨Hd, A0, A1, A2, A3⟩, ⟨Tb, T1, T2⟩, Cb, C1, C3⟩⟩, HO, Hins, HZ⟩
  iexists κ
  isplitr [Hp Hd]
  · unfold St
    isplitr; · iexact HR
    isplitr; · iexact Ho
    isplitl [HO]; · unfold O₀; iexact HO
    ihave Hc := (scratch_in c cc0_scratch0) $$ H0
    ihave Ha := (scratch_in c cc0_scratch1) $$ H1
    ihave Hr := (scratch_in c cc0_scratch2) $$ H2
    ihave Hg := (scratch_in c cc0_scratch3) $$ H3
    ihave HS := (hand_over c) $$ [Tb Hr Hg]
    · isplitr; · iexact Ho
      isplitl [Tb]; · iexact Tb
      isplitl [Hr]; · iexact Hr
      iexact Hg
    icases HS with ⟨HS, Hs0, Hg0⟩
    isplitl [HS]; · iexact HS
    isplitl [Cb]; · iexact Cb
    isplitl [Hb]; · iexact Hb
    isplitl [T1]; · iexact T1
    isplitl [T2]; · iexact T2
    isplitl [Ha]; · iexact Ha
    isplitl [Hins]; · iexact Hins
    isplitl [Hc]; · iexact Hc
    isplitr [HZ]
    · unfold begun ats
      isplitl [Hs0]; · iexact Hs0
      isplitl [Hg0]; · iexact Hg0
      isplitl [C1]; · iexact C1
      isplitl [A1]; · iexact A1
      isplitl [C3]; · iexact C3
      isplitl [A3]; · iexact A3
      isplitl [A0] <;> iassumption
    iexact HZ
  isplitr; · iexact HR
  isplitl [Hd] <;> iassumption

/-- From the state the body ends in to the state after the point, every cell closed. -/
theorem end_body (κ : GSem nD τ sig → ℕ) (a0 : Memref sig .tc .vmem S2x128x512 .f32) (a1 : Memref sig .tc .vmem S512x256 .bf16)
    (a2 a3 : Memref sig .tc .vmem S2x128x256 .f32) (a4 : Memref sig .tc .vmem S256x512 .bf16) (a5 : Memref sig .tc .vmem S2x128x512 .f32)
    (x : S2x128x512.Idx → Elt F .f32) (wq : S512x256.Idx → Elt F .bf16) (k v : S2x128x256.Idx → Elt F .f32) (wo : S256x512.Idx → Elt F .bf16) :
    iprop(St (prods m) κ c 0 (done (prods m) c a0 a1 a2 a3 a4 a5 x wq k v wo)
        ∗ (recs (prods m) κ ∗ (bigSep Finset.univ fun k => atPos ER (dcell k c c) 0 ∅ 0) ∗ ∃ r, prngReg c r))
      ⊢ (|={Set.univ}=> iprop(Φ₁ c ∗ (∃ W, owes (c : Thread nD τ) 0 W) ∗ ins c a0 a1 a2 a3 a4 x wq k v wo
          ∗ owns (c : Thread nD τ) a5 fullShare (k0_pay33 (gathered (prods m)))) : sProp 𝕄) := by
  unfold St done ended
  iintro ⟨⟨-, -, HO, ⟨Ha, Hg, Hr, A0, A1, A2, A3⟩, HZ, Hins, Hc, Hb⟩, #HR, Hd, Hp⟩
  imod (close_all (prods m) κ c) $$ [Hd A0 A1 A2 A3] with Hos
  · isplitr; · iexact HR
    isplitl [Hd]; · iexact Hd
    isplitl [A0]; · iexact A0
    isplitl [A1]; · iexact A1
    isplitl [A2]; · iexact A2
    iexact A3
  imod (close_bar (prods m) κ c) $$ [Hb] with Hb
  · isplitr; · iexact HR
    iexact Hb
  imodintro
  isplitr [HO Hins HZ]
  · unfold Φ₁ Yk
    rw [scopedRest0_eq]
    isplitl [Ha Hg Hr Hc]
    · isplitl [Hc]; · iapply (scratch_out c cc0_scratch0); iexact Hc
      isplitl [Ha]; · iapply (scratch_out c cc0_scratch1); iexact Ha
      isplitl [Hr]; · iapply (scratch_out c cc0_scratch2); iexact Hr
      iapply (scratch_out c cc0_scratch3); iexact Hg
    isplitl [Hp]; · iexact Hp
    isplitl [Hos] <;> iassumption
  isplitl [HO]; · iexact HO
  isplitl [Hins] <;> iassumption

/-- The point: the body between the two. -/
theorem body_point (Z : S2x128x512.Idx → Elt F .f32) {Q : sProp 𝕄}
    (h : iprop(Φ₁ c ∗ (∃ W, owes (c : Thread nD τ) 0 W)
        ∗ ins c (st0_0 t0_0) (st0_1 t0_0) (st0_2 t0_0) (st0_3 t0_0) (st0_4 t0_0) (inX m c) (inQ m c) (inK m c) (inV m c) (inO m c)
        ∗ owns (c : Thread nD τ) (st0_5 t0_0) fullShare (k0_pay33 (gathered (prods m)))) ⊢ Q) :
    iprop(Φ₀ m c ∗ (∃ W, owes (c : Thread nD τ) (O₀ c) W)
        ∗ ins c (st0_0 t0_0) (st0_1 t0_0) (st0_2 t0_0) (st0_3 t0_0) (st0_4 t0_0) (inX m c) (inQ m c) (inK m c) (inV m c) (inO m c)
        ∗ owns (c : Thread nD τ) (st0_5 t0_0) fullShare Z)
      ⊢ WP c (bodyAt0 t0_0) fun _ => Q := by
  refine (start_body m c _ _ _ _ _ _ _ _ _ _ _ Z).trans ?_
  iintro ⟨%κ, H⟩
  iapply (show _ ⊢ WP c (bodyAt0 t0_0) fun _ => Q from
    (sep_mono_left (body_run (prods m) κ c (st0_0 t0_0) (hstage0_0 0) (st0_1 t0_0) (hstage0_1 0) (st0_2 t0_0) (hstage0_2 0)
      (st0_3 t0_0) (hstage0_3 0) (st0_4 t0_0) (hstage0_4 0) (st0_5 t0_0) (hstage0_5 0) (Memref.isWhole_whole _) (Memref.isWhole_whole _)
      (Memref.isWhole_whole _) (Memref.isWhole_whole _) (inX m c) (inQ m c) (inK m c) (inV m c) (inO m c) rfl (Z := Z)
      (Q := fun _ => St (prods m) κ c 0 (done (prods m) c (st0_0 t0_0) (st0_1 t0_0) (st0_2 t0_0) (st0_3 t0_0) (st0_4 t0_0) (st0_5 t0_0)
        (inX m c) (inQ m c) (inK m c) (inV m c) (inO m c))) .rfl)).trans
    ((wp_frame_r _ _ _).trans ((wp_mono _ _ _ fun _ => (end_body m c κ _ _ _ _ _ _ _ _ _ _ _).trans (fupd_mono h)).trans (wp_fupd _ _ _ _ _))))
  iexact H

theorem body_obligation : BodyObligation (dat m c) defs₀ 𝒱₀ () Set.univ := fun t => by
  obtain rfl := fin_N0 t
  rw [bigSep_W0, bigSep_W0, Φ_first, Φ_succ]
  iintro ⟨HΦ, HO, ⟨%d0, H0⟩, ⟨%d1, H1⟩, ⟨%d2, H2⟩, ⟨%d3, H3⟩, ⟨%d4, H4⟩, ⟨%d5, H5⟩⟩
  ihave HO := (owes_out m c t0_0.castSucc (owed_first m c)) $$ HO
  iapply (body_point m c ((dat m c).before 5 t0_0 d5) ?_)
  rotate_left
  · isplitl [HΦ]; · iexact HΦ
    isplitl [HO]; · iexact HO
    isplitr [H5]
    · unfold ins
      isplitl [H0]; · iexact H0
      isplitl [H1]; · iexact H1
      isplitl [H2]; · iexact H2
      isplitl [H3]; · iexact H3
      iexact H4
    iexact H5
  unfold ins
  iintro ⟨HΦ, HO, ⟨H0, H1, H2, H3, H4⟩, H5⟩
  isplitl [HΦ]; · iexact HΦ
  isplitl [HO]; · iapply (owes_in m c t0_0.succ (owed_succ m c)); iexact HO
  isplitl [H0]; · iexact H0
  isplitl [H1]; · iexact H1
  isplitl [H2]; · iexact H2
  isplitl [H3]; · iexact H3
  isplitl [H4]; · iexact H4
  iexact H5

end Cert.Run

end
-- ==== Proof.Run.Record.lean ====
/-
  The region's record: from the unscoped buffers after the host operations and what a device brings to the protocol, to the buffers
  with the result window written back and the barrier counter at zero.
-/
module

public import proofs.«01_k».proof.Proof.Run.Region

@[expose] public section

set_option maxRecDepth 20000

noncomputable section

namespace Cert.Run

open Cert.KernelIdeal Cert.KernelIdeal.Gen

open Idealize.ShloMosaic
open Idealize.ShloMosaic.TcCoe
open Idealize.SL Idealize.SL.RA Idealize.SL.BI PCS URA
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (c : Dev nD)

/-! ## The buffers after the region -/

/-- What the region leaves in the result's array. -/
def result : Buf (Elt F) ((c : Thread nD τ).loc main_v19) := (dat m c).arrAt 5 cfg0.N

/-- The contents the region leaves, by buffer. -/
def left : Outs (F := F) := fun _ r c => Function.update (V1 m c) (Proc.devRef .tc main_v19) (result m c) (Proc.devRef .tc r)

theorem left_result : left m 2 main_v19 c = result m c := Function.update_self _ _ _

theorem V2_result : V2 m (left m) c main_v19 = result m c := (Function.update_self _ _ _).trans (left_result m c)

theorem V2_other {b : DevRef τ sig} (h : b ≠ Proc.devRef .tc main_v19) : V2 m (left m) c b = V1 m c b := Function.update_of_ne h _ _

/-! ## The record -/

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_pos {g : GSem nD τ sig} {u : Unit} (h : 0 < O₀ c g u) : u ∈ L g ∧ 0 < lv g u := by
  unfold O₀ at h
  rw [Pi.add_apply, Finsupp.add_apply, Pi.add_apply, Finsupp.add_apply] at h
  rcases Nat.add_pos_iff_pos_or_pos.mp h with h | h
  · obtain ⟨p, -, rfl⟩ := oweBar_pos h
    exact ⟨by rw [L_tc]; exact Finset.mem_singleton_self _, by rw [lv_bar]; decide⟩
  · rcases Nat.add_pos_iff_pos_or_pos.mp h with h | h
    all_goals
      obtain ⟨p, -, rfl⟩ := oweDma_pos h
      exact ⟨by rw [L_tc]; exact Finset.mem_singleton_self _, by rw [lv_dma]; decide⟩

theorem cut_owed (t : Fin (cfg0.N + 1)) (g : GSem nD τ sig) (i : Unit) (h : 0 < (dat m c).owed t g i) : i ∈ L g ∧ 0 < lv g i := by
  rw [owed_at] at h
  split at h
  · exact owed_pos c h
  · exact absurd h (Nat.lt_irrefl 0)

theorem stage_level (w : Fin 6) (s : Fin (spec0 w).nbuf) : lv ((c : Thread nD τ), .dma ((spec0 w).sem s)) () ≤ 0 := by
  have h : ∀ (w : Fin 6) (s : Fin (spec0 w).nbuf), ((spec0 w).sem s).val < 6 := by decide
  show (if ((spec0 w).sem s).val < 6 then 0 else _) ≤ 0
  rw [if_pos (h w s)]

theorem arr_out_of (w : Fin cfg0.W) (h : (cfg0.win w).isOut = false) (hn : Pipeline.arrRef spec0 w ≠ main_v19) :
    (dat m c).arrAt w cfg0.N = V2 m (left m) c (Proc.devRef .tc (Pipeline.arrRef spec0 w)) :=
  ((dat m c).arrAt_in w h cfg0.N).trans (V2_other m c (StableHlo.devRef_ne_of_ne hn)).symm

theorem arr_out (w : Fin cfg0.W) : (dat m c).arrAt w cfg0.N = V2 m (left m) c (Proc.devRef .tc (Pipeline.arrRef spec0 w)) :=
  match w with
  | ⟨0, _⟩ => arr_out_of m c 0 rfl (by decide)
  | ⟨1, _⟩ => arr_out_of m c 1 rfl (by decide)
  | ⟨2, _⟩ => arr_out_of m c 2 rfl (by decide)
  | ⟨3, _⟩ => arr_out_of m c 3 rfl (by decide)
  | ⟨4, _⟩ => arr_out_of m c 4 rfl (by decide)
  | ⟨5, _⟩ => (V2_result m c).symm
  | ⟨_ + 6, h⟩ => absurd h (Nat.not_lt.2 (Nat.le_add_left _ _))

theorem held_none (W : Valuation τ sig (Elt F)) : (StableHlo.held (c : Thread nD τ) (∅ : Finset (DevRef τ sig)) W : sProp 𝕄) = BI.emp := by
  unfold StableHlo.held; exact BI.bigSep_empty

theorem region_in : iprop(Pipeline.scopedRest spec0 c ∗ (∃ r, prngReg c r) ∗ StableHlo.held (c : Thread nD τ) (∅ : Finset (DevRef τ sig)) (V1 m c) ∗ Xk (prods m) c)
    ⊢ (dat m c).Φ 0 := by
  rw [Φ_zero]; unfold Φ₀
  iintro ⟨Hs, Hp, -, HX⟩
  isplitl [Hs]; · iexact Hs
  isplitl [Hp] <;> iassumption

theorem region_out : (dat m c).Φ (Fin.last cfg0.N)
    ⊢ iprop(Pipeline.scopedRest spec0 c ∗ (∃ r, prngReg c r) ∗ StableHlo.held (c : Thread nD τ) (∅ : Finset (DevRef τ sig)) (V2 m (left m) c)
      ∗ Pipeline.ownSems0 ownSem c ∗ Yk c) := by
  rw [Φ_last]; unfold Φ₁
  iintro ⟨Hs, Hp, Ho, HY⟩
  isplitl [Hs]; · iexact Hs
  isplitl [Hp]; · iexact Hp
  isplitr; · rw [held_none]; iempintro
  isplitl [Ho] <;> iassumption

theorem share_full (w : Fin cfg0.W) : (dat m c).share w = fullShare := by
  unfold Pipeline.Dat.share
  split <;> rfl

/-- The arrays of the windows, and the other unscoped buffers. -/
abbrev arrs : Finset (DevRef τ sig) := Pipeline.arrRefs spec0
abbrev others : Finset (DevRef τ sig) := Pipeline.ucRefs τ sig \ arrs

theorem result_mem : Proc.devRef .tc main_v19 ∈ (arrs : Finset (DevRef τ sig)) :=
  Finset.mem_map_of_mem ⟨Proc.devRef (sig := sig) .tc, Proc.devRef_injective _⟩
    (Finset.mem_image.mpr ⟨(5 : Fin 6), Finset.mem_univ _, rfl⟩)

theorem arrs_sub : (arrs : Finset (DevRef τ sig)) ⊆ Pipeline.ucRefs τ sig :=
  Pipeline.arrRefs_sub_ucRefs spec0 winFacts0.arr_unscoped

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 ownSem ownSem_facts
    ∅ others (Finset.empty_subset _) kit rfl (fun c => (body_obligation m c).loose)
    (fun _ => 0) O₀ (fun c => (owed_zero m c).trans (zero_add _).symm) (owed_last m) (fun _ => rfl)
    (share_full m)
    (V1 m) (V2 m (left m))
    (fun c b hb => V2_other m c fun h => (Finset.mem_sdiff.mp (Finset.mem_sdiff.mp hb).1).2 (h ▸ result_mem))
    (Tk (prods m)) Yk (Xk (prods m)) Yk (enter (prods m)) (region_in m) (region_out m)
    (fun c => by iintro H; imodintro; iexact H)
    (fun _ => 0)
    ⟨fun c w s => by rw [L_tc]; exact Finset.mem_singleton_self _, fun c w s => stage_level c w s, fun c t g i h => cut_owed m c t g i h⟩
    (fun _ => iprop(emp))
    (fun _ _ => rfl) (fun c w => arr_out m c w)

end Cert.Run

end
-- ==== Proof.Run.Launch.lean ====
/-
  The launch and the run: every cell's invariant is allocated, the rights and the tokens are dealt to the devices that use them, and
  the whole program runs to the end with the counters back at zero.
-/
module

public import proofs.«01_k».proof.Proof.Run.Record
public import Idealize.ShloMosaic.Lib.Quiescent

@[expose] public section

set_option maxRecDepth 20000

noncomputable section

namespace Cert.Run

open Cert.KernelIdeal Cert.KernelIdeal.Gen

open Idealize.ShloMosaic
open Idealize.ShloMosaic.TcCoe
open Idealize.SL Idealize.SL.RA Idealize.SL.BI PCS URA
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The cells and the tokens of the launch -/

theorem dcell_inj {k k' : Fin 4} {c c' t t' : Dev nD} (h : dcell k c t = dcell k' c' t') : k = k' ∧ c = c' ∧ t = t' := by
  have h' := dsem_inj (SemLoc.dma.inj (congrArg Prod.snd h))
  exact ⟨h'.1, congrArg (fun g : GSem nD τ sig => g.1.1) h, h'.2⟩

theorem barCell_ne_dcell (k : Fin 4) (c p t : Dev nD) : barCell c ≠ dcell k p t :=
  fun h => nomatch congrArg Prod.snd h

def barEmb : Dev nD ↪ GSem nD τ sig := ⟨fun c => barCell c, fun _ _ h => congrArg (fun g : GSem nD τ sig => g.1.1) h⟩
def dmaEmb : Fin 4 × Dev nD × Dev nD ↪ GSem nD τ sig :=
  ⟨fun x => dcell x.1 x.2.1 x.2.2, fun _ _ h => Prod.ext (dcell_inj h).1 (Prod.ext (dcell_inj h).2.1 (dcell_inj h).2.2)⟩
def barTok : Dev nD × Dev nD ↪ GSem nD τ sig × ℕ × Dev nD :=
  ⟨fun x => (barCell x.1, 0, x.2), fun _ _ h =>
    Prod.ext (congrArg (fun g : GSem nD τ sig × ℕ × Dev nD => g.1.1.1) h) (congrArg (fun g : GSem nD τ sig × ℕ × Dev nD => g.2.2) h)⟩
def dmaTok : Fin 4 × Dev nD × Dev nD ↪ GSem nD τ sig × ℕ × Dev nD :=
  ⟨fun x => (dcell x.1 x.2.1 x.2.2, 0, x.2.2), fun _ _ h => dmaEmb.injective (congrArg Prod.fst h)⟩

/-- The barrier cells, the DMA cells, and a token for every duty. -/
abbrev barCells : Finset (GSem nD τ sig) := Finset.univ.map barEmb
abbrev dmaCells : Finset (GSem nD τ sig) := Finset.univ.map dmaEmb
abbrev tokens : Finset (GSem nD τ sig × ℕ × Dev nD) := Finset.univ.map barTok ∪ Finset.univ.map dmaTok

theorem cells_disjoint : Disjoint barCells dmaCells := by
  rw [Finset.disjoint_left]
  rintro g h₁ h₂
  obtain ⟨c, -, rfl⟩ := Finset.mem_map.mp h₁
  obtain ⟨x, -, h⟩ := Finset.mem_map.mp h₂
  exact barCell_ne_dcell _ _ _ _ h.symm

theorem tokens_disjoint : Disjoint (Finset.univ.map barTok) (Finset.univ.map dmaTok) := by
  rw [Finset.disjoint_left]
  rintro g h₁ h₂
  obtain ⟨c, -, rfl⟩ := Finset.mem_map.mp h₁
  obtain ⟨x, -, h⟩ := Finset.mem_map.mp h₂
  exact barCell_ne_dcell _ _ _ _ (congrArg Prod.fst h).symm

def u₀ : UU :=
  (initOf (Pipeline.cells (Pipeline.pin (pcfgs (F := F)) adm) cellOf_inj) (Pipeline.launchToks (Pipeline.pin (pcfgs (F := F)) adm) cellOf_inj),
    launchOf barCells dmaCells tokens)

/-- The protocol's launch element, whole, in the hands of device 0 until it is dealt. -/
def fund : sProp 𝕄 := BI.own (ER (launchOf barCells dmaCells tokens))
def G (c : Dev nD) : sProp 𝕄 := if c = 0 then fund else iprop(emp)

theorem G_all : bigSep Finset.univ (G (F := F)) = fund := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## Dealing -/

theorem four (Ψ : Fin 4 → sProp 𝕄) : bigSep Finset.univ Ψ = iprop(Ψ 0 ∗ Ψ 1 ∗ Ψ 2 ∗ Ψ 3) :=
  bigSep_univ_eq_bigSepL [(0 : Fin 4), 1, 2, 3] (by decide) (by decide) Ψ

/-- A family over pairs of devices without the pairs of a device with itself, -/
theorem apart (Φ : Dev nD → Dev nD → sProp 𝕄) :
    (bigSep Finset.univ fun x : Dev nD × Dev nD => Φ x.1 x.2) ⊢ bigSep Finset.univ fun c => bigSep (Finset.univ.erase c) (Φ c) := by
  rw [bigSep_univ_prod]
  exact bigSep_mono fun c _ => bigSep_subset (Finset.subset_univ _)

/-- and the same collected by the second device. -/
theorem across (Φ : Dev nD → Dev nD → sProp 𝕄) :
    (bigSep Finset.univ fun x : Dev nD × Dev nD => Φ x.1 x.2)
      ⊢ bigSep Finset.univ fun c => bigSep (Finset.univ.erase c) fun t => Φ t c :=
  (apart Φ).trans (Entails.of_eq (bigSep_erase_comm Φ))

theorem tokens_eq : (bigSep tokens fun x => (dutyTok ER x.1 x.2.1 x.2.2 : sProp 𝕄))
    = iprop((bigSep Finset.univ fun x : Dev nD × Dev nD => dutyTok ER (barCell x.1) 0 x.2)
      ∗ (bigSep Finset.univ fun x : Dev nD × Dev nD => dutyTok ER (dcell 0 x.1 x.2) 0 x.2)
      ∗ (bigSep Finset.univ fun x : Dev nD × Dev nD => dutyTok ER (dcell 1 x.1 x.2) 0 x.2)
      ∗ (bigSep Finset.univ fun x : Dev nD × Dev nD => dutyTok ER (dcell 2 x.1 x.2) 0 x.2)
      ∗ (bigSep Finset.univ fun x : Dev nD × Dev nD => dutyTok ER (dcell 3 x.1 x.2) 0 x.2)) := by
  rw [bigSep_union tokens_disjoint, bigSep_map, bigSep_map,
    show (bigSep Finset.univ fun x => (dutyTok ER (dmaTok x).1 (dmaTok x).2.1 (dmaTok x).2.2 : sProp 𝕄))
      = bigSep Finset.univ fun x : Fin 4 × Dev nD × Dev nD => (dutyTok ER (dcell x.1 x.2.1 x.2.2) 0 x.2.2 : sProp 𝕄) from rfl,
    bigSep_univ_prod fun x : Fin 4 × Dev nD × Dev nD => (dutyTok ER (dcell x.1 x.2.1 x.2.2) 0 x.2.2 : sProp 𝕄), four]
  rfl

theorem deal_tokens : (bigSep tokens fun x => (dutyTok ER x.1 x.2.1 x.2.2 : sProp 𝕄)) ⊢ bigSep Finset.univ pays := by
  rw [tokens_eq]
  unfold pays toks
  simp only [bigSep_sep']
  iintro ⟨HB, H0, H1, H2, H3⟩
  isplitl [HB]; · iapply (across fun p c => (dutyTok ER (barCell p) 0 c : sProp 𝕄)) $$ HB
  isplitl [H0 H1]
  · isplitl [H0]
    · iapply (apart fun c t => (dutyTok ER (dcell 0 c t) 0 t : sProp 𝕄)) $$ H0
    · iapply (across fun c t => (dutyTok ER (dcell 1 c t) 0 t : sProp 𝕄)) $$ H1
  · isplitl [H2]
    · iapply (apart fun c t => (dutyTok ER (dcell 2 c t) 0 t : sProp 𝕄)) $$ H2
    · iapply (across fun c t => (dutyTok ER (dcell 3 c t) 0 t : sProp 𝕄)) $$ H3

theorem deal_open : (bigSep dmaCells fun g => (openTok ER g : sProp 𝕄))
    ⊢ bigSep Finset.univ fun c => bigSep Finset.univ fun x : Fin 4 × Dev nD => openTok ER (dcell x.1 c x.2) := by
  rw [bigSep_map]
  refine Entails.of_eq ?_
  rw [show (bigSep Finset.univ fun x => (openTok ER (dmaEmb x) : sProp 𝕄))
      = bigSep Finset.univ fun x : Fin 4 × Dev nD × Dev nD => (openTok ER (dcell x.1 x.2.1 x.2.2) : sProp 𝕄) from rfl, bigSep_univ_prod]
  simp only [bigSep_univ_prod]
  exact bigSep_univ_comm fun k c => bigSep Finset.univ fun t => (openTok ER (dcell k c t) : sProp 𝕄)

/-! ## The launch credit -/

theorem oweBar_bar (S : Finset (Dev nD)) : oweBar S (barCell c) () = if c ∈ S then 1 else 0 := by
  unfold oweBar
  rw [Finset.sum_apply, Finsupp.finset_sum_apply, ← Finset.sum_ite_eq S c fun _ => 1]
  refine Finset.sum_congr rfl fun p _ => ?_
  rw [tallyAt_apply]
  refine if_congr ⟨fun h => congrArg (fun g : GSem nD τ sig => g.1.1) h.1, fun h => ⟨by rw [h], rfl⟩⟩ rfl rfl

theorem oweBar_dma (S : Finset (Dev nD)) (k : Fin 4) (t : Dev nD) : oweBar S (dcell k c t) () = 0 :=
  Nat.eq_zero_of_not_pos fun h => by obtain ⟨p, -, h⟩ := oweBar_pos h; exact barCell_ne_dcell _ _ _ _ h.symm

theorem oweDma_bar (S : Finset (Dev nD)) (k : Fin 4) (d : Dev nD) : oweDma k d S (barCell c) () = 0 :=
  Nat.eq_zero_of_not_pos fun h => by obtain ⟨p, -, h⟩ := oweDma_pos h; exact barCell_ne_dcell _ _ _ _ h

theorem oweDma_other (S : Finset (Dev nD)) {k k' : Fin 4} (h : k' ≠ k) (d t : Dev nD) : oweDma k d S (dcell k' c t) () = 0 :=
  Nat.eq_zero_of_not_pos fun h' => by obtain ⟨p, -, h'⟩ := oweDma_pos h'; exact h (dcell_inj h').1

theorem oweDma_dma (S : Finset (Dev nD)) (k : Fin 4) (d t : Dev nD) :
    oweDma k d S (dcell k c t) () = if d = t then (if c ∈ S then N else 0) else 0 := by
  unfold oweDma
  rw [Finset.sum_apply, Finsupp.finset_sum_apply]
  split
  · next h =>
    subst h
    rw [← Finset.sum_ite_eq S c fun _ => N]
    refine Finset.sum_congr rfl fun p _ => ?_
    rw [tallyAt_apply]
    exact if_congr ⟨fun h => (dcell_inj h.1).2.1, fun h => ⟨by rw [h], rfl⟩⟩ rfl rfl
  · next h =>
    refine Finset.sum_eq_zero fun p _ => ?_
    rw [tallyAt_apply]
    exact if_neg fun h' => h (dcell_inj h'.1).2.2.symm

theorem launch_bar :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same]
  have h (d : Dev nD) : O₀ d (barCell c) () = if c ∈ Finset.univ.erase d then 1 else 0 := by
    unfold O₀
    rw [Pi.add_apply, Finsupp.add_apply, Pi.add_apply, Finsupp.add_apply, oweBar_bar, oweDma_bar, oweDma_bar, Nat.add_zero]
  rw [Finset.sum_congr rfl fun d _ => h d]
  clear h; revert c; decide +kernel

theorem launch_dma {k : Fin 4} (hk : k = 1 ∨ k = 3) {t : Dev nD} (ht : t ∈ Finset.univ.erase c) :
    tallyOn (dcell k c t) (launchCredit (Pipeline.owing O₀) 0 (dcell k c t)) = (tallyAt (dcell k c t) () N : CellTallies nD τ sig Unit) := by
  unfold tallyAt; refine congrArg _ (Finsupp.ext fun u => ?_); cases u
  rw [Pipeline.launchCredit_owing, Finsupp.single_eq_same]
  have h (d : Dev nD) : O₀ d (dcell k c t) () = if d = t then (if c ∈ Finset.univ.erase d then N else 0) else 0 := by
    unfold O₀
    rw [Pi.add_apply, Finsupp.add_apply, Pi.add_apply, Finsupp.add_apply, oweBar_dma, Nat.zero_add]
    rcases hk with rfl | rfl
    · rw [oweDma_dma, oweDma_other c _ (by decide), Nat.add_zero]
    · rw [oweDma_dma, oweDma_other c _ (by decide), Nat.zero_add]
  rw [Finset.sum_congr rfl fun d _ => h d, Finset.sum_ite_eq' Finset.univ t, if_pos (Finset.mem_univ _),
    if_pos (Finset.mem_erase.mpr ⟨(Finset.ne_of_mem_erase ht).symm, Finset.mem_univ _⟩)]

def ownEmb : Fin 4 × Dev nD ↪ SemLoc sig := ⟨ownSem, ownSem_facts.inj⟩

theorem deal_credits : (Pipeline.launchCred O₀ c : sProp 𝕄) ⊢ credits c := by
  unfold Pipeline.launchCred credits
  rw [bigSep_univ_at _ (SemLoc.reg barS), launch_bar]
  refine sep_mono_right ?_
  refine (bigSep_subset (t := Finset.univ.map ownEmb) fun sm h => ?_).trans ?_
  · obtain ⟨x, -, rfl⟩ := Finset.mem_map.mp h
    exact Finset.mem_erase.mpr ⟨fun h => (nomatch h), Finset.mem_univ _⟩
  · rw [bigSep_map]
    refine (show _ ⊢ (bigSep Finset.univ fun x : Fin 4 × Dev nD =>
        cred (tallyOn (dcell x.1 c x.2) (launchCredit (Pipeline.owing O₀) 0 (dcell x.1 c x.2))) : sProp 𝕄) from .rfl).trans ?_
    rw [cells_eq c fun k t => (cred (tallyOn (dcell k c t) (launchCredit (Pipeline.owing O₀) 0 (dcell k c t))) : sProp 𝕄)]
    have e (k : Fin 4) (hk : k = 1 ∨ k = 3) : (bigSep (Finset.univ.erase c) fun t =>
        (cred (tallyOn (dcell k c t) (launchCredit (Pipeline.owing O₀) 0 (dcell k c t))) : sProp 𝕄)) = creds c k :=
      bigSep_congr fun t ht => by rw [launch_dma c hk ht]
    rw [e 1 (.inl rfl), e 3 (.inr rfl)]
    iintro ⟨-, -, H1, -, H3⟩
    isplitl [H1] <;> iassumption

/-! ## The states between the items -/

/-- What rides beside the buffers up to the region. -/
def beside (c : Dev nD) : sProp 𝕄 := iprop(Tk (prods m) c ∗ (∃ r, prngReg c r) ∗ ∃ W, owes (c : Thread nD τ) (O₀ c) W)

abbrev initial (c : Dev nD) : sProp 𝕄 := iprop(StableHlo.held (c : Thread nD τ) (Pipeline.ucRefs τ sig) (V0 m c) ∗ beside m c)
abbrev final (c : Dev nD) : sProp 𝕄 := iprop(StableHlo.held (c : Thread nD τ) (Pipeline.ucRefs τ sig) (V2 m (left m) c) ∗ semVal (barCell c) 0)

theorem region_pre : iprop(StableHlo.held (c : Thread nD τ) (Pipeline.ucRefs τ sig) (V1 m c) ∗ beside m c) ⊢ (region m).pre c := by
  show _ ⊢ iprop(StableHlo.held (c.tc : Thread nD τ) arrs (V1 m c) ∗ (∃ r, prngReg c r)
    ∗ (StableHlo.held (c.tc : Thread nD τ) others (V1 m c) ∗ emp) ∗ Tk (prods m) c ∗ ∃ Wd, owes (c : Thread nD τ) (0 + O₀ c) Wd)
  rw [zero_add, StableHlo.held_sub_split (c : Thread nD τ) arrs_sub (V1 m c)]
  unfold beside
  iintro ⟨⟨Ha, Hh⟩, HT, Hp, HO⟩
  isplitl [Ha]; · iexact Ha
  isplitl [Hp]; · iexact Hp
  isplitl [Hh]
  · isplitl [Hh]; · iexact Hh
    iempintro
  isplitl [HT] <;> iassumption

theorem region_post : (region m).post c
    ⊢ iprop(final m c ∗ ∃ W, owes (c : Thread nD τ) (0 : CellTallies nD τ sig Unit) W) := by
  show iprop(StableHlo.held (c.tc : Thread nD τ) arrs (V2 m (left m) c) ∗ (∃ r, prngReg c r)
    ∗ (StableHlo.held (c.tc : Thread nD τ) others (V2 m (left m) c) ∗ emp) ∗ Yk c ∗ ∃ Wd, owes (c : Thread nD τ) (0 : CellTallies nD τ sig Unit) Wd) ⊢ _
  unfold final
  rw [StableHlo.held_sub_split (c : Thread nD τ) arrs_sub (V2 m (left m) c)]
  unfold Yk
  iintro ⟨Ha, -, ⟨Hh, -⟩, Hb, HO⟩
  isplitr [HO]
  · isplitr [Hb]
    · isplitl [Ha] <;> iassumption
    · iexact Hb
  · iexact HO

/-! ## The launch -/

theorem unscoped_sems : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem unscoped_eq : ∀ sm : SemLoc sig, sm.isScoped .tc = false → sm = .reg barS := by decide

/-- What of a device's launch holdings is not the protocol's. -/
def bundle (c : Dev nD) : sProp 𝕄 :=
  iprop(StableHlo.held (c : Thread nD τ) (Pipeline.ucRefs τ sig) (V0 m c) ∗ credits c ∗ (∃ r, prngReg c r) ∗ ∃ W, owes (c : Thread nD τ) (O₀ c) W)

theorem to_bundle :
    iprop(unscopedBufs c (fun b => m ((c.tc : Thread nD τ).loc b)) ∗ unscopedSems0 c
        ∗ owes (c : Thread nD τ) (O₀ c) ∅ ∗ Pipeline.launchCred O₀ c ∗ prngReg c (ρ c) ∗ G c)
      ⊢ (iprop(bundle m c ∗ semVal (barCell c) 0 ∗ G c) : sProp 𝕄) := by
  rw [show (unscopedBufs c (fun b => m ((c.tc : Thread nD τ).loc b)) : sProp 𝕄)
      = StableHlo.held (c : Thread nD τ) (Pipeline.ucRefs τ sig) (V0 m c) from Pipeline.unscopedBufs_held c (V0 m c), unscoped_sems]
  unfold bundle
  iintro ⟨Hh, Hs, HO, Hc, Hp, HG⟩
  isplitr [Hs HG]
  · isplitl [Hh]; · iexact Hh
    isplitl [Hc]; · iapply (deal_credits c) $$ Hc
    isplitl [Hp]; · iexists (ρ c); iexact Hp
    iexists ∅; iexact HO
  isplitl [Hs] <;> iassumption

theorem to_initial (κ : GSem nD τ sig → ℕ) : iprop(recs (prods m) κ ∗ bundle m c ∗ brings c) ⊢ (initial m c : sProp 𝕄) := by
  unfold bundle initial beside Tk
  iintro ⟨#HR, ⟨Hh, Hc, Hp, HO⟩, Hb⟩
  isplitl [Hh]; · iexact Hh
  isplitl [Hb Hc]
  · isplitl [Hb]
    · iexists κ
      isplitr; · iexact HR
      iexact Hb
    · iexact Hc
  isplitl [Hp] <;> iassumption

theorem bar_values : (bigSep Finset.univ fun c : Dev nD => (semVal (barCell c) 0 : sProp 𝕄)) ⊢ bigSep barCells fun g => semVal g 0 :=
  Entails.of_eq (bigSep_map (s := Finset.univ) barEmb (Φ := fun g : GSem nD τ sig => (semVal g 0 : sProp 𝕄))).symm

theorem bar_positions : (bigSep barCells fun g => (atPos ER g 0 ∅ 0 : sProp 𝕄)) ⊢ bigSep Finset.univ fun c : Dev nD => atPos ER (barCell c) 0 ∅ 0 :=
  Entails.of_eq (bigSep_map (s := Finset.univ) barEmb (Φ := fun g : GSem nD τ sig => (atPos ER g 0 ∅ 0 : sProp 𝕄)))

theorem make_recs (A : Dev nD → S256x512.Idx → Elt F .bf16) (κ : GSem nD τ sig → ℕ) :
    iprop((bigSep (barCells ∪ dmaCells) fun g => cellInv ER (Rd A) (κ g) g) ∗ (bigSep barCells fun g => reached ER g 0) ∗ levs)
      ⊢ (recs A κ : sProp 𝕄) := by
  rw [show (bigSep (barCells ∪ dmaCells) fun g => (cellInv ER (Rd A) (κ g) g : sProp 𝕄))
      = iprop((bigSep Finset.univ fun p : Dev nD => cellInv ER (Rd A) (κ (barCell p)) (barCell p))
        ∗ bigSep Finset.univ fun x : Fin 4 × Dev nD × Dev nD => cellInv ER (Rd A) (κ (dcell x.1 x.2.1 x.2.2)) (dcell x.1 x.2.1 x.2.2)) from by
    rw [bigSep_union cells_disjoint, bigSep_map, bigSep_map]; rfl, bigSep_map]
  unfold recs
  iintro ⟨⟨H1, H2⟩, H3, H4⟩
  isplitl [H1]; · iexact H1
  isplitl [H2]; · iexact H2
  isplitl [H3]; · iexact H3
  iexact H4

theorem regroup :
    (bigSep Finset.univ fun c : Dev nD => iprop(unscopedBufs c (fun b => m ((c.tc : Thread nD τ).loc b)) ∗ unscopedSems0 c
          ∗ owes (c : Thread nD τ) (O₀ c) ∅ ∗ Pipeline.launchCred O₀ c ∗ prngReg c (ρ c) ∗ G c))
      ⊢ (iprop(bigSep Finset.univ (bundle m) ∗ (bigSep Finset.univ fun c => semVal (barCell c) 0) ∗ fund) : sProp 𝕄) := by
  rw [← G_all, ← bigSep_sep', ← bigSep_sep']
  exact bigSep_mono fun c _ => to_bundle m ρ c

theorem make_initial (κ : GSem nD τ sig → ℕ) :
    iprop(recs (prods m) κ ∗ bigSep Finset.univ (bundle m) ∗ bigSep Finset.univ brings) ⊢ (bigSep Finset.univ (initial m) : sProp 𝕄) := by
  rw [← bigSep_sep']
  exact bigSep_with_persistent fun c _ => to_initial m c κ

theorem make_brings :
    iprop((bigSep barCells fun g => atPos ER g 0 ∅ 0) ∗ (bigSep dmaCells fun g => openTok ER g) ∗ bigSep tokens fun x => dutyTok ER x.1 x.2.1 x.2.2)
      ⊢ (bigSep Finset.univ brings : sProp 𝕄) := by
  unfold brings
  rw [bigSep_sep', bigSep_sep']
  exact BIClass.sep_mono bar_positions (BIClass.sep_mono deal_open deal_tokens)

theorem dealt :
    iprop((bigSep Finset.univ (bundle m) ∗ (bigSep Finset.univ fun c => semVal (barCell c) 0) ∗ fund) ∗ levs)
      ⊢ (|={Set.univ}=> bigSep Finset.univ (initial m) : sProp 𝕄) := by
  unfold fund
  iintro ⟨⟨HB, Hv, Hu⟩, #Hl⟩
  imod (Rounds.fund_launch ER (Rd (prods m)) cells_disjoint (fun g _ h => h) tokens) $$ [Hv Hu] with ⟨%κ, -, Hinv, Hr, Hat, Hopen, Htok⟩
  · isplitl [Hv]
    · iapply bar_values $$ Hv
    · iexact Hu
  imodintro
  iapply (make_initial m κ)
  isplitl [Hinv Hr]
  · iapply (make_recs (prods m) κ)
    isplitl [Hinv]; · iexact Hinv
    isplitl [Hr]; · iexact Hr
    iexact Hl
  isplitl [HB]; · iexact HB
  iapply make_brings
  isplitl [Hat]; · iexact Hat
  isplitl [Hopen] <;> iassumption

theorem launch :
    iprop((bigSep Finset.univ fun c : Dev nD => iprop(unscopedBufs c (fun b => m ((c.tc : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (initial m) : sProp 𝕄) :=
  (BIClass.sep_mono (regroup m ρ) (show levAts L lv ⊢ (levs : sProp 𝕄) from .rfl)).trans (dealt m)

/-! ## The run -/

/-- What a device's memory holds in the end. -/
def Ends (c : Dev nD) (s : MemSt nD τ sig (Elt F)) : Prop :=
  (∀ b ∈ Pipeline.ucRefs τ sig, s.mem (c, b) = V2 m (left m) c b) ∧ s.sem (barCell c) = 0

set_option backward.isDefEq.respectTransparency.types false in
/-- THE RUN: from any memory with zero counters, every weakly fair execution of the program on the 32 devices terminates, with the
    result's buffer at `result`, every argument as launched and every counter at zero. -/
theorem run_main : θ_run defs (onTc (τ := τ) (main (F := F))) ⟨m, fun _ => 0, ρ⟩
    (fun r => (∀ c : Dev nD, r.2.mem ((c : Thread nD τ).loc main_v19) = result m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_dev_sems (pcfgs (F := F)) adm (pdats m) () cellOf_inj EP defs₀ 𝒱₀ L lv m ρ main
    (segs m 𝒱₀ L lv (fun _ => beside m) () (pdats m) (region m))
    (fun c Q => by
      rewrite [main_chain c, Pipeline.Seg.run_eq_chain,
        show (segs m 𝒱₀ L lv (fun _ => beside m) () (pdats m) (region m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; unfold fund; iexact HX)
    (T₀ := initial m) (Tₙ := final m)
    (hch := fun c => ⟨.rfl, region_pre m c, region_post m c⟩)
    (hinit := launch m ρ)
    (QY := Ends m)
    (hfin := fun c s' => by
      dsimp only [final]
      unfold StableHlo.held
      iintro ⟨⟨Hh, Hb⟩, HSI⟩
      icombine HSI Hb gives %hb
      ihave Hr := (pointsTo_read_all (Pipeline.ucRefs τ sig) (fun b => ((c : Thread nD τ).1, b)) (V2 m (left m) c) s') $$ [Hh HSI]
      · isplitl [Hh] <;> iassumption
      icases Hr with ⟨%h, HSI⟩
      imodintro
      isplitr
      · ipureintro
        exact ⟨h, by simpa using hb⟩
      iexact HSI)
    (hQ := fun s h hs => ⟨fun c => by
        have at_ (r : Ref sig .tc) (hr : ¬ (Proc.devRef (τ := τ) .tc r).isScoped) : s.mem ((c : Thread nD τ).loc r) = V2 m (left m) c r :=
          (h c).1 (Proc.devRef .tc r) (Finset.mem_filter.mpr ⟨StableHlo.devRef_mem_tcRefs r, hr⟩)
        exact ⟨(at_ main_v19 (by decide)).trans (V2_result m c), (at_ main_arg0 (by decide)).trans (V2_main_arg0 m (left m) c),
          (at_ main_arg1 (by decide)).trans (V2_main_arg1 m (left m) c), (at_ main_arg2 (by decide)).trans (V2_main_arg2 m (left m) c),
          (at_ main_arg3 (by decide)).trans (V2_main_arg3 m (left m) c), (at_ main_arg4 (by decide)).trans (V2_main_arg4 m (left m) c)⟩,
      sem_eq_zero hs fun c sm hsm => by
        obtain rfl := unscoped_eq sm hsm
        exact (h c).2⟩)

end Cert.Run

end
-- ==== Proof.Run.Frames.lean ====
/-
  The frames: each program runs to the end without fault, leaves its arguments as they were and every counter at zero.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Run.Launch

@[expose] public section

noncomputable section

namespace Cert.Run

open Idealize.ShloMosaic Idealize.ShloMosaic.TcCoe Idealize.SL.Sem

local instance : Cert.Kernel.Facts := Cert.Kernel.Gen.facts
local instance : Cert.KernelIdeal.Facts := Cert.KernelIdeal.Gen.facts

set_option maxHeartbeats 0 in
set_option maxRecDepth 100000 in
/-- The kernel on words and the kernel on extended reals have one table of bodies: their texts agree operation by operation. -/
theorem bodies : Cert.Kernel.defs₀ (F := Bits) = Cert.KernelIdeal.defs₀ (F := Bits) :=
  congrArg Defs.onTc (funext fun l => match l with | 0 => funext fun ⟨_, _⟩ => rfl)

theorem tables : Cert.Kernel.defs (F := Bits) = Cert.KernelIdeal.defs (F := Bits) :=
  congrArg (Pipeline.defs Cert.KernelIdeal.pcfgs) bodies

/-- So the run of the one over any floats is the run of the other. -/
theorem frame_kernel : Cert.quiescent_Kernel (hKernel := Cert.Kernel.Gen.facts) := fun m ρ _ => by
  rw [tables]
  exact (θ_run Cert.KernelIdeal.defs _ _).mono (fun _ h => ⟨fun c => (h.1 c).2, h.2⟩) (run_main (F := Bits) m ρ)

theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (run_main (F := Ideal) m ρ)

theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩) (Cert.ReferenceIdeal.Value.run m ρ)

end Cert.Run

end
-- ==== Proof.Run.Values.lean ====
/-
  The values of a device, element by element over the extended reals.
-/
module

public import proofs.«01_k».proof.Proof.Run.Partial
public import Idealize.ShloMosaic.Lib.Pointwise

@[expose] public section

set_option maxRecDepth 20000

noncomputable section

namespace Cert.Run

open Cert.KernelIdeal Cert.KernelIdeal.Gen

open Idealize.ShloMosaic
open scoped BigOperators

/-- The queries of a device: its rows are the rows of the two batches one after the other. -/
theorem pay1_apply (x : S2x128x512.Idx → EReal) (wq : S512x256.Idx → EReal) (r n : Fin 256) :
    k0_pay1 (F := Ideal) x wq (ix2 r n)
      = (∑ c : Fin 512, x (ix3 ⟨r.val / 128, by omega⟩ ⟨r.val % 128, Nat.mod_lt _ (by decide)⟩ c) * wq (ix2 c n)) * Ideal.ofBits .f32 0x3E000000#32 := by
  pointwise [k0_pay1, dot_S256x512_S512x256_S256x256_1_0_0_1_n_n]

/-- The part of a window that a head of a batch reads. -/
theorem kvAt_apply (f : S2x128x256.Idx → EReal) (b : Fin 2) (h : Fin 4) (j : Fin 128) (d : Fin 64) :
    kvAt (F := Ideal) f b h (ix3 0 j d) = f (ix3 b j ⟨64 * h.val + d.val, by omega⟩) := by
  refine congrArg f ?_
  funext a
  match a with
  | 0 => exact Fin.ext (by show b.val + 1 * 0 = _; simp)
  | 1 => exact Fin.ext (by show 0 + 1 * j.val = _; simp)
  | 2 => exact Fin.ext (by show 64 * h.val + 1 * d.val = _; simp)

/-- The word of a row's block of queries. -/
theorem rowBlock (p : Fin 1024) (j : Fin 128) : k0_pay12 (ix2 p j) = BitVec.ofNat 32 (p.val % 128 / 64) := by
  pointwise [k0_pay12]
  clear j
  revert p
  decide +kernel

/-- The mask keeps every pair except a query of the first block with a key of the second. -/
theorem mask_word (p : Fin 1024) (j : Fin 128) :
    IntOp.ori (k0_pay14 k0_pay12 cols 64#32 (ix2 p j)) (IntOp.cmpi .eq (k0_pay15 k0_pay12 cols 64#32 (ix2 p j)) (k0_pay16 (ix2 p j)))
      = if p.val % 128 / 64 = 0 ∧ 64 ≤ j.val then 0#1 else 1#1 := by
  pointwise [k0_pay14, k0_pay15, k0_pay16, cols, k0_pay13]
  simp only [rowBlock]
  have h : p.val % 128 / 64 < 2 := by omega
  generalize p.val % 128 / 64 = q at h
  clear p
  revert j
  obtain rfl | rfl : q = 0 ∨ q = 1 := by omega
  all_goals decide +kernel

theorem scores_apply (x : S2x128x512.Idx → EReal) (wq : S512x256.Idx → EReal) (k : S2x128x256.Idx → EReal) (b : Fin 2) (h : Fin 4) (i j : Fin 128) :
    scores (F := Ideal) x wq k (ix2 ⟨128 * (4 * b.val + h.val) + i.val, by omega⟩ j) =
      ∑ d : Fin 64, k0_pay1 (F := Ideal) x wq (ix2 ⟨128 * b.val + i.val, by omega⟩ ⟨64 * h.val + d.val, by omega⟩) * k (ix3 b j ⟨64 * h.val + d.val, by omega⟩) := by
  have hi := i.isLt
  fin_cases b <;> fin_cases h
  all_goals
    pointwise [scores, k0_pay11, dot_S128x64_S128x64_S128x128_1_1_0_0_n_n]
    repeat' first | rw [dif_neg (by omega)] | rw [dif_pos (by omega)]
    pointwise [k0_pay2, k0_pay3, k0_pay4, k0_pay5, k0_pay6, k0_pay7, k0_pay8, k0_pay9, k0_pay10, dot_S128x64_S128x64_S128x128_1_1_0_0_n_n]
    refine Finset.sum_congr rfl fun d _ => ?_
    rw [kvAt_apply]
    congr 3
    all_goals exact Fin.ext (by dsimp only; omega)

/-- A masked score. -/
def masked (i j : Fin 128) (s : EReal) : EReal := if i.val < 64 ∧ 64 ≤ j.val then Ideal.ofBits .f32 0xCE6E6B28#32 else s

theorem weights_apply (x : S2x128x512.Idx → EReal) (wq : S512x256.Idx → EReal) (k : S2x128x256.Idx → EReal) (g : Fin 8) (i j : Fin 128) :
    weights (F := Ideal) x wq k (ix2 ⟨128 * g.val + i.val, by omega⟩ j)
      = Ideal.div (Ideal.exp (masked i j (scores (F := Ideal) x wq k (ix2 ⟨128 * g.val + i.val, by omega⟩ j))))
          (∑ t : Fin 128, Ideal.exp (masked i t (scores (F := Ideal) x wq k (ix2 ⟨128 * g.val + i.val, by omega⟩ t)))) := by
  have hw : ∀ t : Fin 128, ∀ s : EReal, Scalar.select
      (if (128 * g.val + i.val) % 128 / 64 = 0 ∧ 64 ≤ t.val then 0#1 else 1#1) s (Ideal.ofBits .f32 0xCE6E6B28#32) = masked i t s := by
    intro t s
    unfold masked
    by_cases hp : i.val < 64 ∧ 64 ≤ t.val
    · rw [if_pos hp, if_pos ⟨by omega, hp.2⟩]; rfl
    · rw [if_neg hp, if_neg fun h => hp ⟨by omega, h.2⟩]; rfl
  unfold weights
  pointwise [k0_pay17]
  simp only [mask_word, hw]

theorem ctx_apply (x : S2x128x512.Idx → EReal) (wq : S512x256.Idx → EReal) (k v : S2x128x256.Idx → EReal) (b : Fin 2) (h : Fin 4) (i : Fin 128) (d : Fin 64) :
    ctxBlk (F := Ideal) x wq k v b h (ix2 i d)
      = ∑ j : Fin 128, weights (F := Ideal) x wq k (ix2 ⟨128 * (4 * b.val + h.val) + i.val, by omega⟩ j) * v (ix3 b j ⟨64 * h.val + d.val, by omega⟩) := by
  fin_cases b <;> fin_cases h
  all_goals
    simp only [ctxBlk, weights]
    pointwise [k0_pay18, k0_pay19, k0_pay20, k0_pay21, k0_pay22, k0_pay23, k0_pay24, k0_pay25, k0_pay26, dot_S128x128_S128x64_S128x64_1_0_0_1_n_n]
    refine Finset.sum_congr rfl fun d _ => ?_
    rw [kvAt_apply]
    congr 3
    try exact Fin.ext (by dsimp only; omega)

theorem ctxOf_apply (w : Fin 2 → Fin 4 → S128x64.Idx → EReal) (r n : Fin 256) :
    ctxOf (F := Ideal) w (ix2 r n) = w ⟨r.val / 128, by omega⟩ ⟨n.val / 64, by omega⟩ (ix2 ⟨r.val % 128, Nat.mod_lt _ (by decide)⟩ ⟨n.val % 64, Nat.mod_lt _ (by decide)⟩) := by
  unfold ctxOf
  congr 1
  funext a
  match a with
  | 0 => rfl
  | 1 => rfl

theorem rowsAt_apply (ctx : S256x256.Idx → EReal) (b : Fin 4) (i : Fin 64) (n : Fin 256) :
    rowsAt (F := Ideal) ctx b (ix2 i n) = ctx (ix2 ⟨64 * b.val + i.val, by omega⟩ n) := by
  refine congrArg ctx ?_
  funext a
  match a with
  | 0 => exact Fin.ext (by show 64 * b.val + 1 * i.val = _; simp)
  | 1 => exact Fin.ext (by show 0 + 1 * n.val = _; simp)

theorem prodBlk_apply (ctx : S256x256.Idx → EReal) (wo : S256x512.Idx → EReal) (b : Fin 4) (i : Fin 64) (o : Fin 512) :
    prodBlk (F := Ideal) ctx wo b (ix2 i o) = ∑ n : Fin 256, ctx (ix2 ⟨64 * b.val + i.val, by omega⟩ n) * wo (ix2 n o) := by
  fin_cases b
  all_goals
    simp only [prodBlk]
    pointwise [k0_pay27, k0_pay28, k0_pay29, k0_pay30, dot_S64x256_S256x512_S64x512_1_0_0_1_n_n]
    refine Finset.sum_congr rfl fun n _ => ?_
    rw [rowsAt_apply]
    congr 3
    try exact Fin.ext (by dsimp only; omega)

/-- The partial product of a device: the rows of its context times its part of the output weights. -/
theorem product_apply (x : S2x128x512.Idx → EReal) (wq : S512x256.Idx → EReal) (k v : S2x128x256.Idx → EReal) (wo : S256x512.Idx → EReal)
    (b : Fin 2) (i : Fin 128) (o : Fin 512) :
    product (F := Ideal) x wq k v wo (ix2 ⟨128 * b.val + i.val, by omega⟩ o)
      = ∑ n : Fin 256, ctxBlk (F := Ideal) x wq k v b ⟨n.val / 64, by omega⟩ (ix2 i ⟨n.val % 64, Nat.mod_lt _ (by decide)⟩) * wo (ix2 n o) := by
  have e : ∀ f g : S256x512.Idx, f = g → partialOf (F := Ideal) (ctxOf (ctxBlk x wq k v)) wo f = partialOf (F := Ideal) (ctxOf (ctxBlk x wq k v)) wo g :=
    fun f g h => congrArg _ h
  have hr : 128 * b.val + i.val = 64 * ((128 * b.val + i.val) / 64) + (128 * b.val + i.val) % 64 := by omega
  have hp := partialOf_emb (F := Ideal) (ctxOf (ctxBlk x wq k v)) wo ⟨(128 * b.val + i.val) / 64, by omega⟩ (ix2 ⟨(128 * b.val + i.val) % 64, Nat.mod_lt _ (by decide)⟩ o)
  refine (e _ _ ?_).trans (hp.trans ((prodBlk_apply _ _ _ _ _).trans ?_))
  · funext a
    match a with
    | 0 => exact Fin.ext (by show _ = 64 * ((128 * b.val + i.val) / 64) + 1 * ((128 * b.val + i.val) % 64); dsimp only [ix2]; omega)
    | 1 => exact Fin.ext (by show _ = 0 + 1 * o.val; simp [ix2])
  · refine Finset.sum_congr rfl fun n _ => ?_
    rw [ctxOf_apply]
    congr 2
    · exact Fin.ext (by dsimp only; omega)
    · congr 1
      exact Fin.ext (by dsimp only; omega)

theorem pay32_apply  (s : S32x8x512.Idx → EReal) (i : Fin 8) (d : Fin 512) :
    k0_pay32 (F := Ideal) s (ix2 i d) = ∑ c : Fin 32, s (ix3 c i d) := by
  pointwise [k0_pay32]
theorem pay33_apply  (s : S256x512.Idx → EReal) (b : Fin 2) (i : Fin 128) (d : Fin 512) :
    k0_pay33 (F := Ideal) s (ix3 b i d) = s (ix2 ⟨128 * b.val + i.val, by omega⟩ d) := by
  pointwise [k0_pay33]
  congr 2
  exact Fin.ext (by dsimp only; omega)

end Cert.Run

end
-- ==== Proof.Run.Reals.lean ====
/-
  Sums, products, exponentials and quotients of extended reals that are real.
-/
module

public import Idealize.ShloMosaic.Lib.Pointwise

@[expose] public section

noncomputable section

namespace Cert.Run

open Idealize.ShloMosaic
open scoped BigOperators

/-- An extended real that is neither infinity. -/
def IsReal (x : EReal) : Prop := ∃ r : ℝ, x = (r : EReal)

variable {ι : Type} [Fintype ι]

/-- A product of reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A sum of reals, taken among the extended reals, is their real sum. -/
theorem coe_sum (f : ι → ℝ) : ∑ i, (f i : EReal) = ((∑ i, f i : ℝ) : EReal) := by
  classical
  refine Finset.induction_on (Finset.univ : Finset ι) (by simp) fun a s ha ih => ?_
  rw [Finset.sum_insert ha, Finset.sum_insert ha, ih, EReal.coe_add]

/-- A sum of reals is real. -/
theorem IsReal.sum {f : ι → EReal} (h : ∀ i, IsReal (f i)) : IsReal (∑ i, f i) := by
  choose g hg using h
  exact ⟨∑ i, g i, by rw [← coe_sum]; exact Finset.sum_congr rfl fun i _ => hg i⟩

/-- A real factor of every term of a sum of products comes out of it. -/
theorem sum_scale {q k : ι → EReal} {κ : EReal} (hq : ∀ i, IsReal (q i)) (hk : ∀ i, IsReal (k i)) (hκ : IsReal κ) :
    ∑ i, q i * κ * k i = (∑ i, q i * k i) * κ := by
  choose a ha using hq
  choose b hb using hk
  obtain ⟨r, rfl⟩ := hκ
  simp only [ha, hb, ← EReal.coe_mul, coe_sum, Finset.sum_mul]
  exact congrArg _ (Finset.sum_congr rfl fun i _ => by ring)

/-- The exponential of a real is the real exponential. -/
theorem exp_coe (r : ℝ) : Ideal.exp (r : EReal) = (Real.exp r : EReal) := rfl

/-- Division by a positive real is the real division. -/
theorem div_coe {a b : ℝ} (hb : 0 < b) : Ideal.div (a : EReal) (b : EReal) = ((a / b : ℝ) : EReal) := by
  unfold Ideal.div
  rw [if_neg (by exact_mod_cast hb.ne'), ← EReal.coe_inv, ← EReal.coe_mul, div_eq_mul_inv]

/-- Subtracting one real from every score changes no weight. -/
theorem weight_shift [Nonempty ι] {s : ι → EReal} {μ : EReal} (hs : ∀ i, IsReal (s i)) (hμ : IsReal μ) (j : ι) :
    Ideal.div (Ideal.exp (s j - μ)) (∑ i, Ideal.exp (s i - μ)) = Ideal.div (Ideal.exp (s j)) (∑ i, Ideal.exp (s i)) := by
  choose a ha using hs
  obtain ⟨r, rfl⟩ := hμ
  have pos : ∀ f : ι → ℝ, 0 < ∑ i, Real.exp (f i) := fun f => Finset.sum_pos (fun i _ => Real.exp_pos _) Finset.univ_nonempty
  simp only [ha, ← EReal.coe_sub, exp_coe, coe_sum]
  rw [div_coe (pos _), div_coe (pos _)]
  refine congrArg _ ?_
  simp only [Real.exp_sub, ← Finset.sum_div]
  rw [div_div_div_cancel_right₀ (Real.exp_pos r).ne']

/-! ## Constants and folds -/

/-- The scale is real. -/
theorem real_eighth : IsReal (Ideal.ofBits .f32 0x3E000000#32) := ⟨_, by simp [Ideal.ofBits, Ideal.ieee]; rfl⟩
/-- The value put on masked scores is real. -/
theorem real_fill : IsReal (Ideal.ofBits .f32 0xCE6E6B28#32) := ⟨_, by simp [Ideal.ofBits, Ideal.ieee]; rfl⟩
/-- The start of the maximum is minus infinity. -/
theorem neg_top : Ideal.ofBits .f32 0xFF800000#32 = ⊥ := by simp [Ideal.ofBits, Ideal.ieee]

/-- The larger of two reals is real. -/
theorem IsReal.max {x y : EReal} (hx : IsReal x) (hy : IsReal y) : IsReal (max x y) := by
  rcases le_total x y with h | h
  · rw [max_eq_right h]; exact hy
  · rw [max_eq_left h]; exact hx

variable {α : Type}

/-- The largest of some reals, at least one, is real. -/
theorem foldl_max_real (f : α → EReal) (hf : ∀ a, IsReal (f a)) (l : List α) (hl : l ≠ []) : IsReal (l.foldl (fun r a => max r (f a)) ⊥) := by
  have h : ∀ (l : List α) (x : EReal), IsReal x → IsReal (l.foldl (fun r a => max r (f a)) x) := by
    intro l
    induction l with
    | nil => exact fun _ h => h
    | cons a l ih => exact fun x hx => ih _ (hx.max (hf a))
  match l, hl with
  | a :: l, _ => exact h l _ (by show IsReal (max ⊥ (f a)); rw [max_eq_right bot_le]; exact hf a)

/-- The disjunction of some bits, one of them set, is set. -/
theorem foldl_or_one (f : α → BitVec 1) (l : List α) (a : α) (ha : a ∈ l) (h : f a = 1#1) (x : BitVec 1) :
    l.foldl (fun r a => IntOp.ori r (f a)) x = 1#1 := by
  have one : ∀ (l : List α), l.foldl (fun r a => IntOp.ori r (f a)) 1#1 = 1#1 := by
    intro l
    induction l with
    | nil => rfl
    | cons b l ih =>
      have e : IntOp.ori 1#1 (f b) = 1#1 := by generalize f b = w; revert w; decide
      rw [List.foldl_cons, e, ih]
  induction l generalizing x with
  | nil => exact absurd ha List.not_mem_nil
  | cons b l ih =>
    rw [List.foldl_cons]
    rcases List.mem_cons.1 ha with rfl | ha
    · have e : IntOp.ori x (f a) = 1#1 := by rw [h]; revert x; decide
      rw [e, one]
    · exact ih ha _

end Cert.Run

end
-- ==== Proof.Run.Reference.lean ====
/-
  The reference's result, element by element over the extended reals.
-/
module

public import proofs.«01_k».proof.Proof.Gen.ReferenceIdeal.Run
public import proofs.«01_k».proof.Proof.Run.Reals
public import Idealize.ShloMosaic.Lib.ReduceAll

@[expose] public section

set_option maxRecDepth 20000

noncomputable section

namespace Cert.Run.Ref

open Cert.ReferenceIdeal Cert.ReferenceIdeal.Gen

open Idealize.ShloMosaic
open Idealize.ShloMosaic.TcCoe
open scoped BigOperators

/-! ## The result, in steps -/

/-- The block of each position. -/
def blocks : IVec S128 32 :=
  select (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32)))) (broadcastInDim S128 ![] bcast_S_S128 (constantI S_ 32 0#32))))
    (subi (Host.divsi (iotaInDim S128 32 0) (broadcastInDim S128 ![] bcast_S_S128 (id (constantI S_ 32 64#32)))) (broadcastInDim S128 ![] bcast_S_S128 (constantI S_ 32 1#32)))
    (Host.divsi (iotaInDim S128 32 0) (broadcastInDim S128 ![] bcast_S_S128 (id (constantI S_ 32 64#32))))

def blocksDown : IVec S128x128 32 := broadcastInDim S128x128 ![0, 1] bcast_S128x1_S128x128_0_1 (broadcastInDim S128x1 ![0] bcast_S128_S128x1_0 blocks)
def blocksRow : IVec S1x128 32 := broadcastInDim S1x128 ![1] bcast_S128_S1x128_1 blocks
def blocksAcross : IVec S128x128 32 := broadcastInDim S128x128 ![0, 1] bcast_S1x128_S128x128_0_1 blocksRow

def three : IVec S_ 32 := select (cmpi .eq (id (constantI S_ 32 3#32)) (constantI S_ 32 0#32)) (constantI S_ 32 1#32) (id (constantI S_ 32 3#32))
def blockRem : IVec S128x128 32 := Host.remsi (addi blocksDown blocksAcross) (broadcastInDim S128x128 ![] bcast_S_S128x128 three)
/-- The sum of the two blocks modulo three. -/
def blockMod : IVec S128x128 32 :=
  select (andi (cmpi .ne (cmpi .slt blockRem (broadcastInDim S128x128 ![] bcast_S_S128x128 (constantI S_ 32 0#32)))
        (broadcastInDim S128x128 ![] bcast_S_S128x128 (cmpi .slt three (constantI S_ 32 0#32))))
      (cmpi .ne blockRem (broadcastInDim S128x128 ![] bcast_S_S128x128 (constantI S_ 32 0#32))))
    (addi blockRem (broadcastInDim S128x128 ![] bcast_S_S128x128 three)) blockRem

/-- The pairs the mask keeps. -/
def mask : IVec S128x128 1 :=
  ori (ori (cmpi .eq blocksDown blocksAcross)
      (broadcastInDim S128x128 ![0, 1] bcast_S1x128_S128x128_0_1 (cmpi .eq blocksRow (broadcastInDim S1x128 ![] bcast_S_S1x128 (constantI S_ 32 0#32)))))
    (cmpi .eq blockMod (broadcastInDim S128x128 ![] bcast_S_S128x128 (constantI S_ 32 0#32)))

section Result

variable {F : FTy → Type} [FloatOps F]
variable (x : FVec F S2x128x512 .f32) (wq : FVec F S512x8192 .f32) (k v : FVec F S2x128x128x64 .f32) (wo : FVec F S8192x512 .f32)

/-- The masked scores. -/
def scores : FVec F S2x128x128x128 .f32 :=
  select (broadcastInDim S2x128x128x128 ![0, 1, 2, 3] bcast_S1x1x128x128_S2x128x128x128_0_1_2_3 (broadcastInDim S1x1x128x128 ![2, 3] bcast_S128x128_S1x1x128x128_2_3 mask))
    (mulf (Host.dotGeneral dot_S2x128x128x64_S2x128x128x64_S2x128x128x128_3_3_1_1_02_02 none
        (shapeCast _ (Host.dotGeneral dot_S2x128x512_S512x8192_S2x128x8192_2_0_01_1_n_n none x wq) shapeCasts_S2x128x8192_S2x128x128x64) k)
      (broadcastInDim S2x128x128x128 ![] bcast_S_S2x128x128x128 (constant S_ .f32 0x3E000000#32)))
    (broadcastInDim S2x128x128x128 ![] bcast_S_S2x128x128x128 (id (constant S_ .f32 0xCE6E6B28#32)))

variable (s : FVec F S2x128x128x128 .f32)

/-- The largest score of each row. -/
def top : FVec F S2x128x128 .f32 := Host.reduce FloatOps.maximumf s (constant S_ .f32 0xFF800000#32) reducesTo_S2x128x128x128_S2x128x128_d3 h_S_

def exps : FVec F S2x128x128x128 .f32 :=
  Host.exp (subf s (broadcastInDim S2x128x128x128 ![0, 1, 2, 3] bcast_S2x128x128x1_S2x128x128x128_0_1_2_3
    (broadcastInDim S2x128x128x1 ![0, 1, 2] bcast_S2x128x128_S2x128x128x1_0_1_2 (top s))))

/-- The rows that keep some pair. -/
def keep : IVec S128 1 := Host.reduce IntOp.ori mask (constantI S_ 1 0#1) reducesTo_S128x128_S128_d1 h_S_
def keepRow : IVec S1x1x128x1 1 := broadcastInDim S1x1x128x1 ![2] bcast_S128_S1x1x128x1_2 keep

def weights : FVec F S2x128x128x128 .f32 :=
  select (broadcastInDim S2x128x128x128 ![0, 1, 2, 3] bcast_S1x1x128x1_S2x128x128x128_0_1_2_3 keepRow)
    (Host.divf (exps s) (broadcastInDim S2x128x128x128 ![0, 1, 2, 3] bcast_S2x128x128x1_S2x128x128x128_0_1_2_3
      (select (broadcastInDim S2x128x128x1 ![0, 1, 2, 3] bcast_S1x1x128x1_S2x128x128x1_0_1_2_3 keepRow)
        (broadcastInDim S2x128x128x1 ![0, 1, 2] bcast_S2x128x128_S2x128x128x1_0_1_2
          (Host.reduceAdd (exps s) (constant S_ .f32 0x00000000#32) reducesTo_S2x128x128x128_S2x128x128_d3 h_S_))
        (broadcastInDim S2x128x128x1 ![] bcast_S_S2x128x128x1 (id (constant S_ .f32 0x3F800000#32))))))
    (broadcastInDim S2x128x128x128 ![] bcast_S_S2x128x128x128 (id (constant S_ .f32 0x00000000#32)))

def output (w : FVec F S2x128x128x128 .f32) : FVec F S2x128x512 .f32 :=
  Host.dotGeneral dot_S2x128x8192_S8192x512_S2x128x512_2_0_01_1_n_n none
    (shapeCast _ (transpose S2x128x128x64 [0, 3, 1, 2] (Host.dotGeneral dot_S2x128x128x64_S2x128x128x128_S2x128x64x128_1_3_3_2_02_01 none v w)
      transposes_S2x128x64x128_S2x128x128x64_0_3_1_2) shapeCasts_S2x128x128x64_S2x128x8192) wo

set_option maxHeartbeats 4000000 in
/-- The reference's result is the output of the weights of its scores. -/
theorem result_eq (m : (ℓ : Loc nD τ sig) → Buf (Elt F) ℓ) (c : Dev nD) :
    Value.res_main_v44 m c = output (m ((c.tc : Thread nD τ).loc main_arg3)) (m ((c.tc : Thread nD τ).loc main_arg4))
      (weights (scores (m ((c.tc : Thread nD τ).loc main_arg0)) (m ((c.tc : Thread nD τ).loc main_arg1)) (m ((c.tc : Thread nD τ).loc main_arg2)))) := rfl

end Result

/-! ## The mask -/

theorem blocks_apply (i : Fin 128) : blocks (ix1 i) = BitVec.ofNat 32 (i.val / 64) := by
  pointwise [blocks]
  revert i
  decide +kernel

theorem mask_apply (i j : Fin 128) : mask (ix2 i j) = if i.val < 64 ∧ 64 ≤ j.val then 0#1 else 1#1 := by
  have e : (i.val < 64 ∧ 64 ≤ j.val) = (i.val / 64 = 0 ∧ j.val / 64 = 1) := by
    rw [eq_iff_iff]; omega
  simp only [e]
  pointwise [mask, blockMod, blockRem, three, blocksDown, blocksAcross, blocksRow]
  simp only [blocks_apply]
  have hi : i.val / 64 < 2 := by omega
  have hj : j.val / 64 < 2 := by omega
  generalize i.val / 64 = q at hi
  generalize j.val / 64 = t at hj
  clear e i j
  obtain rfl | rfl : q = 0 ∨ q = 1 := by omega
  all_goals
    obtain rfl | rfl : t = 0 ∨ t = 1 := by omega
    all_goals decide +kernel

/-- Every row keeps some pair. -/
theorem keep_apply (i : Fin 128) : keep (ix1 i) = 1#1 := by
  unfold keep
  rw [Host.reduce_eq_foldl]
  refine foldl_or_one _ _ (ix2 i 0) ?_ (by rw [mask_apply]; exact if_neg fun h => absurd h.2 (by decide)) _
  rw [List.mem_filter]
  refine ⟨List.mem_map.2 ⟨S128x128.rowMajor (ix2 i 0), List.mem_finRange _, Equiv.symm_apply_apply _ _⟩, decide_eq_true ?_⟩
  funext a
  match a with
  | 0 => rfl

/-! ## The scores, the weights and the output -/

variable (x : S2x128x512.Idx → EReal) (wq : S512x8192.Idx → EReal) (k v : S2x128x128x64.Idx → EReal) (wo : S8192x512.Idx → EReal)

theorem scores_apply (b : Fin 2) (h i j : Fin 128) :
    scores (F := Ideal) x wq k (ix4 b h i j)
      = if i.val < 64 ∧ 64 ≤ j.val then Ideal.ofBits .f32 0xCE6E6B28#32 else
        (∑ d : Fin 64, (∑ e : Fin 512, x (ix3 b i e) * wq (ix2 e ⟨h.val * 64 + d.val, by omega⟩)) * k (ix4 b j h d)) * Ideal.ofBits .f32 0x3E000000#32 := by
  pointwise [scores, dot_S2x128x128x64_S2x128x128x64_S2x128x128x128_3_3_1_1_02_02, dot_S2x128x512_S512x8192_S2x128x8192_2_0_01_1_n_n]
  rw [mask_apply]
  split <;> rfl

variable (s : S2x128x128x128.Idx → EReal)

/-- The largest of a row's real scores is real. -/
theorem top_real (hs : ∀ i, IsReal (s i)) (b : Fin 2) (h i : Fin 128) : IsReal (top (F := Ideal) s (ix3 b h i)) := by
  unfold top
  rw [Host.reduce_eq_foldl]
  have e : constant (F := Ideal) S_ .f32 0xFF800000#32 (Shape.Idx.first h_S_) = ⊥ := neg_top
  rw [e]
  refine foldl_max_real s hs _ (List.ne_nil_of_mem (a := ix4 b h i 0) ?_)
  rw [List.mem_filter]
  refine ⟨List.mem_map.2 ⟨S2x128x128x128.rowMajor (ix4 b h i 0), List.mem_finRange _, Equiv.symm_apply_apply _ _⟩, decide_eq_true ?_⟩
  funext a
  match a with
  | 0 => rfl
  | 1 => rfl
  | 2 => rfl

theorem weights_apply (hs : ∀ i, IsReal (s i)) (b : Fin 2) (h i j : Fin 128) :
    weights (F := Ideal) s (ix4 b h i j) = Ideal.div (Ideal.exp (s (ix4 b h i j))) (∑ t : Fin 128, Ideal.exp (s (ix4 b h i t))) := by
  pointwise [weights, keepRow, exps]
  rw [keep_apply]
  exact weight_shift (s := fun t : Fin 128 => s (ix4 b h i t)) (fun t => hs _) (top_real s hs b h i) j

theorem output_apply (b : Fin 2) (i : Fin 128) (o : Fin 512) :
    output (F := Ideal) v wo s (ix3 b i o)
      = ∑ n : Fin 8192, (∑ j : Fin 128, v (ix4 b j ⟨n.val / 64, by omega⟩ ⟨n.val % 64, Nat.mod_lt _ (by decide)⟩)
          * s (ix4 b ⟨n.val / 64, by omega⟩ i j)) * wo (ix2 n o) := by
  pointwise [output, dot_S2x128x8192_S8192x512_S2x128x512_2_0_01_1_n_n, dot_S2x128x128x64_S2x128x128x128_S2x128x64x128_1_3_3_2_02_01]

end Cert.Run.Ref

end
-- ==== Proof.Run.Inputs.lean ====
/-
  What a device's region reads and what it leaves: the whole arrays, and the host's slices of the two weight matrices.
-/
module

public import proofs.«01_k».proof.Proof.Run.Record
public import Idealize.ShloMosaic.Lib.Pointwise
public import Idealize.ShloMosaic.Lib.WordCmp
public import Idealize.ShloMosaic.Lib.Pipeline.ValueKit
public import Idealize.ShloMosaic.Lib.StableHlo.RunHlo

@[expose] public section

set_option maxRecDepth 20000

noncomputable section

namespace Cert.Run

open Cert.KernelIdeal Cert.KernelIdeal.Gen

open Idealize.ShloMosaic
open Idealize.ShloMosaic.TcCoe
open Idealize.ShloMosaic.StableHlo

variable {F : FTy → Type} [FloatOps F]
variable (m : (ℓ : Loc nD τ sig) → Buf (Elt F) ℓ) (c : Dev nD)

theorem result_eq : result m c = k0_pay33 (gathered (prods m)) := by
  refine (dat m c).arrAt_eq_of_after_last 5 t0_0 (by decide +kernel) _ fun j => ?_
  blk_simp
  rfl

/-! ## The blocks are the arrays -/

theorem index_zero : ∀ (w : Fin 6) (a : Fin (cfg0.win w).shape.rank), (cfg0.win w).index t0_0 a = 0 := by decide +kernel

theorem inX_eq : inX m c = V1 m c main_arg0 := by
  funext j
  blk_ext [inX] <;> exact (congrArg (· * _ + _) (index_zero 0 _)).trans (by omega)
theorem inQ_eq : inQ m c = V1 m c main_v10 := by
  funext j
  blk_ext [inQ] <;> exact (congrArg (· * _ + _) (index_zero 1 _)).trans (by omega)
theorem inK_eq : inK m c = V1 m c main_v17 := by
  funext j
  blk_ext [inK] <;> exact (congrArg (· * _ + _) (index_zero 2 _)).trans (by omega)
theorem inV_eq : inV m c = V1 m c main_v18 := by
  funext j
  blk_ext [inV] <;> exact (congrArg (· * _ + _) (index_zero 3 _)).trans (by omega)
theorem inO_eq : inO m c = V1 m c main_v16 := by
  funext j
  blk_ext [inO] <;> exact (congrArg (· * _ + _) (index_zero 4 _)).trans (by omega)

/-! ## The arrays -/

theorem inX_apply (j : S2x128x512.Idx) : inX m c j = m ((c : Thread nD τ).loc main_arg0) j := by
  rw [inX_eq, V1_of m c main_arg0 (by decide)]

theorem inK_apply (b : Fin 2) (j : Fin 128) (n : Fin 256) :
    inK m c (ix3 b j n) = m ((c : Thread nD τ).loc main_arg2) (ix4 b j ⟨n.val / 64, by omega⟩ ⟨n.val % 64, Nat.mod_lt _ (by decide)⟩) := by
  rw [inK_eq]
  unfold_abbrev_sides
  after_results_simp
  pointwise
theorem inV_apply (b : Fin 2) (j : Fin 128) (n : Fin 256) :
    inV m c (ix3 b j n) = m ((c : Thread nD τ).loc main_arg3) (ix4 b j ⟨n.val / 64, by omega⟩ ⟨n.val % 64, Nat.mod_lt _ (by decide)⟩) := by
  rw [inV_eq]
  unfold_abbrev_sides
  after_results_simp
  pointwise

end Cert.Run

namespace Cert.Run

open Cert.KernelIdeal Cert.KernelIdeal.Gen

open Idealize.ShloMosaic
open Idealize.ShloMosaic.TcCoe
open Idealize.ShloMosaic.StableHlo

variable (m : (ℓ : Loc nD τ sig) → Buf (Elt Ideal) ℓ) (c : Dev nD)

theorem slices_q (c : Fin 32) : S512x8192.Slices ![0, 256 * c.val] S512x256 := by revert c; decide
theorem slices_o (c : Fin 32) : S8192x512.Slices ![256 * c.val, 0] S256x512 := by revert c; decide

/-- The number of the first of a device's 256 columns or rows, before it is brought into range. -/
def startWord (c : Dev nD) : IVec S_ 32 :=
  muli (id (Host.remui (Host.divui (constantI S_ 32 (Dev.word c)) (constantI S_ 32 1#32)) (constantI S_ 32 32#32))) (constantI S_ 32 256#32)

theorem start_word : ∀ c : Dev nD,
    BitVec.toInt (select (cmpi .slt (startWord c) (constantI S_ 32 0#32)) (addi (startWord c) (constantI S_ 32 8192#32)) (startWord c) (Shape.Idx.first h_S_))
      = ((256 * c.val : ℕ) : ℤ) := by
  decide +kernel

/-- Two start buffers read one after the other. -/
theorem starts (W : Valuation τ sig (Elt Ideal)) (r : Fin 2 → Ref sig .tc) (hr : ∀ k, (r k).ty = ⟨S_, .i32⟩) (a b : ℕ)
    (h0 : BitVec.toInt (cast (congrArg (·.Contents (Elt Ideal)) (hr 0)) (W (Proc.devRef .tc (r 0))) (Shape.Idx.first h_S_) : BitVec 32) = (a : ℤ))
    (h1 : BitVec.toInt (cast (congrArg (·.Contents (Elt Ideal)) (hr 1)) (W (Proc.devRef .tc (r 1))) (Shape.Idx.first h_S_) : BitVec 32) = (b : ℤ)) (k : Fin 2) :
    BitVec.toInt (cast (congrArg (·.Contents (Elt Ideal)) (hr k)) (W (Proc.devRef .tc (r k))) (Shape.Idx.first h_S_) : BitVec 32) = ((![a, b] k : ℕ) : ℤ) :=
  match k with
  | 0 => h0
  | 1 => h1

/-- The same for a read written without the cast. -/
theorem start_of (W : Valuation τ sig (Elt Ideal)) (r : Ref sig .tc) (hr : r.ty = ⟨S_, .i32⟩) (v : (⟨S_, .i32⟩ : BufTy).Contents (Elt Ideal))
    (h : HEq (W (Proc.devRef .tc r)) v) (a : ℤ) (ha : BitVec.toInt (v (Shape.Idx.first h_S_) : BitVec 32) = a) :
    BitVec.toInt (cast (congrArg (·.Contents (Elt Ideal)) hr) (W (Proc.devRef .tc r)) (Shape.Idx.first h_S_) : BitVec 32) = a := by
  have e : cast (congrArg (·.Contents (Elt Ideal)) hr) (W (Proc.devRef .tc r)) = v := eq_of_heq ((cast_heq _ _).trans h)
  rw [e, ha]

theorem inQ_apply (e : Fin 512) (n : Fin 256) :
    inQ m c (ix2 e n) = m ((c : Thread nD τ).loc main_arg1) (ix2 e ⟨256 * c.val + n.val, by have : c.val < 32 := c.isLt; omega⟩) := by
  rw [inQ_eq]
  unfold_abbrev_sides
  after_results_simp
  refine (congrFun (WordCmp.dynamicSlice_eq_extract S512x256 (m ((c : Thread nD τ).loc main_arg1)) _ sliceFits_S512x8192_S512x256
    ![0, 256 * c.val] (slices_q c) (starts _ ![main_c_4, main_v8] (fun k => match k with | 0 => rfl | 1 => rfl) 0 (256 * c.val) ?_ ?_)) (ix2 e n)).trans ?_
  · refine start_of _ main_c_4 rfl (constantI S_ 32 0#32) (heq_of_eq ?_) _ rfl
    after_results_simp
  · refine start_of _ main_v8 rfl _ (heq_of_eq ?_) _ (start_word c)
    after_results_simp
    rfl
  · pointwise

theorem inO_apply (n : Fin 256) (o : Fin 512) :
    inO m c (ix2 n o) = m ((c : Thread nD τ).loc main_arg4) (ix2 ⟨256 * c.val + n.val, by have : c.val < 32 := c.isLt; omega⟩ o) := by
  rw [inO_eq]
  unfold_abbrev_sides
  after_results_simp
  refine (congrFun (WordCmp.dynamicSlice_eq_extract S256x512 (m ((c : Thread nD τ).loc main_arg4)) _ sliceFits_S8192x512_S256x512
    ![256 * c.val, 0] (slices_o c) (starts _ ![main_v14, main_c_8] (fun k => match k with | 0 => rfl | 1 => rfl) (256 * c.val) 0 ?_ ?_)) (ix2 n o)).trans ?_
  · refine start_of _ main_v14 rfl _ (heq_of_eq ?_) _ (start_word c)
    after_results_simp
    rfl
  · refine start_of _ main_c_8 rfl (constantI S_ 32 0#32) (heq_of_eq ?_) _ rfl
    after_results_simp
  · pointwise

end Cert.Run

end
-- ==== Proof.Run.Join.lean ====
/-
  The value of the kernel against the reference's, from one set of whole arrays.
-/
module

public import proofs.«01_k».proof.Proof.Run.Values
public import proofs.«01_k».proof.Proof.Run.Reference
public import proofs.«01_k».proof.Proof.Run.Inputs

@[expose] public section

set_option maxRecDepth 20000

noncomputable section

namespace Cert.Run

open Cert.KernelIdeal Cert.KernelIdeal.Gen

open Idealize.ShloMosaic
open Idealize.ShloMosaic.TcCoe
open scoped BigOperators

/-! ## One device -/

section Device

variable (X : S2x128x512.Idx → EReal) (WQ : Cert.ReferenceIdeal.S512x8192.Idx → EReal)
  (K V : Cert.ReferenceIdeal.S2x128x128x64.Idx → EReal) (WO : Cert.ReferenceIdeal.S8192x512.Idx → EReal)

/-- A device's inputs are its part of the whole arrays. -/
structure Parts (c : Fin 32) (x : S2x128x512.Idx → EReal) (wq : S512x256.Idx → EReal) (k v : S2x128x256.Idx → EReal)
    (wo : S256x512.Idx → EReal) : Prop where
  x_eq : ∀ b i e, x (ix3 b i e) = X (ix3 b i e)
  q_eq : ∀ e (n : Fin 256), wq (ix2 e n) = WQ (ix2 e ⟨256 * c.val + n.val, by omega⟩)
  k_eq : ∀ b j (n : Fin 256), k (ix3 b j n) = K (ix4 b j ⟨4 * c.val + n.val / 64, by omega⟩ ⟨n.val % 64, Nat.mod_lt _ (by decide)⟩)
  v_eq : ∀ b j (n : Fin 256), v (ix3 b j n) = V (ix4 b j ⟨4 * c.val + n.val / 64, by omega⟩ ⟨n.val % 64, Nat.mod_lt _ (by decide)⟩)
  o_eq : ∀ (n : Fin 256) o, wo (ix2 n o) = WO (ix2 ⟨256 * c.val + n.val, by omega⟩ o)

variable {X WQ K V WO} {c : Fin 32} {x : S2x128x512.Idx → EReal} {wq : S512x256.Idx → EReal} {k v : S2x128x256.Idx → EReal} {wo : S256x512.Idx → EReal}

/-- The head of the whole arrays that is head `h` of device `c`. -/
abbrev headOf (c : Fin 32) (h : Fin 4) : Fin 128 := ⟨4 * c.val + h.val, by omega⟩

/-- A device's masked scores are the reference's scores of its heads: the scale, applied to the queries, comes out of the product with the keys. -/
theorem scores_join (hX : ∀ i, IsReal (X i)) (hQ : ∀ i, IsReal (WQ i)) (hK : ∀ i, IsReal (K i)) (P : Parts X WQ K V WO c x wq k v wo)
    (b : Fin 2) (h : Fin 4) (i j : Fin 128) :
    masked i j (scores (F := Ideal) x wq k (ix2 ⟨128 * (4 * b.val + h.val) + i.val, by omega⟩ j))
      = Ref.scores (F := Ideal) X WQ K (ix4 b (headOf c h) i j) := by
  rw [Ref.scores_apply, masked]
  refine if_congr Iff.rfl rfl ?_
  rw [scores_apply]
  refine Eq.trans (Finset.sum_congr rfl fun d _ => ?_)
    (sum_scale (q := fun d : Fin 64 => ∑ e : Fin 512, X (ix3 b i e) * WQ (ix2 e ⟨(headOf c h).val * 64 + d.val, by omega⟩))
      (k := fun d : Fin 64 => K (ix4 b j (headOf c h) d)) (fun d => IsReal.sum fun e => (hX _).mul (hQ _)) (fun d => hK _) real_eighth)
  rw [pay1_apply, P.k_eq]
  have eb : (⟨(128 * b.val + i.val) / 128, by omega⟩ : Fin 2) = b := Fin.ext (by dsimp only; omega)
  have ei : (⟨(128 * b.val + i.val) % 128, Nat.mod_lt _ (by decide)⟩ : Fin 128) = i := Fin.ext (by dsimp only; omega)
  have eh : (⟨4 * c.val + (64 * h.val + d.val) / 64, by omega⟩ : Fin 128) = headOf c h := Fin.ext (by dsimp only; omega)
  have ed : (⟨(64 * h.val + d.val) % 64, Nat.mod_lt _ (by decide)⟩ : Fin 64) = d := Fin.ext (by dsimp only; omega)
  have en : (⟨256 * c.val + (64 * h.val + d.val), by omega⟩ : Fin 8192) = ⟨(headOf c h).val * 64 + d.val, by omega⟩ := Fin.ext (by dsimp only; omega)
  simp only [P.x_eq, P.q_eq, eb, ei, eh, ed, en]

/-- The reference's masked scores are real. -/
theorem scores_real (hX : ∀ i, IsReal (X i)) (hQ : ∀ i, IsReal (WQ i)) (hK : ∀ i, IsReal (K i)) (i : Cert.ReferenceIdeal.S2x128x128x128.Idx) :
    IsReal (Ref.scores (F := Ideal) X WQ K i) := by
  idx_vars i
  rw [Ref.scores_apply]
  split
  · exact real_fill
  · exact (IsReal.sum fun d => (IsReal.sum fun e => (hX _).mul (hQ _)).mul (hK _)).mul real_eighth

/-- A device's attention weights are the reference's weights of its heads: subtracting the row's maximum changes nothing. -/
theorem weights_join (hX : ∀ i, IsReal (X i)) (hQ : ∀ i, IsReal (WQ i)) (hK : ∀ i, IsReal (K i)) (P : Parts X WQ K V WO c x wq k v wo)
    (b : Fin 2) (h : Fin 4) (i j : Fin 128) :
    weights (F := Ideal) x wq k (ix2 ⟨128 * (4 * b.val + h.val) + i.val, by omega⟩ j)
      = Ref.weights (F := Ideal) (Ref.scores (F := Ideal) X WQ K) (ix4 b (headOf c h) i j) := by
  rw [Ref.weights_apply _ (scores_real hX hQ hK)]
  refine (weights_apply x wq k ⟨4 * b.val + h.val, by omega⟩ i j).trans ?_
  simp only [scores_join hX hQ hK P]

/-- A device's product is the reference's sum, over the device's 256 columns alone. -/
theorem product_join (hX : ∀ i, IsReal (X i)) (hQ : ∀ i, IsReal (WQ i)) (hK : ∀ i, IsReal (K i)) (P : Parts X WQ K V WO c x wq k v wo)
    (b : Fin 2) (i : Fin 128) (o : Fin 512) :
    product (F := Ideal) x wq k v wo (ix2 ⟨128 * b.val + i.val, by omega⟩ o)
      = ∑ n : Fin 256, (fun N : Fin 8192 => (∑ j : Fin 128, V (ix4 b j ⟨N.val / 64, by omega⟩ ⟨N.val % 64, Nat.mod_lt _ (by decide)⟩)
          * Ref.weights (F := Ideal) (Ref.scores (F := Ideal) X WQ K) (ix4 b ⟨N.val / 64, by omega⟩ i j)) * WO (ix2 N o)) ⟨256 * c.val + n.val, by omega⟩ := by
  rw [product_apply]
  refine Finset.sum_congr rfl fun n _ => ?_
  rw [P.o_eq]
  refine congrArg (· * _) ?_
  rw [ctx_apply]
  refine Finset.sum_congr rfl fun j _ => ?_
  rw [weights_join hX hQ hK P, P.v_eq, mul_comm]
  have e1 : (⟨4 * c.val + (64 * (n.val / 64) + n.val % 64) / 64, by omega⟩ : Fin 128) = ⟨(256 * c.val + n.val) / 64, by omega⟩ := Fin.ext (by dsimp only; omega)
  have e2 : (⟨(64 * (n.val / 64) + n.val % 64) % 64, Nat.mod_lt _ (by decide)⟩ : Fin 64) = ⟨(256 * c.val + n.val) % 64, Nat.mod_lt _ (by decide)⟩ := Fin.ext (by dsimp only; omega)
  have e3 : headOf c ⟨n.val / 64, by omega⟩ = ⟨(256 * c.val + n.val) / 64, by omega⟩ := Fin.ext (by dsimp only; omega)
  rw [e1, e2, e3]

end Device

/-! ## All devices -/

/-- A sum over the 8192 columns, device by device. -/
theorem sum_devices (f : Fin 8192 → EReal) : ∑ c : Fin 32, ∑ n : Fin 256, f ⟨256 * c.val + n.val, by omega⟩ = ∑ N : Fin 8192, f N := by
  rw [← Fintype.sum_prod_type', ← Equiv.sum_comp (finProdFinEquiv (m := 32) (n := 256)) f]
  refine Finset.sum_congr rfl fun p _ => congrArg f (Fin.ext ?_)
  show 256 * p.1.val + p.2.val = p.2.val + 256 * p.1.val
  omega

/-- A gathered element is the sum of the devices' products there. -/
theorem gathered_apply (A : Dev nD → S256x512.Idx → EReal) (r : Fin 256) (o : Fin 512) :
    gathered (F := Ideal) A (ix2 r o) = ∑ s : Fin 32, A s (ix2 r o) := by
  have ep : rowPos (ix2 r o) = ix2 ⟨r.val % 8, Nat.mod_lt _ (by decide)⟩ o := by
    funext a
    match a with
    | 0 => rfl
    | 1 => rfl
  unfold gathered reduced
  rw [ep, pay32_apply]
  refine Finset.sum_congr rfl fun s _ => ?_
  refine congrArg (A s) ?_
  funext a
  match a with
  | 0 => exact Fin.ext (by show 8 * (r.val / 8) + 1 * (r.val % 8) = r.val; omega)
  | 1 => exact Fin.ext (by show 0 + 1 * o.val = o.val; omega)

/-- Devices that hold their parts of the whole arrays leave the reference's result. -/
theorem value_join {X : S2x128x512.Idx → EReal} {WQ : Cert.ReferenceIdeal.S512x8192.Idx → EReal}
    {K V : Cert.ReferenceIdeal.S2x128x128x64.Idx → EReal} {WO : Cert.ReferenceIdeal.S8192x512.Idx → EReal}
    (hX : ∀ i, IsReal (X i)) (hQ : ∀ i, IsReal (WQ i)) (hK : ∀ i, IsReal (K i))
    (m : (ℓ : Loc nD τ sig) → Buf (Elt Ideal) ℓ)
    (P : ∀ c : Dev nD, Parts X WQ K V WO c (inX m c) (inQ m c) (inK m c) (inV m c) (inO m c)) :
    k0_pay33 (F := Ideal) (gathered (prods m)) = Ref.output (F := Ideal) V WO (Ref.weights (Ref.scores X WQ K)) := by
  funext i
  idx_vars i
  rw [pay33_apply, gathered_apply, Ref.output_apply, ← sum_devices]
  exact Finset.sum_congr rfl fun c _ => product_join hX hQ hK (P c) i0 i1 i2

end Cert.Run

end
-- ==== Proof.Run.Algebraic.lean ====
/-
  The kernel's result is the reference's, on finite scores.
-/
module

public import proofs.«01_k».proof.Defs
public import proofs.«01_k».proof.Proof.Gen.ReferenceIdeal
public import proofs.«01_k».proof.Proof.Run.Launch
public import proofs.«01_k».proof.Proof.Run.Join
public import Idealize.ShloMosaic.Lib.Layout
public import Idealize.ShloMosaic.Lib.ReduceAll

@[expose] public section

set_option maxRecDepth 20000

noncomputable section

namespace Cert.Run

open Idealize.ShloMosaic Idealize.ShloMosaic.TcCoe Idealize.SL.Sem

/-! ## The precondition -/

/-- The shape facts of the precondition, at one device's shapes. -/
theorem pre_facts_kernel : Cert.Pre_finite_scores_KernelIdeal.Facts :=
  ⟨by decide, by decide, by decide, by decide, by decide, by decide, by decide⟩
/-- The shape facts of the precondition, at the whole arrays' shapes. -/
theorem pre_facts_reference : Cert.Pre_finite_scores_ReferenceIdeal.Facts :=
  ⟨by decide, by decide, by decide, by decide, by decide, by decide, by decide⟩

/-- A value whose absolute value is below infinity is real. -/
theorem real_of_below {x : EReal} (h : Ideal.cmp .olt (max x (-x)) (Ideal.ofBits .f32 0x7F800000#32) = 1#1) : IsReal x := by
  have top : Ideal.ofBits .f32 0x7F800000#32 = ⊤ := by simp [Ideal.ofBits, Ideal.ieee]
  rw [top] at h
  induction x with
  | bot => simp [Ideal.cmp] at h
  | coe r => exact ⟨r, rfl⟩
  | top => simp [Ideal.cmp] at h

section Finite

open Cert.Pre_finite_scores_KernelIdeal

attribute [local instance] pre_facts_kernel

/-- The predicate holds only of real activations, query weights and keys. -/
theorem real_of_pre {x : FVec Ideal S2x128x512 .f32} {wq : FVec Ideal S512x8192 .f32} {k v : FVec Ideal S2x128x4x64 .f32} {wo : FVec Ideal S8192x512 .f32}
    (h : fn x wq k v wo = fun _ => 1#1) : (∀ i, IsReal (x i)) ∧ (∀ i, IsReal (wq i)) ∧ ∀ i, IsReal (k i) := by
  have h0 := congrFun h (Shape.Idx.first Facts.h_S_)
  dsimp only [fn] at h0
  obtain ⟨h1, hk⟩ := IntOp.andi_eq_one.1 h0
  obtain ⟨hx, hq⟩ := IntOp.andi_eq_one.1 h1
  exact ⟨fun i => real_of_below (Host.reduce_andi_all _ _ _ _ _ hx i), fun i => real_of_below (Host.reduce_andi_all _ _ _ _ _ hq i),
    fun i => real_of_below (Host.reduce_andi_all _ _ _ _ _ hk i)⟩

end Finite

/-! ## The heads of a device -/

/-- A device's block of the heads, element by element. -/
theorem heads_apply (K : Cert.ReferenceIdeal.S2x128x128x64.Idx → EReal) (c : Fin 32) (b : Fin 2) (j : Fin 128) (h : Fin 4) (d : Fin 64) :
    (Layout.block ⟨4, ![2, 128, 4, 64]⟩ ⟨4, ![2, 128, 128, 64]⟩ 2 32 c K) (ix4 b j h d) = K (ix4 b j (headOf c h) d) := by
  rw [Layout.block_apply]
  refine congrArg K ?_
  funext a
  match a with
  | 0 => exact Fin.ext rfl
  | 1 => exact Fin.ext rfl
  | 2 => exact Fin.ext (by show c.val * 4 + h.val = 4 * c.val + h.val; omega)
  | 3 => exact Fin.ext rfl

/-- Keys real on every device are real. -/
theorem heads_real {K : Cert.ReferenceIdeal.S2x128x128x64.Idx → EReal}
    (hK : ∀ c : Fin 32, ∀ i, IsReal ((Layout.block ⟨4, ![2, 128, 4, 64]⟩ ⟨4, ![2, 128, 128, 64]⟩ 2 32 c K) i)) (i : Cert.ReferenceIdeal.S2x128x128x64.Idx) :
    IsReal (K i) := by
  idx_vars i
  have := hK ⟨i2.val / 4, by omega⟩ (ix4 i0 i1 ⟨i2.val % 4, Nat.mod_lt _ (by decide)⟩ i3)
  rw [heads_apply] at this
  have e : headOf ⟨i2.val / 4, by omega⟩ ⟨i2.val % 4, Nat.mod_lt _ (by decide)⟩ = i2 := Fin.ext (by dsimp only; omega)
  rwa [e] at this

/-! ## The claim -/

/-- On finite activations, query weights and keys, every device ends with the reference's whole result. -/
theorem algebraic : Cert.algebraic_KernelIdeal_ReferenceIdeal_pre_finite_scores_KernelIdeal
    (hKernelIdeal := Cert.KernelIdeal.Gen.facts) (hReferenceIdeal := Cert.ReferenceIdeal.Gen.facts)
    (hPre_finite_scores_KernelIdeal := pre_facts_kernel) := fun m g m' g' hpre hm => by
  have hreal := fun c => real_of_pre (hpre c)
  have hX : ∀ i, IsReal (m' (((0 : Dev Cert.ReferenceIdeal.nD).tc : Thread _ Cert.ReferenceIdeal.τ).loc Cert.ReferenceIdeal.main_arg0) i) := by
    rw [← (hm 0).1]; exact (hreal 0).1
  have hQ : ∀ i, IsReal (m' (((0 : Dev Cert.ReferenceIdeal.nD).tc : Thread _ Cert.ReferenceIdeal.τ).loc Cert.ReferenceIdeal.main_arg1) i) := by
    rw [← (hm 0).2.1]; exact (hreal 0).2.1
  have hK : ∀ i, IsReal (m' (((0 : Dev Cert.ReferenceIdeal.nD).tc : Thread _ Cert.ReferenceIdeal.τ).loc Cert.ReferenceIdeal.main_arg2) i) :=
    heads_real fun c => by rw [← (hm c).2.2.1]; exact (hreal c).2.2
  refine ⟨Cert.ReferenceIdeal.Value.res_main_v44 m' 0, ?_, ?_⟩
  · refine (θ_run Cert.KernelIdeal.defs _ _).mono (fun r h c => ⟨(h.1 c).1.trans ?_, (h.1 c).2⟩) (run_main (F := Ideal) m g)
    rw [result_eq, Ref.result_eq]
    refine value_join hX hQ hK m fun c => ⟨fun b i e => ?_, fun e n => ?_, fun b j n => ?_, fun b j n => ?_, fun n o => ?_⟩
    · rw [inX_apply, (hm c).1]
    · rw [inQ_apply, (hm c).2.1]
    · rw [inK_apply, (hm c).2.2.1]; exact heads_apply _ c b j _ _
    · rw [inV_apply, (hm c).2.2.2.1]; exact heads_apply _ c b j _ _
    · rw [inO_apply, (hm c).2.2.2.2]
  · exact (θ_run Cert.ReferenceIdeal.defs _ _).mono (fun r h => h 0) (Cert.ReferenceIdeal.Value.run m' g')

end Cert.Run

end
-- ==== Proof.lean ====
/-
  The certificate's claims, assembled.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run.Frames
public import proofs.«01_k».proof.Proof.Run.Algebraic

@[expose] public section

noncomputable section

namespace Cert.Proof

/-- All that the certificate claims. -/
theorem claim : Cert.Claim :=
  ⟨Cert.Kernel.Gen.facts, Cert.KernelIdeal.Gen.facts, Cert.ReferenceIdeal.Gen.facts, Cert.Run.pre_facts_kernel, Cert.Run.pre_facts_reference,
    Cert.Run.frame_kernel, Cert.Run.frame_ideal, fun m g _ => Cert.Run.frame_ideal m g trivial,
    Cert.Run.frame_reference, fun m g _ => Cert.Run.frame_reference m g trivial, trivial, Cert.Run.algebraic⟩

end Cert.Proof

end
